-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_qk [hPre_finite_qk : Cert.Pre_finite_qk.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_qk.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))) = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite_qk [hPre_finite_qk : Cert.Pre_finite_qk.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_qk.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradReferenceIdeal (m : (ℓ : Loc Cert.WeightGradReferenceIdeal.nD Cert.WeightGradReferenceIdeal.τ Cert.WeightGradReferenceIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradReferenceIdeal (m : (ℓ : Loc Cert.InputGradReferenceIdeal.nD Cert.InputGradReferenceIdeal.τ Cert.InputGradReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_BranchGradA (m : (ℓ : Loc Cert.BranchGradA.nD Cert.BranchGradA.τ Cert.BranchGradA.sig) → Buf (Elt Bits) ℓ) : Prop :=
  True

def Pre_BranchGradAIdeal (m : (ℓ : Loc Cert.BranchGradAIdeal.nD Cert.BranchGradAIdeal.τ Cert.BranchGradAIdeal.sig) → Buf (Elt Ideal) ℓ) : Prop :=
  True

def Pre_BranchGradAReferenceIdeal (m : (ℓ : Loc Cert.BranchGradAReferenceIdeal.nD Cert.BranchGradAReferenceIdeal.τ Cert.BranchGradAReferenceIdeal.sig) → Buf (Elt Ideal) ℓ) : Prop :=
  True

def Pre_BranchGradB (m : (ℓ : Loc Cert.BranchGradB.nD Cert.BranchGradB.τ Cert.BranchGradB.sig) → Buf (Elt Bits) ℓ) : Prop :=
  True

def Pre_BranchGradBIdeal (m : (ℓ : Loc Cert.BranchGradBIdeal.nD Cert.BranchGradBIdeal.τ Cert.BranchGradBIdeal.sig) → Buf (Elt Ideal) ℓ) : Prop :=
  True

def Pre_BranchGradBReferenceIdeal (m : (ℓ : Loc Cert.BranchGradBReferenceIdeal.nD Cert.BranchGradBReferenceIdeal.τ Cert.BranchGradBReferenceIdeal.sig) → Buf (Elt Ideal) ℓ) : Prop :=
  True

def Pre_BranchGradC (m : (ℓ : Loc Cert.BranchGradC.nD Cert.BranchGradC.τ Cert.BranchGradC.sig) → Buf (Elt Bits) ℓ) : Prop :=
  True

def Pre_BranchGradCIdeal (m : (ℓ : Loc Cert.BranchGradCIdeal.nD Cert.BranchGradCIdeal.τ Cert.BranchGradCIdeal.sig) → Buf (Elt Ideal) ℓ) : Prop :=
  True

def Pre_BranchGradCReferenceIdeal (m : (ℓ : Loc Cert.BranchGradCReferenceIdeal.nD Cert.BranchGradCReferenceIdeal.τ Cert.BranchGradCReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_ModulationGrad (m : (ℓ : Loc Cert.ModulationGrad.nD Cert.ModulationGrad.τ Cert.ModulationGrad.sig) → Buf (Elt Bits) ℓ) : Prop :=
  True

def Pre_ModulationGradIdeal (m : (ℓ : Loc Cert.ModulationGradIdeal.nD Cert.ModulationGradIdeal.τ Cert.ModulationGradIdeal.sig) → Buf (Elt Ideal) ℓ) : Prop :=
  True

def Pre_ModulationGradIdeal_finite_mod [hPre_finite_mod : Cert.Pre_finite_mod.Facts] (m : (ℓ : Loc Cert.ModulationGradIdeal.nD Cert.ModulationGradIdeal.τ Cert.ModulationGradIdeal.sig) → Buf (Elt Ideal) ℓ) : Prop :=
  ∀ c : Dev Cert.ModulationGradIdeal.nD,
    (Cert.Pre_finite_mod.fn (F := Ideal) (m ((c.tc : Thread Cert.ModulationGradIdeal.nD Cert.ModulationGradIdeal.τ).loc Cert.ModulationGradIdeal.main_arg0)) (m ((c.tc : Thread Cert.ModulationGradIdeal.nD Cert.ModulationGradIdeal.τ).loc Cert.ModulationGradIdeal.main_arg1)) (m ((c.tc : Thread Cert.ModulationGradIdeal.nD Cert.ModulationGradIdeal.τ).loc Cert.ModulationGradIdeal.main_arg2))) = (fun _ => 1#1)

def Pre_ModulationGradReferenceIdeal (m : (ℓ : Loc Cert.ModulationGradReferenceIdeal.nD Cert.ModulationGradReferenceIdeal.τ Cert.ModulationGradReferenceIdeal.sig) → Buf (Elt Ideal) ℓ) : Prop :=
  True

def Pre_ModulationGradReferenceIdeal_finite_mod [hPre_finite_mod : Cert.Pre_finite_mod.Facts] (m : (ℓ : Loc Cert.ModulationGradReferenceIdeal.nD Cert.ModulationGradReferenceIdeal.τ Cert.ModulationGradReferenceIdeal.sig) → Buf (Elt Ideal) ℓ) : Prop :=
  ∀ c : Dev Cert.ModulationGradReferenceIdeal.nD,
    (Cert.Pre_finite_mod.fn (F := Ideal) (m ((c.tc : Thread Cert.ModulationGradReferenceIdeal.nD Cert.ModulationGradReferenceIdeal.τ).loc Cert.ModulationGradReferenceIdeal.main_arg0)) (m ((c.tc : Thread Cert.ModulationGradReferenceIdeal.nD Cert.ModulationGradReferenceIdeal.τ).loc Cert.ModulationGradReferenceIdeal.main_arg1)) (m ((c.tc : Thread Cert.ModulationGradReferenceIdeal.nD Cert.ModulationGradReferenceIdeal.τ).loc Cert.ModulationGradReferenceIdeal.main_arg2))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModReferenceIdeal (m : (ℓ : Loc Cert.AdamModReferenceIdeal.nD Cert.AdamModReferenceIdeal.τ Cert.AdamModReferenceIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchReferenceIdeal (m : (ℓ : Loc Cert.AdamBranchReferenceIdeal.nD Cert.AdamBranchReferenceIdeal.τ Cert.AdamBranchReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_finite_qk [hForwardIdeal : Cert.ForwardIdeal.Facts] [hPre_finite_qk : Cert.Pre_finite_qk.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_qk m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_ForwardReferenceIdeal_pre_finite_qk [hForwardReferenceIdeal : Cert.ForwardReferenceIdeal.Facts] [hPre_finite_qk : Cert.Pre_finite_qk.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite_qk m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradReferenceIdeal [hWeightGradReferenceIdeal : Cert.WeightGradReferenceIdeal.Facts] : Prop :=
  ∀ (m : (ℓ : Loc Cert.WeightGradReferenceIdeal.nD Cert.WeightGradReferenceIdeal.τ Cert.WeightGradReferenceIdeal.sig) → Buf (Elt Ideal) ℓ) (g : Dev Cert.WeightGradReferenceIdeal.nD → PrngReg), Pre_WeightGradReferenceIdeal m →
    θ_run (Cert.WeightGradReferenceIdeal.defs (F := Ideal)) (onTc (τ := Cert.WeightGradReferenceIdeal.τ) (Cert.WeightGradReferenceIdeal.main (F := Ideal))) ⟨m, fun _ => 0, g⟩ (fun r => (∀ c : Dev Cert.WeightGradReferenceIdeal.nD,
      r.2.mem ((c.tc : Thread Cert.WeightGradReferenceIdeal.nD Cert.WeightGradReferenceIdeal.τ).loc Cert.WeightGradReferenceIdeal.main_arg0) = m ((c.tc : Thread Cert.WeightGradReferenceIdeal.nD Cert.WeightGradReferenceIdeal.τ).loc Cert.WeightGradReferenceIdeal.main_arg0)
      ∧ r.2.mem ((c.tc : Thread Cert.WeightGradReferenceIdeal.nD Cert.WeightGradReferenceIdeal.τ).loc Cert.WeightGradReferenceIdeal.main_arg1) = m ((c.tc : Thread Cert.WeightGradReferenceIdeal.nD Cert.WeightGradReferenceIdeal.τ).loc Cert.WeightGradReferenceIdeal.main_arg1))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1))
      ∧ r.2.sem = fun _ => 0)

def quiescent_InputGradReferenceIdeal [hInputGradReferenceIdeal : Cert.InputGradReferenceIdeal.Facts] : Prop :=
  ∀ (m : (ℓ : Loc Cert.InputGradReferenceIdeal.nD Cert.InputGradReferenceIdeal.τ Cert.InputGradReferenceIdeal.sig) → Buf (Elt Ideal) ℓ) (g : Dev Cert.InputGradReferenceIdeal.nD → PrngReg), Pre_InputGradReferenceIdeal m →
    θ_run (Cert.InputGradReferenceIdeal.defs (F := Ideal)) (onTc (τ := Cert.InputGradReferenceIdeal.τ) (Cert.InputGradReferenceIdeal.main (F := Ideal))) ⟨m, fun _ => 0, g⟩ (fun r => (∀ c : Dev Cert.InputGradReferenceIdeal.nD,
      r.2.mem ((c.tc : Thread Cert.InputGradReferenceIdeal.nD Cert.InputGradReferenceIdeal.τ).loc Cert.InputGradReferenceIdeal.main_arg0) = m ((c.tc : Thread Cert.InputGradReferenceIdeal.nD Cert.InputGradReferenceIdeal.τ).loc Cert.InputGradReferenceIdeal.main_arg0)
      ∧ r.2.mem ((c.tc : Thread Cert.InputGradReferenceIdeal.nD Cert.InputGradReferenceIdeal.τ).loc Cert.InputGradReferenceIdeal.main_arg1) = m ((c.tc : Thread Cert.InputGradReferenceIdeal.nD Cert.InputGradReferenceIdeal.τ).loc Cert.InputGradReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_BranchGradA [hBranchGradA : Cert.BranchGradA.Facts] : Prop :=
  ∀ (m : (ℓ : Loc Cert.BranchGradA.nD Cert.BranchGradA.τ Cert.BranchGradA.sig) → Buf (Elt Bits) ℓ) (g : Dev Cert.BranchGradA.nD → PrngReg), Pre_BranchGradA m →
    θ_run (Cert.BranchGradA.defs (F := Bits)) (onTc (τ := Cert.BranchGradA.τ) (Cert.BranchGradA.main (F := Bits))) ⟨m, fun _ => 0, g⟩ (fun r => (∀ c : Dev Cert.BranchGradA.nD,
      r.2.mem ((c.tc : Thread Cert.BranchGradA.nD Cert.BranchGradA.τ).loc Cert.BranchGradA.main_arg0) = m ((c.tc : Thread Cert.BranchGradA.nD Cert.BranchGradA.τ).loc Cert.BranchGradA.main_arg0)
      ∧ r.2.mem ((c.tc : Thread Cert.BranchGradA.nD Cert.BranchGradA.τ).loc Cert.BranchGradA.main_arg1) = m ((c.tc : Thread Cert.BranchGradA.nD Cert.BranchGradA.τ).loc Cert.BranchGradA.main_arg1))
      ∧ r.2.sem = fun _ => 0)

def quiescent_BranchGradAIdeal [hBranchGradAIdeal : Cert.BranchGradAIdeal.Facts] : Prop :=
  ∀ (m : (ℓ : Loc Cert.BranchGradAIdeal.nD Cert.BranchGradAIdeal.τ Cert.BranchGradAIdeal.sig) → Buf (Elt Ideal) ℓ) (g : Dev Cert.BranchGradAIdeal.nD → PrngReg), Pre_BranchGradAIdeal m →
    θ_run (Cert.BranchGradAIdeal.defs (F := Ideal)) (onTc (τ := Cert.BranchGradAIdeal.τ) (Cert.BranchGradAIdeal.main (F := Ideal))) ⟨m, fun _ => 0, g⟩ (fun r => (∀ c : Dev Cert.BranchGradAIdeal.nD,
      r.2.mem ((c.tc : Thread Cert.BranchGradAIdeal.nD Cert.BranchGradAIdeal.τ).loc Cert.BranchGradAIdeal.main_arg0) = m ((c.tc : Thread Cert.BranchGradAIdeal.nD Cert.BranchGradAIdeal.τ).loc Cert.BranchGradAIdeal.main_arg0)
      ∧ r.2.mem ((c.tc : Thread Cert.BranchGradAIdeal.nD Cert.BranchGradAIdeal.τ).loc Cert.BranchGradAIdeal.main_arg1) = m ((c.tc : Thread Cert.BranchGradAIdeal.nD Cert.BranchGradAIdeal.τ).loc Cert.BranchGradAIdeal.main_arg1))
      ∧ r.2.sem = fun _ => 0)

def quiescent_BranchGradAReferenceIdeal [hBranchGradAReferenceIdeal : Cert.BranchGradAReferenceIdeal.Facts] : Prop :=
  ∀ (m : (ℓ : Loc Cert.BranchGradAReferenceIdeal.nD Cert.BranchGradAReferenceIdeal.τ Cert.BranchGradAReferenceIdeal.sig) → Buf (Elt Ideal) ℓ) (g : Dev Cert.BranchGradAReferenceIdeal.nD → PrngReg), Pre_BranchGradAReferenceIdeal m →
    θ_run (Cert.BranchGradAReferenceIdeal.defs (F := Ideal)) (onTc (τ := Cert.BranchGradAReferenceIdeal.τ) (Cert.BranchGradAReferenceIdeal.main (F := Ideal))) ⟨m, fun _ => 0, g⟩ (fun r => (∀ c : Dev Cert.BranchGradAReferenceIdeal.nD,
      r.2.mem ((c.tc : Thread Cert.BranchGradAReferenceIdeal.nD Cert.BranchGradAReferenceIdeal.τ).loc Cert.BranchGradAReferenceIdeal.main_arg0) = m ((c.tc : Thread Cert.BranchGradAReferenceIdeal.nD Cert.BranchGradAReferenceIdeal.τ).loc Cert.BranchGradAReferenceIdeal.main_arg0)
      ∧ r.2.mem ((c.tc : Thread Cert.BranchGradAReferenceIdeal.nD Cert.BranchGradAReferenceIdeal.τ).loc Cert.BranchGradAReferenceIdeal.main_arg1) = m ((c.tc : Thread Cert.BranchGradAReferenceIdeal.nD Cert.BranchGradAReferenceIdeal.τ).loc Cert.BranchGradAReferenceIdeal.main_arg1))
      ∧ r.2.sem = fun _ => 0)

def quiescent_BranchGradB [hBranchGradB : Cert.BranchGradB.Facts] : Prop :=
  ∀ (m : (ℓ : Loc Cert.BranchGradB.nD Cert.BranchGradB.τ Cert.BranchGradB.sig) → Buf (Elt Bits) ℓ) (g : Dev Cert.BranchGradB.nD → PrngReg), Pre_BranchGradB m →
    θ_run (Cert.BranchGradB.defs (F := Bits)) (onTc (τ := Cert.BranchGradB.τ) (Cert.BranchGradB.main (F := Bits))) ⟨m, fun _ => 0, g⟩ (fun r => (∀ c : Dev Cert.BranchGradB.nD,
      r.2.mem ((c.tc : Thread Cert.BranchGradB.nD Cert.BranchGradB.τ).loc Cert.BranchGradB.main_arg0) = m ((c.tc : Thread Cert.BranchGradB.nD Cert.BranchGradB.τ).loc Cert.BranchGradB.main_arg0)
      ∧ r.2.mem ((c.tc : Thread Cert.BranchGradB.nD Cert.BranchGradB.τ).loc Cert.BranchGradB.main_arg1) = m ((c.tc : Thread Cert.BranchGradB.nD Cert.BranchGradB.τ).loc Cert.BranchGradB.main_arg1))
      ∧ r.2.sem = fun _ => 0)

def quiescent_BranchGradBIdeal [hBranchGradBIdeal : Cert.BranchGradBIdeal.Facts] : Prop :=
  ∀ (m : (ℓ : Loc Cert.BranchGradBIdeal.nD Cert.BranchGradBIdeal.τ Cert.BranchGradBIdeal.sig) → Buf (Elt Ideal) ℓ) (g : Dev Cert.BranchGradBIdeal.nD → PrngReg), Pre_BranchGradBIdeal m →
    θ_run (Cert.BranchGradBIdeal.defs (F := Ideal)) (onTc (τ := Cert.BranchGradBIdeal.τ) (Cert.BranchGradBIdeal.main (F := Ideal))) ⟨m, fun _ => 0, g⟩ (fun r => (∀ c : Dev Cert.BranchGradBIdeal.nD,
      r.2.mem ((c.tc : Thread Cert.BranchGradBIdeal.nD Cert.BranchGradBIdeal.τ).loc Cert.BranchGradBIdeal.main_arg0) = m ((c.tc : Thread Cert.BranchGradBIdeal.nD Cert.BranchGradBIdeal.τ).loc Cert.BranchGradBIdeal.main_arg0)
      ∧ r.2.mem ((c.tc : Thread Cert.BranchGradBIdeal.nD Cert.BranchGradBIdeal.τ).loc Cert.BranchGradBIdeal.main_arg1) = m ((c.tc : Thread Cert.BranchGradBIdeal.nD Cert.BranchGradBIdeal.τ).loc Cert.BranchGradBIdeal.main_arg1))
      ∧ r.2.sem = fun _ => 0)

def quiescent_BranchGradBReferenceIdeal [hBranchGradBReferenceIdeal : Cert.BranchGradBReferenceIdeal.Facts] : Prop :=
  ∀ (m : (ℓ : Loc Cert.BranchGradBReferenceIdeal.nD Cert.BranchGradBReferenceIdeal.τ Cert.BranchGradBReferenceIdeal.sig) → Buf (Elt Ideal) ℓ) (g : Dev Cert.BranchGradBReferenceIdeal.nD → PrngReg), Pre_BranchGradBReferenceIdeal m →
    θ_run (Cert.BranchGradBReferenceIdeal.defs (F := Ideal)) (onTc (τ := Cert.BranchGradBReferenceIdeal.τ) (Cert.BranchGradBReferenceIdeal.main (F := Ideal))) ⟨m, fun _ => 0, g⟩ (fun r => (∀ c : Dev Cert.BranchGradBReferenceIdeal.nD,
      r.2.mem ((c.tc : Thread Cert.BranchGradBReferenceIdeal.nD Cert.BranchGradBReferenceIdeal.τ).loc Cert.BranchGradBReferenceIdeal.main_arg0) = m ((c.tc : Thread Cert.BranchGradBReferenceIdeal.nD Cert.BranchGradBReferenceIdeal.τ).loc Cert.BranchGradBReferenceIdeal.main_arg0)
      ∧ r.2.mem ((c.tc : Thread Cert.BranchGradBReferenceIdeal.nD Cert.BranchGradBReferenceIdeal.τ).loc Cert.BranchGradBReferenceIdeal.main_arg1) = m ((c.tc : Thread Cert.BranchGradBReferenceIdeal.nD Cert.BranchGradBReferenceIdeal.τ).loc Cert.BranchGradBReferenceIdeal.main_arg1))
      ∧ r.2.sem = fun _ => 0)

def quiescent_BranchGradC [hBranchGradC : Cert.BranchGradC.Facts] : Prop :=
  ∀ (m : (ℓ : Loc Cert.BranchGradC.nD Cert.BranchGradC.τ Cert.BranchGradC.sig) → Buf (Elt Bits) ℓ) (g : Dev Cert.BranchGradC.nD → PrngReg), Pre_BranchGradC m →
    θ_run (Cert.BranchGradC.defs (F := Bits)) (onTc (τ := Cert.BranchGradC.τ) (Cert.BranchGradC.main (F := Bits))) ⟨m, fun _ => 0, g⟩ (fun r => (∀ c : Dev Cert.BranchGradC.nD,
      r.2.mem ((c.tc : Thread Cert.BranchGradC.nD Cert.BranchGradC.τ).loc Cert.BranchGradC.main_arg0) = m ((c.tc : Thread Cert.BranchGradC.nD Cert.BranchGradC.τ).loc Cert.BranchGradC.main_arg0)
      ∧ r.2.mem ((c.tc : Thread Cert.BranchGradC.nD Cert.BranchGradC.τ).loc Cert.BranchGradC.main_arg1) = m ((c.tc : Thread Cert.BranchGradC.nD Cert.BranchGradC.τ).loc Cert.BranchGradC.main_arg1))
      ∧ r.2.sem = fun _ => 0)

def quiescent_BranchGradCIdeal [hBranchGradCIdeal : Cert.BranchGradCIdeal.Facts] : Prop :=
  ∀ (m : (ℓ : Loc Cert.BranchGradCIdeal.nD Cert.BranchGradCIdeal.τ Cert.BranchGradCIdeal.sig) → Buf (Elt Ideal) ℓ) (g : Dev Cert.BranchGradCIdeal.nD → PrngReg), Pre_BranchGradCIdeal m →
    θ_run (Cert.BranchGradCIdeal.defs (F := Ideal)) (onTc (τ := Cert.BranchGradCIdeal.τ) (Cert.BranchGradCIdeal.main (F := Ideal))) ⟨m, fun _ => 0, g⟩ (fun r => (∀ c : Dev Cert.BranchGradCIdeal.nD,
      r.2.mem ((c.tc : Thread Cert.BranchGradCIdeal.nD Cert.BranchGradCIdeal.τ).loc Cert.BranchGradCIdeal.main_arg0) = m ((c.tc : Thread Cert.BranchGradCIdeal.nD Cert.BranchGradCIdeal.τ).loc Cert.BranchGradCIdeal.main_arg0)
      ∧ r.2.mem ((c.tc : Thread Cert.BranchGradCIdeal.nD Cert.BranchGradCIdeal.τ).loc Cert.BranchGradCIdeal.main_arg1) = m ((c.tc : Thread Cert.BranchGradCIdeal.nD Cert.BranchGradCIdeal.τ).loc Cert.BranchGradCIdeal.main_arg1))
      ∧ r.2.sem = fun _ => 0)

def quiescent_BranchGradCReferenceIdeal [hBranchGradCReferenceIdeal : Cert.BranchGradCReferenceIdeal.Facts] : Prop :=
  ∀ (m : (ℓ : Loc Cert.BranchGradCReferenceIdeal.nD Cert.BranchGradCReferenceIdeal.τ Cert.BranchGradCReferenceIdeal.sig) → Buf (Elt Ideal) ℓ) (g : Dev Cert.BranchGradCReferenceIdeal.nD → PrngReg), Pre_BranchGradCReferenceIdeal m →
    θ_run (Cert.BranchGradCReferenceIdeal.defs (F := Ideal)) (onTc (τ := Cert.BranchGradCReferenceIdeal.τ) (Cert.BranchGradCReferenceIdeal.main (F := Ideal))) ⟨m, fun _ => 0, g⟩ (fun r => (∀ c : Dev Cert.BranchGradCReferenceIdeal.nD,
      r.2.mem ((c.tc : Thread Cert.BranchGradCReferenceIdeal.nD Cert.BranchGradCReferenceIdeal.τ).loc Cert.BranchGradCReferenceIdeal.main_arg0) = m ((c.tc : Thread Cert.BranchGradCReferenceIdeal.nD Cert.BranchGradCReferenceIdeal.τ).loc Cert.BranchGradCReferenceIdeal.main_arg0)
      ∧ r.2.mem ((c.tc : Thread Cert.BranchGradCReferenceIdeal.nD Cert.BranchGradCReferenceIdeal.τ).loc Cert.BranchGradCReferenceIdeal.main_arg1) = m ((c.tc : Thread Cert.BranchGradCReferenceIdeal.nD Cert.BranchGradCReferenceIdeal.τ).loc Cert.BranchGradCReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_ModulationGrad [hModulationGrad : Cert.ModulationGrad.Facts] : Prop :=
  ∀ (m : (ℓ : Loc Cert.ModulationGrad.nD Cert.ModulationGrad.τ Cert.ModulationGrad.sig) → Buf (Elt Bits) ℓ) (g : Dev Cert.ModulationGrad.nD → PrngReg), Pre_ModulationGrad m →
    θ_run (Cert.ModulationGrad.defs (F := Bits)) (onTc (τ := Cert.ModulationGrad.τ) (Cert.ModulationGrad.main (F := Bits))) ⟨m, fun _ => 0, g⟩ (fun r => (∀ c : Dev Cert.ModulationGrad.nD,
      r.2.mem ((c.tc : Thread Cert.ModulationGrad.nD Cert.ModulationGrad.τ).loc Cert.ModulationGrad.main_arg0) = m ((c.tc : Thread Cert.ModulationGrad.nD Cert.ModulationGrad.τ).loc Cert.ModulationGrad.main_arg0)
      ∧ r.2.mem ((c.tc : Thread Cert.ModulationGrad.nD Cert.ModulationGrad.τ).loc Cert.ModulationGrad.main_arg1) = m ((c.tc : Thread Cert.ModulationGrad.nD Cert.ModulationGrad.τ).loc Cert.ModulationGrad.main_arg1)
      ∧ r.2.mem ((c.tc : Thread Cert.ModulationGrad.nD Cert.ModulationGrad.τ).loc Cert.ModulationGrad.main_arg2) = m ((c.tc : Thread Cert.ModulationGrad.nD Cert.ModulationGrad.τ).loc Cert.ModulationGrad.main_arg2))
      ∧ r.2.sem = fun _ => 0)

def quiescent_ModulationGradIdeal [hModulationGradIdeal : Cert.ModulationGradIdeal.Facts] : Prop :=
  ∀ (m : (ℓ : Loc Cert.ModulationGradIdeal.nD Cert.ModulationGradIdeal.τ Cert.ModulationGradIdeal.sig) → Buf (Elt Ideal) ℓ) (g : Dev Cert.ModulationGradIdeal.nD → PrngReg), Pre_ModulationGradIdeal m →
    θ_run (Cert.ModulationGradIdeal.defs (F := Ideal)) (onTc (τ := Cert.ModulationGradIdeal.τ) (Cert.ModulationGradIdeal.main (F := Ideal))) ⟨m, fun _ => 0, g⟩ (fun r => (∀ c : Dev Cert.ModulationGradIdeal.nD,
      r.2.mem ((c.tc : Thread Cert.ModulationGradIdeal.nD Cert.ModulationGradIdeal.τ).loc Cert.ModulationGradIdeal.main_arg0) = m ((c.tc : Thread Cert.ModulationGradIdeal.nD Cert.ModulationGradIdeal.τ).loc Cert.ModulationGradIdeal.main_arg0)
      ∧ r.2.mem ((c.tc : Thread Cert.ModulationGradIdeal.nD Cert.ModulationGradIdeal.τ).loc Cert.ModulationGradIdeal.main_arg1) = m ((c.tc : Thread Cert.ModulationGradIdeal.nD Cert.ModulationGradIdeal.τ).loc Cert.ModulationGradIdeal.main_arg1)
      ∧ r.2.mem ((c.tc : Thread Cert.ModulationGradIdeal.nD Cert.ModulationGradIdeal.τ).loc Cert.ModulationGradIdeal.main_arg2) = m ((c.tc : Thread Cert.ModulationGradIdeal.nD Cert.ModulationGradIdeal.τ).loc Cert.ModulationGradIdeal.main_arg2))
      ∧ r.2.sem = fun _ => 0)

def quiescent_ModulationGradIdeal_pre_finite_mod [hModulationGradIdeal : Cert.ModulationGradIdeal.Facts] [hPre_finite_mod : Cert.Pre_finite_mod.Facts] : Prop :=
  ∀ (m : (ℓ : Loc Cert.ModulationGradIdeal.nD Cert.ModulationGradIdeal.τ Cert.ModulationGradIdeal.sig) → Buf (Elt Ideal) ℓ) (g : Dev Cert.ModulationGradIdeal.nD → PrngReg), Pre_ModulationGradIdeal_finite_mod m →
    θ_run (Cert.ModulationGradIdeal.defs (F := Ideal)) (onTc (τ := Cert.ModulationGradIdeal.τ) (Cert.ModulationGradIdeal.main (F := Ideal))) ⟨m, fun _ => 0, g⟩ (fun r => (∀ c : Dev Cert.ModulationGradIdeal.nD,
      r.2.mem ((c.tc : Thread Cert.ModulationGradIdeal.nD Cert.ModulationGradIdeal.τ).loc Cert.ModulationGradIdeal.main_arg0) = m ((c.tc : Thread Cert.ModulationGradIdeal.nD Cert.ModulationGradIdeal.τ).loc Cert.ModulationGradIdeal.main_arg0)
      ∧ r.2.mem ((c.tc : Thread Cert.ModulationGradIdeal.nD Cert.ModulationGradIdeal.τ).loc Cert.ModulationGradIdeal.main_arg1) = m ((c.tc : Thread Cert.ModulationGradIdeal.nD Cert.ModulationGradIdeal.τ).loc Cert.ModulationGradIdeal.main_arg1)
      ∧ r.2.mem ((c.tc : Thread Cert.ModulationGradIdeal.nD Cert.ModulationGradIdeal.τ).loc Cert.ModulationGradIdeal.main_arg2) = m ((c.tc : Thread Cert.ModulationGradIdeal.nD Cert.ModulationGradIdeal.τ).loc Cert.ModulationGradIdeal.main_arg2))
      ∧ r.2.sem = fun _ => 0)

def quiescent_ModulationGradReferenceIdeal [hModulationGradReferenceIdeal : Cert.ModulationGradReferenceIdeal.Facts] : Prop :=
  ∀ (m : (ℓ : Loc Cert.ModulationGradReferenceIdeal.nD Cert.ModulationGradReferenceIdeal.τ Cert.ModulationGradReferenceIdeal.sig) → Buf (Elt Ideal) ℓ) (g : Dev Cert.ModulationGradReferenceIdeal.nD → PrngReg), Pre_ModulationGradReferenceIdeal m →
    θ_run (Cert.ModulationGradReferenceIdeal.defs (F := Ideal)) (onTc (τ := Cert.ModulationGradReferenceIdeal.τ) (Cert.ModulationGradReferenceIdeal.main (F := Ideal))) ⟨m, fun _ => 0, g⟩ (fun r => (∀ c : Dev Cert.ModulationGradReferenceIdeal.nD,
      r.2.mem ((c.tc : Thread Cert.ModulationGradReferenceIdeal.nD Cert.ModulationGradReferenceIdeal.τ).loc Cert.ModulationGradReferenceIdeal.main_arg0) = m ((c.tc : Thread Cert.ModulationGradReferenceIdeal.nD Cert.ModulationGradReferenceIdeal.τ).loc Cert.ModulationGradReferenceIdeal.main_arg0)
      ∧ r.2.mem ((c.tc : Thread Cert.ModulationGradReferenceIdeal.nD Cert.ModulationGradReferenceIdeal.τ).loc Cert.ModulationGradReferenceIdeal.main_arg1) = m ((c.tc : Thread Cert.ModulationGradReferenceIdeal.nD Cert.ModulationGradReferenceIdeal.τ).loc Cert.ModulationGradReferenceIdeal.main_arg1)
      ∧ r.2.mem ((c.tc : Thread Cert.ModulationGradReferenceIdeal.nD Cert.ModulationGradReferenceIdeal.τ).loc Cert.ModulationGradReferenceIdeal.main_arg2) = m ((c.tc : Thread Cert.ModulationGradReferenceIdeal.nD Cert.ModulationGradReferenceIdeal.τ).loc Cert.ModulationGradReferenceIdeal.main_arg2))
      ∧ r.2.sem = fun _ => 0)

def quiescent_ModulationGradReferenceIdeal_pre_finite_mod [hModulationGradReferenceIdeal : Cert.ModulationGradReferenceIdeal.Facts] [hPre_finite_mod : Cert.Pre_finite_mod.Facts] : Prop :=
  ∀ (m : (ℓ : Loc Cert.ModulationGradReferenceIdeal.nD Cert.ModulationGradReferenceIdeal.τ Cert.ModulationGradReferenceIdeal.sig) → Buf (Elt Ideal) ℓ) (g : Dev Cert.ModulationGradReferenceIdeal.nD → PrngReg), Pre_ModulationGradReferenceIdeal_finite_mod m →
    θ_run (Cert.ModulationGradReferenceIdeal.defs (F := Ideal)) (onTc (τ := Cert.ModulationGradReferenceIdeal.τ) (Cert.ModulationGradReferenceIdeal.main (F := Ideal))) ⟨m, fun _ => 0, g⟩ (fun r => (∀ c : Dev Cert.ModulationGradReferenceIdeal.nD,
      r.2.mem ((c.tc : Thread Cert.ModulationGradReferenceIdeal.nD Cert.ModulationGradReferenceIdeal.τ).loc Cert.ModulationGradReferenceIdeal.main_arg0) = m ((c.tc : Thread Cert.ModulationGradReferenceIdeal.nD Cert.ModulationGradReferenceIdeal.τ).loc Cert.ModulationGradReferenceIdeal.main_arg0)
      ∧ r.2.mem ((c.tc : Thread Cert.ModulationGradReferenceIdeal.nD Cert.ModulationGradReferenceIdeal.τ).loc Cert.ModulationGradReferenceIdeal.main_arg1) = m ((c.tc : Thread Cert.ModulationGradReferenceIdeal.nD Cert.ModulationGradReferenceIdeal.τ).loc Cert.ModulationGradReferenceIdeal.main_arg1)
      ∧ r.2.mem ((c.tc : Thread Cert.ModulationGradReferenceIdeal.nD Cert.ModulationGradReferenceIdeal.τ).loc Cert.ModulationGradReferenceIdeal.main_arg2) = m ((c.tc : Thread Cert.ModulationGradReferenceIdeal.nD Cert.ModulationGradReferenceIdeal.τ).loc Cert.ModulationGradReferenceIdeal.main_arg2))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModReferenceIdeal [hAdamModReferenceIdeal : Cert.AdamModReferenceIdeal.Facts] : Prop :=
  ∀ (m : (ℓ : Loc Cert.AdamModReferenceIdeal.nD Cert.AdamModReferenceIdeal.τ Cert.AdamModReferenceIdeal.sig) → Buf (Elt Ideal) ℓ) (g : Dev Cert.AdamModReferenceIdeal.nD → PrngReg), Pre_AdamModReferenceIdeal m →
    θ_run (Cert.AdamModReferenceIdeal.defs (F := Ideal)) (onTc (τ := Cert.AdamModReferenceIdeal.τ) (Cert.AdamModReferenceIdeal.main (F := Ideal))) ⟨m, fun _ => 0, g⟩ (fun r => (∀ c : Dev Cert.AdamModReferenceIdeal.nD,
      r.2.mem ((c.tc : Thread Cert.AdamModReferenceIdeal.nD Cert.AdamModReferenceIdeal.τ).loc Cert.AdamModReferenceIdeal.main_arg0) = m ((c.tc : Thread Cert.AdamModReferenceIdeal.nD Cert.AdamModReferenceIdeal.τ).loc Cert.AdamModReferenceIdeal.main_arg0)
      ∧ r.2.mem ((c.tc : Thread Cert.AdamModReferenceIdeal.nD Cert.AdamModReferenceIdeal.τ).loc Cert.AdamModReferenceIdeal.main_arg1) = m ((c.tc : Thread Cert.AdamModReferenceIdeal.nD Cert.AdamModReferenceIdeal.τ).loc Cert.AdamModReferenceIdeal.main_arg1)
      ∧ r.2.mem ((c.tc : Thread Cert.AdamModReferenceIdeal.nD Cert.AdamModReferenceIdeal.τ).loc Cert.AdamModReferenceIdeal.main_arg2) = m ((c.tc : Thread Cert.AdamModReferenceIdeal.nD Cert.AdamModReferenceIdeal.τ).loc Cert.AdamModReferenceIdeal.main_arg2)
      ∧ r.2.mem ((c.tc : Thread Cert.AdamModReferenceIdeal.nD Cert.AdamModReferenceIdeal.τ).loc Cert.AdamModReferenceIdeal.main_arg3) = m ((c.tc : Thread Cert.AdamModReferenceIdeal.nD Cert.AdamModReferenceIdeal.τ).loc Cert.AdamModReferenceIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchReferenceIdeal [hAdamBranchReferenceIdeal : Cert.AdamBranchReferenceIdeal.Facts] : Prop :=
  ∀ (m : (ℓ : Loc Cert.AdamBranchReferenceIdeal.nD Cert.AdamBranchReferenceIdeal.τ Cert.AdamBranchReferenceIdeal.sig) → Buf (Elt Ideal) ℓ) (g : Dev Cert.AdamBranchReferenceIdeal.nD → PrngReg), Pre_AdamBranchReferenceIdeal m →
    θ_run (Cert.AdamBranchReferenceIdeal.defs (F := Ideal)) (onTc (τ := Cert.AdamBranchReferenceIdeal.τ) (Cert.AdamBranchReferenceIdeal.main (F := Ideal))) ⟨m, fun _ => 0, g⟩ (fun r => (∀ c : Dev Cert.AdamBranchReferenceIdeal.nD,
      r.2.mem ((c.tc : Thread Cert.AdamBranchReferenceIdeal.nD Cert.AdamBranchReferenceIdeal.τ).loc Cert.AdamBranchReferenceIdeal.main_arg0) = m ((c.tc : Thread Cert.AdamBranchReferenceIdeal.nD Cert.AdamBranchReferenceIdeal.τ).loc Cert.AdamBranchReferenceIdeal.main_arg0)
      ∧ r.2.mem ((c.tc : Thread Cert.AdamBranchReferenceIdeal.nD Cert.AdamBranchReferenceIdeal.τ).loc Cert.AdamBranchReferenceIdeal.main_arg1) = m ((c.tc : Thread Cert.AdamBranchReferenceIdeal.nD Cert.AdamBranchReferenceIdeal.τ).loc Cert.AdamBranchReferenceIdeal.main_arg1)
      ∧ r.2.mem ((c.tc : Thread Cert.AdamBranchReferenceIdeal.nD Cert.AdamBranchReferenceIdeal.τ).loc Cert.AdamBranchReferenceIdeal.main_arg2) = m ((c.tc : Thread Cert.AdamBranchReferenceIdeal.nD Cert.AdamBranchReferenceIdeal.τ).loc Cert.AdamBranchReferenceIdeal.main_arg2)
      ∧ r.2.mem ((c.tc : Thread Cert.AdamBranchReferenceIdeal.nD Cert.AdamBranchReferenceIdeal.τ).loc Cert.AdamBranchReferenceIdeal.main_arg3) = m ((c.tc : Thread Cert.AdamBranchReferenceIdeal.nD Cert.AdamBranchReferenceIdeal.τ).loc Cert.AdamBranchReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v82_1)) (v2 : (c : Dev Cert.KernelIdeal.nD) → Buf (Elt Ideal) ((c.tc : Thread Cert.KernelIdeal.nD Cert.KernelIdeal.τ).loc Cert.KernelIdeal.main_v82_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_v82_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Forward_ForwardIdeal : Prop :=
  IdealRules.named_const.Statement Cert.ForwardIdeal.κ "scale_log2e" .f32 0x3E0293EE#32 (((11863283 / 134217728) * (Real.log 2)⁻¹ : ℝ) : EReal)

def algebraic_ForwardIdeal_ForwardReferenceIdeal_pre_finite_qk [hForwardIdeal : Cert.ForwardIdeal.Facts] [hForwardReferenceIdeal : Cert.ForwardReferenceIdeal.Facts] [hPre_finite_qk : Cert.Pre_finite_qk.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite_qk m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v2_0)) (v1 : (c : Dev Cert.ForwardIdeal.nD) → Buf (Elt Ideal) ((c.tc : Thread Cert.ForwardIdeal.nD Cert.ForwardIdeal.τ).loc Cert.ForwardIdeal.main_v2_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v2_0) = v0 c
          ∧ r.2.mem ((c.tc : Thread Cert.ForwardIdeal.nD Cert.ForwardIdeal.τ).loc Cert.ForwardIdeal.main_v2_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v44) = v0 c
          ∧ r.2.mem ((c.tc : Thread Cert.ForwardReferenceIdeal.nD Cert.ForwardReferenceIdeal.τ).loc Cert.ForwardReferenceIdeal.main_v79) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v4) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_WeightGrad_WeightGradIdeal : Prop :=
  True

def algebraic_WeightGradIdeal_WeightGradReferenceIdeal [hWeightGradIdeal : Cert.WeightGradIdeal.Facts] [hWeightGradReferenceIdeal : Cert.WeightGradReferenceIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradReferenceIdeal.nD Cert.WeightGradReferenceIdeal.τ Cert.WeightGradReferenceIdeal.sig) → Buf (Elt Ideal) ℓ) (g' : Dev Cert.WeightGradReferenceIdeal.nD → PrngReg), Pre_WeightGradIdeal m →
    (∀ c : Dev Cert.WeightGradIdeal.nD,
      m' ((c.tc : Thread Cert.WeightGradReferenceIdeal.nD Cert.WeightGradReferenceIdeal.τ).loc Cert.WeightGradReferenceIdeal.main_arg0) = m ((c.tc : Thread Cert.WeightGradIdeal.nD Cert.WeightGradIdeal.τ).loc Cert.WeightGradIdeal.main_arg0)
      ∧ m' ((c.tc : Thread Cert.WeightGradReferenceIdeal.nD Cert.WeightGradReferenceIdeal.τ).loc Cert.WeightGradReferenceIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v4)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v4) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradReferenceIdeal.defs (F := Ideal)) (onTc (τ := Cert.WeightGradReferenceIdeal.τ) (Cert.WeightGradReferenceIdeal.main (F := Ideal))) ⟨m', fun _ => 0, g'⟩ (fun r => ∀ c : Dev Cert.WeightGradReferenceIdeal.nD,
          r.2.mem ((c.tc : Thread Cert.WeightGradReferenceIdeal.nD Cert.WeightGradReferenceIdeal.τ).loc Cert.WeightGradReferenceIdeal.main_v3) = v0 c
          ∧ r.2.mem ((c.tc : Thread Cert.WeightGradReferenceIdeal.nD Cert.WeightGradReferenceIdeal.τ).loc Cert.WeightGradReferenceIdeal.main_arg0) = m' ((c.tc : Thread Cert.WeightGradReferenceIdeal.nD Cert.WeightGradReferenceIdeal.τ).loc Cert.WeightGradReferenceIdeal.main_arg0)
          ∧ r.2.mem ((c.tc : Thread Cert.WeightGradReferenceIdeal.nD Cert.WeightGradReferenceIdeal.τ).loc Cert.WeightGradReferenceIdeal.main_arg1) = m' ((c.tc : Thread Cert.WeightGradReferenceIdeal.nD Cert.WeightGradReferenceIdeal.τ).loc Cert.WeightGradReferenceIdeal.main_arg1))

def preserves_InputGrad_InputGradIdeal : Prop :=
  True

def algebraic_InputGradIdeal_InputGradReferenceIdeal [hInputGradIdeal : Cert.InputGradIdeal.Facts] [hInputGradReferenceIdeal : Cert.InputGradReferenceIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradReferenceIdeal.nD Cert.InputGradReferenceIdeal.τ Cert.InputGradReferenceIdeal.sig) → Buf (Elt Ideal) ℓ) (g' : Dev Cert.InputGradReferenceIdeal.nD → PrngReg), Pre_InputGradIdeal m →
    (∀ c : Dev Cert.InputGradIdeal.nD,
      m' ((c.tc : Thread Cert.InputGradReferenceIdeal.nD Cert.InputGradReferenceIdeal.τ).loc Cert.InputGradReferenceIdeal.main_arg0) = m ((c.tc : Thread Cert.InputGradIdeal.nD Cert.InputGradIdeal.τ).loc Cert.InputGradIdeal.main_arg0)
      ∧ m' ((c.tc : Thread Cert.InputGradReferenceIdeal.nD Cert.InputGradReferenceIdeal.τ).loc Cert.InputGradReferenceIdeal.main_arg1) = m ((c.tc : Thread Cert.InputGradIdeal.nD Cert.InputGradIdeal.τ).loc Cert.InputGradIdeal.main_arg1)) →
    ∃ (v0 : (c : Dev Cert.InputGradIdeal.nD) → Buf (Elt Ideal) ((c.tc : Thread Cert.InputGradIdeal.nD Cert.InputGradIdeal.τ).loc Cert.InputGradIdeal.main_v3)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v3) = v0 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1))
      ∧ θ_run (Cert.InputGradReferenceIdeal.defs (F := Ideal)) (onTc (τ := Cert.InputGradReferenceIdeal.τ) (Cert.InputGradReferenceIdeal.main (F := Ideal))) ⟨m', fun _ => 0, g'⟩ (fun r => ∀ c : Dev Cert.InputGradReferenceIdeal.nD,
          r.2.mem ((c.tc : Thread Cert.InputGradReferenceIdeal.nD Cert.InputGradReferenceIdeal.τ).loc Cert.InputGradReferenceIdeal.main_v5) = v0 c
          ∧ r.2.mem ((c.tc : Thread Cert.InputGradReferenceIdeal.nD Cert.InputGradReferenceIdeal.τ).loc Cert.InputGradReferenceIdeal.main_arg0) = m' ((c.tc : Thread Cert.InputGradReferenceIdeal.nD Cert.InputGradReferenceIdeal.τ).loc Cert.InputGradReferenceIdeal.main_arg0)
          ∧ r.2.mem ((c.tc : Thread Cert.InputGradReferenceIdeal.nD Cert.InputGradReferenceIdeal.τ).loc Cert.InputGradReferenceIdeal.main_arg1) = m' ((c.tc : Thread Cert.InputGradReferenceIdeal.nD Cert.InputGradReferenceIdeal.τ).loc Cert.InputGradReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v63) = v0 c
          ∧ r.2.mem ((c.tc : Thread Cert.MergeReferenceIdeal.nD Cert.MergeReferenceIdeal.τ).loc Cert.MergeReferenceIdeal.main_v47) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_BranchGradA_BranchGradAIdeal : Prop :=
  True

def algebraic_BranchGradAIdeal_BranchGradAReferenceIdeal [hBranchGradAIdeal : Cert.BranchGradAIdeal.Facts] [hBranchGradAReferenceIdeal : Cert.BranchGradAReferenceIdeal.Facts] : Prop :=
  ∀ (m : (ℓ : Loc Cert.BranchGradAIdeal.nD Cert.BranchGradAIdeal.τ Cert.BranchGradAIdeal.sig) → Buf (Elt Ideal) ℓ) (g : Dev Cert.BranchGradAIdeal.nD → PrngReg)
    (m' : (ℓ : Loc Cert.BranchGradAReferenceIdeal.nD Cert.BranchGradAReferenceIdeal.τ Cert.BranchGradAReferenceIdeal.sig) → Buf (Elt Ideal) ℓ) (g' : Dev Cert.BranchGradAReferenceIdeal.nD → PrngReg), Pre_BranchGradAIdeal m →
    (∀ c : Dev Cert.BranchGradAIdeal.nD,
      m' ((c.tc : Thread Cert.BranchGradAReferenceIdeal.nD Cert.BranchGradAReferenceIdeal.τ).loc Cert.BranchGradAReferenceIdeal.main_arg0) = m ((c.tc : Thread Cert.BranchGradAIdeal.nD Cert.BranchGradAIdeal.τ).loc Cert.BranchGradAIdeal.main_arg0)
      ∧ m' ((c.tc : Thread Cert.BranchGradAReferenceIdeal.nD Cert.BranchGradAReferenceIdeal.τ).loc Cert.BranchGradAReferenceIdeal.main_arg1) = m ((c.tc : Thread Cert.BranchGradAIdeal.nD Cert.BranchGradAIdeal.τ).loc Cert.BranchGradAIdeal.main_arg1)) →
    ∃ (v0 : (c : Dev Cert.BranchGradAIdeal.nD) → Buf (Elt Ideal) ((c.tc : Thread Cert.BranchGradAIdeal.nD Cert.BranchGradAIdeal.τ).loc Cert.BranchGradAIdeal.main_v4)),
      θ_run (Cert.BranchGradAIdeal.defs (F := Ideal)) (onTc (τ := Cert.BranchGradAIdeal.τ) (Cert.BranchGradAIdeal.main (F := Ideal))) ⟨m, fun _ => 0, g⟩ (fun r => ∀ c : Dev Cert.BranchGradAIdeal.nD,
          r.2.mem ((c.tc : Thread Cert.BranchGradAIdeal.nD Cert.BranchGradAIdeal.τ).loc Cert.BranchGradAIdeal.main_v4) = v0 c
          ∧ r.2.mem ((c.tc : Thread Cert.BranchGradAIdeal.nD Cert.BranchGradAIdeal.τ).loc Cert.BranchGradAIdeal.main_arg0) = m ((c.tc : Thread Cert.BranchGradAIdeal.nD Cert.BranchGradAIdeal.τ).loc Cert.BranchGradAIdeal.main_arg0)
          ∧ r.2.mem ((c.tc : Thread Cert.BranchGradAIdeal.nD Cert.BranchGradAIdeal.τ).loc Cert.BranchGradAIdeal.main_arg1) = m ((c.tc : Thread Cert.BranchGradAIdeal.nD Cert.BranchGradAIdeal.τ).loc Cert.BranchGradAIdeal.main_arg1))
      ∧ θ_run (Cert.BranchGradAReferenceIdeal.defs (F := Ideal)) (onTc (τ := Cert.BranchGradAReferenceIdeal.τ) (Cert.BranchGradAReferenceIdeal.main (F := Ideal))) ⟨m', fun _ => 0, g'⟩ (fun r => ∀ c : Dev Cert.BranchGradAReferenceIdeal.nD,
          r.2.mem ((c.tc : Thread Cert.BranchGradAReferenceIdeal.nD Cert.BranchGradAReferenceIdeal.τ).loc Cert.BranchGradAReferenceIdeal.main_v7) = v0 c
          ∧ r.2.mem ((c.tc : Thread Cert.BranchGradAReferenceIdeal.nD Cert.BranchGradAReferenceIdeal.τ).loc Cert.BranchGradAReferenceIdeal.main_arg0) = m' ((c.tc : Thread Cert.BranchGradAReferenceIdeal.nD Cert.BranchGradAReferenceIdeal.τ).loc Cert.BranchGradAReferenceIdeal.main_arg0)
          ∧ r.2.mem ((c.tc : Thread Cert.BranchGradAReferenceIdeal.nD Cert.BranchGradAReferenceIdeal.τ).loc Cert.BranchGradAReferenceIdeal.main_arg1) = m' ((c.tc : Thread Cert.BranchGradAReferenceIdeal.nD Cert.BranchGradAReferenceIdeal.τ).loc Cert.BranchGradAReferenceIdeal.main_arg1))

def preserves_BranchGradB_BranchGradBIdeal : Prop :=
  True

def algebraic_BranchGradBIdeal_BranchGradBReferenceIdeal [hBranchGradBIdeal : Cert.BranchGradBIdeal.Facts] [hBranchGradBReferenceIdeal : Cert.BranchGradBReferenceIdeal.Facts] : Prop :=
  ∀ (m : (ℓ : Loc Cert.BranchGradBIdeal.nD Cert.BranchGradBIdeal.τ Cert.BranchGradBIdeal.sig) → Buf (Elt Ideal) ℓ) (g : Dev Cert.BranchGradBIdeal.nD → PrngReg)
    (m' : (ℓ : Loc Cert.BranchGradBReferenceIdeal.nD Cert.BranchGradBReferenceIdeal.τ Cert.BranchGradBReferenceIdeal.sig) → Buf (Elt Ideal) ℓ) (g' : Dev Cert.BranchGradBReferenceIdeal.nD → PrngReg), Pre_BranchGradBIdeal m →
    (∀ c : Dev Cert.BranchGradBIdeal.nD,
      m' ((c.tc : Thread Cert.BranchGradBReferenceIdeal.nD Cert.BranchGradBReferenceIdeal.τ).loc Cert.BranchGradBReferenceIdeal.main_arg0) = m ((c.tc : Thread Cert.BranchGradBIdeal.nD Cert.BranchGradBIdeal.τ).loc Cert.BranchGradBIdeal.main_arg0)
      ∧ m' ((c.tc : Thread Cert.BranchGradBReferenceIdeal.nD Cert.BranchGradBReferenceIdeal.τ).loc Cert.BranchGradBReferenceIdeal.main_arg1) = m ((c.tc : Thread Cert.BranchGradBIdeal.nD Cert.BranchGradBIdeal.τ).loc Cert.BranchGradBIdeal.main_arg1)) →
    ∃ (v0 : (c : Dev Cert.BranchGradBIdeal.nD) → Buf (Elt Ideal) ((c.tc : Thread Cert.BranchGradBIdeal.nD Cert.BranchGradBIdeal.τ).loc Cert.BranchGradBIdeal.main_v4)),
      θ_run (Cert.BranchGradBIdeal.defs (F := Ideal)) (onTc (τ := Cert.BranchGradBIdeal.τ) (Cert.BranchGradBIdeal.main (F := Ideal))) ⟨m, fun _ => 0, g⟩ (fun r => ∀ c : Dev Cert.BranchGradBIdeal.nD,
          r.2.mem ((c.tc : Thread Cert.BranchGradBIdeal.nD Cert.BranchGradBIdeal.τ).loc Cert.BranchGradBIdeal.main_v4) = v0 c
          ∧ r.2.mem ((c.tc : Thread Cert.BranchGradBIdeal.nD Cert.BranchGradBIdeal.τ).loc Cert.BranchGradBIdeal.main_arg0) = m ((c.tc : Thread Cert.BranchGradBIdeal.nD Cert.BranchGradBIdeal.τ).loc Cert.BranchGradBIdeal.main_arg0)
          ∧ r.2.mem ((c.tc : Thread Cert.BranchGradBIdeal.nD Cert.BranchGradBIdeal.τ).loc Cert.BranchGradBIdeal.main_arg1) = m ((c.tc : Thread Cert.BranchGradBIdeal.nD Cert.BranchGradBIdeal.τ).loc Cert.BranchGradBIdeal.main_arg1))
      ∧ θ_run (Cert.BranchGradBReferenceIdeal.defs (F := Ideal)) (onTc (τ := Cert.BranchGradBReferenceIdeal.τ) (Cert.BranchGradBReferenceIdeal.main (F := Ideal))) ⟨m', fun _ => 0, g'⟩ (fun r => ∀ c : Dev Cert.BranchGradBReferenceIdeal.nD,
          r.2.mem ((c.tc : Thread Cert.BranchGradBReferenceIdeal.nD Cert.BranchGradBReferenceIdeal.τ).loc Cert.BranchGradBReferenceIdeal.main_v7) = v0 c
          ∧ r.2.mem ((c.tc : Thread Cert.BranchGradBReferenceIdeal.nD Cert.BranchGradBReferenceIdeal.τ).loc Cert.BranchGradBReferenceIdeal.main_arg0) = m' ((c.tc : Thread Cert.BranchGradBReferenceIdeal.nD Cert.BranchGradBReferenceIdeal.τ).loc Cert.BranchGradBReferenceIdeal.main_arg0)
          ∧ r.2.mem ((c.tc : Thread Cert.BranchGradBReferenceIdeal.nD Cert.BranchGradBReferenceIdeal.τ).loc Cert.BranchGradBReferenceIdeal.main_arg1) = m' ((c.tc : Thread Cert.BranchGradBReferenceIdeal.nD Cert.BranchGradBReferenceIdeal.τ).loc Cert.BranchGradBReferenceIdeal.main_arg1))

def preserves_BranchGradC_BranchGradCIdeal : Prop :=
  True

def algebraic_BranchGradCIdeal_BranchGradCReferenceIdeal [hBranchGradCIdeal : Cert.BranchGradCIdeal.Facts] [hBranchGradCReferenceIdeal : Cert.BranchGradCReferenceIdeal.Facts] : Prop :=
  ∀ (m : (ℓ : Loc Cert.BranchGradCIdeal.nD Cert.BranchGradCIdeal.τ Cert.BranchGradCIdeal.sig) → Buf (Elt Ideal) ℓ) (g : Dev Cert.BranchGradCIdeal.nD → PrngReg)
    (m' : (ℓ : Loc Cert.BranchGradCReferenceIdeal.nD Cert.BranchGradCReferenceIdeal.τ Cert.BranchGradCReferenceIdeal.sig) → Buf (Elt Ideal) ℓ) (g' : Dev Cert.BranchGradCReferenceIdeal.nD → PrngReg), Pre_BranchGradCIdeal m →
    (∀ c : Dev Cert.BranchGradCIdeal.nD,
      m' ((c.tc : Thread Cert.BranchGradCReferenceIdeal.nD Cert.BranchGradCReferenceIdeal.τ).loc Cert.BranchGradCReferenceIdeal.main_arg0) = m ((c.tc : Thread Cert.BranchGradCIdeal.nD Cert.BranchGradCIdeal.τ).loc Cert.BranchGradCIdeal.main_arg0)
      ∧ m' ((c.tc : Thread Cert.BranchGradCReferenceIdeal.nD Cert.BranchGradCReferenceIdeal.τ).loc Cert.BranchGradCReferenceIdeal.main_arg1) = m ((c.tc : Thread Cert.BranchGradCIdeal.nD Cert.BranchGradCIdeal.τ).loc Cert.BranchGradCIdeal.main_arg1)) →
    ∃ (v0 : (c : Dev Cert.BranchGradCIdeal.nD) → Buf (Elt Ideal) ((c.tc : Thread Cert.BranchGradCIdeal.nD Cert.BranchGradCIdeal.τ).loc Cert.BranchGradCIdeal.main_v4)),
      θ_run (Cert.BranchGradCIdeal.defs (F := Ideal)) (onTc (τ := Cert.BranchGradCIdeal.τ) (Cert.BranchGradCIdeal.main (F := Ideal))) ⟨m, fun _ => 0, g⟩ (fun r => ∀ c : Dev Cert.BranchGradCIdeal.nD,
          r.2.mem ((c.tc : Thread Cert.BranchGradCIdeal.nD Cert.BranchGradCIdeal.τ).loc Cert.BranchGradCIdeal.main_v4) = v0 c
          ∧ r.2.mem ((c.tc : Thread Cert.BranchGradCIdeal.nD Cert.BranchGradCIdeal.τ).loc Cert.BranchGradCIdeal.main_arg0) = m ((c.tc : Thread Cert.BranchGradCIdeal.nD Cert.BranchGradCIdeal.τ).loc Cert.BranchGradCIdeal.main_arg0)
          ∧ r.2.mem ((c.tc : Thread Cert.BranchGradCIdeal.nD Cert.BranchGradCIdeal.τ).loc Cert.BranchGradCIdeal.main_arg1) = m ((c.tc : Thread Cert.BranchGradCIdeal.nD Cert.BranchGradCIdeal.τ).loc Cert.BranchGradCIdeal.main_arg1))
      ∧ θ_run (Cert.BranchGradCReferenceIdeal.defs (F := Ideal)) (onTc (τ := Cert.BranchGradCReferenceIdeal.τ) (Cert.BranchGradCReferenceIdeal.main (F := Ideal))) ⟨m', fun _ => 0, g'⟩ (fun r => ∀ c : Dev Cert.BranchGradCReferenceIdeal.nD,
          r.2.mem ((c.tc : Thread Cert.BranchGradCReferenceIdeal.nD Cert.BranchGradCReferenceIdeal.τ).loc Cert.BranchGradCReferenceIdeal.main_v7) = v0 c
          ∧ r.2.mem ((c.tc : Thread Cert.BranchGradCReferenceIdeal.nD Cert.BranchGradCReferenceIdeal.τ).loc Cert.BranchGradCReferenceIdeal.main_arg0) = m' ((c.tc : Thread Cert.BranchGradCReferenceIdeal.nD Cert.BranchGradCReferenceIdeal.τ).loc Cert.BranchGradCReferenceIdeal.main_arg0)
          ∧ r.2.mem ((c.tc : Thread Cert.BranchGradCReferenceIdeal.nD Cert.BranchGradCReferenceIdeal.τ).loc Cert.BranchGradCReferenceIdeal.main_arg1) = m' ((c.tc : Thread Cert.BranchGradCReferenceIdeal.nD Cert.BranchGradCReferenceIdeal.τ).loc Cert.BranchGradCReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v4)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v4) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v3) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_ModulationGrad_ModulationGradIdeal : Prop :=
  True

def algebraic_ModulationGradIdeal_ModulationGradReferenceIdeal_pre_finite_mod [hModulationGradIdeal : Cert.ModulationGradIdeal.Facts] [hModulationGradReferenceIdeal : Cert.ModulationGradReferenceIdeal.Facts] [hPre_finite_mod : Cert.Pre_finite_mod.Facts] : Prop :=
  ∀ (m : (ℓ : Loc Cert.ModulationGradIdeal.nD Cert.ModulationGradIdeal.τ Cert.ModulationGradIdeal.sig) → Buf (Elt Ideal) ℓ) (g : Dev Cert.ModulationGradIdeal.nD → PrngReg)
    (m' : (ℓ : Loc Cert.ModulationGradReferenceIdeal.nD Cert.ModulationGradReferenceIdeal.τ Cert.ModulationGradReferenceIdeal.sig) → Buf (Elt Ideal) ℓ) (g' : Dev Cert.ModulationGradReferenceIdeal.nD → PrngReg), Pre_ModulationGradIdeal_finite_mod m →
    (∀ c : Dev Cert.ModulationGradIdeal.nD,
      m' ((c.tc : Thread Cert.ModulationGradReferenceIdeal.nD Cert.ModulationGradReferenceIdeal.τ).loc Cert.ModulationGradReferenceIdeal.main_arg0) = m ((c.tc : Thread Cert.ModulationGradIdeal.nD Cert.ModulationGradIdeal.τ).loc Cert.ModulationGradIdeal.main_arg0)
      ∧ m' ((c.tc : Thread Cert.ModulationGradReferenceIdeal.nD Cert.ModulationGradReferenceIdeal.τ).loc Cert.ModulationGradReferenceIdeal.main_arg1) = m ((c.tc : Thread Cert.ModulationGradIdeal.nD Cert.ModulationGradIdeal.τ).loc Cert.ModulationGradIdeal.main_arg1)
      ∧ m' ((c.tc : Thread Cert.ModulationGradReferenceIdeal.nD Cert.ModulationGradReferenceIdeal.τ).loc Cert.ModulationGradReferenceIdeal.main_arg2) = m ((c.tc : Thread Cert.ModulationGradIdeal.nD Cert.ModulationGradIdeal.τ).loc Cert.ModulationGradIdeal.main_arg2)) →
    ∃ (v0 : (c : Dev Cert.ModulationGradIdeal.nD) → Buf (Elt Ideal) ((c.tc : Thread Cert.ModulationGradIdeal.nD Cert.ModulationGradIdeal.τ).loc Cert.ModulationGradIdeal.main_v1_0)) (v1 : (c : Dev Cert.ModulationGradIdeal.nD) → Buf (Elt Ideal) ((c.tc : Thread Cert.ModulationGradIdeal.nD Cert.ModulationGradIdeal.τ).loc Cert.ModulationGradIdeal.main_v1_1)) (v2 : (c : Dev Cert.ModulationGradIdeal.nD) → Buf (Elt Ideal) ((c.tc : Thread Cert.ModulationGradIdeal.nD Cert.ModulationGradIdeal.τ).loc Cert.ModulationGradIdeal.main_v1_2)),
      θ_run (Cert.ModulationGradIdeal.defs (F := Ideal)) (onTc (τ := Cert.ModulationGradIdeal.τ) (Cert.ModulationGradIdeal.main (F := Ideal))) ⟨m, fun _ => 0, g⟩ (fun r => ∀ c : Dev Cert.ModulationGradIdeal.nD,
          r.2.mem ((c.tc : Thread Cert.ModulationGradIdeal.nD Cert.ModulationGradIdeal.τ).loc Cert.ModulationGradIdeal.main_v1_0) = v0 c
          ∧ r.2.mem ((c.tc : Thread Cert.ModulationGradIdeal.nD Cert.ModulationGradIdeal.τ).loc Cert.ModulationGradIdeal.main_v1_1) = v1 c
          ∧ r.2.mem ((c.tc : Thread Cert.ModulationGradIdeal.nD Cert.ModulationGradIdeal.τ).loc Cert.ModulationGradIdeal.main_v1_2) = v2 c
          ∧ r.2.mem ((c.tc : Thread Cert.ModulationGradIdeal.nD Cert.ModulationGradIdeal.τ).loc Cert.ModulationGradIdeal.main_arg0) = m ((c.tc : Thread Cert.ModulationGradIdeal.nD Cert.ModulationGradIdeal.τ).loc Cert.ModulationGradIdeal.main_arg0)
          ∧ r.2.mem ((c.tc : Thread Cert.ModulationGradIdeal.nD Cert.ModulationGradIdeal.τ).loc Cert.ModulationGradIdeal.main_arg1) = m ((c.tc : Thread Cert.ModulationGradIdeal.nD Cert.ModulationGradIdeal.τ).loc Cert.ModulationGradIdeal.main_arg1)
          ∧ r.2.mem ((c.tc : Thread Cert.ModulationGradIdeal.nD Cert.ModulationGradIdeal.τ).loc Cert.ModulationGradIdeal.main_arg2) = m ((c.tc : Thread Cert.ModulationGradIdeal.nD Cert.ModulationGradIdeal.τ).loc Cert.ModulationGradIdeal.main_arg2))
      ∧ θ_run (Cert.ModulationGradReferenceIdeal.defs (F := Ideal)) (onTc (τ := Cert.ModulationGradReferenceIdeal.τ) (Cert.ModulationGradReferenceIdeal.main (F := Ideal))) ⟨m', fun _ => 0, g'⟩ (fun r => ∀ c : Dev Cert.ModulationGradReferenceIdeal.nD,
          r.2.mem ((c.tc : Thread Cert.ModulationGradReferenceIdeal.nD Cert.ModulationGradReferenceIdeal.τ).loc Cert.ModulationGradReferenceIdeal.main_v9) = v0 c
          ∧ r.2.mem ((c.tc : Thread Cert.ModulationGradReferenceIdeal.nD Cert.ModulationGradReferenceIdeal.τ).loc Cert.ModulationGradReferenceIdeal.main_v7) = v1 c
          ∧ r.2.mem ((c.tc : Thread Cert.ModulationGradReferenceIdeal.nD Cert.ModulationGradReferenceIdeal.τ).loc Cert.ModulationGradReferenceIdeal.main_v11) = v2 c
          ∧ r.2.mem ((c.tc : Thread Cert.ModulationGradReferenceIdeal.nD Cert.ModulationGradReferenceIdeal.τ).loc Cert.ModulationGradReferenceIdeal.main_arg0) = m' ((c.tc : Thread Cert.ModulationGradReferenceIdeal.nD Cert.ModulationGradReferenceIdeal.τ).loc Cert.ModulationGradReferenceIdeal.main_arg0)
          ∧ r.2.mem ((c.tc : Thread Cert.ModulationGradReferenceIdeal.nD Cert.ModulationGradReferenceIdeal.τ).loc Cert.ModulationGradReferenceIdeal.main_arg1) = m' ((c.tc : Thread Cert.ModulationGradReferenceIdeal.nD Cert.ModulationGradReferenceIdeal.τ).loc Cert.ModulationGradReferenceIdeal.main_arg1)
          ∧ r.2.mem ((c.tc : Thread Cert.ModulationGradReferenceIdeal.nD Cert.ModulationGradReferenceIdeal.τ).loc Cert.ModulationGradReferenceIdeal.main_arg2) = m' ((c.tc : Thread Cert.ModulationGradReferenceIdeal.nD Cert.ModulationGradReferenceIdeal.τ).loc Cert.ModulationGradReferenceIdeal.main_arg2))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v3) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v10)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v10) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v51) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v24) = v0 c
          ∧ r.2.mem ((c.tc : Thread Cert.AdamInReferenceIdeal.nD Cert.AdamInReferenceIdeal.τ).loc Cert.AdamInReferenceIdeal.main_v25) = v1 c
          ∧ r.2.mem ((c.tc : Thread Cert.AdamInReferenceIdeal.nD Cert.AdamInReferenceIdeal.τ).loc Cert.AdamInReferenceIdeal.main_v26) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamMod_AdamModIdeal : Prop :=
  True

def algebraic_AdamModIdeal_AdamModReferenceIdeal [hAdamModIdeal : Cert.AdamModIdeal.Facts] [hAdamModReferenceIdeal : Cert.AdamModReferenceIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModReferenceIdeal.nD Cert.AdamModReferenceIdeal.τ Cert.AdamModReferenceIdeal.sig) → Buf (Elt Ideal) ℓ) (g' : Dev Cert.AdamModReferenceIdeal.nD → PrngReg), Pre_AdamModIdeal m →
    (∀ c : Dev Cert.AdamModIdeal.nD,
      m' ((c.tc : Thread Cert.AdamModReferenceIdeal.nD Cert.AdamModReferenceIdeal.τ).loc Cert.AdamModReferenceIdeal.main_arg0) = m ((c.tc : Thread Cert.AdamModIdeal.nD Cert.AdamModIdeal.τ).loc Cert.AdamModIdeal.main_arg0)
      ∧ m' ((c.tc : Thread Cert.AdamModReferenceIdeal.nD Cert.AdamModReferenceIdeal.τ).loc Cert.AdamModReferenceIdeal.main_arg1) = m ((c.tc : Thread Cert.AdamModIdeal.nD Cert.AdamModIdeal.τ).loc Cert.AdamModIdeal.main_arg1)
      ∧ m' ((c.tc : Thread Cert.AdamModReferenceIdeal.nD Cert.AdamModReferenceIdeal.τ).loc Cert.AdamModReferenceIdeal.main_arg2) = m ((c.tc : Thread Cert.AdamModIdeal.nD Cert.AdamModIdeal.τ).loc Cert.AdamModIdeal.main_arg2)
      ∧ m' ((c.tc : Thread Cert.AdamModReferenceIdeal.nD Cert.AdamModReferenceIdeal.τ).loc Cert.AdamModReferenceIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v4_0)) (v1 : (c : Dev Cert.AdamModIdeal.nD) → Buf (Elt Ideal) ((c.tc : Thread Cert.AdamModIdeal.nD Cert.AdamModIdeal.τ).loc Cert.AdamModIdeal.main_v4_1)) (v2 : (c : Dev Cert.AdamModIdeal.nD) → Buf (Elt Ideal) ((c.tc : Thread Cert.AdamModIdeal.nD Cert.AdamModIdeal.τ).loc Cert.AdamModIdeal.main_v4_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v4_0) = v0 c
          ∧ r.2.mem ((c.tc : Thread Cert.AdamModIdeal.nD Cert.AdamModIdeal.τ).loc Cert.AdamModIdeal.main_v4_1) = v1 c
          ∧ r.2.mem ((c.tc : Thread Cert.AdamModIdeal.nD Cert.AdamModIdeal.τ).loc Cert.AdamModIdeal.main_v4_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModReferenceIdeal.defs (F := Ideal)) (onTc (τ := Cert.AdamModReferenceIdeal.τ) (Cert.AdamModReferenceIdeal.main (F := Ideal))) ⟨m', fun _ => 0, g'⟩ (fun r => ∀ c : Dev Cert.AdamModReferenceIdeal.nD,
          r.2.mem ((c.tc : Thread Cert.AdamModReferenceIdeal.nD Cert.AdamModReferenceIdeal.τ).loc Cert.AdamModReferenceIdeal.main_v24) = v0 c
          ∧ r.2.mem ((c.tc : Thread Cert.AdamModReferenceIdeal.nD Cert.AdamModReferenceIdeal.τ).loc Cert.AdamModReferenceIdeal.main_v25) = v1 c
          ∧ r.2.mem ((c.tc : Thread Cert.AdamModReferenceIdeal.nD Cert.AdamModReferenceIdeal.τ).loc Cert.AdamModReferenceIdeal.main_v26) = v2 c
          ∧ r.2.mem ((c.tc : Thread Cert.AdamModReferenceIdeal.nD Cert.AdamModReferenceIdeal.τ).loc Cert.AdamModReferenceIdeal.main_arg0) = m' ((c.tc : Thread Cert.AdamModReferenceIdeal.nD Cert.AdamModReferenceIdeal.τ).loc Cert.AdamModReferenceIdeal.main_arg0)
          ∧ r.2.mem ((c.tc : Thread Cert.AdamModReferenceIdeal.nD Cert.AdamModReferenceIdeal.τ).loc Cert.AdamModReferenceIdeal.main_arg1) = m' ((c.tc : Thread Cert.AdamModReferenceIdeal.nD Cert.AdamModReferenceIdeal.τ).loc Cert.AdamModReferenceIdeal.main_arg1)
          ∧ r.2.mem ((c.tc : Thread Cert.AdamModReferenceIdeal.nD Cert.AdamModReferenceIdeal.τ).loc Cert.AdamModReferenceIdeal.main_arg2) = m' ((c.tc : Thread Cert.AdamModReferenceIdeal.nD Cert.AdamModReferenceIdeal.τ).loc Cert.AdamModReferenceIdeal.main_arg2)
          ∧ r.2.mem ((c.tc : Thread Cert.AdamModReferenceIdeal.nD Cert.AdamModReferenceIdeal.τ).loc Cert.AdamModReferenceIdeal.main_arg3) = m' ((c.tc : Thread Cert.AdamModReferenceIdeal.nD Cert.AdamModReferenceIdeal.τ).loc Cert.AdamModReferenceIdeal.main_arg3))

def preserves_AdamBranch_AdamBranchIdeal : Prop :=
  True

def algebraic_AdamBranchIdeal_AdamBranchReferenceIdeal [hAdamBranchIdeal : Cert.AdamBranchIdeal.Facts] [hAdamBranchReferenceIdeal : Cert.AdamBranchReferenceIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchReferenceIdeal.nD Cert.AdamBranchReferenceIdeal.τ Cert.AdamBranchReferenceIdeal.sig) → Buf (Elt Ideal) ℓ) (g' : Dev Cert.AdamBranchReferenceIdeal.nD → PrngReg), Pre_AdamBranchIdeal m →
    (∀ c : Dev Cert.AdamBranchIdeal.nD,
      m' ((c.tc : Thread Cert.AdamBranchReferenceIdeal.nD Cert.AdamBranchReferenceIdeal.τ).loc Cert.AdamBranchReferenceIdeal.main_arg0) = m ((c.tc : Thread Cert.AdamBranchIdeal.nD Cert.AdamBranchIdeal.τ).loc Cert.AdamBranchIdeal.main_arg0)
      ∧ m' ((c.tc : Thread Cert.AdamBranchReferenceIdeal.nD Cert.AdamBranchReferenceIdeal.τ).loc Cert.AdamBranchReferenceIdeal.main_arg1) = m ((c.tc : Thread Cert.AdamBranchIdeal.nD Cert.AdamBranchIdeal.τ).loc Cert.AdamBranchIdeal.main_arg1)
      ∧ m' ((c.tc : Thread Cert.AdamBranchReferenceIdeal.nD Cert.AdamBranchReferenceIdeal.τ).loc Cert.AdamBranchReferenceIdeal.main_arg2) = m ((c.tc : Thread Cert.AdamBranchIdeal.nD Cert.AdamBranchIdeal.τ).loc Cert.AdamBranchIdeal.main_arg2)
      ∧ m' ((c.tc : Thread Cert.AdamBranchReferenceIdeal.nD Cert.AdamBranchReferenceIdeal.τ).loc Cert.AdamBranchReferenceIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v4_0)) (v1 : (c : Dev Cert.AdamBranchIdeal.nD) → Buf (Elt Ideal) ((c.tc : Thread Cert.AdamBranchIdeal.nD Cert.AdamBranchIdeal.τ).loc Cert.AdamBranchIdeal.main_v4_1)) (v2 : (c : Dev Cert.AdamBranchIdeal.nD) → Buf (Elt Ideal) ((c.tc : Thread Cert.AdamBranchIdeal.nD Cert.AdamBranchIdeal.τ).loc Cert.AdamBranchIdeal.main_v4_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v4_0) = v0 c
          ∧ r.2.mem ((c.tc : Thread Cert.AdamBranchIdeal.nD Cert.AdamBranchIdeal.τ).loc Cert.AdamBranchIdeal.main_v4_1) = v1 c
          ∧ r.2.mem ((c.tc : Thread Cert.AdamBranchIdeal.nD Cert.AdamBranchIdeal.τ).loc Cert.AdamBranchIdeal.main_v4_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchReferenceIdeal.defs (F := Ideal)) (onTc (τ := Cert.AdamBranchReferenceIdeal.τ) (Cert.AdamBranchReferenceIdeal.main (F := Ideal))) ⟨m', fun _ => 0, g'⟩ (fun r => ∀ c : Dev Cert.AdamBranchReferenceIdeal.nD,
          r.2.mem ((c.tc : Thread Cert.AdamBranchReferenceIdeal.nD Cert.AdamBranchReferenceIdeal.τ).loc Cert.AdamBranchReferenceIdeal.main_v24) = v0 c
          ∧ r.2.mem ((c.tc : Thread Cert.AdamBranchReferenceIdeal.nD Cert.AdamBranchReferenceIdeal.τ).loc Cert.AdamBranchReferenceIdeal.main_v25) = v1 c
          ∧ r.2.mem ((c.tc : Thread Cert.AdamBranchReferenceIdeal.nD Cert.AdamBranchReferenceIdeal.τ).loc Cert.AdamBranchReferenceIdeal.main_v26) = v2 c
          ∧ r.2.mem ((c.tc : Thread Cert.AdamBranchReferenceIdeal.nD Cert.AdamBranchReferenceIdeal.τ).loc Cert.AdamBranchReferenceIdeal.main_arg0) = m' ((c.tc : Thread Cert.AdamBranchReferenceIdeal.nD Cert.AdamBranchReferenceIdeal.τ).loc Cert.AdamBranchReferenceIdeal.main_arg0)
          ∧ r.2.mem ((c.tc : Thread Cert.AdamBranchReferenceIdeal.nD Cert.AdamBranchReferenceIdeal.τ).loc Cert.AdamBranchReferenceIdeal.main_arg1) = m' ((c.tc : Thread Cert.AdamBranchReferenceIdeal.nD Cert.AdamBranchReferenceIdeal.τ).loc Cert.AdamBranchReferenceIdeal.main_arg1)
          ∧ r.2.mem ((c.tc : Thread Cert.AdamBranchReferenceIdeal.nD Cert.AdamBranchReferenceIdeal.τ).loc Cert.AdamBranchReferenceIdeal.main_arg2) = m' ((c.tc : Thread Cert.AdamBranchReferenceIdeal.nD Cert.AdamBranchReferenceIdeal.τ).loc Cert.AdamBranchReferenceIdeal.main_arg2)
          ∧ r.2.mem ((c.tc : Thread Cert.AdamBranchReferenceIdeal.nD Cert.AdamBranchReferenceIdeal.τ).loc Cert.AdamBranchReferenceIdeal.main_arg3) = m' ((c.tc : Thread Cert.AdamBranchReferenceIdeal.nD Cert.AdamBranchReferenceIdeal.τ).loc Cert.AdamBranchReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v24) = v0 c
          ∧ r.2.mem ((c.tc : Thread Cert.AdamOutReferenceIdeal.nD Cert.AdamOutReferenceIdeal.τ).loc Cert.AdamOutReferenceIdeal.main_v25) = v1 c
          ∧ r.2.mem ((c.tc : Thread Cert.AdamOutReferenceIdeal.nD Cert.AdamOutReferenceIdeal.τ).loc Cert.AdamOutReferenceIdeal.main_v26) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hProject : Cert.Project.Facts) (hProjectIdeal : Cert.ProjectIdeal.Facts) (hProjectReferenceIdeal : Cert.ProjectReferenceIdeal.Facts) (hWeightGrad : Cert.WeightGrad.Facts) (hWeightGradIdeal : Cert.WeightGradIdeal.Facts) (hWeightGradReferenceIdeal : Cert.WeightGradReferenceIdeal.Facts) (hInputGrad : Cert.InputGrad.Facts) (hInputGradIdeal : Cert.InputGradIdeal.Facts) (hInputGradReferenceIdeal : Cert.InputGradReferenceIdeal.Facts) (hMerge : Cert.Merge.Facts) (hMergeIdeal : Cert.MergeIdeal.Facts) (hMergeReferenceIdeal : Cert.MergeReferenceIdeal.Facts) (hBranchGradA : Cert.BranchGradA.Facts) (hBranchGradAIdeal : Cert.BranchGradAIdeal.Facts) (hBranchGradAReferenceIdeal : Cert.BranchGradAReferenceIdeal.Facts) (hBranchGradB : Cert.BranchGradB.Facts) (hBranchGradBIdeal : Cert.BranchGradBIdeal.Facts) (hBranchGradBReferenceIdeal : Cert.BranchGradBReferenceIdeal.Facts) (hBranchGradC : Cert.BranchGradC.Facts) (hBranchGradCIdeal : Cert.BranchGradCIdeal.Facts) (hBranchGradCReferenceIdeal : Cert.BranchGradCReferenceIdeal.Facts) (hOutGrad : Cert.OutGrad.Facts) (hOutGradIdeal : Cert.OutGradIdeal.Facts) (hOutGradReferenceIdeal : Cert.OutGradReferenceIdeal.Facts) (hModulationGrad : Cert.ModulationGrad.Facts) (hModulationGradIdeal : Cert.ModulationGradIdeal.Facts) (hModulationGradReferenceIdeal : Cert.ModulationGradReferenceIdeal.Facts) (hModulation : Cert.Modulation.Facts) (hModulationIdeal : Cert.ModulationIdeal.Facts) (hModulationReferenceIdeal : Cert.ModulationReferenceIdeal.Facts) (hNorm : Cert.Norm.Facts) (hNormIdeal : Cert.NormIdeal.Facts) (hNormReferenceIdeal : Cert.NormReferenceIdeal.Facts) (hAdamIn : Cert.AdamIn.Facts) (hAdamInIdeal : Cert.AdamInIdeal.Facts) (hAdamInReferenceIdeal : Cert.AdamInReferenceIdeal.Facts) (hAdamMod : Cert.AdamMod.Facts) (hAdamModIdeal : Cert.AdamModIdeal.Facts) (hAdamModReferenceIdeal : Cert.AdamModReferenceIdeal.Facts) (hAdamBranch : Cert.AdamBranch.Facts) (hAdamBranchIdeal : Cert.AdamBranchIdeal.Facts) (hAdamBranchReferenceIdeal : Cert.AdamBranchReferenceIdeal.Facts) (hAdamOut : Cert.AdamOut.Facts) (hAdamOutIdeal : Cert.AdamOutIdeal.Facts) (hAdamOutReferenceIdeal : Cert.AdamOutReferenceIdeal.Facts) (hAdamSmall : Cert.AdamSmall.Facts) (hAdamSmallIdeal : Cert.AdamSmallIdeal.Facts) (hAdamSmallReferenceIdeal : Cert.AdamSmallReferenceIdeal.Facts) (hPre_finite : Cert.Pre_finite.Facts) (hPre_finite_qk : Cert.Pre_finite_qk.Facts) (hPre_finite_mod : Cert.Pre_finite_mod.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite_qk (hForwardIdeal := hForwardIdeal) (hPre_finite_qk := hPre_finite_qk)
    ∧ quiescent_ForwardReferenceIdeal (hForwardReferenceIdeal := hForwardReferenceIdeal)
    ∧ quiescent_ForwardReferenceIdeal_pre_finite_qk (hForwardReferenceIdeal := hForwardReferenceIdeal) (hPre_finite_qk := hPre_finite_qk)
    ∧ quiescent_Project (hProject := hProject)
    ∧ quiescent_ProjectIdeal (hProjectIdeal := hProjectIdeal)
    ∧ quiescent_ProjectReferenceIdeal (hProjectReferenceIdeal := hProjectReferenceIdeal)
    ∧ quiescent_WeightGrad (hWeightGrad := hWeightGrad)
    ∧ quiescent_WeightGradIdeal (hWeightGradIdeal := hWeightGradIdeal)
    ∧ quiescent_WeightGradReferenceIdeal (hWeightGradReferenceIdeal := hWeightGradReferenceIdeal)
    ∧ quiescent_InputGrad (hInputGrad := hInputGrad)
    ∧ quiescent_InputGradIdeal (hInputGradIdeal := hInputGradIdeal)
    ∧ quiescent_InputGradReferenceIdeal (hInputGradReferenceIdeal := hInputGradReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_BranchGradA (hBranchGradA := hBranchGradA)
    ∧ quiescent_BranchGradAIdeal (hBranchGradAIdeal := hBranchGradAIdeal)
    ∧ quiescent_BranchGradAReferenceIdeal (hBranchGradAReferenceIdeal := hBranchGradAReferenceIdeal)
    ∧ quiescent_BranchGradB (hBranchGradB := hBranchGradB)
    ∧ quiescent_BranchGradBIdeal (hBranchGradBIdeal := hBranchGradBIdeal)
    ∧ quiescent_BranchGradBReferenceIdeal (hBranchGradBReferenceIdeal := hBranchGradBReferenceIdeal)
    ∧ quiescent_BranchGradC (hBranchGradC := hBranchGradC)
    ∧ quiescent_BranchGradCIdeal (hBranchGradCIdeal := hBranchGradCIdeal)
    ∧ quiescent_BranchGradCReferenceIdeal (hBranchGradCReferenceIdeal := hBranchGradCReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_ModulationGrad (hModulationGrad := hModulationGrad)
    ∧ quiescent_ModulationGradIdeal (hModulationGradIdeal := hModulationGradIdeal)
    ∧ quiescent_ModulationGradIdeal_pre_finite_mod (hModulationGradIdeal := hModulationGradIdeal) (hPre_finite_mod := hPre_finite_mod)
    ∧ quiescent_ModulationGradReferenceIdeal (hModulationGradReferenceIdeal := hModulationGradReferenceIdeal)
    ∧ quiescent_ModulationGradReferenceIdeal_pre_finite_mod (hModulationGradReferenceIdeal := hModulationGradReferenceIdeal) (hPre_finite_mod := hPre_finite_mod)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamMod (hAdamMod := hAdamMod)
    ∧ quiescent_AdamModIdeal (hAdamModIdeal := hAdamModIdeal)
    ∧ quiescent_AdamModReferenceIdeal (hAdamModReferenceIdeal := hAdamModReferenceIdeal)
    ∧ quiescent_AdamBranch (hAdamBranch := hAdamBranch)
    ∧ quiescent_AdamBranchIdeal (hAdamBranchIdeal := hAdamBranchIdeal)
    ∧ quiescent_AdamBranchReferenceIdeal (hAdamBranchReferenceIdeal := hAdamBranchReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal_pre_finite_qk (hForwardIdeal := hForwardIdeal) (hForwardReferenceIdeal := hForwardReferenceIdeal) (hPre_finite_qk := hPre_finite_qk)
    ∧ preserves_Project_ProjectIdeal
    ∧ algebraic_ProjectIdeal_ProjectReferenceIdeal (hProjectIdeal := hProjectIdeal) (hProjectReferenceIdeal := hProjectReferenceIdeal)
    ∧ preserves_WeightGrad_WeightGradIdeal
    ∧ algebraic_WeightGradIdeal_WeightGradReferenceIdeal (hWeightGradIdeal := hWeightGradIdeal) (hWeightGradReferenceIdeal := hWeightGradReferenceIdeal)
    ∧ preserves_InputGrad_InputGradIdeal
    ∧ algebraic_InputGradIdeal_InputGradReferenceIdeal (hInputGradIdeal := hInputGradIdeal) (hInputGradReferenceIdeal := hInputGradReferenceIdeal)
    ∧ preserves_Merge_MergeIdeal
    ∧ algebraic_MergeIdeal_MergeReferenceIdeal (hMergeIdeal := hMergeIdeal) (hMergeReferenceIdeal := hMergeReferenceIdeal)
    ∧ preserves_BranchGradA_BranchGradAIdeal
    ∧ algebraic_BranchGradAIdeal_BranchGradAReferenceIdeal (hBranchGradAIdeal := hBranchGradAIdeal) (hBranchGradAReferenceIdeal := hBranchGradAReferenceIdeal)
    ∧ preserves_BranchGradB_BranchGradBIdeal
    ∧ algebraic_BranchGradBIdeal_BranchGradBReferenceIdeal (hBranchGradBIdeal := hBranchGradBIdeal) (hBranchGradBReferenceIdeal := hBranchGradBReferenceIdeal)
    ∧ preserves_BranchGradC_BranchGradCIdeal
    ∧ algebraic_BranchGradCIdeal_BranchGradCReferenceIdeal (hBranchGradCIdeal := hBranchGradCIdeal) (hBranchGradCReferenceIdeal := hBranchGradCReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_ModulationGrad_ModulationGradIdeal
    ∧ algebraic_ModulationGradIdeal_ModulationGradReferenceIdeal_pre_finite_mod (hModulationGradIdeal := hModulationGradIdeal) (hModulationGradReferenceIdeal := hModulationGradReferenceIdeal) (hPre_finite_mod := hPre_finite_mod)
    ∧ preserves_Modulation_ModulationIdeal
    ∧ algebraic_ModulationIdeal_ModulationReferenceIdeal (hModulationIdeal := hModulationIdeal) (hModulationReferenceIdeal := hModulationReferenceIdeal)
    ∧ preserves_Norm_NormIdeal
    ∧ algebraic_NormIdeal_NormReferenceIdeal (hNormIdeal := hNormIdeal) (hNormReferenceIdeal := hNormReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamMod_AdamModIdeal
    ∧ algebraic_AdamModIdeal_AdamModReferenceIdeal (hAdamModIdeal := hAdamModIdeal) (hAdamModReferenceIdeal := hAdamModReferenceIdeal)
    ∧ preserves_AdamBranch_AdamBranchIdeal
    ∧ algebraic_AdamBranchIdeal_AdamBranchReferenceIdeal (hAdamBranchIdeal := hAdamBranchIdeal) (hAdamBranchReferenceIdeal := hAdamBranchReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
-- ==== Pre_finite.lean ====
abbrev S2x4352x1024 : Shape := ⟨3, ![2, 4352, 1024]⟩
abbrev S2x4352x256 : Shape := ⟨3, ![2, 4352, 256]⟩
abbrev S_ : Shape := ⟨0, ![]⟩

class Facts : Prop where
  bcast_S_S2x4352x1024 : S_.BroadcastsInDim S2x4352x1024 (![] : Fin 0 → Fin S2x4352x1024.rank)
  reducesTo_S2x4352x1024_S_d0_1_2 : S2x4352x1024.ReducesTo [0, 1, 2] S_
  h_S_ : 0 < S_.numel
  bcast_S_S2x4352x256 : S_.BroadcastsInDim S2x4352x256 (![] : Fin 0 → Fin S2x4352x256.rank)
  reducesTo_S2x4352x256_S_d0_1_2 : S2x4352x256.ReducesTo [0, 1, 2] S_

variable [Facts]

def fn_part1 {F : FTy → Type} [FloatOps F] (main_v13 : IVec S_ 1) (main_v16 : IVec S2x4352x1024 1) : IVec S_ 1 :=
  let main_c_5 : IVec S_ 1 := constantI S_ 1 1#1
  let main_v17 : IVec S_ 1 := (fun x v => Host.reduce IntOp.andi x v reducesTo_S2x4352x1024_S_d0_1_2 h_S_) main_v16 main_c_5
  let main_v18 : IVec S_ 1 := andi main_v13 main_v17
  main_v18

def fn {F : FTy → Type} [FloatOps F] (main_arg0 : FVec F S2x4352x1024 .f32) (main_arg1 : FVec F S2x4352x256 .f32) (main_arg2 : FVec F S2x4352x256 .f32) (main_arg3 : FVec F S2x4352x1024 .f32) : IVec S_ 1 :=
  let main_v0 : FVec F S2x4352x1024 .f32 := Host.absf main_arg0
  let main_cst : FVec F S_ .f32 := constant S_ .f32 0x7F800000#32
  let main_v1 : FVec F S2x4352x1024 .f32 := broadcastInDim S2x4352x1024 ![] bcast_S_S2x4352x1024 main_cst
  let main_v2 : IVec S2x4352x1024 1 := cmpf .olt main_v0 main_v1
  let main_c : IVec S_ 1 := constantI S_ 1 1#1
  let main_v3 : IVec S_ 1 := (fun x v => Host.reduce IntOp.andi x v reducesTo_S2x4352x1024_S_d0_1_2 h_S_) main_v2 main_c
  let main_v4 : FVec F S2x4352x256 .f32 := Host.absf main_arg1
  let main_cst_0 : FVec F S_ .f32 := constant S_ .f32 0x7F800000#32
  let main_v5 : FVec F S2x4352x256 .f32 := broadcastInDim S2x4352x256 ![] bcast_S_S2x4352x256 main_cst_0
  let main_v6 : IVec S2x4352x256 1 := cmpf .olt main_v4 main_v5
  let main_c_1 : IVec S_ 1 := constantI S_ 1 1#1
  let main_v7 : IVec S_ 1 := (fun x v => Host.reduce IntOp.andi x v reducesTo_S2x4352x256_S_d0_1_2 h_S_) main_v6 main_c_1
  let main_v8 : IVec S_ 1 := andi main_v3 main_v7
  let main_v9 : FVec F S2x4352x256 .f32 := Host.absf main_arg2
  let main_cst_2 : FVec F S_ .f32 := constant S_ .f32 0x7F800000#32
  let main_v10 : FVec F S2x4352x256 .f32 := broadcastInDim S2x4352x256 ![] bcast_S_S2x4352x256 main_cst_2
  let main_v11 : IVec S2x4352x256 1 := cmpf .olt main_v9 main_v10
  let main_c_3 : IVec S_ 1 := constantI S_ 1 1#1
  let main_v12 : IVec S_ 1 := (fun x v => Host.reduce IntOp.andi x v reducesTo_S2x4352x256_S_d0_1_2 h_S_) main_v11 main_c_3
  let main_v13 : IVec S_ 1 := andi main_v8 main_v12
  let main_v14 : FVec F S2x4352x1024 .f32 := Host.absf main_arg3
  let main_cst_4 : FVec F S_ .f32 := constant S_ .f32 0x7F800000#32
  let main_v15 : FVec F S2x4352x1024 .f32 := broadcastInDim S2x4352x1024 ![] bcast_S_S2x4352x1024 main_cst_4
  let main_v16 : IVec S2x4352x1024 1 := cmpf .olt main_v14 main_v15
  fn_part1 (F := F) main_v13 main_v16
-- ==== Pre_finite_mod.lean ====
abbrev S16x1024 : Shape := ⟨2, ![16, 1024]⟩
abbrev S16x3072 : Shape := ⟨2, ![16, 3072]⟩
abbrev S1024x3072 : Shape := ⟨2, ![1024, 3072]⟩
abbrev S_ : Shape := ⟨0, ![]⟩

class Facts : Prop where
  bcast_S_S16x3072 : S_.BroadcastsInDim S16x3072 (![] : Fin 0 → Fin S16x3072.rank)
  reducesTo_S16x3072_S_d0_1 : S16x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S16x1024 .f32) (main_arg1 : FVec F S16x3072 .f32) (main_arg2 : FVec F S1024x3072 .f32) : IVec S_ 1 :=
  let main_v0 : FVec F S16x3072 .f32 := Host.absf main_arg1
  let main_cst : FVec F S_ .f32 := constant S_ .f32 0x7F800000#32
  let main_v1 : FVec F S16x3072 .f32 := broadcastInDim S16x3072 ![] bcast_S_S16x3072 main_cst
  let main_v2 : IVec S16x3072 1 := cmpf .olt main_v0 main_v1
  let main_c : IVec S_ 1 := constantI S_ 1 1#1
  let main_v3 : IVec S_ 1 := (fun x v => Host.reduce IntOp.andi x v reducesTo_S16x3072_S_d0_1 h_S_) main_v2 main_c
  let main_v4 : FVec F S1024x3072 .f32 := Host.absf main_arg2
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  main_v8
-- ==== Pre_finite_qk.lean ====
abbrev S2x4352x1024 : Shape := ⟨3, ![2, 4352, 1024]⟩
abbrev S2x4352x256 : Shape := ⟨3, ![2, 4352, 256]⟩
abbrev S_ : Shape := ⟨0, ![]⟩

class Facts : Prop where
  bcast_S_S2x4352x1024 : S_.BroadcastsInDim S2x4352x1024 (![] : Fin 0 → Fin S2x4352x1024.rank)
  reducesTo_S2x4352x1024_S_d0_1_2 : S2x4352x1024.ReducesTo [0, 1, 2] S_
  h_S_ : 0 < S_.numel
  bcast_S_S2x4352x256 : S_.BroadcastsInDim S2x4352x256 (![] : Fin 0 → Fin S2x4352x256.rank)
  reducesTo_S2x4352x256_S_d0_1_2 : S2x4352x256.ReducesTo [0, 1, 2] S_

variable [Facts]

def fn {F : FTy → Type} [FloatOps F] (main_arg0 : FVec F S2x4352x1024 .f32) (main_arg1 : FVec F S2x4352x256 .f32) (main_arg2 : FVec F S2x4352x256 .f32) : IVec S_ 1 :=
  let main_v0 : FVec F S2x4352x1024 .f32 := Host.absf main_arg0
  let main_cst : FVec F S_ .f32 := constant S_ .f32 0x7F800000#32
  let main_v1 : FVec F S2x4352x1024 .f32 := broadcastInDim S2x4352x1024 ![] bcast_S_S2x4352x1024 main_cst
  let main_v2 : IVec S2x4352x1024 1 := cmpf .olt main_v0 main_v1
  let main_c : IVec S_ 1 := constantI S_ 1 1#1
  let main_v3 : IVec S_ 1 := (fun x v => Host.reduce IntOp.andi x v reducesTo_S2x4352x1024_S_d0_1_2 h_S_) main_v2 main_c
  let main_v4 : FVec F S2x4352x256 .f32 := Host.absf main_arg1
  let main_cst_0 : FVec F S_ .f32 := constant S_ .f32 0x7F800000#32
  let main_v5 : FVec F S2x4352x256 .f32 := broadcastInDim S2x4352x256 ![] bcast_S_S2x4352x256 main_cst_0
  let main_v6 : IVec S2x4352x256 1 := cmpf .olt main_v4 main_v5
  let main_c_1 : IVec S_ 1 := constantI S_ 1 1#1
  let main_v7 : IVec S_ 1 := (fun x v => Host.reduce IntOp.andi x v reducesTo_S2x4352x256_S_d0_1_2 h_S_) main_v6 main_c_1
  let main_v8 : IVec S_ 1 := andi main_v3 main_v7
  main_v8
-- ==== Kernel.lean ====
abbrev S2x4352x1024 : Shape := ⟨3, ![2, 4352, 1024]⟩
abbrev S2x4352x256 : Shape := ⟨3, ![2, 4352, 256]⟩
abbrev S2x4352x8x128 : Shape := ⟨4, ![2, 4352, 8, 128]⟩
abbrev S2x4352x2x4x128 : Shape := ⟨5, ![2, 4352, 2, 4, 128]⟩
abbrev S2x4352x2x128 : Shape := ⟨4, ![2, 4352, 2, 128]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x4096x2x4x128 : Shape := ⟨5, ![2, 4096, 2, 4, 128]⟩
abbrev S2x2x4352x4096x4 : Shape := ⟨5, ![2, 2, 4352, 4096, 4]⟩
abbrev S2x2x4x4096x4352 : Shape := ⟨5, ![2, 2, 4, 4096, 4352]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S2x256x1024 : Shape := ⟨3, ![2, 256, 1024]⟩
abbrev S2x4096x1024 : Shape := ⟨3, ![2, 4096, 1024]⟩
abbrev S2x2x4x4352 : Shape := ⟨4, ![2, 2, 4, 4352]⟩
abbrev S2x8x4352 : Shape := ⟨3, ![2, 8, 4352]⟩
abbrev S2x4352x1536 : Shape := ⟨3, ![2, 4352, 1536]⟩
abbrev S2x8x4352x1 : Shape := ⟨4, ![2, 8, 4352, 1]⟩
abbrev S2x8x4352x128 : Shape := ⟨4, ![2, 8, 4352, 128]⟩
abbrev S2x2x128x4352 : Shape := ⟨4, ![2, 2, 128, 4352]⟩
abbrev S1x256x512 : Shape := ⟨3, ![1, 256, 512]⟩
abbrev S1x4352x128 : Shape := ⟨3, ![1, 4352, 128]⟩
abbrev S1x4x256x128 : Shape := ⟨4, ![1, 4, 256, 128]⟩
abbrev S1x1x128x4352 : Shape := ⟨4, ![1, 1, 128, 4352]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x1x256x128 : Shape := ⟨4, ![1, 1, 256, 128]⟩
abbrev S128x256 : Shape := ⟨2, ![128, 256]⟩
abbrev S1x1x128x256 : Shape := ⟨4, ![1, 1, 128, 256]⟩
abbrev S4352x128 : Shape := ⟨2, ![4352, 128]⟩
abbrev S256x4352 : Shape := ⟨2, ![256, 4352]⟩
abbrev S128x4352 : Shape := ⟨2, ![128, 4352]⟩

abbrev nBuf : Space → Nat
  | .hbm => 103
  | .vmem => 18
  | .smem => 0
  | _ => 0

abbrev bufTy : (tb : Table) → Fin (tcTables nBuf tb) → BufTy
  | .hbm, ⟨0, _⟩ => ⟨S2x4352x1024, .f32⟩
  | .hbm, ⟨1, _⟩ => ⟨S2x4352x256, .f32⟩
  | .hbm, ⟨2, _⟩ => ⟨S2x4352x256, .f32⟩
  | .hbm, ⟨3, _⟩ => ⟨S2x4352x1024, .f32⟩
  | .hbm, ⟨4, _⟩ => ⟨S2x4352x8x128, .f32⟩
  | .hbm, ⟨5, _⟩ => ⟨S2x4352x2x4x128, .f32⟩
  | .hbm, ⟨6, _⟩ => ⟨S2x4352x2x128, .f32⟩
  | .hbm, ⟨7, _⟩ => ⟨S2x4352x2x128, .f32⟩
  | .hbm, ⟨8, _⟩ => ⟨S2x256x2x4x128, .f32⟩
  | .hbm, ⟨9, _⟩ => ⟨S2x256x2x128, .f32⟩
  | .hbm, ⟨10, _⟩ => ⟨S2x256x2x128, .f32⟩
  | .hbm, ⟨11, _⟩ => ⟨S2x2x256x256x4, .f32⟩
  | .hbm, ⟨12, _⟩ => ⟨S2x2x4x256x256, .f32⟩
  | .hbm, ⟨13, _⟩ => ⟨S_, .f32⟩
  | .hbm, ⟨14, _⟩ => ⟨S2x2x4x256x256, .f32⟩
  | .hbm, ⟨15, _⟩ => ⟨S2x2x4x256x256, .f32⟩
  | .hbm, ⟨16, _⟩ => ⟨S_, .f32⟩
  | .hbm, ⟨17, _⟩ => ⟨S2x2x4x256, .f32⟩
  | .hbm, ⟨18, _⟩ => ⟨S_, .f32⟩
  | .hbm, ⟨19, _⟩ => ⟨S2x2x4x256, .f32⟩
  | .hbm, ⟨20, _⟩ => ⟨S2x2x4x256, .f32⟩
  | .hbm, ⟨21, _⟩ => ⟨S2x2x4x256x1, .f32⟩
  | .hbm, ⟨22, _⟩ => ⟨S2x2x4x256x256, .f32⟩
  | .hbm, ⟨23, _⟩ => ⟨S2x2x4x256x256, .f32⟩
  | .hbm, ⟨24, _⟩ => ⟨S2x2x4x256x256, .f32⟩
  | .hbm, ⟨25, _⟩ => ⟨S_, .f32⟩
  | .hbm, ⟨26, _⟩ => ⟨S2x2x4x256, .f32⟩
  | .hbm, ⟨27, _⟩ => ⟨S2x2x4x256x1, .f32⟩
  | .hbm, ⟨28, _⟩ => ⟨S2x2x4x256x256, .f32⟩
  | .hbm, ⟨29, _⟩ => ⟨S2x2x4x256x256, .f32⟩
  | .hbm, ⟨30, _⟩ => ⟨S2x2x128x4x256, .f32⟩
  | .hbm, ⟨31, _⟩ => ⟨S2x256x2x4x128, .f32⟩
  | .hbm, ⟨32, _⟩ => ⟨S2x4096x2x4x128, .f32⟩
  | .hbm, ⟨33, _⟩ => ⟨S2x2x4352x4096x4, .f32⟩
  | .hbm, ⟨34, _⟩ => ⟨S2x2x4x4096x4352, .f32⟩
  | .hbm, ⟨35, _⟩ => ⟨S_, .f32⟩
  | .hbm, ⟨36, _⟩ => ⟨S2x2x4x4096x4352, .f32⟩
  | .hbm, ⟨37, _⟩ => ⟨S2x2x4x4096x4352, .f32⟩
  | .hbm, ⟨38, _⟩ => ⟨S_, .f32⟩
  | .hbm, ⟨39, _⟩ => ⟨S2x2x4x4096, .f32⟩
  | .hbm, ⟨40, _⟩ => ⟨S_, .f32⟩
  | .hbm, ⟨41, _⟩ => ⟨S2x2x4x4096, .f32⟩
  | .hbm, ⟨42, _⟩ => ⟨S2x2x4x4096, .f32⟩
  | .hbm, ⟨43, _⟩ => ⟨S2x2x4x4096x1, .f32⟩
  | .hbm, ⟨44, _⟩ => ⟨S2x2x4x4096x4352, .f32⟩
  | .hbm, ⟨45, _⟩ => ⟨S2x2x4x4096x4352, .f32⟩
  | .hbm, ⟨46, _⟩ => ⟨S2x2x4x4096x4352, .f32⟩
  | .hbm, ⟨47, _⟩ => ⟨S_, .f32⟩
  | .hbm, ⟨48, _⟩ => ⟨S2x2x4x4096, .f32⟩
  | .hbm, ⟨49, _⟩ => ⟨S2x2x4x4096x1, .f32⟩
  | .hbm, ⟨50, _⟩ => ⟨S2x2x4x4096x4352, .f32⟩
  | .hbm, ⟨51, _⟩ => ⟨S2x2x4x4096x4352, .f32⟩
  | .hbm, ⟨52, _⟩ => ⟨S2x2x128x4x4096, .f32⟩
  | .hbm, ⟨53, _⟩ => ⟨S2x4096x2x4x128, .f32⟩
  | .hbm, ⟨54, _⟩ => ⟨S2x256x1024, .f32⟩
  | .hbm, ⟨55, _⟩ => ⟨S2x4096x1024, .f32⟩
  | .hbm, ⟨56, _⟩ => ⟨S2x4352x1024, .f32⟩
  | .hbm, ⟨57, _⟩ => ⟨S2x4352x8x128, .f32⟩
  | .hbm, ⟨58, _⟩ => ⟨S2x4352x2x4x128, .f32⟩
  | .hbm, ⟨59, _⟩ => ⟨S2x4352x2x128, .f32⟩
  | .hbm, ⟨60, _⟩ => ⟨S2x4352x2x128, .f32⟩
  | .hbm, ⟨61, _⟩ => ⟨S2x256x2x4x128, .f32⟩
  | .hbm, ⟨62, _⟩ => ⟨S2x256x2x128, .f32⟩
  | .hbm, ⟨63, _⟩ => ⟨S2x2x256x256x4, .f32⟩
  | .hbm, ⟨64, _⟩ => ⟨S2x2x4x256x256, .f32⟩
  | .hbm, ⟨65, _⟩ => ⟨S_, .f32⟩
  | .hbm, ⟨66, _⟩ => ⟨S2x2x4x256x256, .f32⟩
  | .hbm, ⟨67, _⟩ => ⟨S2x2x4x256x256, .f32⟩
  | .hbm, ⟨68, _⟩ => ⟨S_, .f32⟩
  | .hbm, ⟨69, _⟩ => ⟨S2x2x4x256, .f32⟩
  | .hbm, ⟨70, _⟩ => ⟨S2x2x4x256x1, .f32⟩
  | .hbm, ⟨71, _⟩ => ⟨S2x2x4x256x256, .f32⟩
  | .hbm, ⟨72, _⟩ => ⟨S2x2x4x256x256, .f32⟩
  | .hbm, ⟨73, _⟩ => ⟨S2x2x4x256x256, .f32⟩
  | .hbm, ⟨74, _⟩ => ⟨S_, .f32⟩
  | .hbm, ⟨75, _⟩ => ⟨S2x2x4x256, .f32⟩
  | .hbm, ⟨76, _⟩ => ⟨S2x2x4x256, .f32⟩
  | .hbm, ⟨77, _⟩ => ⟨S2x2x4x256, .f32⟩
  | .hbm, ⟨78, _⟩ => ⟨S2x4096x2x4x128, .f32⟩
  | .hbm, ⟨79, _⟩ => ⟨S2x2x4352x4096x4, .f32⟩
  | .hbm, ⟨80, _⟩ => ⟨S2x2x4x4096x4352, .f32⟩
  | .hbm, ⟨81, _⟩ => ⟨S_, .f32⟩
  | .hbm, ⟨82, _⟩ => ⟨S2x2x4x4096x4352, .f32⟩
  | .hbm, ⟨83, _⟩ => ⟨S2x2x4x4096x4352, .f32⟩
  | .hbm, ⟨84, _⟩ => ⟨S_, .f32⟩
  | .hbm, ⟨85, _⟩ => ⟨S2x2x4x4096, .f32⟩
  | .hbm, ⟨86, _⟩ => ⟨S2x2x4x4096x1, .f32⟩
  | .hbm, ⟨87, _⟩ => ⟨S2x2x4x4096x4352, .f32⟩
  | .hbm, ⟨88, _⟩ => ⟨S2x2x4x4096x4352, .f32⟩
  | .hbm, ⟨89, _⟩ => ⟨S2x2x4x4096x4352, .f32⟩
  | .hbm, ⟨90, _⟩ => ⟨S_, .f32⟩
  | .hbm, ⟨91, _⟩ => ⟨S2x2x4x4096, .f32⟩
  | .hbm, ⟨92, _⟩ => ⟨S2x2x4x4096, .f32⟩
  | .hbm, ⟨93, _⟩ => ⟨S2x2x4x4096, .f32⟩
  | .hbm, ⟨94, _⟩ => ⟨S2x2x4x4352, .f32⟩
  | .hbm, ⟨95, _⟩ => ⟨S2x8x4352, .f32⟩
  | .hbm, ⟨96, _⟩ => ⟨S2x4352x1536, .f32⟩
  | .hbm, ⟨97, _⟩ => ⟨S2x4352x1536, .bf16⟩
  | .hbm, ⟨98, _⟩ => ⟨S2x8x4352x1, .f32⟩
  | .hbm, ⟨99, _⟩ => ⟨S2x8x4352x128, .f32⟩
  | .hbm, ⟨100, _⟩ => ⟨S2x4352x1024, .f32⟩
  | .hbm, ⟨101, _⟩ => ⟨S2x2x128x4352, .f32⟩
  | .hbm, ⟨102, _⟩ => ⟨S2x2x128x4352, .f32⟩
  | .local _ .vmem, ⟨0, _⟩ => ⟨S1x256x512, .bf16⟩
  | .local _ .vmem, ⟨1, _⟩ => ⟨S1x256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x4x256x128, .f32⟩
  | .local _ .vmem, ⟨11, _⟩ => ⟨S1x4x256x128, .f32⟩
  | .local _ .vmem, ⟨12, _⟩ => ⟨S1x256x512, .f32⟩
  | .local _ .vmem, ⟨13, _⟩ => ⟨S1x256x512, .f32⟩
  | .local _ .vmem, ⟨14, _⟩ => ⟨S1x1x128x4352, .f32⟩
  | .local _ .vmem, ⟨15, _⟩ => ⟨S1x1x128x4352, .f32⟩
  | .local _ .vmem, ⟨16, _⟩ => ⟨S1x1x128x4352, .f32⟩
  | .local _ .vmem, ⟨17, _⟩ => ⟨S1x1x128x4352, .f32⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_12 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82_0 : Ref sig .tc := ⟨.hbm, 100, rfl⟩
abbrev main_v82_1 : Ref sig .tc := ⟨.hbm, 101, rfl⟩
abbrev main_v82_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 17], ![false, false, false]⟩

def k0_cond2 (i : grid0.Coords) : BitVec 1 :=
  let arg2 : BitVec 32 := BitVec.ofNat 32 (i 2).val
  let c1_i32 : BitVec 32 := 1#32
  let v3 : BitVec 1 := Scalar.cmpi .slt arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c1_i32_2 : BitVec 32 := 1#32
  let v6 : BitVec 1 := Scalar.cmpi .sge arg2 c1_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x4352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x128x4352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
abbrev S2x4352x1024 : Shape := ⟨3, ![2, 4352, 1024]⟩
abbrev S2x4352x256 : Shape := ⟨3, ![2, 4352, 256]⟩
abbrev S2x4352x8x128 : Shape := ⟨4, ![2, 4352, 8, 128]⟩
abbrev S2x4352x2x4x128 : Shape := ⟨5, ![2, 4352, 2, 4, 128]⟩
abbrev S2x4352x2x128 : Shape := ⟨4, ![2, 4352, 2, 128]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x4096x2x4x128 : Shape := ⟨5, ![2, 4096, 2, 4, 128]⟩
abbrev S2x2x4352x4096x4 : Shape := ⟨5, ![2, 2, 4352, 4096, 4]⟩
abbrev S2x2x4x4096x4352 : Shape := ⟨5, ![2, 2, 4, 4096, 4352]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S2x256x1024 : Shape := ⟨3, ![2, 256, 1024]⟩
abbrev S2x4096x1024 : Shape := ⟨3, ![2, 4096, 1024]⟩
abbrev S2x2x4x4352 : Shape := ⟨4, ![2, 2, 4, 4352]⟩
abbrev S2x8x4352 : Shape := ⟨3, ![2, 8, 4352]⟩
abbrev S2x4352x1536 : Shape := ⟨3, ![2, 4352, 1536]⟩
abbrev S2x8x4352x1 : Shape := ⟨4, ![2, 8, 4352, 1]⟩
abbrev S2x8x4352x128 : Shape := ⟨4, ![2, 8, 4352, 128]⟩
abbrev S2x2x128x4352 : Shape := ⟨4, ![2, 2, 128, 4352]⟩
abbrev S1x256x512 : Shape := ⟨3, ![1, 256, 512]⟩
abbrev S1x4352x128 : Shape := ⟨3, ![1, 4352, 128]⟩
abbrev S1x4x256x128 : Shape := ⟨4, ![1, 4, 256, 128]⟩
abbrev S1x1x128x4352 : Shape := ⟨4, ![1, 1, 128, 4352]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x1x256x128 : Shape := ⟨4, ![1, 1, 256, 128]⟩
abbrev S128x256 : Shape := ⟨2, ![128, 256]⟩
abbrev S1x1x128x256 : Shape := ⟨4, ![1, 1, 128, 256]⟩
abbrev S4352x128 : Shape := ⟨2, ![4352, 128]⟩
abbrev S256x4352 : Shape := ⟨2, ![256, 4352]⟩
abbrev S128x4352 : Shape := ⟨2, ![128, 4352]⟩

abbrev nBuf : Space → Nat
  | .hbm => 103
  | .vmem => 18
  | .smem => 0
  | _ => 0

abbrev bufTy : (tb : Table) → Fin (tcTables nBuf tb) → BufTy
  | .hbm, ⟨0, _⟩ => ⟨S2x4352x1024, .f32⟩
  | .hbm, ⟨1, _⟩ => ⟨S2x4352x256, .f32⟩
  | .hbm, ⟨2, _⟩ => ⟨S2x4352x256, .f32⟩
  | .hbm, ⟨3, _⟩ => ⟨S2x4352x1024, .f32⟩
  | .hbm, ⟨4, _⟩ => ⟨S2x4352x8x128, .f32⟩
  | .hbm, ⟨5, _⟩ => ⟨S2x4352x2x4x128, .f32⟩
  | .hbm, ⟨6, _⟩ => ⟨S2x4352x2x128, .f32⟩
  | .hbm, ⟨7, _⟩ => ⟨S2x4352x2x128, .f32⟩
  | .hbm, ⟨8, _⟩ => ⟨S2x256x2x4x128, .f32⟩
  | .hbm, ⟨9, _⟩ => ⟨S2x256x2x128, .f32⟩
  | .hbm, ⟨10, _⟩ => ⟨S2x256x2x128, .f32⟩
  | .hbm, ⟨11, _⟩ => ⟨S2x2x256x256x4, .f32⟩
  | .hbm, ⟨12, _⟩ => ⟨S2x2x4x256x256, .f32⟩
  | .hbm, ⟨13, _⟩ => ⟨S_, .f32⟩
  | .hbm, ⟨14, _⟩ => ⟨S2x2x4x256x256, .f32⟩
  | .hbm, ⟨15, _⟩ => ⟨S2x2x4x256x256, .f32⟩
  | .hbm, ⟨16, _⟩ => ⟨S_, .f32⟩
  | .hbm, ⟨17, _⟩ => ⟨S2x2x4x256, .f32⟩
  | .hbm, ⟨18, _⟩ => ⟨S_, .f32⟩
  | .hbm, ⟨19, _⟩ => ⟨S2x2x4x256, .f32⟩
  | .hbm, ⟨20, _⟩ => ⟨S2x2x4x256, .f32⟩
  | .hbm, ⟨21, _⟩ => ⟨S2x2x4x256x1, .f32⟩
  | .hbm, ⟨22, _⟩ => ⟨S2x2x4x256x256, .f32⟩
  | .hbm, ⟨23, _⟩ => ⟨S2x2x4x256x256, .f32⟩
  | .hbm, ⟨24, _⟩ => ⟨S2x2x4x256x256, .f32⟩
  | .hbm, ⟨25, _⟩ => ⟨S_, .f32⟩
  | .hbm, ⟨26, _⟩ => ⟨S2x2x4x256, .f32⟩
  | .hbm, ⟨27, _⟩ => ⟨S2x2x4x256x1, .f32⟩
  | .hbm, ⟨28, _⟩ => ⟨S2x2x4x256x256, .f32⟩
  | .hbm, ⟨29, _⟩ => ⟨S2x2x4x256x256, .f32⟩
  | .hbm, ⟨30, _⟩ => ⟨S2x2x128x4x256, .f32⟩
  | .hbm, ⟨31, _⟩ => ⟨S2x256x2x4x128, .f32⟩
  | .hbm, ⟨32, _⟩ => ⟨S2x4096x2x4x128, .f32⟩
  | .hbm, ⟨33, _⟩ => ⟨S2x2x4352x4096x4, .f32⟩
  | .hbm, ⟨34, _⟩ => ⟨S2x2x4x4096x4352, .f32⟩
  | .hbm, ⟨35, _⟩ => ⟨S_, .f32⟩
  | .hbm, ⟨36, _⟩ => ⟨S2x2x4x4096x4352, .f32⟩
  | .hbm, ⟨37, _⟩ => ⟨S2x2x4x4096x4352, .f32⟩
  | .hbm, ⟨38, _⟩ => ⟨S_, .f32⟩
  | .hbm, ⟨39, _⟩ => ⟨S2x2x4x4096, .f32⟩
  | .hbm, ⟨40, _⟩ => ⟨S_, .f32⟩
  | .hbm, ⟨41, _⟩ => ⟨S2x2x4x4096, .f32⟩
  | .hbm, ⟨42, _⟩ => ⟨S2x2x4x4096, .f32⟩
  | .hbm, ⟨43, _⟩ => ⟨S2x2x4x4096x1, .f32⟩
  | .hbm, ⟨44, _⟩ => ⟨S2x2x4x4096x4352, .f32⟩
  | .hbm, ⟨45, _⟩ => ⟨S2x2x4x4096x4352, .f32⟩
  | .hbm, ⟨46, _⟩ => ⟨S2x2x4x4096x4352, .f32⟩
  | .hbm, ⟨47, _⟩ => ⟨S_, .f32⟩
  | .hbm, ⟨48, _⟩ => ⟨S2x2x4x4096, .f32⟩
  | .hbm, ⟨49, _⟩ => ⟨S2x2x4x4096x1, .f32⟩
  | .hbm, ⟨50, _⟩ => ⟨S2x2x4x4096x4352, .f32⟩
  | .hbm, ⟨51, _⟩ => ⟨S2x2x4x4096x4352, .f32⟩
  | .hbm, ⟨52, _⟩ => ⟨S2x2x128x4x4096, .f32⟩
  | .hbm, ⟨53, _⟩ => ⟨S2x4096x2x4x128, .f32⟩
  | .hbm, ⟨54, _⟩ => ⟨S2x256x1024, .f32⟩
  | .hbm, ⟨55, _⟩ => ⟨S2x4096x1024, .f32⟩
  | .hbm, ⟨56, _⟩ => ⟨S2x4352x1024, .f32⟩
  | .hbm, ⟨57, _⟩ => ⟨S2x4352x8x128, .f32⟩
  | .hbm, ⟨58, _⟩ => ⟨S2x4352x2x4x128, .f32⟩
  | .hbm, ⟨59, _⟩ => ⟨S2x4352x2x128, .f32⟩
  | .hbm, ⟨60, _⟩ => ⟨S2x4352x2x128, .f32⟩
  | .hbm, ⟨61, _⟩ => ⟨S2x256x2x4x128, .f32⟩
  | .hbm, ⟨62, _⟩ => ⟨S2x256x2x128, .f32⟩
  | .hbm, ⟨63, _⟩ => ⟨S2x2x256x256x4, .f32⟩
  | .hbm, ⟨64, _⟩ => ⟨S2x2x4x256x256, .f32⟩
  | .hbm, ⟨65, _⟩ => ⟨S_, .f32⟩
  | .hbm, ⟨66, _⟩ => ⟨S2x2x4x256x256, .f32⟩
  | .hbm, ⟨67, _⟩ => ⟨S2x2x4x256x256, .f32⟩
  | .hbm, ⟨68, _⟩ => ⟨S_, .f32⟩
  | .hbm, ⟨69, _⟩ => ⟨S2x2x4x256, .f32⟩
  | .hbm, ⟨70, _⟩ => ⟨S2x2x4x256x1, .f32⟩
  | .hbm, ⟨71, _⟩ => ⟨S2x2x4x256x256, .f32⟩
  | .hbm, ⟨72, _⟩ => ⟨S2x2x4x256x256, .f32⟩
  | .hbm, ⟨73, _⟩ => ⟨S2x2x4x256x256, .f32⟩
  | .hbm, ⟨74, _⟩ => ⟨S_, .f32⟩
  | .hbm, ⟨75, _⟩ => ⟨S2x2x4x256, .f32⟩
  | .hbm, ⟨76, _⟩ => ⟨S2x2x4x256, .f32⟩
  | .hbm, ⟨77, _⟩ => ⟨S2x2x4x256, .f32⟩
  | .hbm, ⟨78, _⟩ => ⟨S2x4096x2x4x128, .f32⟩
  | .hbm, ⟨79, _⟩ => ⟨S2x2x4352x4096x4, .f32⟩
  | .hbm, ⟨80, _⟩ => ⟨S2x2x4x4096x4352, .f32⟩
  | .hbm, ⟨81, _⟩ => ⟨S_, .f32⟩
  | .hbm, ⟨82, _⟩ => ⟨S2x2x4x4096x4352, .f32⟩
  | .hbm, ⟨83, _⟩ => ⟨S2x2x4x4096x4352, .f32⟩
  | .hbm, ⟨84, _⟩ => ⟨S_, .f32⟩
  | .hbm, ⟨85, _⟩ => ⟨S2x2x4x4096, .f32⟩
  | .hbm, ⟨86, _⟩ => ⟨S2x2x4x4096x1, .f32⟩
  | .hbm, ⟨87, _⟩ => ⟨S2x2x4x4096x4352, .f32⟩
  | .hbm, ⟨88, _⟩ => ⟨S2x2x4x4096x4352, .f32⟩
  | .hbm, ⟨89, _⟩ => ⟨S2x2x4x4096x4352, .f32⟩
  | .hbm, ⟨90, _⟩ => ⟨S_, .f32⟩
  | .hbm, ⟨91, _⟩ => ⟨S2x2x4x4096, .f32⟩
  | .hbm, ⟨92, _⟩ => ⟨S2x2x4x4096, .f32⟩
  | .hbm, ⟨93, _⟩ => ⟨S2x2x4x4096, .f32⟩
  | .hbm, ⟨94, _⟩ => ⟨S2x2x4x4352, .f32⟩
  | .hbm, ⟨95, _⟩ => ⟨S2x8x4352, .f32⟩
  | .hbm, ⟨96, _⟩ => ⟨S2x4352x1536, .f32⟩
  | .hbm, ⟨97, _⟩ => ⟨S2x4352x1536, .bf16⟩
  | .hbm, ⟨98, _⟩ => ⟨S2x8x4352x1, .f32⟩
  | .hbm, ⟨99, _⟩ => ⟨S2x8x4352x128, .f32⟩
  | .hbm, ⟨100, _⟩ => ⟨S2x4352x1024, .f32⟩
  | .hbm, ⟨101, _⟩ => ⟨S2x2x128x4352, .f32⟩
  | .hbm, ⟨102, _⟩ => ⟨S2x2x128x4352, .f32⟩
  | .local _ .vmem, ⟨0, _⟩ => ⟨S1x256x512, .bf16⟩
  | .local _ .vmem, ⟨1, _⟩ => ⟨S1x256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x4x256x128, .f32⟩
  | .local _ .vmem, ⟨11, _⟩ => ⟨S1x4x256x128, .f32⟩
  | .local _ .vmem, ⟨12, _⟩ => ⟨S1x256x512, .f32⟩
  | .local _ .vmem, ⟨13, _⟩ => ⟨S1x256x512, .f32⟩
  | .local _ .vmem, ⟨14, _⟩ => ⟨S1x1x128x4352, .f32⟩
  | .local _ .vmem, ⟨15, _⟩ => ⟨S1x1x128x4352, .f32⟩
  | .local _ .vmem, ⟨16, _⟩ => ⟨S1x1x128x4352, .f32⟩
  | .local _ .vmem, ⟨17, _⟩ => ⟨S1x1x128x4352, .f32⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_12 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82_0 : Ref sig .tc := ⟨.hbm, 100, rfl⟩
abbrev main_v82_1 : Ref sig .tc := ⟨.hbm, 101, rfl⟩
abbrev main_v82_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "log2e" => some (((Real.log 2)⁻¹ : ℝ) : EReal)
  | "scale_log2e" => some (((11863283 / 134217728) * (Real.log 2)⁻¹ : ℝ) : EReal)
  | _ => none

abbrev grid0 : Pipeline.Grid := ⟨3, ![2, 2, 17], ![false, false, false]⟩

def k0_cond2 (i : grid0.Coords) : BitVec 1 :=
  let arg2 : BitVec 32 := BitVec.ofNat 32 (i 2).val
  let c1_i32 : BitVec 32 := 1#32
  let v3 : BitVec 1 := Scalar.cmpi .slt arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c1_i32_2 : BitVec 32 := 1#32
  let v6 : BitVec 1 := Scalar.cmpi .sge arg2 c1_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x4352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x128x4352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S2x4352x1024 : Shape := ⟨3, ![2, 4352, 1024]⟩
abbrev S2x4352x256 : Shape := ⟨3, ![2, 4352, 256]⟩
abbrev S2x4352x8x128 : Shape := ⟨4, ![2, 4352, 8, 128]⟩
abbrev S2x4352x2x4x128 : Shape := ⟨5, ![2, 4352, 2, 4, 128]⟩
abbrev S2x4352x2x128 : Shape := ⟨4, ![2, 4352, 2, 128]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x4096x2x4x128 : Shape := ⟨5, ![2, 4096, 2, 4, 128]⟩
abbrev S2x2x4352x4096x4 : Shape := ⟨5, ![2, 2, 4352, 4096, 4]⟩
abbrev S2x2x4x4096x4352 : Shape := ⟨5, ![2, 2, 4, 4096, 4352]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S2x256x1024 : Shape := ⟨3, ![2, 256, 1024]⟩
abbrev S2x4096x1024 : Shape := ⟨3, ![2, 4096, 1024]⟩
abbrev S2x2x128x4352 : Shape := ⟨4, ![2, 2, 128, 4352]⟩
abbrev S2x2x4096x4x128 : Shape := ⟨5, ![2, 2, 4096, 4, 128]⟩
abbrev S2x2x4352x128 : Shape := ⟨4, ![2, 2, 4352, 128]⟩
abbrev S2x2x128x256 : Shape := ⟨4, ![2, 2, 128, 256]⟩
abbrev S2x2x256x4x128 : Shape := ⟨5, ![2, 2, 256, 4, 128]⟩
abbrev S2x2x256x128 : Shape := ⟨4, ![2, 2, 256, 128]⟩

abbrev nBuf : Space → Nat
  | .hbm => 180
  | .vmem => 0
  | .smem => 0
  | _ => 0

abbrev hbmTy0_0 (i : Nat) : BufTy := match i % 128 with
  | 0 => ⟨S2x4352x1024, .f32⟩
  | 1 => ⟨S2x4352x256, .f32⟩
  | 2 => ⟨S2x4352x256, .f32⟩
  | 3 => ⟨S2x4352x1024, .f32⟩
  | 4 => ⟨S2x4352x8x128, .f32⟩
  | 5 => ⟨S2x4352x2x4x128, .f32⟩
  | 6 => ⟨S2x4352x2x128, .f32⟩
  | 7 => ⟨S2x4352x2x128, .f32⟩
  | 8 => ⟨S2x256x2x4x128, .f32⟩
  | 9 => ⟨S2x256x2x128, .f32⟩
  | 10 => ⟨S2x256x2x128, .f32⟩
  | 11 => ⟨S2x2x256x256x4, .f32⟩
  | 12 => ⟨S2x2x4x256x256, .f32⟩
  | 13 => ⟨S_, .f32⟩
  | 14 => ⟨S2x2x4x256x256, .f32⟩
  | 15 => ⟨S2x2x4x256x256, .f32⟩
  | 16 => ⟨S_, .f32⟩
  | 17 => ⟨S2x2x4x256, .f32⟩
  | 18 => ⟨S2x2x4x256x1, .f32⟩
  | 19 => ⟨S2x2x4x256x256, .f32⟩
  | 20 => ⟨S2x2x4x256x256, .i1⟩
  | 21 => ⟨S2x2x4x256x256, .f32⟩
  | 22 => ⟨S_, .f32⟩
  | 23 => ⟨S2x2x4x256, .f32⟩
  | 24 => ⟨S_, .f32⟩
  | 25 => ⟨S2x2x4x256, .f32⟩
  | 26 => ⟨S2x2x4x256, .f32⟩
  | 27 => ⟨S_, .f32⟩
  | 28 => ⟨S2x2x4x256, .f32⟩
  | 29 => ⟨S2x2x4x256, .i1⟩
  | 30 => ⟨S_, .f32⟩
  | 31 => ⟨S2x2x4x256, .f32⟩
  | 32 => ⟨S2x2x4x256, .i1⟩
  | 33 => ⟨S_, .f32⟩
  | 34 => ⟨S2x2x4x256, .f32⟩
  | 35 => ⟨S_, .f32⟩
  | 36 => ⟨S2x2x4x256, .f32⟩
  | 37 => ⟨S_, .f32⟩
  | 38 => ⟨S2x2x4x256, .f32⟩
  | 39 => ⟨S2x2x4x256, .f32⟩
  | 40 => ⟨S2x2x4x256, .f32⟩
  | 41 => ⟨S2x2x4x256x1, .f32⟩
  | 42 => ⟨S2x2x4x256x256, .f32⟩
  | 43 => ⟨S2x2x4x256x256, .f32⟩
  | 44 => ⟨S2x2x4x256x256, .f32⟩
  | 45 => ⟨S_, .f32⟩
  | 46 => ⟨S2x2x4x256, .f32⟩
  | 47 => ⟨S2x2x4x256x1, .f32⟩
  | 48 => ⟨S2x2x4x256x256, .f32⟩
  | 49 => ⟨S2x2x4x256x256, .f32⟩
  | 50 => ⟨S2x2x4x256x1, .f32⟩
  | 51 => ⟨S_, .f32⟩
  | 52 => ⟨S2x2x4x256x1, .f32⟩
  | 53 => ⟨S2x2x4x256x1, .f32⟩
  | 54 => ⟨S2x2x128x4x256, .f32⟩
  | 55 => ⟨S2x256x2x4x128, .f32⟩
  | 56 => ⟨S2x4096x2x4x128, .f32⟩
  | 57 => ⟨S2x2x4352x4096x4, .f32⟩
  | 58 => ⟨S2x2x4x4096x4352, .f32⟩
  | 59 => ⟨S_, .f32⟩
  | 60 => ⟨S2x2x4x4096x4352, .f32⟩
  | 61 => ⟨S2x2x4x4096x4352, .f32⟩
  | 62 => ⟨S_, .f32⟩
  | 63 => ⟨S2x2x4x4096, .f32⟩
  | 64 => ⟨S2x2x4x4096x1, .f32⟩
  | 65 => ⟨S2x2x4x4096x4352, .f32⟩
  | 66 => ⟨S2x2x4x4096x4352, .i1⟩
  | 67 => ⟨S2x2x4x4096x4352, .f32⟩
  | 68 => ⟨S_, .f32⟩
  | 69 => ⟨S2x2x4x4096, .f32⟩
  | 70 => ⟨S_, .f32⟩
  | 71 => ⟨S2x2x4x4096, .f32⟩
  | 72 => ⟨S2x2x4x4096, .f32⟩
  | 73 => ⟨S_, .f32⟩
  | 74 => ⟨S2x2x4x4096, .f32⟩
  | 75 => ⟨S2x2x4x4096, .i1⟩
  | 76 => ⟨S_, .f32⟩
  | 77 => ⟨S2x2x4x4096, .f32⟩
  | 78 => ⟨S2x2x4x4096, .i1⟩
  | 79 => ⟨S_, .f32⟩
  | 80 => ⟨S2x2x4x4096, .f32⟩
  | 81 => ⟨S_, .f32⟩
  | 82 => ⟨S2x2x4x4096, .f32⟩
  | 83 => ⟨S_, .f32⟩
  | 84 => ⟨S2x2x4x4096, .f32⟩
  | 85 => ⟨S2x2x4x4096, .f32⟩
  | 86 => ⟨S2x2x4x4096, .f32⟩
  | 87 => ⟨S2x2x4x4096x1, .f32⟩
  | 88 => ⟨S2x2x4x4096x4352, .f32⟩
  | 89 => ⟨S2x2x4x4096x4352, .f32⟩
  | 90 => ⟨S2x2x4x4096x4352, .f32⟩
  | 91 => ⟨S_, .f32⟩
  | 92 => ⟨S2x2x4x4096, .f32⟩
  | 93 => ⟨S2x2x4x4096x1, .f32⟩
  | 94 => ⟨S2x2x4x4096x4352, .f32⟩
  | 95 => ⟨S2x2x4x4096x4352, .f32⟩
  | 96 => ⟨S2x2x4x4096x1, .f32⟩
  | 97 => ⟨S_, .f32⟩
  | 98 => ⟨S2x2x4x4096x1, .f32⟩
  | 99 => ⟨S2x2x4x4096x1, .f32⟩
  | 100 => ⟨S2x2x128x4x4096, .f32⟩
  | 101 => ⟨S2x4096x2x4x128, .f32⟩
  | 102 => ⟨S2x256x1024, .f32⟩
  | 103 => ⟨S2x4096x1024, .f32⟩
  | 104 => ⟨S2x4352x1024, .f32⟩
  | 105 => ⟨S2x256x1024, .f32⟩
  | 106 => ⟨S2x4096x1024, .f32⟩
  | 107 => ⟨S2x4096x2x4x128, .f32⟩
  | 108 => ⟨S2x256x2x4x128, .f32⟩
  | 109 => ⟨S2x2x128x4x4096, .f32⟩
  | 110 => ⟨S2x2x4x4096x4352, .f32⟩
  | 111 => ⟨S2x2x128x4352, .f32⟩
  | 112 => ⟨S2x4352x2x128, .f32⟩
  | 113 => ⟨S2x2x4x4096x4352, .f32⟩
  | 114 => ⟨S2x2x4x4096x4352, .f32⟩
  | 115 => ⟨S2x2x4x4096x4352, .f32⟩
  | 116 => ⟨S_, .f32⟩
  | 117 => ⟨S2x2x4x4096, .f32⟩
  | 118 => ⟨S2x2x4x4096x1, .f32⟩
  | 119 => ⟨S2x2x4x4096x1, .f32⟩
  | 120 => ⟨S2x2x4x4096x4352, .f32⟩
  | 121 => ⟨S2x2x4x4096x4352, .f32⟩
  | 122 => ⟨S_, .f32⟩
  | 123 => ⟨S2x2x4x4096, .f32⟩
  | 124 => ⟨S2x2x4x4096x4352, .f32⟩
  | 125 => ⟨S2x2x4x4096x4352, .f32⟩
  | 126 => ⟨S2x2x4x4096x4352, .f32⟩
  | 127 => ⟨S_, .f32⟩
  | _ => ⟨S2x4352x1024, .f32⟩

abbrev hbmTy0_1 (i : Nat) : BufTy := match i % 128 with
  | 0 => ⟨S2x2x4x4096x4352, .f32⟩
  | 1 => ⟨S2x2x4x4096x4352, .f32⟩
  | 2 => ⟨S2x2x4352x4096x4, .f32⟩
  | 3 => ⟨S2x2x4096x4x128, .f32⟩
  | 4 => ⟨S2x4096x2x4x128, .f32⟩
  | 5 => ⟨S2x2x4352x128, .f32⟩
  | 6 => ⟨S2x4352x2x128, .f32⟩
  | 7 => ⟨S_, .f32⟩
  | 8 => ⟨S2x4352x2x4x128, .f32⟩
  | 9 => ⟨S2x2x128x4x256, .f32⟩
  | 10 => ⟨S2x2x4x256x256, .f32⟩
  | 11 => ⟨S2x2x128x256, .f32⟩
  | 12 => ⟨S2x256x2x128, .f32⟩
  | 13 => ⟨S2x2x4x256x256, .f32⟩
  | 14 => ⟨S2x2x4x256x256, .f32⟩
  | 15 => ⟨S2x2x4x256x256, .f32⟩
  | 16 => ⟨S_, .f32⟩
  | 17 => ⟨S2x2x4x256, .f32⟩
  | 18 => ⟨S2x2x4x256x1, .f32⟩
  | 19 => ⟨S2x2x4x256x1, .f32⟩
  | 20 => ⟨S2x2x4x256x256, .f32⟩
  | 21 => ⟨S2x2x4x256x256, .f32⟩
  | 22 => ⟨S_, .f32⟩
  | 23 => ⟨S2x2x4x256, .f32⟩
  | 24 => ⟨S2x2x4x256x256, .f32⟩
  | 25 => ⟨S2x2x4x256x256, .f32⟩
  | 26 => ⟨S2x2x4x256x256, .f32⟩
  | 27 => ⟨S_, .f32⟩
  | 28 => ⟨S2x2x4x256x256, .f32⟩
  | 29 => ⟨S2x2x4x256x256, .f32⟩
  | 30 => ⟨S2x2x256x256x4, .f32⟩
  | 31 => ⟨S2x2x256x4x128, .f32⟩
  | 32 => ⟨S2x256x2x4x128, .f32⟩
  | 33 => ⟨S2x2x256x128, .f32⟩
  | 34 => ⟨S2x256x2x128, .f32⟩
  | 35 => ⟨S_, .f32⟩
  | 36 => ⟨S2x4352x2x128, .f32⟩
  | 37 => ⟨S2x4352x2x128, .f32⟩
  | 38 => ⟨S_, .f32⟩
  | 39 => ⟨S2x4352x2x128, .f32⟩
  | 40 => ⟨S2x4352x2x128, .f32⟩
  | 41 => ⟨S_, .f32⟩
  | 42 => ⟨S2x4352x2x4x128, .f32⟩
  | 43 => ⟨S2x4352x2x4x128, .f32⟩
  | 44 => ⟨S2x4352x256, .f32⟩
  | 45 => ⟨S2x4352x256, .f32⟩
  | 46 => ⟨S2x4352x8x128, .f32⟩
  | 47 => ⟨S2x4352x1024, .f32⟩
  | 48 => ⟨S2x4352x2x128, .f32⟩
  | 49 => ⟨S2x2x128x4352, .f32⟩
  | 50 => ⟨S2x4352x2x128, .f32⟩
  | 51 => ⟨S2x2x128x4352, .f32⟩
  | _ => ⟨S2x4352x1024, .f32⟩

abbrev hbmTy (i : Nat) : BufTy := match i / 128 with
  | 0 => hbmTy0_0 i
  | 1 => hbmTy0_1 i
  | _ => ⟨S2x4352x1024, .f32⟩

abbrev bufTy : (tb : Table) → Fin (tcTables nBuf tb) → BufTy
  | .hbm, ⟨i, _⟩ => hbmTy i
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_cst_17 : Ref sig .tc := ⟨.hbm, 81, rfl⟩
abbrev main_v59 : Ref sig .tc := ⟨.hbm, 82, rfl⟩
abbrev main_cst_18 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_19 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_20 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_21 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_22 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_23 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_24 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_25 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_26 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_27 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_28 : Ref sig .tc := ⟨.hbm, 163, rfl⟩
abbrev main_v130 : Ref sig .tc := ⟨.hbm, 164, rfl⟩
abbrev main_v131 : Ref sig .tc := ⟨.hbm, 165, rfl⟩
abbrev main_cst_29 : Ref sig .tc := ⟨.hbm, 166, rfl⟩
abbrev main_v132 : Ref sig .tc := ⟨.hbm, 167, rfl⟩
abbrev main_v133 : Ref sig .tc := ⟨.hbm, 168, rfl⟩
abbrev main_cst_30 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩

abbrev nD : Nat := 1
abbrev τ : Topo := Topo.v7x

variable {F : FTy → Type} [FloatOps F]
-- ==== Forward.lean ====
abbrev S2x4352x1024 : Shape := ⟨3, ![2, 4352, 1024]⟩
abbrev S2x4352x256 : Shape := ⟨3, ![2, 4352, 256]⟩
abbrev S2x4352x1536 : Shape := ⟨3, ![2, 4352, 1536]⟩
abbrev S2x8x4352x128 : Shape := ⟨4, ![2, 8, 4352, 128]⟩
abbrev S1x256x512 : Shape := ⟨3, ![1, 256, 512]⟩
abbrev S1x4352x128 : Shape := ⟨3, ![1, 4352, 128]⟩
abbrev S1x4x256x128 : Shape := ⟨4, ![1, 4, 256, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x1x256x128 : Shape := ⟨4, ![1, 1, 256, 128]⟩
abbrev S4352x128 : Shape := ⟨2, ![4352, 128]⟩
abbrev S256x4352 : Shape := ⟨2, ![256, 4352]⟩

abbrev nBuf : Space → Nat
  | .hbm => 7
  | .vmem => 10
  | .smem => 0
  | _ => 0

abbrev bufTy : (tb : Table) → Fin (tcTables nBuf tb) → BufTy
  | .hbm, ⟨0, _⟩ => ⟨S2x4352x1024, .f32⟩
  | .hbm, ⟨1, _⟩ => ⟨S2x4352x256, .f32⟩
  | .hbm, ⟨2, _⟩ => ⟨S2x4352x256, .f32⟩
  | .hbm, ⟨3, _⟩ => ⟨S2x4352x1536, .f32⟩
  | .hbm, ⟨4, _⟩ => ⟨S2x4352x1536, .bf16⟩
  | .hbm, ⟨5, _⟩ => ⟨S2x4352x1024, .f32⟩
  | .hbm, ⟨6, _⟩ => ⟨S2x8x4352x128, .f32⟩
  | .local _ .vmem, ⟨0, _⟩ => ⟨S1x256x512, .bf16⟩
  | .local _ .vmem, ⟨1, _⟩ => ⟨S1x256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x512, .f32⟩
  | .local _ .vmem, ⟨7, _⟩ => ⟨S1x256x512, .f32⟩
  | .local _ .vmem, ⟨8, _⟩ => ⟨S1x4x256x128, .f32⟩
  | .local _ .vmem, ⟨9, _⟩ => ⟨S1x4x256x128, .f32⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 17], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c1_i32_0 : BitVec 32 := 1#32
  let v3 : BitVec 1 := Scalar.cmpi .sge arg2 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ForwardIdeal.lean ====
variable {F : FTy → Type} [FloatOps F] [Named F]
def κ : String → Option EReal := fun
  | "scale_log2e" => some (((11863283 / 134217728) * (Real.log 2)⁻¹ : ℝ) : EReal)
  | _ => none
-- ==== ForwardReferenceIdeal.lean ====
abbrev S2x4352x1024 : Shape := ⟨3, ![2, 4352, 1024]⟩
abbrev S2x4352x256 : Shape := ⟨3, ![2, 4352, 256]⟩
abbrev S2x4352x8x128 : Shape := ⟨4, ![2, 4352, 8, 128]⟩
abbrev S2x4352x2x4x128 : Shape := ⟨5, ![2, 4352, 2, 4, 128]⟩
abbrev S2x4352x2x128 : Shape := ⟨4, ![2, 4352, 2, 128]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x4096x2x4x128 : Shape := ⟨5, ![2, 4096, 2, 4, 128]⟩
abbrev S2x2x4352x4096x4 : Shape := ⟨5, ![2, 2, 4352, 4096, 4]⟩
abbrev S2x2x4x4096x4352 : Shape := ⟨5, ![2, 2, 4, 4096, 4352]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S2x256x1024 : Shape := ⟨3, ![2, 256, 1024]⟩
abbrev S2x4096x1024 : Shape := ⟨3, ![2, 4096, 1024]⟩
abbrev S2x2x4x4352 : Shape := ⟨4, ![2, 2, 4, 4352]⟩
abbrev S2x8x4352 : Shape := ⟨3, ![2, 8, 4352]⟩
abbrev S2x8x4352x1 : Shape := ⟨4, ![2, 8, 4352, 1]⟩
abbrev S2x8x4352x128 : Shape := ⟨4, ![2, 8, 4352, 128]⟩

abbrev nBuf : Space → Nat
  | .hbm => 97
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x4352x256, .f32⟩
  | .hbm, ⟨2, _⟩ => ⟨S2x4352x256, .f32⟩
  | .hbm, ⟨3, _⟩ => ⟨S2x4352x8x128, .f32⟩
  | .hbm, ⟨4, _⟩ => ⟨S2x4352x2x4x128, .f32⟩
  | .hbm, ⟨5, _⟩ => ⟨S2x4352x2x128, .f32⟩
  | .hbm, ⟨6, _⟩ => ⟨S2x4352x2x128, .f32⟩
  | .hbm, ⟨7, _⟩ => ⟨S2x256x2x4x128, .f32⟩
  | .hbm, ⟨8, _⟩ => ⟨S2x256x2x128, .f32⟩
  | .hbm, ⟨9, _⟩ => ⟨S2x256x2x128, .f32⟩
  | .hbm, ⟨10, _⟩ => ⟨S2x2x256x256x4, .f32⟩
  | .hbm, ⟨11, _⟩ => ⟨S2x2x4x256x256, .f32⟩
  | .hbm, ⟨12, _⟩ => ⟨S_, .f32⟩
  | .hbm, ⟨13, _⟩ => ⟨S2x2x4x256x256, .f32⟩
  | .hbm, ⟨14, _⟩ => ⟨S2x2x4x256x256, .f32⟩
  | .hbm, ⟨15, _⟩ => ⟨S_, .f32⟩
  | .hbm, ⟨16, _⟩ => ⟨S2x2x4x256, .f32⟩
  | .hbm, ⟨17, _⟩ => ⟨S_, .f32⟩
  | .hbm, ⟨18, _⟩ => ⟨S2x2x4x256, .f32⟩
  | .hbm, ⟨19, _⟩ => ⟨S2x2x4x256, .f32⟩
  | .hbm, ⟨20, _⟩ => ⟨S2x2x4x256x1, .f32⟩
  | .hbm, ⟨21, _⟩ => ⟨S2x2x4x256x256, .f32⟩
  | .hbm, ⟨22, _⟩ => ⟨S2x2x4x256x256, .f32⟩
  | .hbm, ⟨23, _⟩ => ⟨S2x2x4x256x256, .f32⟩
  | .hbm, ⟨24, _⟩ => ⟨S_, .f32⟩
  | .hbm, ⟨25, _⟩ => ⟨S2x2x4x256, .f32⟩
  | .hbm, ⟨26, _⟩ => ⟨S2x2x4x256x1, .f32⟩
  | .hbm, ⟨27, _⟩ => ⟨S2x2x4x256x256, .f32⟩
  | .hbm, ⟨28, _⟩ => ⟨S2x2x4x256x256, .f32⟩
  | .hbm, ⟨29, _⟩ => ⟨S2x2x128x4x256, .f32⟩
  | .hbm, ⟨30, _⟩ => ⟨S2x256x2x4x128, .f32⟩
  | .hbm, ⟨31, _⟩ => ⟨S2x4096x2x4x128, .f32⟩
  | .hbm, ⟨32, _⟩ => ⟨S2x2x4352x4096x4, .f32⟩
  | .hbm, ⟨33, _⟩ => ⟨S2x2x4x4096x4352, .f32⟩
  | .hbm, ⟨34, _⟩ => ⟨S_, .f32⟩
  | .hbm, ⟨35, _⟩ => ⟨S2x2x4x4096x4352, .f32⟩
  | .hbm, ⟨36, _⟩ => ⟨S2x2x4x4096x4352, .f32⟩
  | .hbm, ⟨37, _⟩ => ⟨S_, .f32⟩
  | .hbm, ⟨38, _⟩ => ⟨S2x2x4x4096, .f32⟩
  | .hbm, ⟨39, _⟩ => ⟨S_, .f32⟩
  | .hbm, ⟨40, _⟩ => ⟨S2x2x4x4096, .f32⟩
  | .hbm, ⟨41, _⟩ => ⟨S2x2x4x4096, .f32⟩
  | .hbm, ⟨42, _⟩ => ⟨S2x2x4x4096x1, .f32⟩
  | .hbm, ⟨43, _⟩ => ⟨S2x2x4x4096x4352, .f32⟩
  | .hbm, ⟨44, _⟩ => ⟨S2x2x4x4096x4352, .f32⟩
  | .hbm, ⟨45, _⟩ => ⟨S2x2x4x4096x4352, .f32⟩
  | .hbm, ⟨46, _⟩ => ⟨S_, .f32⟩
  | .hbm, ⟨47, _⟩ => ⟨S2x2x4x4096, .f32⟩
  | .hbm, ⟨48, _⟩ => ⟨S2x2x4x4096x1, .f32⟩
  | .hbm, ⟨49, _⟩ => ⟨S2x2x4x4096x4352, .f32⟩
  | .hbm, ⟨50, _⟩ => ⟨S2x2x4x4096x4352, .f32⟩
  | .hbm, ⟨51, _⟩ => ⟨S2x2x128x4x4096, .f32⟩
  | .hbm, ⟨52, _⟩ => ⟨S2x4096x2x4x128, .f32⟩
  | .hbm, ⟨53, _⟩ => ⟨S2x256x1024, .f32⟩
  | .hbm, ⟨54, _⟩ => ⟨S2x4096x1024, .f32⟩
  | .hbm, ⟨55, _⟩ => ⟨S2x4352x1024, .f32⟩
  | .hbm, ⟨56, _⟩ => ⟨S2x4352x8x128, .f32⟩
  | .hbm, ⟨57, _⟩ => ⟨S2x4352x2x4x128, .f32⟩
  | .hbm, ⟨58, _⟩ => ⟨S2x4352x2x128, .f32⟩
  | .hbm, ⟨59, _⟩ => ⟨S2x4352x2x128, .f32⟩
  | .hbm, ⟨60, _⟩ => ⟨S2x256x2x4x128, .f32⟩
  | .hbm, ⟨61, _⟩ => ⟨S2x256x2x128, .f32⟩
  | .hbm, ⟨62, _⟩ => ⟨S2x2x256x256x4, .f32⟩
  | .hbm, ⟨63, _⟩ => ⟨S2x2x4x256x256, .f32⟩
  | .hbm, ⟨64, _⟩ => ⟨S_, .f32⟩
  | .hbm, ⟨65, _⟩ => ⟨S2x2x4x256x256, .f32⟩
  | .hbm, ⟨66, _⟩ => ⟨S2x2x4x256x256, .f32⟩
  | .hbm, ⟨67, _⟩ => ⟨S_, .f32⟩
  | .hbm, ⟨68, _⟩ => ⟨S2x2x4x256, .f32⟩
  | .hbm, ⟨69, _⟩ => ⟨S2x2x4x256x1, .f32⟩
  | .hbm, ⟨70, _⟩ => ⟨S2x2x4x256x256, .f32⟩
  | .hbm, ⟨71, _⟩ => ⟨S2x2x4x256x256, .f32⟩
  | .hbm, ⟨72, _⟩ => ⟨S2x2x4x256x256, .f32⟩
  | .hbm, ⟨73, _⟩ => ⟨S_, .f32⟩
  | .hbm, ⟨74, _⟩ => ⟨S2x2x4x256, .f32⟩
  | .hbm, ⟨75, _⟩ => ⟨S2x2x4x256, .f32⟩
  | .hbm, ⟨76, _⟩ => ⟨S2x2x4x256, .f32⟩
  | .hbm, ⟨77, _⟩ => ⟨S2x4096x2x4x128, .f32⟩
  | .hbm, ⟨78, _⟩ => ⟨S2x2x4352x4096x4, .f32⟩
  | .hbm, ⟨79, _⟩ => ⟨S2x2x4x4096x4352, .f32⟩
  | .hbm, ⟨80, _⟩ => ⟨S_, .f32⟩
  | .hbm, ⟨81, _⟩ => ⟨S2x2x4x4096x4352, .f32⟩
  | .hbm, ⟨82, _⟩ => ⟨S2x2x4x4096x4352, .f32⟩
  | .hbm, ⟨83, _⟩ => ⟨S_, .f32⟩
  | .hbm, ⟨84, _⟩ => ⟨S2x2x4x4096, .f32⟩
  | .hbm, ⟨85, _⟩ => ⟨S2x2x4x4096x1, .f32⟩
  | .hbm, ⟨86, _⟩ => ⟨S2x2x4x4096x4352, .f32⟩
  | .hbm, ⟨87, _⟩ => ⟨S2x2x4x4096x4352, .f32⟩
  | .hbm, ⟨88, _⟩ => ⟨S2x2x4x4096x4352, .f32⟩
  | .hbm, ⟨89, _⟩ => ⟨S_, .f32⟩
  | .hbm, ⟨90, _⟩ => ⟨S2x2x4x4096, .f32⟩
  | .hbm, ⟨91, _⟩ => ⟨S2x2x4x4096, .f32⟩
  | .hbm, ⟨92, _⟩ => ⟨S2x2x4x4096, .f32⟩
  | .hbm, ⟨93, _⟩ => ⟨S2x2x4x4352, .f32⟩
  | .hbm, ⟨94, _⟩ => ⟨S2x8x4352, .f32⟩
  | .hbm, ⟨95, _⟩ => ⟨S2x8x4352x1, .f32⟩
  | .hbm, ⟨96, _⟩ => ⟨S2x8x4352x128, .f32⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_10 : Ref sig .tc := ⟨.hbm, 80, rfl⟩
abbrev main_v66 : Ref sig .tc := ⟨.hbm, 81, rfl⟩
abbrev main_v67 : Ref sig .tc := ⟨.hbm, 82, rfl⟩
abbrev main_cst_11 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_12 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩

abbrev nD : Nat := 1
abbrev τ : Topo := Topo.v7x

variable {F : FTy → Type} [FloatOps F]
-- ==== Project.lean ====
abbrev S2x4352x1024 : Shape := ⟨3, ![2, 4352, 1024]⟩
abbrev S2x1024x10240 : Shape := ⟨3, ![2, 1024, 10240]⟩
abbrev S8704x1024 : Shape := ⟨2, ![8704, 1024]⟩
abbrev S8704x10240 : Shape := ⟨2, ![8704, 10240]⟩
abbrev S1088x1024 : Shape := ⟨2, ![1088, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4352x1024, .f32⟩
  | .hbm, ⟨1, _⟩ => ⟨S2x1024x10240, .f32⟩
  | .hbm, ⟨2, _⟩ => ⟨S2x4352x1024, .bf16⟩
  | .hbm, ⟨3, _⟩ => ⟨S2x1024x10240, .bf16⟩
  | .hbm, ⟨4, _⟩ => ⟨S8704x1024, .bf16⟩
  | .hbm, ⟨5, _⟩ => ⟨S8704x10240, .bf16⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1088x1024, .bf16⟩
  | .local _ .vmem, ⟨5, _⟩ => ⟨S1088x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectReferenceIdeal.lean ====
abbrev S2x4352x1024 : Shape := ⟨3, ![2, 4352, 1024]⟩
abbrev S2x1024x10240 : Shape := ⟨3, ![2, 1024, 10240]⟩
abbrev S1x1024x10240 : Shape := ⟨3, ![1, 1024, 10240]⟩
abbrev S1024x10240 : Shape := ⟨2, ![1024, 10240]⟩
abbrev S2x4352x10240 : Shape := ⟨3, ![2, 4352, 10240]⟩
abbrev S8704x10240 : Shape := ⟨2, ![8704, 10240]⟩

abbrev nBuf : Space → Nat
  | .hbm => 7
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x1024x10240, .f32⟩
  | .hbm, ⟨2, _⟩ => ⟨S1x1024x10240, .f32⟩
  | .hbm, ⟨3, _⟩ => ⟨S1024x10240, .f32⟩
  | .hbm, ⟨4, _⟩ => ⟨S2x4352x10240, .f32⟩
  | .hbm, ⟨5, _⟩ => ⟨S8704x10240, .f32⟩
  | .hbm, ⟨6, _⟩ => ⟨S8704x10240, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== WeightGrad.lean ====
abbrev S2x4352x1024 : Shape := ⟨3, ![2, 4352, 1024]⟩
abbrev S2x4352x10240 : Shape := ⟨3, ![2, 4352, 10240]⟩
abbrev S8704x10240 : Shape := ⟨2, ![8704, 10240]⟩
abbrev S8704x1024 : Shape := ⟨2, ![8704, 1024]⟩
abbrev S1024x10240 : Shape := ⟨2, ![1024, 10240]⟩
abbrev S2176x1024 : Shape := ⟨2, ![2176, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x4352x1024, .f32⟩
  | .hbm, ⟨1, _⟩ => ⟨S2x4352x10240, .f32⟩
  | .hbm, ⟨2, _⟩ => ⟨S2x4352x1024, .bf16⟩
  | .hbm, ⟨3, _⟩ => ⟨S2x4352x10240, .bf16⟩
  | .hbm, ⟨4, _⟩ => ⟨S8704x10240, .bf16⟩
  | .hbm, ⟨5, _⟩ => ⟨S8704x1024, .bf16⟩
  | .hbm, ⟨6, _⟩ => ⟨S1024x10240, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGradReferenceIdeal.lean ====
abbrev S2x4352x1024 : Shape := ⟨3, ![2, 4352, 1024]⟩
abbrev S2x4352x10240 : Shape := ⟨3, ![2, 4352, 10240]⟩
abbrev S_ : Shape := ⟨0, ![]⟩
abbrev S1024x10240 : Shape := ⟨2, ![1024, 10240]⟩
abbrev S10240x1024 : Shape := ⟨2, ![10240, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x4352x10240, .f32⟩
  | .hbm, ⟨2, _⟩ => ⟨S_, .f32⟩
  | .hbm, ⟨3, _⟩ => ⟨S1024x10240, .f32⟩
  | .hbm, ⟨4, _⟩ => ⟨S2x4352x10240, .f32⟩
  | .hbm, ⟨5, _⟩ => ⟨S10240x1024, .f32⟩
  | .hbm, ⟨6, _⟩ => ⟨S1024x10240, .f32⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InputGrad.lean ====
abbrev S2x1024x10240 : Shape := ⟨3, ![2, 1024, 10240]⟩
abbrev S2x4352x10240 : Shape := ⟨3, ![2, 4352, 10240]⟩
abbrev S8704x10240 : Shape := ⟨2, ![8704, 10240]⟩
abbrev S8704x1024 : Shape := ⟨2, ![8704, 1024]⟩
abbrev S1088x2560 : Shape := ⟨2, ![1088, 2560]⟩
abbrev S1x1024x2560 : Shape := ⟨3, ![1, 1024, 2560]⟩
abbrev S1088x1024 : Shape := ⟨2, ![1088, 1024]⟩
abbrev S1024x2560 : Shape := ⟨2, ![1024, 2560]⟩

abbrev nBuf : Space → Nat
  | .hbm => 6
  | .vmem => 7
  | .smem => 0
  | _ => 0

abbrev bufTy : (tb : Table) → Fin (tcTables nBuf tb) → BufTy
  | .hbm, ⟨0, _⟩ => ⟨S2x1024x10240, .f32⟩
  | .hbm, ⟨1, _⟩ => ⟨S2x4352x10240, .f32⟩
  | .hbm, ⟨2, _⟩ => ⟨S2x1024x10240, .bf16⟩
  | .hbm, ⟨3, _⟩ => ⟨S2x4352x10240, .bf16⟩
  | .hbm, ⟨4, _⟩ => ⟨S8704x10240, .bf16⟩
  | .hbm, ⟨5, _⟩ => ⟨S8704x1024, .f32⟩
  | .local _ .vmem, ⟨0, _⟩ => ⟨S1088x2560, .bf16⟩
  | .local _ .vmem, ⟨1, _⟩ => ⟨S1088x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2x1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InputGradReferenceIdeal.lean ====
abbrev S2x1024x10240 : Shape := ⟨3, ![2, 1024, 10240]⟩
abbrev S2x4352x10240 : Shape := ⟨3, ![2, 4352, 10240]⟩
abbrev S_ : Shape := ⟨0, ![]⟩
abbrev S2x4352x1024 : Shape := ⟨3, ![2, 4352, 1024]⟩
abbrev S1x1024x10240 : Shape := ⟨3, ![1, 1024, 10240]⟩
abbrev S1024x10240 : Shape := ⟨2, ![1024, 10240]⟩
abbrev S8704x1024 : Shape := ⟨2, ![8704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x1024x10240, .f32⟩
  | .hbm, ⟨1, _⟩ => ⟨S2x4352x10240, .f32⟩
  | .hbm, ⟨2, _⟩ => ⟨S_, .f32⟩
  | .hbm, ⟨3, _⟩ => ⟨S2x4352x1024, .f32⟩
  | .hbm, ⟨4, _⟩ => ⟨S1x1024x10240, .f32⟩
  | .hbm, ⟨5, _⟩ => ⟨S1024x10240, .f32⟩
  | .hbm, ⟨6, _⟩ => ⟨S2x4352x10240, .f32⟩
  | .hbm, ⟨7, _⟩ => ⟨S2x4352x1024, .f32⟩
  | .hbm, ⟨8, _⟩ => ⟨S8704x1024, .f32⟩
  | _, _ => ⟨S2x1024x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S2x4352x1024 : Shape := ⟨3, ![2, 4352, 1024]⟩
abbrev S2x4352x10240 : Shape := ⟨3, ![2, 4352, 10240]⟩
abbrev S3x1024x1024 : Shape := ⟨3, ![3, 1024, 1024]⟩
abbrev S1024x1024 : Shape := ⟨2, ![1024, 1024]⟩
abbrev S16x3072 : Shape := ⟨2, ![16, 3072]⟩
abbrev S16x3x1024 : Shape := ⟨3, ![16, 3, 1024]⟩
abbrev S2x3x1024 : Shape := ⟨3, ![2, 3, 1024]⟩
abbrev S1x3x1024 : Shape := ⟨3, ![1, 3, 1024]⟩
abbrev S3x1024 : Shape := ⟨2, ![3, 1024]⟩
abbrev S2x1x3x1024 : Shape := ⟨4, ![2, 1, 3, 1024]⟩
abbrev S2x2x3x1024 : Shape := ⟨4, ![2, 2, 3, 1024]⟩
abbrev S_ : Shape := ⟨0, ![]⟩
abbrev S2x2x8x1024 : Shape := ⟨4, ![2, 2, 8, 1024]⟩
abbrev S1x256x1024 : Shape := ⟨3, ![1, 256, 1024]⟩
abbrev S1x256x6144 : Shape := ⟨3, ![1, 256, 6144]⟩
abbrev S1x1x8x1024 : Shape := ⟨4, ![1, 1, 8, 1024]⟩
abbrev S256x1024 : Shape := ⟨2, ![256, 1024]⟩
abbrev S1x1024x1024 : Shape := ⟨3, ![1, 1024, 1024]⟩
abbrev S1x1x1x1024 : Shape := ⟨4, ![1, 1, 1, 1024]⟩
abbrev S1x1024 : Shape := ⟨2, ![1, 1024]⟩

abbrev nBuf : Space → Nat
  | .hbm => 25
  | .vmem => 18
  | .smem => 0
  | _ => 0

abbrev bufTy : (tb : Table) → Fin (tcTables nBuf tb) → BufTy
  | .hbm, ⟨0, _⟩ => ⟨S2x4352x1024, .f32⟩
  | .hbm, ⟨1, _⟩ => ⟨S2x4352x1024, .f32⟩
  | .hbm, ⟨2, _⟩ => ⟨S2x4352x1024, .f32⟩
  | .hbm, ⟨3, _⟩ => ⟨S2x4352x1024, .f32⟩
  | .hbm, ⟨4, _⟩ => ⟨S2x4352x10240, .f32⟩
  | .hbm, ⟨5, _⟩ => ⟨S3x1024x1024, .f32⟩
  | .hbm, ⟨6, _⟩ => ⟨S1024x1024, .f32⟩
  | .hbm, ⟨7, _⟩ => ⟨S16x3072, .f32⟩
  | .hbm, ⟨8, _⟩ => ⟨S2x4352x10240, .bf16⟩
  | .hbm, ⟨9, _⟩ => ⟨S3x1024x1024, .bf16⟩
  | .hbm, ⟨10, _⟩ => ⟨S1024x1024, .bf16⟩
  | .hbm, ⟨11, _⟩ => ⟨S16x3x1024, .f32⟩
  | .hbm, ⟨12, _⟩ => ⟨S2x3x1024, .f32⟩
  | .hbm, ⟨13, _⟩ => ⟨S1x3x1024, .f32⟩
  | .hbm, ⟨14, _⟩ => ⟨S3x1024, .f32⟩
  | .hbm, ⟨15, _⟩ => ⟨S1x3x1024, .f32⟩
  | .hbm, ⟨16, _⟩ => ⟨S2x3x1024, .f32⟩
  | .hbm, ⟨17, _⟩ => ⟨S2x1x3x1024, .f32⟩
  | .hbm, ⟨18, _⟩ => ⟨S2x1x3x1024, .f32⟩
  | .hbm, ⟨19, _⟩ => ⟨S2x2x3x1024, .f32⟩
  | .hbm, ⟨20, _⟩ => ⟨S_, .i32⟩
  | .hbm, ⟨21, _⟩ => ⟨S_, .f32⟩
  | .hbm, ⟨22, _⟩ => ⟨S2x2x8x1024, .f32⟩
  | .hbm, ⟨23, _⟩ => ⟨S2x4352x1024, .f32⟩
  | .hbm, ⟨24, _⟩ => ⟨S2x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x6144, .bf16⟩
  | .local _ .vmem, ⟨9, _⟩ => ⟨S1x256x6144, .bf16⟩
  | .local _ .vmem, ⟨10, _⟩ => ⟨S3x1024x1024, .bf16⟩
  | .local _ .vmem, ⟨11, _⟩ => ⟨S1024x1024, .bf16⟩
  | .local _ .vmem, ⟨12, _⟩ => ⟨S1x1x8x1024, .f32⟩
  | .local _ .vmem, ⟨13, _⟩ => ⟨S1x1x8x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S2x4352x1024 : Shape := ⟨3, ![2, 4352, 1024]⟩
abbrev S2x4352x10240 : Shape := ⟨3, ![2, 4352, 10240]⟩
abbrev S3x1024x1024 : Shape := ⟨3, ![3, 1024, 1024]⟩
abbrev S1024x1024 : Shape := ⟨2, ![1024, 1024]⟩
abbrev S16x3072 : Shape := ⟨2, ![16, 3072]⟩
abbrev S2x4352x6144 : Shape := ⟨3, ![2, 4352, 6144]⟩
abbrev S1x1024x1024 : Shape := ⟨3, ![1, 1024, 1024]⟩
abbrev S_ : Shape := ⟨0, ![]⟩
abbrev S1x1024 : Shape := ⟨2, ![1, 1024]⟩
abbrev S1024 : Shape := ⟨1, ![1024]⟩
abbrev S2x1024 : Shape := ⟨2, ![2, 1024]⟩
abbrev S2x256x1024 : Shape := ⟨3, ![2, 256, 1024]⟩
abbrev S1x1x1024 : Shape := ⟨3, ![1, 1, 1024]⟩
abbrev S2x4096x1024 : Shape := ⟨3, ![2, 4096, 1024]⟩
abbrev S2x1x1024 : Shape := ⟨3, ![2, 1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x4352x1024, .f32⟩
  | .hbm, ⟨2, _⟩ => ⟨S2x4352x1024, .f32⟩
  | .hbm, ⟨3, _⟩ => ⟨S2x4352x1024, .f32⟩
  | .hbm, ⟨4, _⟩ => ⟨S2x4352x10240, .f32⟩
  | .hbm, ⟨5, _⟩ => ⟨S3x1024x1024, .f32⟩
  | .hbm, ⟨6, _⟩ => ⟨S1024x1024, .f32⟩
  | .hbm, ⟨7, _⟩ => ⟨S16x3072, .f32⟩
  | .hbm, ⟨8, _⟩ => ⟨S2x4352x6144, .f32⟩
  | .hbm, ⟨9, _⟩ => ⟨S2x4352x1024, .f32⟩
  | .hbm, ⟨10, _⟩ => ⟨S2x4352x1024, .f32⟩
  | .hbm, ⟨11, _⟩ => ⟨S2x4352x1024, .f32⟩
  | .hbm, ⟨12, _⟩ => ⟨S2x4352x1024, .f32⟩
  | .hbm, ⟨13, _⟩ => ⟨S2x4352x1024, .f32⟩
  | .hbm, ⟨14, _⟩ => ⟨S2x4352x1024, .f32⟩
  | .hbm, ⟨15, _⟩ => ⟨S1x1024x1024, .f32⟩
  | .hbm, ⟨16, _⟩ => ⟨S1024x1024, .f32⟩
  | .hbm, ⟨17, _⟩ => ⟨S2x4352x1024, .f32⟩
  | .hbm, ⟨18, _⟩ => ⟨S2x4352x1024, .f32⟩
  | .hbm, ⟨19, _⟩ => ⟨S_, .f32⟩
  | .hbm, ⟨20, _⟩ => ⟨S2x4352x1024, .f32⟩
  | .hbm, ⟨21, _⟩ => ⟨S2x4352x1024, .f32⟩
  | .hbm, ⟨22, _⟩ => ⟨S_, .f32⟩
  | .hbm, ⟨23, _⟩ => ⟨S2x4352x1024, .f32⟩
  | .hbm, ⟨24, _⟩ => ⟨S2x4352x1024, .f32⟩
  | .hbm, ⟨25, _⟩ => ⟨S2x4352x1024, .f32⟩
  | .hbm, ⟨26, _⟩ => ⟨S2x4352x1024, .f32⟩
  | .hbm, ⟨27, _⟩ => ⟨S2x4352x1024, .f32⟩
  | .hbm, ⟨28, _⟩ => ⟨S1x1024x1024, .f32⟩
  | .hbm, ⟨29, _⟩ => ⟨S1024x1024, .f32⟩
  | .hbm, ⟨30, _⟩ => ⟨S2x4352x1024, .f32⟩
  | .hbm, ⟨31, _⟩ => ⟨S2x4352x1024, .f32⟩
  | .hbm, ⟨32, _⟩ => ⟨S_, .f32⟩
  | .hbm, ⟨33, _⟩ => ⟨S2x4352x1024, .f32⟩
  | .hbm, ⟨34, _⟩ => ⟨S2x4352x1024, .f32⟩
  | .hbm, ⟨35, _⟩ => ⟨S_, .f32⟩
  | .hbm, ⟨36, _⟩ => ⟨S2x4352x1024, .f32⟩
  | .hbm, ⟨37, _⟩ => ⟨S2x4352x1024, .f32⟩
  | .hbm, ⟨38, _⟩ => ⟨S2x4352x1024, .f32⟩
  | .hbm, ⟨39, _⟩ => ⟨S2x4352x1024, .f32⟩
  | .hbm, ⟨40, _⟩ => ⟨S2x4352x1024, .f32⟩
  | .hbm, ⟨41, _⟩ => ⟨S1x1024x1024, .f32⟩
  | .hbm, ⟨42, _⟩ => ⟨S1024x1024, .f32⟩
  | .hbm, ⟨43, _⟩ => ⟨S2x4352x1024, .f32⟩
  | .hbm, ⟨44, _⟩ => ⟨S2x4352x1024, .f32⟩
  | .hbm, ⟨45, _⟩ => ⟨S_, .f32⟩
  | .hbm, ⟨46, _⟩ => ⟨S2x4352x1024, .f32⟩
  | .hbm, ⟨47, _⟩ => ⟨S2x4352x1024, .f32⟩
  | .hbm, ⟨48, _⟩ => ⟨S_, .f32⟩
  | .hbm, ⟨49, _⟩ => ⟨S2x4352x1024, .f32⟩
  | .hbm, ⟨50, _⟩ => ⟨S2x4352x1024, .f32⟩
  | .hbm, ⟨51, _⟩ => ⟨S2x4352x1024, .f32⟩
  | .hbm, ⟨52, _⟩ => ⟨S2x4352x1024, .f32⟩
  | .hbm, ⟨53, _⟩ => ⟨S2x4352x1024, .f32⟩
  | .hbm, ⟨54, _⟩ => ⟨S2x4352x1024, .f32⟩
  | .hbm, ⟨55, _⟩ => ⟨S2x4352x1024, .f32⟩
  | .hbm, ⟨56, _⟩ => ⟨S_, .f32⟩
  | .hbm, ⟨57, _⟩ => ⟨S2x4352x1024, .f32⟩
  | .hbm, ⟨58, _⟩ => ⟨S2x4352x1024, .f32⟩
  | .hbm, ⟨59, _⟩ => ⟨S_, .f32⟩
  | .hbm, ⟨60, _⟩ => ⟨S2x4352x1024, .f32⟩
  | .hbm, ⟨61, _⟩ => ⟨S2x4352x1024, .f32⟩
  | .hbm, ⟨62, _⟩ => ⟨S2x4352x1024, .f32⟩
  | .hbm, ⟨63, _⟩ => ⟨S_, .f32⟩
  | .hbm, ⟨64, _⟩ => ⟨S2x4352x1024, .f32⟩
  | .hbm, ⟨65, _⟩ => ⟨S2x4352x1024, .f32⟩
  | .hbm, ⟨66, _⟩ => ⟨S2x4352x1024, .f32⟩
  | .hbm, ⟨67, _⟩ => ⟨S2x4352x1024, .f32⟩
  | .hbm, ⟨68, _⟩ => ⟨S_, .f32⟩
  | .hbm, ⟨69, _⟩ => ⟨S2x4352x1024, .f32⟩
  | .hbm, ⟨70, _⟩ => ⟨S2x4352x1024, .f32⟩
  | .hbm, ⟨71, _⟩ => ⟨S_, .f32⟩
  | .hbm, ⟨72, _⟩ => ⟨S2x4352x1024, .f32⟩
  | .hbm, ⟨73, _⟩ => ⟨S2x4352x1024, .f32⟩
  | .hbm, ⟨74, _⟩ => ⟨S2x4352x1024, .f32⟩
  | .hbm, ⟨75, _⟩ => ⟨S2x4352x1024, .f32⟩
  | .hbm, ⟨76, _⟩ => ⟨S2x4352x1024, .f32⟩
  | .hbm, ⟨77, _⟩ => ⟨S2x4352x1024, .f32⟩
  | .hbm, ⟨78, _⟩ => ⟨S_, .f32⟩
  | .hbm, ⟨79, _⟩ => ⟨S2x4352x1024, .f32⟩
  | .hbm, ⟨80, _⟩ => ⟨S2x4352x1024, .f32⟩
  | .hbm, ⟨81, _⟩ => ⟨S_, .f32⟩
  | .hbm, ⟨82, _⟩ => ⟨S2x4352x1024, .f32⟩
  | .hbm, ⟨83, _⟩ => ⟨S2x4352x1024, .f32⟩
  | .hbm, ⟨84, _⟩ => ⟨S2x4352x1024, .f32⟩
  | .hbm, ⟨85, _⟩ => ⟨S2x4352x1024, .f32⟩
  | .hbm, ⟨86, _⟩ => ⟨S2x4352x1024, .f32⟩
  | .hbm, ⟨87, _⟩ => ⟨S1x1024, .f32⟩
  | .hbm, ⟨88, _⟩ => ⟨S1024, .f32⟩
  | .hbm, ⟨89, _⟩ => ⟨S2x1024, .f32⟩
  | .hbm, ⟨90, _⟩ => ⟨S2x256x1024, .f32⟩
  | .hbm, ⟨91, _⟩ => ⟨S2x256x1024, .f32⟩
  | .hbm, ⟨92, _⟩ => ⟨S1x1x1024, .f32⟩
  | .hbm, ⟨93, _⟩ => ⟨S2x256x1024, .f32⟩
  | .hbm, ⟨94, _⟩ => ⟨S2x256x1024, .f32⟩
  | .hbm, ⟨95, _⟩ => ⟨S2x256x1024, .f32⟩
  | .hbm, ⟨96, _⟩ => ⟨S2x4096x1024, .f32⟩
  | .hbm, ⟨97, _⟩ => ⟨S2x1x1024, .f32⟩
  | .hbm, ⟨98, _⟩ => ⟨S2x4096x1024, .f32⟩
  | .hbm, ⟨99, _⟩ => ⟨S2x4096x1024, .f32⟩
  | .hbm, ⟨100, _⟩ => ⟨S2x4096x1024, .f32⟩
  | .hbm, ⟨101, _⟩ => ⟨S2x4096x1024, .f32⟩
  | .hbm, ⟨102, _⟩ => ⟨S2x4352x1024, .f32⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst : Ref sig .tc := ⟨.hbm, 56, rfl⟩
abbrev main_v24 : Ref sig .tc := ⟨.hbm, 57, rfl⟩
abbrev main_v25 : Ref sig .tc := ⟨.hbm, 58, rfl⟩
abbrev main_cst_0 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_1 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_2 : Ref sig .tc := ⟨.hbm, 68, rfl⟩
abbrev main_v33 : Ref sig .tc := ⟨.hbm, 69, rfl⟩
abbrev main_v34 : Ref sig .tc := ⟨.hbm, 70, rfl⟩
abbrev main_cst_3 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_4 : Ref sig .tc := ⟨.hbm, 78, rfl⟩
abbrev main_v41 : Ref sig .tc := ⟨.hbm, 79, rfl⟩
abbrev main_v42 : Ref sig .tc := ⟨.hbm, 80, rfl⟩
abbrev main_cst_5 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩

abbrev nD : Nat := 1
abbrev τ : Topo := Topo.v7x

variable {F : FTy → Type} [FloatOps F]
-- ==== BranchGradA.lean ====
abbrev S3x2x4352x1024 : Shape := ⟨4, ![3, 2, 4352, 1024]⟩
abbrev S3x8704x1024 : Shape := ⟨3, ![3, 8704, 1024]⟩
abbrev S1024x1024 : Shape := ⟨2, ![1024, 1024]⟩
abbrev S1x2176x1024 : Shape := ⟨3, ![1, 2176, 1024]⟩
abbrev S2176x1024 : Shape := ⟨2, ![2176, 1024]⟩

abbrev nBuf : Space → Nat
  | .hbm => 7
  | .vmem => 6
  | .smem => 0
  | _ => 0

abbrev bufTy : (tb : Table) → Fin (tcTables nBuf tb) → BufTy
  | .hbm, ⟨0, _⟩ => ⟨S3x2x4352x1024, .f32⟩
  | .hbm, ⟨1, _⟩ => ⟨S3x2x4352x1024, .f32⟩
  | .hbm, ⟨2, _⟩ => ⟨S3x2x4352x1024, .bf16⟩
  | .hbm, ⟨3, _⟩ => ⟨S3x2x4352x1024, .bf16⟩
  | .hbm, ⟨4, _⟩ => ⟨S3x8704x1024, .bf16⟩
  | .hbm, ⟨5, _⟩ => ⟨S3x8704x1024, .bf16⟩
  | .hbm, ⟨6, _⟩ => ⟨S1024x1024, .f32⟩
  | .local _ .vmem, ⟨0, _⟩ => ⟨S1x2176x1024, .bf16⟩
  | .local _ .vmem, ⟨1, _⟩ => ⟨S1x2176x1024, .bf16⟩
  | .local _ .vmem, ⟨2, _⟩ => ⟨S1x2176x1024, .bf16⟩
  | .local _ .vmem, ⟨3, _⟩ => ⟨S1x2176x1024, .bf16⟩
  | .local _ .vmem, ⟨4, _⟩ => ⟨S1024x1024, .f32⟩
  | .local _ .vmem, ⟨5, _⟩ => ⟨S1024x1024, .f32⟩
  | _, _ => ⟨S3x2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchGradAIdeal.lean ====
abbrev S3x2x4352x1024 : Shape := ⟨4, ![3, 2, 4352, 1024]⟩
abbrev S3x8704x1024 : Shape := ⟨3, ![3, 8704, 1024]⟩
abbrev S1024x1024 : Shape := ⟨2, ![1024, 1024]⟩
abbrev S1x2176x1024 : Shape := ⟨3, ![1, 2176, 1024]⟩
abbrev S2176x1024 : Shape := ⟨2, ![2176, 1024]⟩

abbrev nBuf : Space → Nat
  | .hbm => 7
  | .vmem => 6
  | .smem => 0
  | _ => 0

abbrev bufTy : (tb : Table) → Fin (tcTables nBuf tb) → BufTy
  | .hbm, ⟨0, _⟩ => ⟨S3x2x4352x1024, .f32⟩
  | .hbm, ⟨1, _⟩ => ⟨S3x2x4352x1024, .f32⟩
  | .hbm, ⟨2, _⟩ => ⟨S3x2x4352x1024, .bf16⟩
  | .hbm, ⟨3, _⟩ => ⟨S3x2x4352x1024, .bf16⟩
  | .hbm, ⟨4, _⟩ => ⟨S3x8704x1024, .bf16⟩
  | .hbm, ⟨5, _⟩ => ⟨S3x8704x1024, .bf16⟩
  | .hbm, ⟨6, _⟩ => ⟨S1024x1024, .f32⟩
  | .local _ .vmem, ⟨0, _⟩ => ⟨S1x2176x1024, .bf16⟩
  | .local _ .vmem, ⟨1, _⟩ => ⟨S1x2176x1024, .bf16⟩
  | .local _ .vmem, ⟨2, _⟩ => ⟨S1x2176x1024, .bf16⟩
  | .local _ .vmem, ⟨3, _⟩ => ⟨S1x2176x1024, .bf16⟩
  | .local _ .vmem, ⟨4, _⟩ => ⟨S1024x1024, .f32⟩
  | .local _ .vmem, ⟨5, _⟩ => ⟨S1024x1024, .f32⟩
  | _, _ => ⟨S3x2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchGradAReferenceIdeal.lean ====
abbrev S3x2x4352x1024 : Shape := ⟨4, ![3, 2, 4352, 1024]⟩
abbrev S1x2x4352x1024 : Shape := ⟨4, ![1, 2, 4352, 1024]⟩
abbrev S2x4352x1024 : Shape := ⟨3, ![2, 4352, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S3x2x4352x1024, .f32⟩
  | .hbm, ⟨1, _⟩ => ⟨S3x2x4352x1024, .f32⟩
  | .hbm, ⟨2, _⟩ => ⟨S1x2x4352x1024, .f32⟩
  | .hbm, ⟨3, _⟩ => ⟨S2x4352x1024, .f32⟩
  | .hbm, ⟨4, _⟩ => ⟨S1x2x4352x1024, .f32⟩
  | .hbm, ⟨5, _⟩ => ⟨S2x4352x1024, .f32⟩
  | .hbm, ⟨6, _⟩ => ⟨S_, .f32⟩
  | .hbm, ⟨7, _⟩ => ⟨S1024x1024, .f32⟩
  | .hbm, ⟨8, _⟩ => ⟨S2x4352x1024, .f32⟩
  | .hbm, ⟨9, _⟩ => ⟨S1024x1024, .f32⟩
  | .hbm, ⟨10, _⟩ => ⟨S1024x1024, .f32⟩
  | _, _ => ⟨S3x2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BranchGradB.lean ====
abbrev S3x2x4352x1024 : Shape := ⟨4, ![3, 2, 4352, 1024]⟩
abbrev S3x8704x1024 : Shape := ⟨3, ![3, 8704, 1024]⟩
abbrev S1024x1024 : Shape := ⟨2, ![1024, 1024]⟩
abbrev S1x2176x1024 : Shape := ⟨3, ![1, 2176, 1024]⟩
abbrev S2176x1024 : Shape := ⟨2, ![2176, 1024]⟩

abbrev nBuf : Space → Nat
  | .hbm => 7
  | .vmem => 6
  | .smem => 0
  | _ => 0

abbrev bufTy : (tb : Table) → Fin (tcTables nBuf tb) → BufTy
  | .hbm, ⟨0, _⟩ => ⟨S3x2x4352x1024, .f32⟩
  | .hbm, ⟨1, _⟩ => ⟨S3x2x4352x1024, .f32⟩
  | .hbm, ⟨2, _⟩ => ⟨S3x2x4352x1024, .bf16⟩
  | .hbm, ⟨3, _⟩ => ⟨S3x2x4352x1024, .bf16⟩
  | .hbm, ⟨4, _⟩ => ⟨S3x8704x1024, .bf16⟩
  | .hbm, ⟨5, _⟩ => ⟨S3x8704x1024, .bf16⟩
  | .hbm, ⟨6, _⟩ => ⟨S1024x1024, .f32⟩
  | .local _ .vmem, ⟨0, _⟩ => ⟨S1x2176x1024, .bf16⟩
  | .local _ .vmem, ⟨1, _⟩ => ⟨S1x2176x1024, .bf16⟩
  | .local _ .vmem, ⟨2, _⟩ => ⟨S1x2176x1024, .bf16⟩
  | .local _ .vmem, ⟨3, _⟩ => ⟨S1x2176x1024, .bf16⟩
  | .local _ .vmem, ⟨4, _⟩ => ⟨S1024x1024, .f32⟩
  | .local _ .vmem, ⟨5, _⟩ => ⟨S1024x1024, .f32⟩
  | _, _ => ⟨S3x2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchGradBIdeal.lean ====
abbrev S3x2x4352x1024 : Shape := ⟨4, ![3, 2, 4352, 1024]⟩
abbrev S3x8704x1024 : Shape := ⟨3, ![3, 8704, 1024]⟩
abbrev S1024x1024 : Shape := ⟨2, ![1024, 1024]⟩
abbrev S1x2176x1024 : Shape := ⟨3, ![1, 2176, 1024]⟩
abbrev S2176x1024 : Shape := ⟨2, ![2176, 1024]⟩

abbrev nBuf : Space → Nat
  | .hbm => 7
  | .vmem => 6
  | .smem => 0
  | _ => 0

abbrev bufTy : (tb : Table) → Fin (tcTables nBuf tb) → BufTy
  | .hbm, ⟨0, _⟩ => ⟨S3x2x4352x1024, .f32⟩
  | .hbm, ⟨1, _⟩ => ⟨S3x2x4352x1024, .f32⟩
  | .hbm, ⟨2, _⟩ => ⟨S3x2x4352x1024, .bf16⟩
  | .hbm, ⟨3, _⟩ => ⟨S3x2x4352x1024, .bf16⟩
  | .hbm, ⟨4, _⟩ => ⟨S3x8704x1024, .bf16⟩
  | .hbm, ⟨5, _⟩ => ⟨S3x8704x1024, .bf16⟩
  | .hbm, ⟨6, _⟩ => ⟨S1024x1024, .f32⟩
  | .local _ .vmem, ⟨0, _⟩ => ⟨S1x2176x1024, .bf16⟩
  | .local _ .vmem, ⟨1, _⟩ => ⟨S1x2176x1024, .bf16⟩
  | .local _ .vmem, ⟨2, _⟩ => ⟨S1x2176x1024, .bf16⟩
  | .local _ .vmem, ⟨3, _⟩ => ⟨S1x2176x1024, .bf16⟩
  | .local _ .vmem, ⟨4, _⟩ => ⟨S1024x1024, .f32⟩
  | .local _ .vmem, ⟨5, _⟩ => ⟨S1024x1024, .f32⟩
  | _, _ => ⟨S3x2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchGradBReferenceIdeal.lean ====
abbrev S3x2x4352x1024 : Shape := ⟨4, ![3, 2, 4352, 1024]⟩
abbrev S1x2x4352x1024 : Shape := ⟨4, ![1, 2, 4352, 1024]⟩
abbrev S2x4352x1024 : Shape := ⟨3, ![2, 4352, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S3x2x4352x1024, .f32⟩
  | .hbm, ⟨1, _⟩ => ⟨S3x2x4352x1024, .f32⟩
  | .hbm, ⟨2, _⟩ => ⟨S1x2x4352x1024, .f32⟩
  | .hbm, ⟨3, _⟩ => ⟨S2x4352x1024, .f32⟩
  | .hbm, ⟨4, _⟩ => ⟨S1x2x4352x1024, .f32⟩
  | .hbm, ⟨5, _⟩ => ⟨S2x4352x1024, .f32⟩
  | .hbm, ⟨6, _⟩ => ⟨S_, .f32⟩
  | .hbm, ⟨7, _⟩ => ⟨S1024x1024, .f32⟩
  | .hbm, ⟨8, _⟩ => ⟨S2x4352x1024, .f32⟩
  | .hbm, ⟨9, _⟩ => ⟨S1024x1024, .f32⟩
  | .hbm, ⟨10, _⟩ => ⟨S1024x1024, .f32⟩
  | _, _ => ⟨S3x2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BranchGradC.lean ====
abbrev S3x2x4352x1024 : Shape := ⟨4, ![3, 2, 4352, 1024]⟩
abbrev S3x8704x1024 : Shape := ⟨3, ![3, 8704, 1024]⟩
abbrev S1024x1024 : Shape := ⟨2, ![1024, 1024]⟩
abbrev S1x2176x1024 : Shape := ⟨3, ![1, 2176, 1024]⟩
abbrev S2176x1024 : Shape := ⟨2, ![2176, 1024]⟩

abbrev nBuf : Space → Nat
  | .hbm => 7
  | .vmem => 6
  | .smem => 0
  | _ => 0

abbrev bufTy : (tb : Table) → Fin (tcTables nBuf tb) → BufTy
  | .hbm, ⟨0, _⟩ => ⟨S3x2x4352x1024, .f32⟩
  | .hbm, ⟨1, _⟩ => ⟨S3x2x4352x1024, .f32⟩
  | .hbm, ⟨2, _⟩ => ⟨S3x2x4352x1024, .bf16⟩
  | .hbm, ⟨3, _⟩ => ⟨S3x2x4352x1024, .bf16⟩
  | .hbm, ⟨4, _⟩ => ⟨S3x8704x1024, .bf16⟩
  | .hbm, ⟨5, _⟩ => ⟨S3x8704x1024, .bf16⟩
  | .hbm, ⟨6, _⟩ => ⟨S1024x1024, .f32⟩
  | .local _ .vmem, ⟨0, _⟩ => ⟨S1x2176x1024, .bf16⟩
  | .local _ .vmem, ⟨1, _⟩ => ⟨S1x2176x1024, .bf16⟩
  | .local _ .vmem, ⟨2, _⟩ => ⟨S1x2176x1024, .bf16⟩
  | .local _ .vmem, ⟨3, _⟩ => ⟨S1x2176x1024, .bf16⟩
  | .local _ .vmem, ⟨4, _⟩ => ⟨S1024x1024, .f32⟩
  | .local _ .vmem, ⟨5, _⟩ => ⟨S1024x1024, .f32⟩
  | _, _ => ⟨S3x2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchGradCIdeal.lean ====
abbrev S3x2x4352x1024 : Shape := ⟨4, ![3, 2, 4352, 1024]⟩
abbrev S3x8704x1024 : Shape := ⟨3, ![3, 8704, 1024]⟩
abbrev S1024x1024 : Shape := ⟨2, ![1024, 1024]⟩
abbrev S1x2176x1024 : Shape := ⟨3, ![1, 2176, 1024]⟩
abbrev S2176x1024 : Shape := ⟨2, ![2176, 1024]⟩

abbrev nBuf : Space → Nat
  | .hbm => 7
  | .vmem => 6
  | .smem => 0
  | _ => 0

abbrev bufTy : (tb : Table) → Fin (tcTables nBuf tb) → BufTy
  | .hbm, ⟨0, _⟩ => ⟨S3x2x4352x1024, .f32⟩
  | .hbm, ⟨1, _⟩ => ⟨S3x2x4352x1024, .f32⟩
  | .hbm, ⟨2, _⟩ => ⟨S3x2x4352x1024, .bf16⟩
  | .hbm, ⟨3, _⟩ => ⟨S3x2x4352x1024, .bf16⟩
  | .hbm, ⟨4, _⟩ => ⟨S3x8704x1024, .bf16⟩
  | .hbm, ⟨5, _⟩ => ⟨S3x8704x1024, .bf16⟩
  | .hbm, ⟨6, _⟩ => ⟨S1024x1024, .f32⟩
  | .local _ .vmem, ⟨0, _⟩ => ⟨S1x2176x1024, .bf16⟩
  | .local _ .vmem, ⟨1, _⟩ => ⟨S1x2176x1024, .bf16⟩
  | .local _ .vmem, ⟨2, _⟩ => ⟨S1x2176x1024, .bf16⟩
  | .local _ .vmem, ⟨3, _⟩ => ⟨S1x2176x1024, .bf16⟩
  | .local _ .vmem, ⟨4, _⟩ => ⟨S1024x1024, .f32⟩
  | .local _ .vmem, ⟨5, _⟩ => ⟨S1024x1024, .f32⟩
  | _, _ => ⟨S3x2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchGradCReferenceIdeal.lean ====
abbrev S3x2x4352x1024 : Shape := ⟨4, ![3, 2, 4352, 1024]⟩
abbrev S1x2x4352x1024 : Shape := ⟨4, ![1, 2, 4352, 1024]⟩
abbrev S2x4352x1024 : Shape := ⟨3, ![2, 4352, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S3x2x4352x1024, .f32⟩
  | .hbm, ⟨1, _⟩ => ⟨S3x2x4352x1024, .f32⟩
  | .hbm, ⟨2, _⟩ => ⟨S1x2x4352x1024, .f32⟩
  | .hbm, ⟨3, _⟩ => ⟨S2x4352x1024, .f32⟩
  | .hbm, ⟨4, _⟩ => ⟨S1x2x4352x1024, .f32⟩
  | .hbm, ⟨5, _⟩ => ⟨S2x4352x1024, .f32⟩
  | .hbm, ⟨6, _⟩ => ⟨S_, .f32⟩
  | .hbm, ⟨7, _⟩ => ⟨S1024x1024, .f32⟩
  | .hbm, ⟨8, _⟩ => ⟨S2x4352x1024, .f32⟩
  | .hbm, ⟨9, _⟩ => ⟨S1024x1024, .f32⟩
  | .hbm, ⟨10, _⟩ => ⟨S1024x1024, .f32⟩
  | _, _ => ⟨S3x2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutGrad.lean ====
abbrev S2x4352x1024 : Shape := ⟨3, ![2, 4352, 1024]⟩
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4352x1024, .f32⟩
  | .hbm, ⟨1, _⟩ => ⟨S2x4352x1024, .f32⟩
  | .hbm, ⟨2, _⟩ => ⟨S2x4352x1024, .bf16⟩
  | .hbm, ⟨3, _⟩ => ⟨S2x4352x1024, .bf16⟩
  | .hbm, ⟨4, _⟩ => ⟨S8704x1024, .bf16⟩
  | .hbm, ⟨5, _⟩ => ⟨S8704x1024, .bf16⟩
  | .hbm, ⟨6, _⟩ => ⟨S1024x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradReferenceIdeal.lean ====
abbrev S2x4352x1024 : Shape := ⟨3, ![2, 4352, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x4352x1024, .f32⟩
  | .hbm, ⟨2, _⟩ => ⟨S_, .f32⟩
  | .hbm, ⟨3, _⟩ => ⟨S1024x1024, .f32⟩
  | .hbm, ⟨4, _⟩ => ⟨S2x4352x1024, .f32⟩
  | .hbm, ⟨5, _⟩ => ⟨S1024x1024, .f32⟩
  | .hbm, ⟨6, _⟩ => ⟨S1024x1024, .f32⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModulationGrad.lean ====
abbrev S16x1024 : Shape := ⟨2, ![16, 1024]⟩
abbrev S16x3072 : Shape := ⟨2, ![16, 3072]⟩
abbrev S1024x3072 : Shape := ⟨2, ![1024, 3072]⟩
abbrev S1x3072 : Shape := ⟨2, ![1, 3072]⟩
abbrev S3072 : Shape := ⟨1, ![3072]⟩

abbrev nBuf : Space → Nat
  | .hbm => 7
  | .vmem => 6
  | .smem => 0
  | _ => 0

abbrev bufTy : (tb : Table) → Fin (tcTables nBuf tb) → BufTy
  | .hbm, ⟨0, _⟩ => ⟨S16x1024, .f32⟩
  | .hbm, ⟨1, _⟩ => ⟨S16x3072, .f32⟩
  | .hbm, ⟨2, _⟩ => ⟨S1024x3072, .f32⟩
  | .hbm, ⟨3, _⟩ => ⟨S1024x3072, .bf16⟩
  | .hbm, ⟨4, _⟩ => ⟨S1024x3072, .f32⟩
  | .hbm, ⟨5, _⟩ => ⟨S1x3072, .f32⟩
  | .hbm, ⟨6, _⟩ => ⟨S16x1024, .f32⟩
  | .local _ .vmem, ⟨0, _⟩ => ⟨S16x1024, .f32⟩
  | .local _ .vmem, ⟨1, _⟩ => ⟨S16x3072, .f32⟩
  | .local _ .vmem, ⟨2, _⟩ => ⟨S1024x3072, .bf16⟩
  | .local _ .vmem, ⟨3, _⟩ => ⟨S1024x3072, .f32⟩
  | .local _ .vmem, ⟨4, _⟩ => ⟨S1x3072, .f32⟩
  | .local _ .vmem, ⟨5, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ModulationGradReferenceIdeal.lean ====
abbrev S16x1024 : Shape := ⟨2, ![16, 1024]⟩
abbrev S16x3072 : Shape := ⟨2, ![16, 3072]⟩
abbrev S1024x3072 : Shape := ⟨2, ![1024, 3072]⟩
abbrev S_ : Shape := ⟨0, ![]⟩
abbrev S1x3072 : Shape := ⟨2, ![1, 3072]⟩
abbrev S3072 : Shape := ⟨1, ![3072]⟩
abbrev S3072x1024 : Shape := ⟨2, ![3072, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x3072, .f32⟩
  | .hbm, ⟨2, _⟩ => ⟨S1024x3072, .f32⟩
  | .hbm, ⟨3, _⟩ => ⟨S_, .f32⟩
  | .hbm, ⟨4, _⟩ => ⟨S1x3072, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x3072, .f32⟩
  | .hbm, ⟨19, _⟩ => ⟨S16x3072, .f32⟩
  | .hbm, ⟨20, _⟩ => ⟨S16x3072, .f32⟩
  | .hbm, ⟨21, _⟩ => ⟨S16x3072, .f32⟩
  | .hbm, ⟨22, _⟩ => ⟨S_, .f32⟩
  | .hbm, ⟨23, _⟩ => ⟨S3072, .f32⟩
  | .hbm, ⟨24, _⟩ => ⟨S1x3072, .f32⟩
  | .hbm, ⟨25, _⟩ => ⟨S3072x1024, .f32⟩
  | .hbm, ⟨26, _⟩ => ⟨S1024x3072, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S16x1024, .f32⟩
  | .hbm, ⟨31, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Modulation.lean ====
abbrev S16x1024 : Shape := ⟨2, ![16, 1024]⟩
abbrev S1024x3072 : Shape := ⟨2, ![1024, 3072]⟩
abbrev S1x3072 : Shape := ⟨2, ![1, 3072]⟩
abbrev S16x3072 : Shape := ⟨2, ![16, 3072]⟩

abbrev nBuf : Space → Nat
  | .hbm => 5
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S1x3072, .f32⟩
  | .hbm, ⟨3, _⟩ => ⟨S1024x3072, .bf16⟩
  | .hbm, ⟨4, _⟩ => ⟨S16x3072, .f32⟩
  | .local _ .vmem, ⟨0, _⟩ => ⟨S16x1024, .f32⟩
  | .local _ .vmem, ⟨1, _⟩ => ⟨S1024x3072, .bf16⟩
  | .local _ .vmem, ⟨2, _⟩ => ⟨S1x3072, .f32⟩
  | .local _ .vmem, ⟨3, _⟩ => ⟨S16x3072, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModulationReferenceIdeal.lean ====
abbrev S16x1024 : Shape := ⟨2, ![16, 1024]⟩
abbrev S1024x3072 : Shape := ⟨2, ![1024, 3072]⟩
abbrev S1x3072 : Shape := ⟨2, ![1, 3072]⟩
abbrev S_ : Shape := ⟨0, ![]⟩
abbrev S16x3072 : Shape := ⟨2, ![16, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S1x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x3072, .f32⟩
  | .hbm, ⟨13, _⟩ => ⟨S16x3072, .f32⟩
  | .hbm, ⟨14, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Norm.lean ====
abbrev S2x4352x1024 : Shape := ⟨3, ![2, 4352, 1024]⟩
abbrev S1x1024 : Shape := ⟨2, ![1, 1024]⟩
abbrev S16x3072 : Shape := ⟨2, ![16, 3072]⟩
abbrev S16x3x1024 : Shape := ⟨3, ![16, 3, 1024]⟩
abbrev S2x3x1024 : Shape := ⟨3, ![2, 3, 1024]⟩
abbrev S1x3x1024 : Shape := ⟨3, ![1, 3, 1024]⟩
abbrev S3x1024 : Shape := ⟨2, ![3, 1024]⟩
abbrev S2x1x3x1024 : Shape := ⟨4, ![2, 1, 3, 1024]⟩
abbrev S2x2x3x1024 : Shape := ⟨4, ![2, 2, 3, 1024]⟩
abbrev S_ : Shape := ⟨0, ![]⟩
abbrev S2x2x8x1024 : Shape := ⟨4, ![2, 2, 8, 1024]⟩
abbrev S1x256x1024 : Shape := ⟨3, ![1, 256, 1024]⟩
abbrev S1x1x8x1024 : Shape := ⟨4, ![1, 1, 8, 1024]⟩
abbrev S256x1024 : Shape := ⟨2, ![256, 1024]⟩
abbrev S256 : Shape := ⟨1, ![256]⟩
abbrev S256x1 : Shape := ⟨2, ![256, 1]⟩
abbrev S1x1x1x1024 : Shape := ⟨4, ![1, 1, 1, 1024]⟩

abbrev nBuf : Space → Nat
  | .hbm => 16
  | .vmem => 7
  | .smem => 0
  | _ => 0

abbrev bufTy : (tb : Table) → Fin (tcTables nBuf tb) → BufTy
  | .hbm, ⟨0, _⟩ => ⟨S2x4352x1024, .f32⟩
  | .hbm, ⟨1, _⟩ => ⟨S1x1024, .f32⟩
  | .hbm, ⟨2, _⟩ => ⟨S16x3072, .f32⟩
  | .hbm, ⟨3, _⟩ => ⟨S16x3x1024, .f32⟩
  | .hbm, ⟨4, _⟩ => ⟨S2x3x1024, .f32⟩
  | .hbm, ⟨5, _⟩ => ⟨S1x3x1024, .f32⟩
  | .hbm, ⟨6, _⟩ => ⟨S3x1024, .f32⟩
  | .hbm, ⟨7, _⟩ => ⟨S1x3x1024, .f32⟩
  | .hbm, ⟨8, _⟩ => ⟨S2x3x1024, .f32⟩
  | .hbm, ⟨9, _⟩ => ⟨S2x1x3x1024, .f32⟩
  | .hbm, ⟨10, _⟩ => ⟨S2x1x3x1024, .f32⟩
  | .hbm, ⟨11, _⟩ => ⟨S2x2x3x1024, .f32⟩
  | .hbm, ⟨12, _⟩ => ⟨S_, .i32⟩
  | .hbm, ⟨13, _⟩ => ⟨S_, .f32⟩
  | .hbm, ⟨14, _⟩ => ⟨S2x2x8x1024, .f32⟩
  | .hbm, ⟨15, _⟩ => ⟨S2x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1x256x1024, .bf16⟩
  | .local _ .vmem, ⟨6, _⟩ => ⟨S1x256x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormReferenceIdeal.lean ====
abbrev S2x4352x1024 : Shape := ⟨3, ![2, 4352, 1024]⟩
abbrev S1x1024 : Shape := ⟨2, ![1, 1024]⟩
abbrev S16x3072 : Shape := ⟨2, ![16, 3072]⟩
abbrev S1024 : Shape := ⟨1, ![1024]⟩
abbrev S2x1024 : Shape := ⟨2, ![2, 1024]⟩
abbrev S2x256x1024 : Shape := ⟨3, ![2, 256, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x4096x1024 : Shape := ⟨3, ![2, 4096, 1024]⟩
abbrev S2x4096 : Shape := ⟨2, ![2, 4096]⟩
abbrev S2x4096x1 : Shape := ⟨3, ![2, 4096, 1]⟩
abbrev S2x1x1024 : Shape := ⟨3, ![2, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S1x1024, .f32⟩
  | .hbm, ⟨2, _⟩ => ⟨S16x3072, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S_, .f32⟩
  | .hbm, ⟨18, _⟩ => ⟨S2x256x1, .f32⟩
  | .hbm, ⟨19, _⟩ => ⟨S2x256x1, .f32⟩
  | .hbm, ⟨20, _⟩ => ⟨S2x256x1, .f32⟩
  | .hbm, ⟨21, _⟩ => ⟨S2x256x1024, .f32⟩
  | .hbm, ⟨22, _⟩ => ⟨S2x256x1024, .f32⟩
  | .hbm, ⟨23, _⟩ => ⟨S1x1x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1x1024, .f32⟩
  | .hbm, ⟨30, _⟩ => ⟨S2x256x1024, .f32⟩
  | .hbm, ⟨31, _⟩ => ⟨S2x256x1024, .f32⟩
  | .hbm, ⟨32, _⟩ => ⟨S1x1x1024, .f32⟩
  | .hbm, ⟨33, _⟩ => ⟨S2x256x1024, .f32⟩
  | .hbm, ⟨34, _⟩ => ⟨S2x256x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x1024, .f32⟩
  | .hbm, ⟨48, _⟩ => ⟨S2x4096x1024, .f32⟩
  | .hbm, ⟨49, _⟩ => ⟨S1x1x1024, .f32⟩
  | .hbm, ⟨50, _⟩ => ⟨S2x4096x1024, .f32⟩
  | .hbm, ⟨51, _⟩ => ⟨S2x4096x1024, .f32⟩
  | .hbm, ⟨52, _⟩ => ⟨S2x1x1024, .f32⟩
  | .hbm, ⟨53, _⟩ => ⟨S_, .f32⟩
  | .hbm, ⟨54, _⟩ => ⟨S2x1x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S2x1x1024, .f32⟩
  | .hbm, ⟨59, _⟩ => ⟨S2x4096x1024, .f32⟩
  | .hbm, ⟨60, _⟩ => ⟨S2x4096x1024, .f32⟩
  | .hbm, ⟨61, _⟩ => ⟨S2x4352x1024, .f32⟩
  | .hbm, ⟨62, _⟩ => ⟨S2x4352x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== AdamIn.lean ====
abbrev S4x1024x2560 : Shape := ⟨3, ![4, 1024, 2560]⟩
abbrev S4096x2560 : Shape := ⟨2, ![4096, 2560]⟩
abbrev S64x2560 : Shape := ⟨2, ![64, 2560]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2560, .f32⟩
  | .hbm, ⟨1, _⟩ => ⟨S4x1024x2560, .f32⟩
  | .hbm, ⟨2, _⟩ => ⟨S4x1024x2560, .f32⟩
  | .hbm, ⟨3, _⟩ => ⟨S4x1024x2560, .f32⟩
  | .hbm, ⟨4, _⟩ => ⟨S4096x2560, .f32⟩
  | .hbm, ⟨5, _⟩ => ⟨S4096x2560, .f32⟩
  | .hbm, ⟨6, _⟩ => ⟨S4096x2560, .f32⟩
  | .hbm, ⟨7, _⟩ => ⟨S4096x2560, .f32⟩
  | .hbm, ⟨8, _⟩ => ⟨S4096x2560, .f32⟩
  | .hbm, ⟨9, _⟩ => ⟨S4096x2560, .f32⟩
  | .hbm, ⟨10, _⟩ => ⟨S4096x2560, .f32⟩
  | .local _ .vmem, ⟨0, _⟩ => ⟨S64x2560, .f32⟩
  | .local _ .vmem, ⟨1, _⟩ => ⟨S64x2560, .f32⟩
  | .local _ .vmem, ⟨2, _⟩ => ⟨S64x2560, .f32⟩
  | .local _ .vmem, ⟨3, _⟩ => ⟨S64x2560, .f32⟩
  | .local _ .vmem, ⟨4, _⟩ => ⟨S64x2560, .f32⟩
  | .local _ .vmem, ⟨5, _⟩ => ⟨S64x2560, .f32⟩
  | .local _ .vmem, ⟨6, _⟩ => ⟨S64x2560, .f32⟩
  | .local _ .vmem, ⟨7, _⟩ => ⟨S64x2560, .f32⟩
  | .local _ .vmem, ⟨8, _⟩ => ⟨S64x2560, .f32⟩
  | .local _ .vmem, ⟨9, _⟩ => ⟨S64x2560, .f32⟩
  | .local _ .vmem, ⟨10, _⟩ => ⟨S64x2560, .f32⟩
  | .local _ .vmem, ⟨11, _⟩ => ⟨S64x2560, .f32⟩
  | .local _ .vmem, ⟨12, _⟩ => ⟨S64x2560, .f32⟩
  | .local _ .vmem, ⟨13, _⟩ => ⟨S64x2560, .f32⟩
  | _, _ => ⟨S4x1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x1024x2560 : Shape := ⟨3, ![4, 1024, 2560]⟩
abbrev S4096x2560 : Shape := ⟨2, ![4096, 2560]⟩
abbrev S64x2560 : Shape := ⟨2, ![64, 2560]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2560, .f32⟩
  | .hbm, ⟨1, _⟩ => ⟨S4x1024x2560, .f32⟩
  | .hbm, ⟨2, _⟩ => ⟨S4x1024x2560, .f32⟩
  | .hbm, ⟨3, _⟩ => ⟨S4x1024x2560, .f32⟩
  | .hbm, ⟨4, _⟩ => ⟨S4096x2560, .f32⟩
  | .hbm, ⟨5, _⟩ => ⟨S4096x2560, .f32⟩
  | .hbm, ⟨6, _⟩ => ⟨S4096x2560, .f32⟩
  | .hbm, ⟨7, _⟩ => ⟨S4096x2560, .f32⟩
  | .hbm, ⟨8, _⟩ => ⟨S4096x2560, .f32⟩
  | .hbm, ⟨9, _⟩ => ⟨S4096x2560, .f32⟩
  | .hbm, ⟨10, _⟩ => ⟨S4096x2560, .f32⟩
  | .local _ .vmem, ⟨0, _⟩ => ⟨S64x2560, .f32⟩
  | .local _ .vmem, ⟨1, _⟩ => ⟨S64x2560, .f32⟩
  | .local _ .vmem, ⟨2, _⟩ => ⟨S64x2560, .f32⟩
  | .local _ .vmem, ⟨3, _⟩ => ⟨S64x2560, .f32⟩
  | .local _ .vmem, ⟨4, _⟩ => ⟨S64x2560, .f32⟩
  | .local _ .vmem, ⟨5, _⟩ => ⟨S64x2560, .f32⟩
  | .local _ .vmem, ⟨6, _⟩ => ⟨S64x2560, .f32⟩
  | .local _ .vmem, ⟨7, _⟩ => ⟨S64x2560, .f32⟩
  | .local _ .vmem, ⟨8, _⟩ => ⟨S64x2560, .f32⟩
  | .local _ .vmem, ⟨9, _⟩ => ⟨S64x2560, .f32⟩
  | .local _ .vmem, ⟨10, _⟩ => ⟨S64x2560, .f32⟩
  | .local _ .vmem, ⟨11, _⟩ => ⟨S64x2560, .f32⟩
  | .local _ .vmem, ⟨12, _⟩ => ⟨S64x2560, .f32⟩
  | .local _ .vmem, ⟨13, _⟩ => ⟨S64x2560, .f32⟩
  | _, _ => ⟨S4x1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S4x1024x2560 : Shape := ⟨3, ![4, 1024, 2560]⟩
abbrev S_ : Shape := ⟨0, ![]⟩
abbrev S4096x2560 : Shape := ⟨2, ![4096, 2560]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2560, .f32⟩
  | .hbm, ⟨1, _⟩ => ⟨S4x1024x2560, .f32⟩
  | .hbm, ⟨2, _⟩ => ⟨S4x1024x2560, .f32⟩
  | .hbm, ⟨3, _⟩ => ⟨S4x1024x2560, .f32⟩
  | .hbm, ⟨4, _⟩ => ⟨S_, .f32⟩
  | .hbm, ⟨5, _⟩ => ⟨S4x1024x2560, .f32⟩
  | .hbm, ⟨6, _⟩ => ⟨S4x1024x2560, .f32⟩
  | .hbm, ⟨7, _⟩ => ⟨S_, .f32⟩
  | .hbm, ⟨8, _⟩ => ⟨S4x1024x2560, .f32⟩
  | .hbm, ⟨9, _⟩ => ⟨S4x1024x2560, .f32⟩
  | .hbm, ⟨10, _⟩ => ⟨S4x1024x2560, .f32⟩
  | .hbm, ⟨11, _⟩ => ⟨S_, .f32⟩
  | .hbm, ⟨12, _⟩ => ⟨S4x1024x2560, .f32⟩
  | .hbm, ⟨13, _⟩ => ⟨S4x1024x2560, .f32⟩
  | .hbm, ⟨14, _⟩ => ⟨S4x1024x2560, .f32⟩
  | .hbm, ⟨15, _⟩ => ⟨S_, .f32⟩
  | .hbm, ⟨16, _⟩ => ⟨S4x1024x2560, .f32⟩
  | .hbm, ⟨17, _⟩ => ⟨S4x1024x2560, .f32⟩
  | .hbm, ⟨18, _⟩ => ⟨S4x1024x2560, .f32⟩
  | .hbm, ⟨19, _⟩ => ⟨S_, .f32⟩
  | .hbm, ⟨20, _⟩ => ⟨S4x1024x2560, .f32⟩
  | .hbm, ⟨21, _⟩ => ⟨S4x1024x2560, .f32⟩
  | .hbm, ⟨22, _⟩ => ⟨S_, .f32⟩
  | .hbm, ⟨23, _⟩ => ⟨S4x1024x2560, .f32⟩
  | .hbm, ⟨24, _⟩ => ⟨S4x1024x2560, .f32⟩
  | .hbm, ⟨25, _⟩ => ⟨S4x1024x2560, .f32⟩
  | .hbm, ⟨26, _⟩ => ⟨S_, .f32⟩
  | .hbm, ⟨27, _⟩ => ⟨S4x1024x2560, .f32⟩
  | .hbm, ⟨28, _⟩ => ⟨S4x1024x2560, .f32⟩
  | .hbm, ⟨29, _⟩ => ⟨S4x1024x2560, .f32⟩
  | .hbm, ⟨30, _⟩ => ⟨S_, .f32⟩
  | .hbm, ⟨31, _⟩ => ⟨S4x1024x2560, .f32⟩
  | .hbm, ⟨32, _⟩ => ⟨S4x1024x2560, .f32⟩
  | .hbm, ⟨33, _⟩ => ⟨S4x1024x2560, .f32⟩
  | .hbm, ⟨34, _⟩ => ⟨S_, .f32⟩
  | .hbm, ⟨35, _⟩ => ⟨S4x1024x2560, .f32⟩
  | .hbm, ⟨36, _⟩ => ⟨S4x1024x2560, .f32⟩
  | .hbm, ⟨37, _⟩ => ⟨S4096x2560, .f32⟩
  | .hbm, ⟨38, _⟩ => ⟨S4096x2560, .f32⟩
  | .hbm, ⟨39, _⟩ => ⟨S4096x2560, .f32⟩
  | _, _ => ⟨S4x1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMod.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModIdeal.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModReferenceIdeal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBranch.lean ====
abbrev S4x3x256x1024 : Shape := ⟨4, ![4, 3, 256, 1024]⟩
abbrev S3072x1024 : Shape := ⟨2, ![3072, 1024]⟩
abbrev S192x1024 : Shape := ⟨2, ![192, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x3x256x1024, .f32⟩
  | .hbm, ⟨1, _⟩ => ⟨S4x3x256x1024, .f32⟩
  | .hbm, ⟨2, _⟩ => ⟨S4x3x256x1024, .f32⟩
  | .hbm, ⟨3, _⟩ => ⟨S4x3x256x1024, .f32⟩
  | .hbm, ⟨4, _⟩ => ⟨S3072x1024, .f32⟩
  | .hbm, ⟨5, _⟩ => ⟨S3072x1024, .f32⟩
  | .hbm, ⟨6, _⟩ => ⟨S3072x1024, .f32⟩
  | .hbm, ⟨7, _⟩ => ⟨S3072x1024, .f32⟩
  | .hbm, ⟨8, _⟩ => ⟨S3072x1024, .f32⟩
  | .hbm, ⟨9, _⟩ => ⟨S3072x1024, .f32⟩
  | .hbm, ⟨10, _⟩ => ⟨S3072x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | _, _ => ⟨S4x3x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchIdeal.lean ====
abbrev S4x3x256x1024 : Shape := ⟨4, ![4, 3, 256, 1024]⟩
abbrev S3072x1024 : Shape := ⟨2, ![3072, 1024]⟩
abbrev S192x1024 : Shape := ⟨2, ![192, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x3x256x1024, .f32⟩
  | .hbm, ⟨1, _⟩ => ⟨S4x3x256x1024, .f32⟩
  | .hbm, ⟨2, _⟩ => ⟨S4x3x256x1024, .f32⟩
  | .hbm, ⟨3, _⟩ => ⟨S4x3x256x1024, .f32⟩
  | .hbm, ⟨4, _⟩ => ⟨S3072x1024, .f32⟩
  | .hbm, ⟨5, _⟩ => ⟨S3072x1024, .f32⟩
  | .hbm, ⟨6, _⟩ => ⟨S3072x1024, .f32⟩
  | .hbm, ⟨7, _⟩ => ⟨S3072x1024, .f32⟩
  | .hbm, ⟨8, _⟩ => ⟨S3072x1024, .f32⟩
  | .hbm, ⟨9, _⟩ => ⟨S3072x1024, .f32⟩
  | .hbm, ⟨10, _⟩ => ⟨S3072x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | _, _ => ⟨S4x3x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchReferenceIdeal.lean ====
abbrev S4x3x256x1024 : Shape := ⟨4, ![4, 3, 256, 1024]⟩
abbrev S_ : Shape := ⟨0, ![]⟩
abbrev S3072x1024 : Shape := ⟨2, ![3072, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x3x256x1024, .f32⟩
  | .hbm, ⟨1, _⟩ => ⟨S4x3x256x1024, .f32⟩
  | .hbm, ⟨2, _⟩ => ⟨S4x3x256x1024, .f32⟩
  | .hbm, ⟨3, _⟩ => ⟨S4x3x256x1024, .f32⟩
  | .hbm, ⟨4, _⟩ => ⟨S_, .f32⟩
  | .hbm, ⟨5, _⟩ => ⟨S4x3x256x1024, .f32⟩
  | .hbm, ⟨6, _⟩ => ⟨S4x3x256x1024, .f32⟩
  | .hbm, ⟨7, _⟩ => ⟨S_, .f32⟩
  | .hbm, ⟨8, _⟩ => ⟨S4x3x256x1024, .f32⟩
  | .hbm, ⟨9, _⟩ => ⟨S4x3x256x1024, .f32⟩
  | .hbm, ⟨10, _⟩ => ⟨S4x3x256x1024, .f32⟩
  | .hbm, ⟨11, _⟩ => ⟨S_, .f32⟩
  | .hbm, ⟨12, _⟩ => ⟨S4x3x256x1024, .f32⟩
  | .hbm, ⟨13, _⟩ => ⟨S4x3x256x1024, .f32⟩
  | .hbm, ⟨14, _⟩ => ⟨S4x3x256x1024, .f32⟩
  | .hbm, ⟨15, _⟩ => ⟨S_, .f32⟩
  | .hbm, ⟨16, _⟩ => ⟨S4x3x256x1024, .f32⟩
  | .hbm, ⟨17, _⟩ => ⟨S4x3x256x1024, .f32⟩
  | .hbm, ⟨18, _⟩ => ⟨S4x3x256x1024, .f32⟩
  | .hbm, ⟨19, _⟩ => ⟨S_, .f32⟩
  | .hbm, ⟨20, _⟩ => ⟨S4x3x256x1024, .f32⟩
  | .hbm, ⟨21, _⟩ => ⟨S4x3x256x1024, .f32⟩
  | .hbm, ⟨22, _⟩ => ⟨S_, .f32⟩
  | .hbm, ⟨23, _⟩ => ⟨S4x3x256x1024, .f32⟩
  | .hbm, ⟨24, _⟩ => ⟨S4x3x256x1024, .f32⟩
  | .hbm, ⟨25, _⟩ => ⟨S4x3x256x1024, .f32⟩
  | .hbm, ⟨26, _⟩ => ⟨S_, .f32⟩
  | .hbm, ⟨27, _⟩ => ⟨S4x3x256x1024, .f32⟩
  | .hbm, ⟨28, _⟩ => ⟨S4x3x256x1024, .f32⟩
  | .hbm, ⟨29, _⟩ => ⟨S4x3x256x1024, .f32⟩
  | .hbm, ⟨30, _⟩ => ⟨S_, .f32⟩
  | .hbm, ⟨31, _⟩ => ⟨S4x3x256x1024, .f32⟩
  | .hbm, ⟨32, _⟩ => ⟨S4x3x256x1024, .f32⟩
  | .hbm, ⟨33, _⟩ => ⟨S4x3x256x1024, .f32⟩
  | .hbm, ⟨34, _⟩ => ⟨S_, .f32⟩
  | .hbm, ⟨35, _⟩ => ⟨S4x3x256x1024, .f32⟩
  | .hbm, ⟨36, _⟩ => ⟨S4x3x256x1024, .f32⟩
  | .hbm, ⟨37, _⟩ => ⟨S3072x1024, .f32⟩
  | .hbm, ⟨38, _⟩ => ⟨S3072x1024, .f32⟩
  | .hbm, ⟨39, _⟩ => ⟨S3072x1024, .f32⟩
  | _, _ => ⟨S4x3x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S10240x128 : Shape := ⟨2, ![10240, 128]⟩
abbrev S1280x128 : Shape := ⟨2, ![1280, 128]⟩

abbrev nBuf : Space → Nat
  | .hbm => 7
  | .vmem => 14
  | .smem => 0
  | _ => 0

abbrev bufTy : (tb : Table) → Fin (tcTables nBuf tb) → BufTy
  | .hbm, ⟨0, _⟩ => ⟨S10240x128, .f32⟩
  | .hbm, ⟨1, _⟩ => ⟨S10240x128, .f32⟩
  | .hbm, ⟨2, _⟩ => ⟨S10240x128, .f32⟩
  | .hbm, ⟨3, _⟩ => ⟨S10240x128, .f32⟩
  | .hbm, ⟨4, _⟩ => ⟨S10240x128, .f32⟩
  | .hbm, ⟨5, _⟩ => ⟨S10240x128, .f32⟩
  | .hbm, ⟨6, _⟩ => ⟨S10240x128, .f32⟩
  | .local _ .vmem, ⟨0, _⟩ => ⟨S1280x128, .f32⟩
  | .local _ .vmem, ⟨1, _⟩ => ⟨S1280x128, .f32⟩
  | .local _ .vmem, ⟨2, _⟩ => ⟨S1280x128, .f32⟩
  | .local _ .vmem, ⟨3, _⟩ => ⟨S1280x128, .f32⟩
  | .local _ .vmem, ⟨4, _⟩ => ⟨S1280x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | .local _ .vmem, ⟨8, _⟩ => ⟨S1280x128, .f32⟩
  | .local _ .vmem, ⟨9, _⟩ => ⟨S1280x128, .f32⟩
  | .local _ .vmem, ⟨10, _⟩ => ⟨S1280x128, .f32⟩
  | .local _ .vmem, ⟨11, _⟩ => ⟨S1280x128, .f32⟩
  | .local _ .vmem, ⟨12, _⟩ => ⟨S1280x128, .f32⟩
  | .local _ .vmem, ⟨13, _⟩ => ⟨S1280x128, .f32⟩
  | _, _ => ⟨S10240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S10240x128 : Shape := ⟨2, ![10240, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S10240x128, .f32⟩
  | .hbm, ⟨1, _⟩ => ⟨S10240x128, .f32⟩
  | .hbm, ⟨2, _⟩ => ⟨S10240x128, .f32⟩
  | .hbm, ⟨3, _⟩ => ⟨S10240x128, .f32⟩
  | .hbm, ⟨4, _⟩ => ⟨S_, .f32⟩
  | .hbm, ⟨5, _⟩ => ⟨S10240x128, .f32⟩
  | .hbm, ⟨6, _⟩ => ⟨S10240x128, .f32⟩
  | .hbm, ⟨7, _⟩ => ⟨S_, .f32⟩
  | .hbm, ⟨8, _⟩ => ⟨S10240x128, .f32⟩
  | .hbm, ⟨9, _⟩ => ⟨S10240x128, .f32⟩
  | .hbm, ⟨10, _⟩ => ⟨S10240x128, .f32⟩
  | .hbm, ⟨11, _⟩ => ⟨S_, .f32⟩
  | .hbm, ⟨12, _⟩ => ⟨S10240x128, .f32⟩
  | .hbm, ⟨13, _⟩ => ⟨S10240x128, .f32⟩
  | .hbm, ⟨14, _⟩ => ⟨S10240x128, .f32⟩
  | .hbm, ⟨15, _⟩ => ⟨S_, .f32⟩
  | .hbm, ⟨16, _⟩ => ⟨S10240x128, .f32⟩
  | .hbm, ⟨17, _⟩ => ⟨S10240x128, .f32⟩
  | .hbm, ⟨18, _⟩ => ⟨S10240x128, .f32⟩
  | .hbm, ⟨19, _⟩ => ⟨S_, .f32⟩
  | .hbm, ⟨20, _⟩ => ⟨S10240x128, .f32⟩
  | .hbm, ⟨21, _⟩ => ⟨S10240x128, .f32⟩
  | .hbm, ⟨22, _⟩ => ⟨S_, .f32⟩
  | .hbm, ⟨23, _⟩ => ⟨S10240x128, .f32⟩
  | .hbm, ⟨24, _⟩ => ⟨S10240x128, .f32⟩
  | .hbm, ⟨25, _⟩ => ⟨S10240x128, .f32⟩
  | .hbm, ⟨26, _⟩ => ⟨S_, .f32⟩
  | .hbm, ⟨27, _⟩ => ⟨S10240x128, .f32⟩
  | .hbm, ⟨28, _⟩ => ⟨S10240x128, .f32⟩
  | .hbm, ⟨29, _⟩ => ⟨S10240x128, .f32⟩
  | .hbm, ⟨30, _⟩ => ⟨S_, .f32⟩
  | .hbm, ⟨31, _⟩ => ⟨S10240x128, .f32⟩
  | .hbm, ⟨32, _⟩ => ⟨S10240x128, .f32⟩
  | .hbm, ⟨33, _⟩ => ⟨S10240x128, .f32⟩
  | .hbm, ⟨34, _⟩ => ⟨S_, .f32⟩
  | .hbm, ⟨35, _⟩ => ⟨S10240x128, .f32⟩
  | .hbm, ⟨36, _⟩ => ⟨S10240x128, .f32⟩
  | _, _ => ⟨S10240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Softmax.lean ====
/- Softmax of a row of real logits on the extended reals: the form the kernel computes (powers of two, one
   division at the end), the form the reference writes (exponentials of the scaled logits, a division per key), and
   the real function both are. -/
module

public import Idealize.ShloMosaic.PureOps.Ideal.Laws

@[expose] public section

noncomputable section

namespace Cert.Attention

open Idealize.ShloMosaic

/-- The scale of the logits: the number the f32 literal of `128 ** -0.5` denotes. -/
def scale : ℝ := 11863283 / 134217728

theorem scale_pos : 0 < scale := by unfold scale; norm_num

/-- The literal of the scale denotes `scale`. -/
theorem ofBits_scale : Ideal.ofBits .f32 0x3DB504F3#32 = (scale : EReal) := by
  show Ideal.ieee 8 23 0x3DB504F3#32 = _
  unfold Ideal.ieee scale
  dsimp only
  rw [if_neg (by decide), if_neg (by decide)]
  congr 1
  have h : ((BitVec.extractLsb' 23 8 0x3DB504F3#32).toNat) = 123 := by decide
  have h' : ((BitVec.extractLsb' 0 23 0x3DB504F3#32).toNat) = 3474675 := by decide
  have h'' : (BitVec.extractLsb' (8 + 23) 1 0x3DB504F3#32 == 1#1) = false := by decide
  rw [h, h', h'']
  norm_num

/-- The literal that maxima start from denotes `-∞`. -/
theorem ofBits_bot : Ideal.ofBits .f32 0xFF800000#32 = ⊥ := by simp [Ideal.ofBits, Ideal.ieee]

/-- The literal that sums start from denotes zero. -/
theorem ofBits_zero : Ideal.ofBits .f32 0x00000000#32 = 0 := by simp [Ideal.ofBits, Ideal.ieee]

/-- The logarithm of two is positive. -/
theorem log_two_pos : 0 < Real.log 2 := Real.log_pos (by norm_num)

/-- Two to the power of a real multiple of `1 / log 2` is an exponential. -/
theorem exp2_coe (x : ℝ) : Ideal.exp2 ((x * (Real.log 2)⁻¹ : ℝ) : EReal) = (Real.exp x : EReal) := by
  show ((Real.rpow 2 (x * (Real.log 2)⁻¹) : ℝ) : EReal) = _
  congr 1
  show (2 : ℝ) ^ (x * (Real.log 2)⁻¹) = _
  rw [Real.rpow_def_of_pos (by norm_num)]
  congr 1
  field_simp [log_two_pos.ne']

theorem exp_coe (x : ℝ) : Ideal.exp (x : EReal) = (Real.exp x : EReal) := rfl

theorem log_coe {x : ℝ} (h : 0 < x) : Ideal.log (x : EReal) = (Real.log x : EReal) := if_neg h.not_ge

/-- A quotient by a positive real is a product with its inverse. -/
theorem div_pos (x : EReal) {y : ℝ} (h : 0 < y) : Ideal.div x (y : EReal) = x * ((y⁻¹ : ℝ) : EReal) := by
  unfold Ideal.div
  rw [if_neg (by exact_mod_cast h.ne'), EReal.coe_inv]

theorem div_coe_pos (x : ℝ) {y : ℝ} (h : 0 < y) : Ideal.div (x : EReal) (y : EReal) = ((x / y : ℝ) : EReal) := by
  rw [div_pos _ h, ← EReal.coe_mul, div_eq_mul_inv]

/-- A sum of real numbers is the real sum. -/
theorem coe_sum {ι : Type} (t : Finset ι) (f : ι → ℝ) : ∑ j ∈ t, (f j : EReal) = ((∑ j ∈ t, f j : ℝ) : EReal) :=
  (map_sum (⟨⟨Real.toEReal, rfl⟩, EReal.coe_add⟩ : ℝ →+ EReal) f t).symm

/-- A sum of products of real numbers is the real sum of products. -/
theorem coe_sum_mul {ι : Type} (t : Finset ι) (f g : ι → ℝ) :
    ∑ j ∈ t, (f j : EReal) * (g j : EReal) = ((∑ j ∈ t, f j * g j : ℝ) : EReal) := by
  rw [← coe_sum]; exact Finset.sum_congr rfl fun j _ => (EReal.coe_mul _ _).symm

/-- A nonnegative real factor goes into a sum of extended reals. -/
theorem sum_mul_coe {ι : Type} (t : Finset ι) (f : ι → EReal) {r : ℝ} (h : 0 ≤ r) :
    (∑ j ∈ t, f j) * (r : EReal) = ∑ j ∈ t, f j * (r : EReal) := by
  classical
  induction t using Finset.induction_on with
  | empty => simp
  | insert a s ha ih =>
    rw [Finset.sum_insert ha, Finset.sum_insert ha, ← ih]
    exact EReal.right_distrib_of_nonneg_of_ne_top (by exact_mod_cast h) (EReal.coe_ne_top r) _ _

/-- The maximum of real numbers, taken from `-∞`, is a real number. -/
theorem exists_fold_max {n : ℕ} [NeZero n] (s : Fin n → ℝ) :
    ∃ M : ℝ, Finset.univ.fold max (⊥ : EReal) (fun j => (s j : EReal)) = (M : EReal) := by
  have key : ∀ t : Finset (Fin n), t.Nonempty → ∃ M : ℝ, t.fold max (⊥ : EReal) (fun j => (s j : EReal)) = (M : EReal) := by
    intro t ht
    induction ht using Finset.Nonempty.cons_induction with
    | singleton a => exact ⟨s a, by simp⟩
    | cons a t ha _ ih =>
      obtain ⟨M, hM⟩ := ih
      exact ⟨max (s a) M, by rw [Finset.fold_cons, hM]; exact (EReal.coe_strictMono.monotone.map_max).symm⟩
  exact key _ Finset.univ_nonempty

variable {n : ℕ}

/-- The normaliser of a row of logits. -/
def total (s : Fin n → ℝ) : ℝ := ∑ j, Real.exp (s j * scale)

/-- The softmax weight of key `j`. -/
def weight (s : Fin n → ℝ) (j : Fin n) : ℝ := Real.exp (s j * scale) / total s

/-- The logarithm of the normaliser. -/
def logTotal (s : Fin n → ℝ) : ℝ := Real.log (total s)

theorem total_pos [NeZero n] (s : Fin n → ℝ) : 0 < total s :=
  Finset.sum_pos (fun _ _ => Real.exp_pos _) Finset.univ_nonempty

theorem weight_pos [NeZero n] (s : Fin n → ℝ) (j : Fin n) : 0 < weight s j := _root_.div_pos (Real.exp_pos _) (total_pos s)

/-- The weights are what the exponentials of the logits less the logarithm of the normaliser are. -/
theorem weight_eq_exp [NeZero n] (s : Fin n → ℝ) (j : Fin n) : weight s j = Real.exp (s j * scale - logTotal s) := by
  rw [Real.exp_sub, logTotal, Real.exp_log (total_pos s)]; rfl

/-- Shifting every scaled logit by the same number multiplies the normaliser. -/
theorem sum_exp_shift (s : Fin n → ℝ) (x : ℝ) : ∑ j, Real.exp (s j * scale - x) = total s * Real.exp (-x) := by
  rw [total, Finset.sum_mul]
  exact Finset.sum_congr rfl fun j _ => by rw [← Real.exp_add, sub_eq_add_neg]

theorem exp_shift_div [NeZero n] (s : Fin n → ℝ) (x : ℝ) (j : Fin n) :
    Real.exp (s j * scale - x) / ∑ j, Real.exp (s j * scale - x) = weight s j := by
  rw [sum_exp_shift, sub_eq_add_neg, Real.exp_add, mul_div_mul_right _ _ (Real.exp_pos _).ne']; rfl

theorem log_sum_exp_shift [NeZero n] (s : Fin n → ℝ) (x : ℝ) : x + Real.log (∑ j, Real.exp (s j * scale - x)) = logTotal s := by
  rw [sum_exp_shift, Real.log_mul (total_pos s).ne' (Real.exp_pos _).ne', Real.log_exp, logTotal]; ring

/-- The scale over the logarithm of two, as the idealized kernel names it. -/
abbrev scaleLog2e : EReal := (((11863283 / 134217728) * (Real.log 2)⁻¹ : ℝ) : EReal)

/-- The numerator of key `j` as the kernel computes it. -/
def kerExp (s : Fin n → EReal) (j : Fin n) : EReal := Ideal.exp2 ((s j - Finset.univ.fold max ⊥ s) * scaleLog2e)

/-- The attention output of a row as the kernel computes it: the numerators times the values, divided once. -/
def kerOut (s v : Fin n → EReal) : EReal := Ideal.div (∑ j, kerExp s j * v j) (∑ j, kerExp s j)

/-- The row's log-normaliser as the kernel computes it. -/
def kerLog (s : Fin n → EReal) : EReal :=
  Finset.univ.fold max ⊥ s * Ideal.ofBits .f32 0x3DB504F3#32 + Ideal.log (∑ j, kerExp s j)

/-- On real logits the kernel's numerators are exponentials under one common shift. -/
theorem kerExp_coe [NeZero n] (s : Fin n → ℝ) :
    ∃ M : ℝ, Finset.univ.fold max ⊥ (fun j => (s j : EReal)) = (M : EReal)
      ∧ ∀ j, kerExp (fun j => (s j : EReal)) j = (Real.exp (s j * scale - M * scale) : EReal) := by
  obtain ⟨M, hM⟩ := exists_fold_max s
  refine ⟨M, hM, fun j => ?_⟩
  unfold kerExp
  rw [hM, ← EReal.coe_sub, ← EReal.coe_mul, ← exp2_coe]
  congr 2
  unfold scale; ring

/-- On real logits the kernel's attention output is the weighted mean of the values, whatever the values are. -/
theorem kerOut_coe [NeZero n] (s : Fin n → ℝ) (v : Fin n → EReal) :
    kerOut (fun j => (s j : EReal)) v = ∑ j, (weight s j : EReal) * v j := by
  obtain ⟨M, -, hE⟩ := kerExp_coe s
  have hpos : 0 < ∑ j, Real.exp (s j * scale - M * scale) := Finset.sum_pos (fun _ _ => Real.exp_pos _) Finset.univ_nonempty
  unfold kerOut
  simp only [hE]
  rw [coe_sum, div_pos _ hpos, sum_mul_coe _ _ (inv_pos.mpr hpos).le]
  refine Finset.sum_congr rfl fun j _ => ?_
  rw [← exp_shift_div s (M * scale) j, div_eq_mul_inv, EReal.coe_mul, mul_right_comm]

/-- On real logits the kernel's log-normaliser is the logarithm of the normaliser. -/
theorem kerLog_coe [NeZero n] (s : Fin n → ℝ) : kerLog (fun j => (s j : EReal)) = (logTotal s : EReal) := by
  obtain ⟨M, hM, hE⟩ := kerExp_coe s
  have hpos : 0 < ∑ j, Real.exp (s j * scale - M * scale) := Finset.sum_pos (fun _ _ => Real.exp_pos _) Finset.univ_nonempty
  unfold kerLog
  simp only [hE]
  rw [hM, ofBits_scale, coe_sum, log_coe hpos, ← EReal.coe_mul, ← EReal.coe_add, log_sum_exp_shift]

/-- The scaled logits' maximum, as the reference computes it. -/
def refMax (s : Fin n → EReal) : EReal := Finset.univ.fold max ⊥ fun j => s j * Ideal.ofBits .f32 0x3DB504F3#32

/-- The numerator of key `j` as the reference writes it. -/
def refExp (s : Fin n → EReal) (j : Fin n) : EReal := Ideal.exp (s j * Ideal.ofBits .f32 0x3DB504F3#32 - refMax s)

/-- The weight of key `j` as the reference writes it. -/
def refWeight (s : Fin n → EReal) (j : Fin n) : EReal := Ideal.div (refExp s j) (∑ j, refExp s j)

/-- The attention output of a row as the reference writes it: the values under the weights. -/
def refOut (s v : Fin n → EReal) : EReal := ∑ j, v j * refWeight s j

/-- The row's log-normaliser as the reference writes it. -/
def refLog (s : Fin n → EReal) : EReal := refMax s + Ideal.log (∑ j, refExp s j)

/-- On real logits the reference's numerators are exponentials under one common shift. -/
theorem refExp_coe [NeZero n] (s : Fin n → ℝ) : ∃ M : ℝ, refMax (fun j => (s j : EReal)) = (M : EReal)
    ∧ ∀ j, refExp (fun j => (s j : EReal)) j = (Real.exp (s j * scale - M) : EReal) := by
  obtain ⟨M, hM⟩ := exists_fold_max fun j => s j * scale
  have hM' : refMax (fun j => (s j : EReal)) = (M : EReal) := by
    unfold refMax; rw [ofBits_scale, ← hM]; simp only [EReal.coe_mul]
  refine ⟨M, hM', fun j => ?_⟩
  unfold refExp
  rw [hM', ofBits_scale, ← EReal.coe_mul, ← EReal.coe_sub, exp_coe]

/-- On real logits the reference's weights are the softmax weights. -/
theorem refWeight_coe [NeZero n] (s : Fin n → ℝ) (j : Fin n) : refWeight (fun j => (s j : EReal)) j = (weight s j : EReal) := by
  obtain ⟨M, -, hE⟩ := refExp_coe s
  unfold refWeight
  simp only [hE]
  rw [coe_sum, div_coe_pos _ (Finset.sum_pos (fun _ _ => Real.exp_pos _) Finset.univ_nonempty), exp_shift_div]

/-- On real logits the reference's attention output is the weighted mean of the values. -/
theorem refOut_coe [NeZero n] (s : Fin n → ℝ) (v : Fin n → EReal) :
    refOut (fun j => (s j : EReal)) v = ∑ j, (weight s j : EReal) * v j := by
  unfold refOut
  simp only [refWeight_coe]
  exact Finset.sum_congr rfl fun j _ => mul_comm _ _

/-- On real logits the reference's log-normaliser is the logarithm of the normaliser. -/
theorem refLog_coe [NeZero n] (s : Fin n → ℝ) : refLog (fun j => (s j : EReal)) = (logTotal s : EReal) := by
  obtain ⟨M, hM, hE⟩ := refExp_coe s
  unfold refLog
  simp only [hE]
  rw [hM, coe_sum, log_coe (Finset.sum_pos (fun _ _ => Real.exp_pos _) Finset.univ_nonempty), ← EReal.coe_add, log_sum_exp_shift]

end Cert.Attention

end
-- ==== Proof.FwdBlock.lean ====
/- What one grid point of the forward call computes: each head's block of the output and of the log-normaliser, at an
   index. -/
module

public import proofs.«01_k».proof.Proof.Softmax
public import proofs.«01_k».proof.Proof.Gen.ForwardIdeal.Value
public import Idealize.ShloMosaic.Lib.Pipeline.ValueKit
public import Idealize.ShloMosaic.Lib.Pointwise

@[expose] public section

set_option maxRecDepth 16384

noncomputable section

namespace Cert.ForwardIdeal.Value

open Cert.ForwardIdeal Cert.ForwardIdeal.Gen Cert.Attention Idealize.ShloMosaic

/-- An index of a block of one row of blocks is its last two coordinates. -/
theorem unit3 {a b : ℕ} (x : (⟨3, ![1, a, b]⟩ : Shape).Idx) : x = ix3 0 (x 1) (x 2) := by
  funext i
  match i with
  | 0 => exact Subsingleton.elim (α := Fin 1) _ _
  | 1 => rfl
  | 2 => rfl

theorem unit4 {a b : ℕ} (x : (⟨4, ![1, 1, a, b]⟩ : Shape).Idx) : x = ix4 0 0 (x 2) (x 3) := by
  funext i
  match i with
  | 0 => exact Subsingleton.elim (α := Fin 1) _ _
  | 1 => exact Subsingleton.elim (α := Fin 1) _ _
  | 2 => rfl
  | 3 => rfl

/-- The logits of query row `r` of one head against a block of keys. -/
def logit {a n : ℕ} (x : Vec Ideal ⟨3, ![1, a, 128]⟩ .bf16) (k : Vec Ideal ⟨3, ![1, n, 128]⟩ .bf16) (r : Fin a) (j : Fin n) : EReal :=
  ∑ e : Fin 128, x (ix3 0 r e) * k (ix3 0 j e)

/-- The first head's output block over the context's keys. -/
theorem outA (x : Vec Ideal S1x256x128 .bf16) (k v : Vec Ideal S1x256x128 .bf16) (r : Fin 256) (d : Fin 128) :
    k0_pay9 (F := Ideal) k v x (ix3 0 r d) = kerOut (logit x k r) (fun j => v (ix3 0 j d)) := by
  unfold_payloads
  pointwise
  rw [ofBits_bot]
  rfl

/-- The first head's output block over all keys. -/
theorem outB (x : Vec Ideal S1x256x128 .bf16) (k v : Vec Ideal S1x4352x128 .bf16) (r : Fin 256) (d : Fin 128) :
    k0_pay35 (F := Ideal) k v x (ix3 0 r d) = kerOut (logit x k r) (fun j => v (ix3 0 j d)) := by
  unfold_payloads
  pointwise
  rw [ofBits_bot]
  rfl

/-- The first head's log-normaliser block over the context's keys. -/
theorem logA (x : Vec Ideal S1x256x128 .bf16) (k : Vec Ideal S1x256x128 .bf16) (r : Fin 256) (d : Fin 128) :
    k0_pay10 (F := Ideal) k x (ix4 0 0 r d) = kerLog (logit x k r) := by
  unfold_payloads
  pointwise
  rw [ofBits_bot]
  rfl

/-- The first head's log-normaliser block over all keys. -/
theorem logB (x : Vec Ideal S1x256x128 .bf16) (k : Vec Ideal S1x4352x128 .bf16) (r : Fin 256) (d : Fin 128) :
    k0_pay36 (F := Ideal) k x (ix4 0 0 r d) = kerLog (logit x k r) := by
  unfold_payloads
  pointwise
  rw [ofBits_bot]
  rfl

/-- The output block of a query head, at row `r` and lane `l` of the block of four heads: the kernel's row over the keys given. -/
def blockOut {n : ℕ} (x : Vec Ideal S1x256x512 .bf16) (k v : Vec Ideal ⟨3, ![1, n, 128]⟩ .bf16) (r : Fin 256) (l : Fin 512) : EReal :=
  kerOut (fun j => ∑ e : Fin 128, x (ix3 0 r ⟨l.val / 128 * 128 + e.val, by omega⟩) * k (ix3 0 j e))
    (fun j => v (ix3 0 j ⟨l.val % 128, by omega⟩))

/-- The log-normaliser block of query head `g` of the four, at row `r`. -/
def blockLog {n : ℕ} (x : Vec Ideal S1x256x512 .bf16) (k : Vec Ideal ⟨3, ![1, n, 128]⟩ .bf16) (g : Fin 4) (r : Fin 256) : EReal :=
  kerLog (fun j => ∑ e : Fin 128, x (ix3 0 r ⟨g.val * 128 + e.val, by omega⟩) * k (ix3 0 j e))

/-- The slice of the query block that head `g` loads, read at an index. -/
theorem ld_head (x : Vec Ideal S1x256x512 .bf16) (o : ℕ) (inb) (r : Fin 256) (e : Fin 128) (h : o + e.val < 512) :
    View.ld x (Rect.unit ![0, 0, o] ![1, 256, 128] inb) (ix3 0 r e) = x (ix3 0 r ⟨o + e.val, h⟩) := by
  pointwise

/-- The first 256 keys of the key block, read at an index. -/
theorem ld_keys (k : Vec Ideal S1x4352x128 .bf16) (inb) (j : Fin 256) (e : Fin 128) :
    View.ld k (Rect.unit ![0, 0, 0] ![1, 256, 128] inb) (ix3 0 j e) = k (ix3 0 ⟨j.val, by omega⟩ e) := by
  pointwise

/-- A head's output row over the slice it loads is the block's row at the slice's place. -/
theorem out_place {n : ℕ} (X : Vec Ideal S1x256x512 .bf16) (k v : Vec Ideal ⟨3, ![1, n, 128]⟩ .bf16) (o : ℕ) (ho : o % 128 = 0) (inb)
    (x : S1x256x128.Idx) (y : S1x256x512.Idx) (h1 : (y 1 : ℕ) = x 1) (h2 : (y 2 : ℕ) = o + x 2) :
    kerOut (logit (View.ld X (Rect.unit ![0, 0, o] ![1, 256, 128] inb)) k (x 1)) (fun j => v (ix3 0 j (x 2)))
      = blockOut X k v (y 1) (y 2) := by
  have hx : (x 2 : ℕ) < 128 := (x 2).isLt
  have hy : (y 2 : ℕ) < 512 := (y 2).isLt
  have e1 : (y 1 : Fin 256) = (x 1 : Fin 256) := Fin.ext h1
  unfold blockOut logit
  congr 1
  · funext j
    refine Finset.sum_congr rfl fun e _ => ?_
    rw [ld_head X o inb (x 1) e (by omega), e1]
    congr 3
    apply Fin.ext
    show o + e.val = (y 2 : ℕ) / 128 * 128 + e.val
    omega
  · funext j
    congr 2
    apply Fin.ext
    show (x 2 : ℕ) = (y 2 : ℕ) % 128
    omega

/-- A head's log-normaliser over the slice it loads is the block's. -/
theorem log_place {n : ℕ} (X : Vec Ideal S1x256x512 .bf16) (k : Vec Ideal ⟨3, ![1, n, 128]⟩ .bf16) (o : ℕ) (inb)
    (r : Fin 256) (y : S1x4x256x128.Idx) (h1 : (y 1 : ℕ) * 128 = o) (h2 : (y 2 : ℕ) = r) :
    kerLog (logit (View.ld X (Rect.unit ![0, 0, o] ![1, 256, 128] inb)) k r) = blockLog X k (y 1) (y 2) := by
  have hy : (y 1 : ℕ) < 4 := (y 1).isLt
  have e1 : (y 2 : Fin 256) = r := Fin.ext h2
  unfold blockLog logit
  congr 1
  funext j
  refine Finset.sum_congr rfl fun e _ => ?_
  rw [ld_head X o inb r e (by omega), e1]
  congr 3
  apply Fin.ext
  show o + e.val = (y 1 : ℕ) * 128 + e.val
  omega

variable (m : (ℓ : Loc nD τ sig) → Buf (Elt Ideal) ℓ)

/-- The keys (or the values) a point of the context loads: the first 256 rows of the block. -/
abbrev ctxRows (k : Vec Ideal S1x4352x128 .bf16) : Vec Ideal S1x256x128 .bf16 :=
  View.ld k (Rect.unit ![0, 0, 0] ![1, 256, 128] inb_S1x4352x128_S1x256x128_0_0_0)

/-- What a point past the context leaves in the output's block. -/
theorem outsB (c : Dev nD) (t : Fin cfg0.N) (h0 : ¬t.val % 17 = 0) (h1 : 1 ≤ t.val % 17) (y : S1x256x512.Idx) :
    (outsAt0 m c t.val t.isLt).1 y = blockOut (iblk m c 0 t) (iblk m c 1 t) (iblk m c 2 t) (y 1) (y 2) := by
  rw [outsAt0_B m c t h0 h1]
  frame_out
  canon_tiles x h <;> refine (congrArg _ (unit3 x)).trans (Eq.trans (outB _ _ _ _ _)
    (out_place _ _ _ _ (by decide) _ x y h1 (by first | exact h2 | exact h2.trans (Nat.zero_add _).symm)))

/-- What a point of the context leaves in the output's block. -/
theorem outsA (c : Dev nD) (t : Fin cfg0.N) (h0 : t.val % 17 = 0) (h1 : ¬1 ≤ t.val % 17) (y : S1x256x512.Idx) :
    (outsAt0 m c t.val t.isLt).1 y = blockOut (iblk m c 0 t) (ctxRows (iblk m c 1 t)) (ctxRows (iblk m c 2 t)) (y 1) (y 2) := by
  rw [outsAt0_A m c t h0 h1]
  frame_out
  canon_tiles x h <;> refine (congrArg _ (unit3 x)).trans (Eq.trans (outA _ _ _ _ _)
    (out_place _ _ _ _ (by decide) _ x y h1 (by first | exact h2 | exact h2.trans (Nat.zero_add _).symm)))

/-- What a point past the context leaves in the log-normaliser's block. -/
theorem logsB (c : Dev nD) (t : Fin cfg0.N) (h0 : ¬t.val % 17 = 0) (h1 : 1 ≤ t.val % 17) (y : S1x4x256x128.Idx) :
    (outsAt0 m c t.val t.isLt).2 y = blockLog (iblk m c 0 t) (iblk m c 1 t) (y 1) (y 2) := by
  rw [outsAt0_B m c t h0 h1]
  frame_out
  canon_tiles x h <;> refine (congrArg _ (unit4 x)).trans (Eq.trans (logB _ _ _ _)
    (log_place _ _ _ _ (x 2) y (by omega) h2))

/-- What a point of the context leaves in the log-normaliser's block. -/
theorem logsA (c : Dev nD) (t : Fin cfg0.N) (h0 : t.val % 17 = 0) (h1 : ¬1 ≤ t.val % 17) (y : S1x4x256x128.Idx) :
    (outsAt0 m c t.val t.isLt).2 y = blockLog (iblk m c 0 t) (ctxRows (iblk m c 1 t)) (y 1) (y 2) := by
  rw [outsAt0_A m c t h0 h1]
  frame_out
  canon_tiles x h <;> refine (congrArg _ (unit4 x)).trans (Eq.trans (logA _ _ _ _)
    (log_place _ _ _ _ (x 2) y (by omega) h2))

end Cert.ForwardIdeal.Value

end
-- ==== Proof.Spec.lean ====
/- The attention the programs compute, over whole arrays: which queries see which keys, head by head. -/
module

public import proofs.«01_k».proof.Proof.Softmax
public import Idealize.ShloMosaic.Lib.Pointwise

@[expose] public section

noncomputable section

namespace Cert.Attention

open Idealize.ShloMosaic

/-- An array of extended reals with three axes. -/
abbrev Arr3 (a b c : ℕ) : Type := (⟨3, ![a, b, c]⟩ : Shape).Idx → EReal

/-- An array of extended reals with four axes. -/
abbrev Arr4 (a b c d : ℕ) : Type := (⟨4, ![a, b, c, d]⟩ : Shape).Idx → EReal

/-- Where coordinate `e` of query head `h` lies in a row of the queries. -/
def lane (h : Fin 8) (e : Fin 128) : Fin 1024 := ⟨h.val * 128 + e.val, by omega⟩

/-- Where coordinate `e` of the key (and value) head that query head `h` reads lies in a row of the keys: four query
    heads share one. -/
def keyLane (h : Fin 8) (e : Fin 128) : Fin 256 := ⟨h.val / 4 * 128 + e.val, by omega⟩

/-- The head a lane of a query row belongs to. -/
def headOf (l : Fin 1024) : Fin 8 := ⟨l.val / 128, by omega⟩

/-- The coordinate of its head that a lane of a query row is. -/
def coordOf (l : Fin 1024) : Fin 128 := ⟨l.val % 128, Nat.mod_lt _ (by norm_num)⟩

/-- The query head of key head `kh` and place `g` in its group. -/
def headAt (kh : Fin 2) (g : Fin 4) : Fin 8 := ⟨4 * kh.val + g.val, by omega⟩

/-- The token that grid query `i` is. -/
def gridRow (i : Fin 4096) : Fin 4352 := ⟨256 + i.val, by omega⟩

/-- An array read at two indices of the same coordinates. -/
theorem at3 {a b c : ℕ} {x y : (⟨3, ![a, b, c]⟩ : Shape).Idx} (f : (⟨3, ![a, b, c]⟩ : Shape).Idx → EReal)
    (h0 : (x 0).val = (y 0).val) (h1 : (x 1).val = (y 1).val) (h2 : (x 2).val = (y 2).val) : f x = f y :=
  congrArg f (funext fun i => match i with
    | ⟨0, _⟩ => Fin.ext h0
    | ⟨1, _⟩ => Fin.ext h1
    | ⟨2, _⟩ => Fin.ext h2)

theorem at5 {a b c d e : ℕ} {x y : (⟨5, ![a, b, c, d, e]⟩ : Shape).Idx} (f : (⟨5, ![a, b, c, d, e]⟩ : Shape).Idx → EReal)
    (h0 : (x 0).val = (y 0).val) (h1 : (x 1).val = (y 1).val) (h2 : (x 2).val = (y 2).val) (h3 : (x 3).val = (y 3).val)
    (h4 : (x 4).val = (y 4).val) : f x = f y :=
  congrArg f (funext fun i => match i with
    | ⟨0, _⟩ => Fin.ext h0
    | ⟨1, _⟩ => Fin.ext h1
    | ⟨2, _⟩ => Fin.ext h2
    | ⟨3, _⟩ => Fin.ext h3
    | ⟨4, _⟩ => Fin.ext h4)

theorem at4 {a b c d : ℕ} {x y : (⟨4, ![a, b, c, d]⟩ : Shape).Idx} (f : (⟨4, ![a, b, c, d]⟩ : Shape).Idx → EReal)
    (h0 : (x 0).val = (y 0).val) (h1 : (x 1).val = (y 1).val) (h2 : (x 2).val = (y 2).val) (h3 : (x 3).val = (y 3).val) : f x = f y :=
  congrArg f (funext fun i => match i with
    | ⟨0, _⟩ => Fin.ext h0
    | ⟨1, _⟩ => Fin.ext h1
    | ⟨2, _⟩ => Fin.ext h2
    | ⟨3, _⟩ => Fin.ext h3)

/-- The host's maximum over the last of five axes, from `-∞`. -/
theorem reduce_max {a b c d n : ℕ} (x : FVec Ideal ⟨5, ![a, b, c, d, n]⟩ .f32)
    (h' : (⟨5, ![a, b, c, d, n]⟩ : Shape).ReducesTo [4] (⟨4, ![a, b, c, d]⟩ : Shape))
    (h : (⟨5, ![a, b, c, d, n]⟩ : Shape).Reduces [4] (⟨4, ![a, b, c, d]⟩ : Shape)) (hu : 0 < (⟨0, ![]⟩ : Shape).numel)
    (i : Fin a) (j : Fin b) (k : Fin c) (l : Fin d) :
    Host.reduce FloatOps.maximumf x (constant (⟨0, ![]⟩ : Shape) .f32 0xFF800000#32) h' hu (ix4 i j k l)
      = Finset.univ.fold max ⊥ fun e : Fin n => x (ix5 i j k l e) := by
  rw [Host.reduce_eq_fold_single FloatOps.maximumf x _ h' h hu, ← ofBits_bot]
  refine congrArg (fun f => Finset.fold max (Ideal.ofBits .f32 0xFF800000#32) f (Finset.univ : Finset (Fin n))) ?_
  exact funext fun e => at5 x rfl rfl rfl rfl rfl

theorem ctx_le : 256 ≤ 4352 := by norm_num

variable {n : ℕ}

/-- The unscaled logits of query `i` of head `h` against the first `n` keys. -/
def rowLogits (hn : n ≤ 4352) (Q : Arr3 2 4352 1024) (K : Arr3 2 4352 256) (b : Fin 2) (h : Fin 8) (i : Fin 4352) (j : Fin n) : EReal :=
  ∑ e : Fin 128, Q (ix3 b i (lane h e)) * K (ix3 b (Fin.castLE hn j) (keyLane h e))

/-- Coordinate `d` of the first `n` values that head `h` reads. -/
def rowValues (hn : n ≤ 4352) (V : Arr3 2 4352 256) (b : Fin 2) (h : Fin 8) (d : Fin 128) (j : Fin n) : EReal :=
  V (ix3 b (Fin.castLE hn j) (keyLane h d))

/-- Attention by a row function `f` of logits and values, at token `i` and lane `p`: the first 256 tokens are the context and
    see the context's keys alone, the others see all keys. -/
def attentionAt (f : {n : ℕ} → (Fin n → EReal) → (Fin n → EReal) → EReal) (Q : Arr3 2 4352 1024) (K V : Arr3 2 4352 256)
    (b : Fin 2) (i : Fin 4352) (p : Fin 1024) : EReal :=
  if i.val < 256 then f (rowLogits ctx_le Q K b (headOf p) i) (rowValues ctx_le V b (headOf p) (coordOf p))
  else f (rowLogits le_rfl Q K b (headOf p) i) (rowValues le_rfl V b (headOf p) (coordOf p))

/-- Attention over all tokens by a row function `f`. -/
def attentionBy (f : {n : ℕ} → (Fin n → EReal) → (Fin n → EReal) → EReal) (Q : Arr3 2 4352 1024) (K V : Arr3 2 4352 256) :
    Arr3 2 4352 1024 := fun x => attentionAt f Q K V (x 0) (x 1) (x 2)

/-- The log-normaliser by a row function `f` of the logits, of head `h` at token `i`. -/
def normaliserAt (f : {n : ℕ} → (Fin n → EReal) → EReal) (Q : Arr3 2 4352 1024) (K : Arr3 2 4352 256)
    (b : Fin 2) (h : Fin 8) (i : Fin 4352) : EReal :=
  if i.val < 256 then f (rowLogits ctx_le Q K b h i) else f (rowLogits le_rfl Q K b h i)

/-- The log-normalisers of all tokens, each repeated over 128 lanes. -/
def normaliserBy (f : {n : ℕ} → (Fin n → EReal) → EReal) (Q : Arr3 2 4352 1024) (K : Arr3 2 4352 256) : Arr4 2 8 4352 128 :=
  fun x => normaliserAt f Q K (x 0) (x 1) (x 2)

/-- Every element of an array is a real number. -/
def IsReal {s : Shape} (X : s.Idx → EReal) : Prop := ∀ x, X x = ((X x).toReal : EReal)

/-- The real logits of query `i` of head `h` against the first `n` keys. -/
def realLogits (hn : n ≤ 4352) (Q : Arr3 2 4352 1024) (K : Arr3 2 4352 256) (b : Fin 2) (h : Fin 8) (i : Fin 4352) (j : Fin n) : ℝ :=
  ∑ e : Fin 128, (Q (ix3 b i (lane h e))).toReal * (K (ix3 b (Fin.castLE hn j) (keyLane h e))).toReal

/-- Over real queries and keys the logits are real. -/
theorem rowLogits_coe (hn : n ≤ 4352) {Q : Arr3 2 4352 1024} {K : Arr3 2 4352 256} (hQ : IsReal Q) (hK : IsReal K) (b : Fin 2) (h : Fin 8)
    (i : Fin 4352) : rowLogits hn Q K b h i = fun j => (realLogits hn Q K b h i j : EReal) := by
  funext j
  unfold rowLogits realLogits
  rw [← coe_sum_mul]
  exact Finset.sum_congr rfl fun e _ => by rw [← hQ, ← hK]

/-- Two row functions that agree on real logits give the same attention of real queries and keys. -/
theorem attentionBy_congr {f g : {n : ℕ} → (Fin n → EReal) → (Fin n → EReal) → EReal}
    (h : ∀ {n : ℕ} [NeZero n] (s : Fin n → ℝ) (v : Fin n → EReal), f (fun j => (s j : EReal)) v = g (fun j => (s j : EReal)) v)
    {Q : Arr3 2 4352 1024} {K V : Arr3 2 4352 256} (hQ : IsReal Q) (hK : IsReal K) : attentionBy f Q K V = attentionBy g Q K V := by
  have key : ∀ b i p, attentionAt f Q K V b i p = attentionAt g Q K V b i p := fun b i p => by
    unfold attentionAt
    rw [rowLogits_coe ctx_le hQ hK, rowLogits_coe le_rfl hQ hK]
    simp only [h]
  exact funext fun x => key _ _ _

/-- Two row functions that agree on real logits give the same log-normalisers of real queries and keys. -/
theorem normaliserBy_congr {f g : {n : ℕ} → (Fin n → EReal) → EReal}
    (h : ∀ {n : ℕ} [NeZero n] (s : Fin n → ℝ), f (fun j => (s j : EReal)) = g (fun j => (s j : EReal)))
    {Q : Arr3 2 4352 1024} {K : Arr3 2 4352 256} (hQ : IsReal Q) (hK : IsReal K) : normaliserBy f Q K = normaliserBy g Q K := by
  have key : ∀ b i p, normaliserAt f Q K b i p = normaliserAt g Q K b i p := fun b i p => by
    unfold normaliserAt
    rw [rowLogits_coe ctx_le hQ hK, rowLogits_coe le_rfl hQ hK]
    simp only [h]
  exact funext fun x => key _ _ _

end Cert.Attention

end
-- ==== Proof.FwdArray.lean ====
/- The forward call's result arrays: the blocks its points leave, put together. -/
module

public import proofs.«01_k».proof.Proof.FwdBlock
public import proofs.«01_k».proof.Proof.Spec

@[expose] public section

set_option maxRecDepth 16384

noncomputable section

namespace Cert.ForwardIdeal.Value

open Cert.ForwardIdeal Cert.ForwardIdeal.Gen Cert.Attention Idealize.ShloMosaic Idealize.ShloMosaic.TcCoe

variable (m : (ℓ : Loc nD τ sig) → Buf (Elt Ideal) ℓ)

/-- The block each grid point takes of each window's array: the points run over the batch, the key head and the block of
    queries. -/
theorem idx : ∀ t : Fin cfg0.N, win0_0.index t = ![t.val / 34, t.val % 17, t.val / 17 % 2]
    ∧ win0_1.index t = ![t.val / 34, 0, 8 + t.val / 17 % 2] ∧ win0_2.index t = ![t.val / 34, 0, 10 + t.val / 17 % 2]
    ∧ win0_3.index t = ![t.val / 34, t.val % 17, t.val / 17 % 2] ∧ win0_4.index t = ![t.val / 34, t.val / 17 % 2, t.val % 17, 0]
    ∧ t.val < 68 :=
  (by decide +kernel : ∀ t : Fin grid0.N, _)

/-- The queries, the keys and the values the call was given. -/
abbrev Q (c : Dev nD) : Arr3 2 4352 1024 := m ((c : Thread nD τ).loc main_arg0)
abbrev K (c : Dev nD) : Arr3 2 4352 256 := m ((c : Thread nD τ).loc main_arg1)
abbrev W (c : Dev nD) : Arr3 2 4352 256 := m ((c : Thread nD τ).loc main_arg2)

/-- The array the call reads holds queries, keys and values side by side. -/
theorem entry_at (c : Dev nD) (b : Fin 2) (i : Fin 4352) (l : Fin 1536) : (V m c main_v1 : Vec Ideal S2x4352x1536 .bf16) (ix3 b i l)
    = if h : l.val < 1024 then Q m c (ix3 b i ⟨l.val, h⟩)
      else if h : l.val - 1024 < 256 then K m c (ix3 b i ⟨l.val - 1024, h⟩)
      else W m c (ix3 b i ⟨l.val - 1024 - 256, by omega⟩) := by
  entry_read
  pointwise

/-- A point's query block, read at an index. -/
theorem query_at (c : Dev nD) (t : Fin cfg0.N) (r : Fin 256) (l : Fin 512) (b : Fin 2) (i : Fin 4352) (p : Fin 1024)
    (hb : b.val = t.val / 34) (hi : i.val = 256 * (t.val % 17) + r.val) (hp : p.val = 512 * (t.val / 17 % 2) + l.val) :
    (iblk m c 0 t : Vec Ideal S1x256x512 .bf16) (ix3 0 r l) = Q m c (ix3 b i p) := by
  have h : (iblk m c 0 t : Vec Ideal S1x256x512 .bf16) (ix3 0 r l)
      = (V m c main_v1 : Vec Ideal S2x4352x1536 .bf16) (ix3 b i ⟨p.val, by omega⟩) := by blk_ext [iblk, idx t]
  rw [h, entry_at, dif_pos p.isLt]

/-- A point's key block, read at an index. -/
theorem key_at (c : Dev nD) (t : Fin cfg0.N) (j : Fin 4352) (e : Fin 128) (b : Fin 2) (p : Fin 256)
    (hb : b.val = t.val / 34) (hp : p.val = 128 * (t.val / 17 % 2) + e.val) :
    (iblk m c 1 t : Vec Ideal S1x4352x128 .bf16) (ix3 0 j e) = K m c (ix3 b j p) := by
  have h : (iblk m c 1 t : Vec Ideal S1x4352x128 .bf16) (ix3 0 j e)
      = (V m c main_v1 : Vec Ideal S2x4352x1536 .bf16) (ix3 b j ⟨1024 + p.val, by omega⟩) := by blk_ext [iblk, idx t]
  rw [h, entry_at, dif_neg (by show ¬ 1024 + p.val < 1024; omega), dif_pos (by show 1024 + p.val - 1024 < 256; omega)]
  congr 2
  exact Fin.ext (by show 1024 + p.val - 1024 = p.val; omega)

/-- A point's value block, read at an index. -/
theorem value_at (c : Dev nD) (t : Fin cfg0.N) (j : Fin 4352) (e : Fin 128) (b : Fin 2) (p : Fin 256)
    (hb : b.val = t.val / 34) (hp : p.val = 128 * (t.val / 17 % 2) + e.val) :
    (iblk m c 2 t : Vec Ideal S1x4352x128 .bf16) (ix3 0 j e) = W m c (ix3 b j p) := by
  have h : (iblk m c 2 t : Vec Ideal S1x4352x128 .bf16) (ix3 0 j e)
      = (V m c main_v1 : Vec Ideal S2x4352x1536 .bf16) (ix3 b j ⟨1280 + p.val, by omega⟩) := by blk_ext [iblk, idx t]
  rw [h, entry_at, dif_neg (by show ¬ 1280 + p.val < 1024; omega), dif_neg (by show ¬ 1280 + p.val - 1024 < 256; omega)]
  congr 2
  exact Fin.ext (by show 1280 + p.val - 1024 - 256 = p.val; omega)

/-- A point's output block over any number of leading keys, by the whole arrays. -/
theorem blockOut_eq (c : Dev nD) (t : Fin cfg0.N) {n : ℕ} (hn : n ≤ 4352) (k v : Vec Ideal ⟨3, ![1, n, 128]⟩ .bf16)
    (hk : ∀ j e, k (ix3 0 j e) = (iblk m c 1 t : Vec Ideal S1x4352x128 .bf16) (ix3 0 (Fin.castLE hn j) e))
    (hv : ∀ j e, v (ix3 0 j e) = (iblk m c 2 t : Vec Ideal S1x4352x128 .bf16) (ix3 0 (Fin.castLE hn j) e))
    (r : Fin 256) (l : Fin 512) (b : Fin 2) (i : Fin 4352) (p : Fin 1024)
    (hb : b.val = t.val / 34) (hi : i.val = 256 * (t.val % 17) + r.val) (hp : p.val = 512 * (t.val / 17 % 2) + l.val) :
    blockOut (iblk m c 0 t) k v r l = kerOut (rowLogits hn (Q m c) (K m c) b (headOf p) i) (rowValues hn (W m c) b (headOf p) (coordOf p)) := by
  unfold blockOut rowLogits rowValues
  congr 1
  · funext j
    refine Finset.sum_congr rfl fun e _ => ?_
    rw [hk, query_at m c t r _ b i (lane (headOf p) e) hb hi (by simp only [lane, headOf]; omega),
      key_at m c t _ e b (keyLane (headOf p) e) hb (by simp only [keyLane, headOf]; omega)]
  · funext j
    rw [hv, value_at m c t _ _ b (keyLane (headOf p) (coordOf p)) hb (by simp only [keyLane, headOf, coordOf]; omega)]

/-- A point's log-normaliser block over any number of leading keys, by the whole arrays. -/
theorem blockLog_eq (c : Dev nD) (t : Fin cfg0.N) {n : ℕ} (hn : n ≤ 4352) (k : Vec Ideal ⟨3, ![1, n, 128]⟩ .bf16)
    (hk : ∀ j e, k (ix3 0 j e) = (iblk m c 1 t : Vec Ideal S1x4352x128 .bf16) (ix3 0 (Fin.castLE hn j) e))
    (g : Fin 4) (r : Fin 256) (b : Fin 2) (h : Fin 8) (i : Fin 4352)
    (hb : b.val = t.val / 34) (hi : i.val = 256 * (t.val % 17) + r.val) (hh : h.val = 4 * (t.val / 17 % 2) + g.val) :
    blockLog (iblk m c 0 t) k g r = kerLog (rowLogits hn (Q m c) (K m c) b h i) := by
  unfold blockLog rowLogits
  congr 1
  funext j
  refine Finset.sum_congr rfl fun e _ => ?_
  rw [hk, query_at m c t r _ b i (lane h e) hb hi (by simp only [lane]; omega),
    key_at m c t _ e b (keyLane h e) hb (by simp only [keyLane]; omega)]

/-- What a point leaves in the output's block, by the whole arrays. -/
theorem outs_at (c : Dev nD) (t : Fin cfg0.N) (y : S1x256x512.Idx) (b : Fin 2) (i : Fin 4352) (p : Fin 1024)
    (hb : b.val = t.val / 34) (hi : i.val = 256 * (t.val % 17) + (y 1 : ℕ)) (hp : p.val = 512 * (t.val / 17 % 2) + (y 2 : ℕ)) :
    (outsAt0 m c t.val t.isLt).1 y = attentionAt kerOut (Q m c) (K m c) (W m c) b i p := by
  have hy : (y 1 : ℕ) < 256 := (y 1).isLt
  unfold attentionAt
  by_cases h : t.val % 17 = 0
  · rw [if_pos (by omega), outsA m c t h (by omega) y]
    exact blockOut_eq m c t ctx_le _ _ (ld_keys _ _) (ld_keys _ _) (y 1) (y 2) b i p hb hi hp
  · rw [if_neg (by omega), outsB m c t h (by omega) y]
    exact blockOut_eq m c t le_rfl _ _ (fun _ _ => rfl) (fun _ _ => rfl) (y 1) (y 2) b i p hb hi hp

/-- What a point leaves in the log-normaliser's block, by the whole arrays. -/
theorem logs_at (c : Dev nD) (t : Fin cfg0.N) (y : S1x4x256x128.Idx) (b : Fin 2) (h : Fin 8) (i : Fin 4352)
    (hb : b.val = t.val / 34) (hh : h.val = 4 * (t.val / 17 % 2) + (y 1 : ℕ)) (hi : i.val = 256 * (t.val % 17) + (y 2 : ℕ)) :
    (outsAt0 m c t.val t.isLt).2 y = normaliserAt kerLog (Q m c) (K m c) b h i := by
  have hy : (y 2 : ℕ) < 256 := (y 2).isLt
  unfold normaliserAt
  by_cases ht : t.val % 17 = 0
  · rw [if_pos (by omega), logsA m c t ht (by omega) y]
    exact blockLog_eq m c t ctx_le _ (ld_keys _ _) (y 1) (y 2) b h i hb hi hh
  · rw [if_neg (by omega), logsB m c t ht (by omega) y]
    exact blockLog_eq m c t le_rfl _ (fun _ _ => rfl) (y 1) (y 2) b h i hb hi hh

/-- The attention output the forward call writes. -/
theorem out_final (c : Dev nD) : (dats m 0 c).arrAt 3 (cfgs 0).N = attentionBy kerOut (Q m c) (K m c) (W m c) := by
  refine (dats m 0 c).arrAt_eq_of_covers 3 _ (by decide +kernel) fun t _ y => ?_
  blk_simp
  rw [after0_3]
  refine outs_at m c t y _ _ _ ?_ ?_ ?_ <;> blk_simp [idx t] <;> idx_bounds <;> try omega

/-- The log-normalisers the forward call writes. -/
theorem log_final (c : Dev nD) : (dats m 0 c).arrAt 4 (cfgs 0).N = normaliserBy kerLog (Q m c) (K m c) := by
  refine (dats m 0 c).arrAt_eq_of_covers 4 _ (by decide +kernel) fun t _ y => ?_
  blk_simp
  rw [after0_4]
  refine logs_at m c t y _ _ _ ?_ ?_ ?_ <;> blk_simp [idx t] <;> idx_bounds <;> try omega

end Cert.ForwardIdeal.Value

end
-- ==== Proof.FwdRef.lean ====
/- What the forward reference computes, read at an index: attention and log-normalisers by the row functions the
   reference writes. -/
module

public import proofs.«01_k».proof.Proof.Spec
public import proofs.«01_k».proof.Proof.Gen.ForwardReferenceIdeal.Read

@[expose] public section

set_option maxRecDepth 16384

noncomputable section

namespace Cert.ForwardReferenceIdeal.Value

open Cert.ForwardReferenceIdeal.Read Cert.ForwardReferenceIdeal Cert.ForwardReferenceIdeal.Gen Cert.Attention
open Idealize.ShloMosaic Idealize.ShloMosaic.TcCoe

variable (x0 : Arr3 2 4352 1024) (x1 x2 : Arr3 2 4352 256)

/-- The scaled logits of a context query against the context keys. -/
theorem logit_ctx (b kh : Fin 2) (g : Fin 4) (i : Fin 256) (j : Fin 256) : val_main_v10 (F := Ideal) x0 x1 (ix5 b kh g i j)
    = rowLogits ctx_le x0 x1 b (headAt kh g) (Fin.castLE ctx_le i) j * Ideal.ofBits .f32 0x3DB504F3#32 := by
  rw [val_main_v10_apply, val_main_v9_apply, val_main_v8_apply, val_main_v7_apply]
  refine congrArg₂ (· * ·) (Finset.sum_congr rfl fun e _ => ?_) rfl
  rw [mul_comm, val_main_v5_apply, val_main_v4_apply, val_main_v2_apply, val_main_v1_apply, val_main_v0_apply]
  refine congrArg₂ (· * ·) (at3 _ ?_ ?_ ?_) (at3 _ ?_ ?_ ?_) <;> simp [lane, keyLane, headAt] <;> omega

/-- Their maximum over the keys. -/
theorem max_ctx (b kh : Fin 2) (g : Fin 4) (i : Fin 256) : val_main_v13 (F := Ideal) x0 x1 (ix4 b kh g i)
    = refMax (rowLogits ctx_le x0 x1 b (headAt kh g) (Fin.castLE ctx_le i)) := by
  unfold refMax
  simp only [← logit_ctx]
  rw [val_main_v13_apply, val_main_v12_apply]
  rw [show val_main_v11 (F := Ideal) x0 x1 (ix4 b kh g i) = _ from reduce_max (val_main_v10 (F := Ideal) x0 x1) _ (by decide) _ b kh g i]
  exact (congrArg (max · _) ofBits_bot).trans (max_bot_left _)

/-- The numerators. -/
theorem exp_ctx (b kh : Fin 2) (g : Fin 4) (i : Fin 256) (j : Fin 256) : val_main_v17 (F := Ideal) x0 x1 (ix5 b kh g i j)
    = refExp (rowLogits ctx_le x0 x1 b (headAt kh g) (Fin.castLE ctx_le i)) j := by
  rw [val_main_v17_apply, val_main_v16_apply, val_main_v15_apply, val_main_v14_apply, logit_ctx]
  have e : val_main_v13 (F := Ideal) x0 x1 (idx_main_v14 (idx_main_v15 (ix5 b kh g i j))) = val_main_v13 (F := Ideal) x0 x1 (ix4 b kh g i) :=
    at4 _ rfl rfl rfl rfl
  rw [e, max_ctx]
  rfl

/-- Their sum over the keys. -/
theorem sum_ctx (b kh : Fin 2) (g : Fin 4) (i : Fin 256) : val_main_v18 (F := Ideal) x0 x1 (ix4 b kh g i)
    = ∑ j, refExp (rowLogits ctx_le x0 x1 b (headAt kh g) (Fin.castLE ctx_le i)) j := by
  rw [val_main_v18_apply]
  refine (congrArg (· + _) ofBits_zero).trans <| (zero_add _).trans (Finset.sum_congr rfl fun j _ => ?_)
  have e : val_main_v17 (F := Ideal) x0 x1 (idx_main_v18 (ix4 b kh g i) j) = val_main_v17 (F := Ideal) x0 x1 (ix5 b kh g i j) :=
    at5 _ rfl rfl rfl rfl rfl
  rw [e, exp_ctx]

/-- The weights. -/
theorem weight_ctx (b kh : Fin 2) (g : Fin 4) (i : Fin 256) (j : Fin 256) : val_main_v21 (F := Ideal) x0 x1 (ix5 b kh g i j)
    = refWeight (rowLogits ctx_le x0 x1 b (headAt kh g) (Fin.castLE ctx_le i)) j := by
  rw [val_main_v21_apply, val_main_v20_apply, val_main_v19_apply, exp_ctx]
  have e : val_main_v18 (F := Ideal) x0 x1 (idx_main_v19 (idx_main_v20 (ix5 b kh g i j))) = val_main_v18 (F := Ideal) x0 x1 (ix4 b kh g i) :=
    at4 _ rfl rfl rfl rfl
  rw [e, sum_ctx]
  rfl

/-- The attention output of a context query against the context keys. -/
theorem out_ctx (b : Fin 2) (i : Fin 256) (l : Fin 1024) : val_main_v42 (F := Ideal) x0 x1 x2 (ix3 b i l)
    = attentionAt refOut x0 x1 x2 b (Fin.castLE ctx_le i) l := by
  unfold attentionAt refOut
  rw [if_pos (by exact i.isLt), val_main_v42_apply, val_main_v23_apply]
  have e : val_main_v22 (F := Ideal) x0 x1 x2 (idx_main_v23 (idx_main_v42 (ix3 b i l)))
      = val_main_v22 (F := Ideal) x0 x1 x2 (ix5 b ⟨l.val / 512, by omega⟩ ⟨l.val % 128, by omega⟩ ⟨l.val / 128 % 4, by omega⟩ i) := by
    refine at5 _ ?_ ?_ ?_ ?_ ?_ <;> simp <;> omega
  rw [e, val_main_v22_apply]
  refine Finset.sum_congr rfl fun j _ => congrArg₂ (· * ·) ?_ ?_
  · rw [val_main_v6_apply, val_main_v3_apply]
    have hg : l.val / 512 < 2 := by omega
    have hd : l.val % 128 < 128 := by omega
    have hk : l.val / 128 / 4 = l.val / 512 := by omega
    refine at3 _ ?_ ?_ ?_ <;> simp [keyLane, headOf, coordOf, hk] <;> clear hk e <;> generalize l.val / 512 = g at * <;>
      generalize l.val % 128 = d at * <;> omega
  · have e : val_main_v21 (F := Ideal) x0 x1 (ridx_main_v22 (ix5 b ⟨l.val / 512, by omega⟩ ⟨l.val % 128, by omega⟩ ⟨l.val / 128 % 4, by omega⟩ i) j)
        = val_main_v21 (F := Ideal) x0 x1 (ix5 b ⟨l.val / 512, by omega⟩ ⟨l.val / 128 % 4, by omega⟩ i j) := at5 _ rfl rfl rfl rfl rfl
    rw [e, weight_ctx]
    congr 2
    exact Fin.ext (by simp [headAt, headOf]; omega)

/-- The scaled logits of a grid query against all keys. -/
theorem logit_grid (b kh : Fin 2) (g : Fin 4) (i : Fin 4096) (j : Fin 4352) : val_main_v28 (F := Ideal) x0 x1 (ix5 b kh g i j)
    = rowLogits le_rfl x0 x1 b (headAt kh g) (gridRow i) j * Ideal.ofBits .f32 0x3DB504F3#32 := by
  rw [val_main_v28_apply, val_main_v27_apply, val_main_v26_apply, val_main_v25_apply]
  refine congrArg₂ (· * ·) (Finset.sum_congr rfl fun e _ => ?_) rfl
  rw [mul_comm, val_main_v24_apply, val_main_v2_apply, val_main_v1_apply, val_main_v0_apply]
  refine congrArg₂ (· * ·) (at3 _ ?_ ?_ ?_) (at3 _ ?_ ?_ ?_) <;> simp [lane, keyLane, headAt, gridRow] <;> omega

/-- Their maximum over the keys. -/
theorem max_grid (b kh : Fin 2) (g : Fin 4) (i : Fin 4096) : val_main_v31 (F := Ideal) x0 x1 (ix4 b kh g i)
    = refMax (rowLogits le_rfl x0 x1 b (headAt kh g) (gridRow i)) := by
  unfold refMax
  simp only [← logit_grid]
  rw [val_main_v31_apply, val_main_v30_apply]
  rw [show val_main_v29 (F := Ideal) x0 x1 (ix4 b kh g i) = _ from reduce_max (val_main_v28 (F := Ideal) x0 x1) _ (by decide) _ b kh g i]
  exact (congrArg (max · _) ofBits_bot).trans (max_bot_left _)

/-- The numerators. -/
theorem exp_grid (b kh : Fin 2) (g : Fin 4) (i : Fin 4096) (j : Fin 4352) : val_main_v35 (F := Ideal) x0 x1 (ix5 b kh g i j)
    = refExp (rowLogits le_rfl x0 x1 b (headAt kh g) (gridRow i)) j := by
  rw [val_main_v35_apply, val_main_v34_apply, val_main_v33_apply, val_main_v32_apply, logit_grid]
  have e : val_main_v31 (F := Ideal) x0 x1 (idx_main_v32 (idx_main_v33 (ix5 b kh g i j))) = val_main_v31 (F := Ideal) x0 x1 (ix4 b kh g i) :=
    at4 _ rfl rfl rfl rfl
  rw [e, max_grid]
  rfl

/-- Their sum over the keys. -/
theorem sum_grid (b kh : Fin 2) (g : Fin 4) (i : Fin 4096) : val_main_v36 (F := Ideal) x0 x1 (ix4 b kh g i)
    = ∑ j, refExp (rowLogits le_rfl x0 x1 b (headAt kh g) (gridRow i)) j := by
  rw [val_main_v36_apply]
  refine (congrArg (· + _) ofBits_zero).trans <| (zero_add _).trans (Finset.sum_congr rfl fun j _ => ?_)
  have e : val_main_v35 (F := Ideal) x0 x1 (idx_main_v36 (ix4 b kh g i) j) = val_main_v35 (F := Ideal) x0 x1 (ix5 b kh g i j) :=
    at5 _ rfl rfl rfl rfl rfl
  rw [e, exp_grid]

/-- The weights. -/
theorem weight_grid (b kh : Fin 2) (g : Fin 4) (i : Fin 4096) (j : Fin 4352) : val_main_v39 (F := Ideal) x0 x1 (ix5 b kh g i j)
    = refWeight (rowLogits le_rfl x0 x1 b (headAt kh g) (gridRow i)) j := by
  rw [val_main_v39_apply, val_main_v38_apply, val_main_v37_apply, exp_grid]
  have e : val_main_v36 (F := Ideal) x0 x1 (idx_main_v37 (idx_main_v38 (ix5 b kh g i j))) = val_main_v36 (F := Ideal) x0 x1 (ix4 b kh g i) :=
    at4 _ rfl rfl rfl rfl
  rw [e, sum_grid]
  rfl

/-- The attention output of a grid query against all keys. -/
theorem out_grid (b : Fin 2) (i : Fin 4096) (l : Fin 1024) : val_main_v43 (F := Ideal) x0 x1 x2 (ix3 b i l)
    = attentionAt refOut x0 x1 x2 b (gridRow i) l := by
  unfold attentionAt refOut
  rw [if_neg (by simp [gridRow]), val_main_v43_apply, val_main_v41_apply]
  have e : val_main_v40 (F := Ideal) x0 x1 x2 (idx_main_v41 (idx_main_v43 (ix3 b i l)))
      = val_main_v40 (F := Ideal) x0 x1 x2 (ix5 b ⟨l.val / 512, by omega⟩ ⟨l.val % 128, by omega⟩ ⟨l.val / 128 % 4, by omega⟩ i) := by
    refine at5 _ ?_ ?_ ?_ ?_ ?_ <;> simp <;> omega
  rw [e, val_main_v40_apply]
  refine Finset.sum_congr rfl fun j _ => congrArg₂ (· * ·) ?_ ?_
  · rw [val_main_v3_apply]
    have hg : l.val / 512 < 2 := by omega
    have hd : l.val % 128 < 128 := by omega
    have hk : l.val / 128 / 4 = l.val / 512 := by omega
    refine at3 _ ?_ ?_ ?_ <;> simp [keyLane, headOf, coordOf, hk] <;> clear hk e <;> generalize l.val / 512 = g at * <;>
      generalize l.val % 128 = d at * <;> omega
  · have e : val_main_v39 (F := Ideal) x0 x1 (ridx_main_v40 (ix5 b ⟨l.val / 512, by omega⟩ ⟨l.val % 128, by omega⟩ ⟨l.val / 128 % 4, by omega⟩ i) j)
        = val_main_v39 (F := Ideal) x0 x1 (ix5 b ⟨l.val / 512, by omega⟩ ⟨l.val / 128 % 4, by omega⟩ i j) := at5 _ rfl rfl rfl rfl rfl
    rw [e, weight_grid]
    congr 2
    exact Fin.ext (by simp [headAt, headOf]; omega)

/-- The scaled logits of a context query. -/
theorem logit_ctx_log (b kh : Fin 2) (g : Fin 4) (i : Fin 256) (j : Fin 256) : val_main_v54 (F := Ideal) x0 x1 (ix5 b kh g i j)
    = rowLogits ctx_le x0 x1 b (headAt kh g) (Fin.castLE ctx_le i) j * Ideal.ofBits .f32 0x3DB504F3#32 := by
  rw [val_main_v54_apply, val_main_v53_apply, val_main_v52_apply, val_main_v51_apply]
  refine congrArg₂ (· * ·) (Finset.sum_congr rfl fun e _ => ?_) rfl
  rw [mul_comm, val_main_v50_apply, val_main_v49_apply, val_main_v47_apply, val_main_v46_apply, val_main_v45_apply]
  refine congrArg₂ (· * ·) (at3 _ ?_ ?_ ?_) (at3 _ ?_ ?_ ?_) <;> simp [lane, keyLane, headAt] <;> omega

/-- Their maximum over the keys. -/
theorem max_ctx_log (b kh : Fin 2) (g : Fin 4) (i : Fin 256) : val_main_v55 (F := Ideal) x0 x1 (ix4 b kh g i)
    = refMax (rowLogits ctx_le x0 x1 b (headAt kh g) (Fin.castLE ctx_le i)) := by
  unfold refMax
  simp only [← logit_ctx_log]
  rw [show val_main_v55 (F := Ideal) x0 x1 (ix4 b kh g i) = _ from reduce_max (val_main_v54 (F := Ideal) x0 x1) _ (by decide) _ b kh g i]

/-- The numerators. -/
theorem exp_ctx_log (b kh : Fin 2) (g : Fin 4) (i : Fin 256) (j : Fin 256) : val_main_v59 (F := Ideal) x0 x1 (ix5 b kh g i j)
    = refExp (rowLogits ctx_le x0 x1 b (headAt kh g) (Fin.castLE ctx_le i)) j := by
  rw [val_main_v59_apply, val_main_v58_apply, val_main_v57_apply, val_main_v56_apply, logit_ctx_log]
  have e : val_main_v55 (F := Ideal) x0 x1 (idx_main_v56 (idx_main_v57 (ix5 b kh g i j))) = val_main_v55 (F := Ideal) x0 x1 (ix4 b kh g i) :=
    at4 _ rfl rfl rfl rfl
  rw [e, max_ctx_log]
  rfl

/-- Their sum over the keys. -/
theorem sum_ctx_log (b kh : Fin 2) (g : Fin 4) (i : Fin 256) : val_main_v60 (F := Ideal) x0 x1 (ix4 b kh g i)
    = ∑ j, refExp (rowLogits ctx_le x0 x1 b (headAt kh g) (Fin.castLE ctx_le i)) j := by
  rw [val_main_v60_apply]
  refine (congrArg (· + _) ofBits_zero).trans <| (zero_add _).trans (Finset.sum_congr rfl fun j _ => ?_)
  have e : val_main_v59 (F := Ideal) x0 x1 (idx_main_v60 (ix4 b kh g i) j) = val_main_v59 (F := Ideal) x0 x1 (ix5 b kh g i j) :=
    at5 _ rfl rfl rfl rfl rfl
  rw [e, exp_ctx_log]

/-- The log-normaliser of a context query. -/
theorem log_ctx_log (b kh : Fin 2) (g : Fin 4) (i : Fin 256) : val_main_v62 (F := Ideal) x0 x1 (ix4 b kh g i)
    = normaliserAt refLog x0 x1 b (headAt kh g) (Fin.castLE ctx_le i) := by
  unfold normaliserAt refLog
  rw [if_pos (by exact i.isLt), val_main_v62_apply, val_main_v61_apply, max_ctx_log, sum_ctx_log]
  rfl

/-- The scaled logits of a grid query. -/
theorem logit_grid_log (b kh : Fin 2) (g : Fin 4) (i : Fin 4096) (j : Fin 4352) : val_main_v67 (F := Ideal) x0 x1 (ix5 b kh g i j)
    = rowLogits le_rfl x0 x1 b (headAt kh g) (gridRow i) j * Ideal.ofBits .f32 0x3DB504F3#32 := by
  rw [val_main_v67_apply, val_main_v66_apply, val_main_v65_apply, val_main_v64_apply]
  refine congrArg₂ (· * ·) (Finset.sum_congr rfl fun e _ => ?_) rfl
  rw [mul_comm, val_main_v63_apply, val_main_v47_apply, val_main_v46_apply, val_main_v45_apply]
  refine congrArg₂ (· * ·) (at3 _ ?_ ?_ ?_) (at3 _ ?_ ?_ ?_) <;> simp [lane, keyLane, headAt, gridRow] <;> omega

/-- Their maximum over the keys. -/
theorem max_grid_log (b kh : Fin 2) (g : Fin 4) (i : Fin 4096) : val_main_v68 (F := Ideal) x0 x1 (ix4 b kh g i)
    = refMax (rowLogits le_rfl x0 x1 b (headAt kh g) (gridRow i)) := by
  unfold refMax
  simp only [← logit_grid_log]
  rw [show val_main_v68 (F := Ideal) x0 x1 (ix4 b kh g i) = _ from reduce_max (val_main_v67 (F := Ideal) x0 x1) _ (by decide) _ b kh g i]

/-- The numerators. -/
theorem exp_grid_log (b kh : Fin 2) (g : Fin 4) (i : Fin 4096) (j : Fin 4352) : val_main_v72 (F := Ideal) x0 x1 (ix5 b kh g i j)
    = refExp (rowLogits le_rfl x0 x1 b (headAt kh g) (gridRow i)) j := by
  rw [val_main_v72_apply, val_main_v71_apply, val_main_v70_apply, val_main_v69_apply, logit_grid_log]
  have e : val_main_v68 (F := Ideal) x0 x1 (idx_main_v69 (idx_main_v70 (ix5 b kh g i j))) = val_main_v68 (F := Ideal) x0 x1 (ix4 b kh g i) :=
    at4 _ rfl rfl rfl rfl
  rw [e, max_grid_log]
  rfl

/-- Their sum over the keys. -/
theorem sum_grid_log (b kh : Fin 2) (g : Fin 4) (i : Fin 4096) : val_main_v73 (F := Ideal) x0 x1 (ix4 b kh g i)
    = ∑ j, refExp (rowLogits le_rfl x0 x1 b (headAt kh g) (gridRow i)) j := by
  rw [val_main_v73_apply]
  refine (congrArg (· + _) ofBits_zero).trans <| (zero_add _).trans (Finset.sum_congr rfl fun j _ => ?_)
  have e : val_main_v72 (F := Ideal) x0 x1 (idx_main_v73 (ix4 b kh g i) j) = val_main_v72 (F := Ideal) x0 x1 (ix5 b kh g i j) :=
    at5 _ rfl rfl rfl rfl rfl
  rw [e, exp_grid_log]

/-- The log-normaliser of a grid query. -/
theorem log_grid_log (b kh : Fin 2) (g : Fin 4) (i : Fin 4096) : val_main_v75 (F := Ideal) x0 x1 (ix4 b kh g i)
    = normaliserAt refLog x0 x1 b (headAt kh g) (gridRow i) := by
  unfold normaliserAt refLog
  rw [if_neg (by simp [gridRow]), val_main_v75_apply, val_main_v74_apply, max_grid_log, sum_grid_log]
  rfl

/-- The attention output the reference computes. -/
theorem out_eq : val_main_v44 (F := Ideal) x0 x1 x2 = attentionBy refOut x0 x1 x2 := by
  have key : ∀ b i l, val_main_v44 (F := Ideal) x0 x1 x2 (ix3 b i l) = attentionAt refOut x0 x1 x2 b i l := fun b i l => by
    have h : val_main_v44 (F := Ideal) x0 x1 x2 (ix3 b i l) = if h : i.val < 256 then val_main_v42 (F := Ideal) x0 x1 x2 (ix3 b ⟨i.val, h⟩ l)
        else val_main_v43 (F := Ideal) x0 x1 x2 (ix3 b ⟨i.val - 256, by omega⟩ l) := by
      unfold val_main_v44
      generalize val_main_v42 (F := Ideal) x0 x1 x2 = y
      generalize val_main_v43 (F := Ideal) x0 x1 x2 = z
      pointwise
    rw [h]
    split
    · exact out_ctx x0 x1 x2 b _ l
    · rw [out_grid]
      exact congrArg (attentionAt refOut x0 x1 x2 b · l) (Fin.ext (by simp [gridRow]; omega))
  funext x
  have e : val_main_v44 (F := Ideal) x0 x1 x2 x = val_main_v44 (F := Ideal) x0 x1 x2 (ix3 (x 0) (x 1) (x 2)) := at3 _ rfl rfl rfl
  exact e.trans (key (x 0) (x 1) (x 2))

/-- The log-normalisers the reference computes. -/
theorem log_eq : val_main_v79 (F := Ideal) x0 x1 = normaliserBy refLog x0 x1 := by
  have key : ∀ b h i l, val_main_v79 (F := Ideal) x0 x1 (ix4 b h i l) = normaliserAt refLog x0 x1 b h i := fun b h i l => by
    have e : val_main_v79 (F := Ideal) x0 x1 (ix4 b h i l)
        = val_main_v76 (F := Ideal) x0 x1 (ix4 b ⟨h.val / 4, by omega⟩ ⟨h.val % 4, by omega⟩ i) := by
      rw [val_main_v79_apply, val_main_v78_apply, val_main_v77_apply]
      refine at4 _ ?_ ?_ ?_ ?_ <;> simp <;> omega
    have e' : ∀ kh g, val_main_v76 (F := Ideal) x0 x1 (ix4 b kh g i)
        = if h : i.val < 256 then val_main_v62 (F := Ideal) x0 x1 (ix4 b kh g ⟨i.val, h⟩)
          else val_main_v75 (F := Ideal) x0 x1 (ix4 b kh g ⟨i.val - 256, by omega⟩) := fun kh g => by
      unfold val_main_v76
      generalize val_main_v62 (F := Ideal) x0 x1 = y
      generalize val_main_v75 (F := Ideal) x0 x1 = z
      pointwise
    have hh : headAt ⟨h.val / 4, by omega⟩ ⟨h.val % 4, by omega⟩ = h := Fin.ext (by simp [headAt]; omega)
    rw [e, e']
    split
    · rw [log_ctx_log, hh]; rfl
    · rw [log_grid_log, hh]
      exact congrArg (normaliserAt refLog x0 x1 b h) (Fin.ext (by simp [gridRow]; omega))
  funext x
  have e : val_main_v79 (F := Ideal) x0 x1 x = val_main_v79 (F := Ideal) x0 x1 (ix4 (x 0) (x 1) (x 2) (x 3)) := at4 _ rfl rfl rfl rfl
  exact e.trans (key (x 0) (x 1) (x 2) (x 3))

end Cert.ForwardReferenceIdeal.Value

end
-- ==== Proof.Finite.lean ====
/- The preconditions: an array whose elements all lie below infinity in absolute value holds real numbers. -/
module

public import proofs.«01_k».proof.Proof.Spec
public import Idealize.ShloMosaic.Lib.ReduceAll

@[expose] public section

noncomputable section

namespace Cert.Attention

open Idealize.ShloMosaic

/-- The literal of infinity. -/
theorem ofBits_top : Ideal.ofBits .f32 0x7F800000#32 = ⊤ := by simp [Ideal.ofBits, Ideal.ieee]

/-- A number whose absolute value compares below infinity is real. -/
theorem real_of_abs_lt (x : EReal) (h : Ideal.cmp .olt (max x (-x)) (Ideal.ofBits .f32 0x7F800000#32) = 1#1) :
    x = ((EReal.toReal x : ℝ) : EReal) := by
  rw [ofBits_top] at h
  have h' : max x (-x) < ⊤ := by
    by_contra hn
    have : Ideal.cmp .olt (max x (-x)) ⊤ = BitVec.ofBool (decide (max x (-x) < ⊤)) := rfl
    rw [this, decide_eq_false hn] at h
    exact absurd h (by decide)
  induction x with
  | bot => simp at h'
  | top => simp at h'
  | coe x => rfl

/-- The printed test of an array: the conjunction, over all elements, of their absolute values being below infinity. -/
def allFinite {s : Shape} {axes : List (Fin s.rank)} (X : FVec Ideal s .f32) (hb : (⟨0, ![]⟩ : Shape).BroadcastsInDim s (![] : Fin 0 → Fin s.rank))
    (h : s.ReducesTo axes (⟨0, ![]⟩ : Shape)) (hu : 0 < (⟨0, ![]⟩ : Shape).numel) : IVec (⟨0, ![]⟩ : Shape) 1 :=
  Host.reduce IntOp.andi (cmpf .olt (Host.absf X) (broadcastInDim s ![] hb (constant (⟨0, ![]⟩ : Shape) .f32 0x7F800000#32)))
    (constantI (⟨0, ![]⟩ : Shape) 1 1#1) h hu

/-- An array that passes the test holds real numbers. -/
theorem isReal_of_allFinite {s : Shape} {axes : List (Fin s.rank)} (X : FVec Ideal s .f32)
    (hb : (⟨0, ![]⟩ : Shape).BroadcastsInDim s (![] : Fin 0 → Fin s.rank))
    (h : s.ReducesTo axes (⟨0, ![]⟩ : Shape)) (hu : 0 < (⟨0, ![]⟩ : Shape).numel) (i : (⟨0, ![]⟩ : Shape).Idx)
    (e : allFinite X hb h hu i = 1#1) : IsReal X := fun x => by
  have : Subsingleton (⟨0, ![]⟩ : Shape).Idx := ⟨fun a b => funext fun k => k.elim0⟩
  exact real_of_abs_lt (X x) (Host.reduce_andi_all _ _ h hu i e x)

/-- Both bits of a conjunction that is one are one. -/
theorem andi_eq_one {a b : BitVec 1} (h : IntOp.andi a b = 1#1) : a = 1#1 ∧ b = 1#1 := by
  revert a b; decide

end Cert.Attention

end
-- ==== Proof.FwdClaim.lean ====
/- The forward call against its reference: equal results where queries and keys are finite. -/
module

public import proofs.«01_k».proof.Proof.FwdArray
public import proofs.«01_k».proof.Proof.FwdRef
public import proofs.«01_k».proof.Proof.Finite
public import proofs.«01_k».proof.Proof.Gen.Pre_finite_qk

@[expose] public section

noncomputable section

namespace Cert.Attention

open Idealize.ShloMosaic Idealize.ShloMosaic.TcCoe

/-- The forward call's precondition says that queries and keys are real numbers. -/
theorem isReal_of_finite_qk (q : Arr3 2 4352 1024) (k v : Arr3 2 4352 256)
    (h : Cert.Pre_finite_qk.fn (F := Ideal) q k v = fun _ => 1#1) : IsReal q ∧ IsReal k := by
  have e := congrFun h (fun a => a.elim0)
  obtain ⟨hq, hk⟩ := andi_eq_one (a := allFinite q Cert.Pre_finite_qk.Gen.bcast_S_S2x4352x1024
    Cert.Pre_finite_qk.Gen.reducesTo_S2x4352x1024_S_d0_1_2 Cert.Pre_finite_qk.Gen.h_S_ _)
    (b := allFinite k Cert.Pre_finite_qk.Gen.bcast_S_S2x4352x256
    Cert.Pre_finite_qk.Gen.reducesTo_S2x4352x256_S_d0_1_2 Cert.Pre_finite_qk.Gen.h_S_ _) e
  exact ⟨isReal_of_allFinite q _ _ _ _ hq, isReal_of_allFinite k _ _ _ _ hk⟩

/-- On real queries and keys the kernel's attention and the reference's are the same. -/
theorem attention_eq {q : Arr3 2 4352 1024} {k v : Arr3 2 4352 256} (hq : IsReal q) (hk : IsReal k) :
    attentionBy refOut q k v = attentionBy kerOut q k v :=
  attentionBy_congr (fun s w => (refOut_coe s w).trans (kerOut_coe s w).symm) hq hk

/-- On real queries and keys the kernel's log-normalisers and the reference's are the same. -/
theorem normaliser_eq {q : Arr3 2 4352 1024} {k : Arr3 2 4352 256} (hq : IsReal q) (hk : IsReal k) :
    normaliserBy refLog q k = normaliserBy kerLog q k :=
  normaliserBy_congr (fun s => (refLog_coe s).trans (kerLog_coe s).symm) hq hk

/-- The reference's attention output, over the kernel's arguments, is the array the forward call leaves. -/
theorem forward_out (m : (ℓ : Loc Cert.ForwardIdeal.nD Cert.ForwardIdeal.τ Cert.ForwardIdeal.sig) → Buf (Elt Ideal) ℓ)
    (c : Dev Cert.ForwardIdeal.nD)
    (h : IsReal (Cert.ForwardIdeal.Value.Q m c) ∧ IsReal (Cert.ForwardIdeal.Value.K m c)) :
    Cert.ForwardReferenceIdeal.Read.val_main_v44 (F := Ideal) (Cert.ForwardIdeal.Value.Q m c) (Cert.ForwardIdeal.Value.K m c)
      (Cert.ForwardIdeal.Value.W m c) = (Cert.ForwardIdeal.Gen.dats m 0 c).arrAt 3 Cert.ForwardIdeal.cfg0.N :=
  (Cert.ForwardReferenceIdeal.Value.out_eq _ _ _).trans
    ((attention_eq h.1 h.2).trans (Cert.ForwardIdeal.Value.out_final m c).symm)

/-- The reference's log-normalisers, over the kernel's arguments, are the array the forward call leaves. -/
theorem forward_log (m : (ℓ : Loc Cert.ForwardIdeal.nD Cert.ForwardIdeal.τ Cert.ForwardIdeal.sig) → Buf (Elt Ideal) ℓ)
    (c : Dev Cert.ForwardIdeal.nD)
    (h : IsReal (Cert.ForwardIdeal.Value.Q m c) ∧ IsReal (Cert.ForwardIdeal.Value.K m c)) :
    Cert.ForwardReferenceIdeal.Read.val_main_v79 (F := Ideal) (Cert.ForwardIdeal.Value.Q m c) (Cert.ForwardIdeal.Value.K m c)
      = (Cert.ForwardIdeal.Gen.dats m 0 c).arrAt 4 Cert.ForwardIdeal.cfg0.N :=
  (Cert.ForwardReferenceIdeal.Value.log_eq _ _).trans
    ((normaliser_eq h.1 h.2).trans (Cert.ForwardIdeal.Value.log_final m c).symm)

end Cert.Attention

end
-- ==== Proof.Grad.lean ====
/- The gradient of a row of softmax attention with respect to its logits on the extended reals: the form the kernel
   computes from the saved output and log-normaliser, the form the reference's derivative writes, and the real function
   both are. -/
module

public import proofs.«01_k».proof.Proof.Softmax

@[expose] public section

noncomputable section

namespace Cert.Attention

open Idealize.ShloMosaic

/-- One over the logarithm of two, as the idealized kernel names it. -/
abbrev log2e : EReal := (((Real.log 2)⁻¹ : ℝ) : EReal)

variable {n : ℕ}

/-- The gradient of the logits of a row: of the weights under `dp`, the products' gradients. -/
def rowGrad (s dp : Fin n → ℝ) (j : Fin n) : ℝ := weight s j * (dp j - ∑ i, weight s i * dp i) * scale

/-- A weight as the kernel recovers it from the row's log-normaliser `l`. -/
def kerProb (s : Fin n → EReal) (l : EReal) (j : Fin n) : EReal := Ideal.exp2 (s j * scaleLog2e - l * log2e)

/-- The gradient of a logit as the kernel computes it, where `D` is the product of the output and its gradient. -/
def kerGrad (s : Fin n → EReal) (l : EReal) (dp : Fin n → EReal) (D : EReal) (j : Fin n) : EReal :=
  kerProb s l j * (dp j - D) * Ideal.ofBits .f32 0x3DB504F3#32

/-- On real logits and their log-normaliser the kernel's weights are the softmax weights. -/
theorem kerProb_coe [NeZero n] (s : Fin n → ℝ) (j : Fin n) :
    kerProb (fun j => (s j : EReal)) (logTotal s : EReal) j = (weight s j : EReal) := by
  unfold kerProb scaleLog2e log2e
  rw [← EReal.coe_mul, ← EReal.coe_mul, ← EReal.coe_sub, weight_eq_exp, ← exp2_coe]
  congr 2
  unfold scale; ring

/-- On real rows the kernel's gradient of the logits is the real one. -/
theorem kerGrad_coe [NeZero n] (s dp : Fin n → ℝ) (j : Fin n) :
    kerGrad (fun j => (s j : EReal)) (logTotal s : EReal) (fun j => (dp j : EReal)) ((∑ i, weight s i * dp i : ℝ) : EReal) j
      = (rowGrad s dp j : EReal) := by
  unfold kerGrad rowGrad
  rw [kerProb_coe, ofBits_scale, EReal.coe_mul, EReal.coe_mul, EReal.coe_sub]

/-- The gradient of a logit as the reference's derivative writes it. -/
def refGrad (s dp : Fin n → EReal) (j : Fin n) : EReal :=
  (Ideal.div (dp j) (∑ i, refExp s i)
    + -∑ i, dp i * Ideal.div 1 ((∑ i, refExp s i) * ∑ i, refExp s i) * refExp s i) * refExp s j * Ideal.ofBits .f32 0x3DB504F3#32

/-- On real rows the reference's gradient of the logits is the real one. -/
theorem refGrad_coe [NeZero n] (s dp : Fin n → ℝ) (j : Fin n) :
    refGrad (fun j => (s j : EReal)) (fun j => (dp j : EReal)) j = (rowGrad s dp j : EReal) := by
  obtain ⟨M, -, hE⟩ := refExp_coe s
  have hpos : 0 < ∑ j, Real.exp (s j * scale - M) := Finset.sum_pos (fun _ _ => Real.exp_pos _) Finset.univ_nonempty
  have hw : ∀ i, weight s i = Real.exp (s i * scale - M) / ∑ j, Real.exp (s j * scale - M) := fun i => (exp_shift_div s M i).symm
  unfold refGrad rowGrad
  simp only [hE, hw]
  rw [coe_sum]
  generalize (∑ j, Real.exp (s j * scale - M)) = l at *
  have h1 : Ideal.div 1 ((l : EReal) * l) = ((1 / (l * l) : ℝ) : EReal) := by
    rw [← EReal.coe_mul, ← EReal.coe_one, div_coe_pos _ (mul_pos hpos hpos)]
  rw [h1, div_coe_pos _ hpos, ofBits_scale]
  simp only [← EReal.coe_mul]
  rw [coe_sum, ← EReal.coe_neg, ← EReal.coe_add, ← EReal.coe_mul, ← EReal.coe_mul]
  congr 1
  have e : ∑ i, dp i * (1 / (l * l)) * Real.exp (s i * scale - M) = (∑ i, Real.exp (s i * scale - M) / l * dp i) / l := by
    rw [Finset.sum_div]
    exact Finset.sum_congr rfl fun i _ => by field_simp
  rw [e]
  ring

end Cert.Attention

end
-- ==== Proof.BwdBlock.lean ====
/- What one grid point of the gradient call computes: each head's weights and gradients of the logits, and its products. -/
module

public import proofs.«01_k».proof.Proof.Grad
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.Attention Idealize.ShloMosaic

/-- The logits of query row `r` of one head against a block of keys. -/
def logit {a n : ℕ} (x : Vec Ideal ⟨3, ![1, a, 128]⟩ .bf16) (k : Vec Ideal ⟨3, ![1, n, 128]⟩ .bf16) (r : Fin a) (j : Fin n) : EReal :=
  ∑ e : Fin 128, x (ix3 0 r e) * k (ix3 0 j e)

/-- The gradients of the weights of query row `r`: its output's gradient against each value. -/
def dprod {a n : ℕ} (g : Vec Ideal ⟨3, ![1, a, 128]⟩ .f32) (v : Vec Ideal ⟨3, ![1, n, 128]⟩ .bf16) (r : Fin a) (j : Fin n) : EReal :=
  ∑ e : Fin 128, g (ix3 0 r e) * v (ix3 0 j e)

/-- The output of query row `r` times its gradient. -/
def dout {a : ℕ} (g o : Vec Ideal ⟨3, ![1, a, 128]⟩ .f32) (r : Fin a) : EReal :=
  ∑ e : Fin 128, g (ix3 0 r e) * o (ix3 0 r e)

/-- The weight of key `j` in query row `r`, from the row's log-normaliser. -/
def prob {a n : ℕ} (x : Vec Ideal ⟨3, ![1, a, 128]⟩ .bf16) (k : Vec Ideal ⟨3, ![1, n, 128]⟩ .bf16) (l : Vec Ideal ⟨4, ![1, 1, a, 128]⟩ .f32)
    (r : Fin a) (j : Fin n) : EReal := kerProb (logit x k r) (l (ix4 0 0 r 0)) j

/-- The gradient of the logit of query row `r` and key `j`. -/
def grad {a n : ℕ} (x : Vec Ideal ⟨3, ![1, a, 128]⟩ .bf16) (k v : Vec Ideal ⟨3, ![1, n, 128]⟩ .bf16) (o g : Vec Ideal ⟨3, ![1, a, 128]⟩ .f32)
    (l : Vec Ideal ⟨4, ![1, 1, a, 128]⟩ .f32) (r : Fin a) (j : Fin n) : EReal :=
  kerGrad (logit x k r) (l (ix4 0 0 r 0)) (dprod g v r) (dout g o r) j

/-- The first head's weights over the context's keys. -/
theorem probA (x : Vec Ideal S1x256x128 .bf16) (k : Vec Ideal S1x256x128 .bf16) (l : Vec Ideal S1x1x256x128 .f32) (r j : Fin 256) :
    k0_pay9 (F := Ideal) k x l (ix2 r j) = prob x k l r j := by
  unfold_payloads
  pointwise
  rfl

/-- The first head's weights over all keys. -/
theorem probB (x : Vec Ideal S1x256x128 .bf16) (k : Vec Ideal S1x4352x128 .bf16) (l : Vec Ideal S1x1x256x128 .f32) (r : Fin 256)
    (j : Fin 4352) : k0_pay48 (F := Ideal) k x l (ix2 r j) = prob x k l r j := by
  unfold_payloads
  pointwise
  rfl

/-- The first head's gradients of the logits over the context's keys. -/
theorem gradA (x : Vec Ideal S1x256x128 .bf16) (k v : Vec Ideal S1x256x128 .bf16) (o g : Vec Ideal S1x256x128 .f32)
    (l : Vec Ideal S1x1x256x128 .f32) (r j : Fin 256) : k0_pay10 (F := Ideal) k v x g o l (ix2 r j) = grad x k v o g l r j := by
  unfold_payloads
  pointwise
  rfl

/-- The first head's gradients of the logits over all keys. -/
theorem gradB (x : Vec Ideal S1x256x128 .bf16) (k v : Vec Ideal S1x4352x128 .bf16) (o g : Vec Ideal S1x256x128 .f32)
    (l : Vec Ideal S1x1x256x128 .f32) (r : Fin 256) (j : Fin 4352) :
    k0_pay49 (F := Ideal) k v x g o l (ix2 r j) = grad x k v o g l r j := by
  unfold_payloads
  pointwise
  rfl

/-- The first head's gradients of the queries over the context's keys. -/
theorem queryA (x : Vec Ideal S1x256x128 .bf16) (k v : Vec Ideal S1x256x128 .bf16) (o g : Vec Ideal S1x256x128 .f32)
    (l : Vec Ideal S1x1x256x128 .f32) (r : Fin 256) (d : Fin 128) :
    k0_pay12 (F := Ideal) (k0_pay11 k v x g o l) (ix3 0 r d) = ∑ j : Fin 256, grad x k v o g l r j * k (ix3 0 j d) := by
  simp only [← gradA]
  unfold k0_pay12 k0_pay11 k0_pay5
  generalize k0_pay10 (F := Ideal) k v x g o l = D
  pointwise

/-- The first head's gradients of the queries over all keys. -/
theorem queryB (x : Vec Ideal S1x256x128 .bf16) (k v : Vec Ideal S1x4352x128 .bf16) (o g : Vec Ideal S1x256x128 .f32)
    (l : Vec Ideal S1x1x256x128 .f32) (r : Fin 256) (d : Fin 128) :
    k0_pay51 (F := Ideal) (k0_pay50 k v x g o l) (ix3 0 r d) = ∑ j : Fin 4352, grad x k v o g l r j * k (ix3 0 j d) := by
  simp only [← gradB]
  unfold k0_pay51 k0_pay50 k0_pay44
  generalize k0_pay49 (F := Ideal) k v x g o l = D
  pointwise

/-- What one head adds to the context's keys' gradient, and to the values'. -/
abbrev keyTermA (x : Vec Ideal S1x256x128 .bf16) (k v : Vec Ideal S1x256x128 .bf16) (o g : Vec Ideal S1x256x128 .f32)
    (l : Vec Ideal S1x1x256x128 .f32) : FVec Ideal S128x256 .f32 := k0_pay13 (k0_pay7 x) (k0_pay10 k v x g o l)

abbrev valueTermA (x : Vec Ideal S1x256x128 .bf16) (k : Vec Ideal S1x256x128 .bf16) (g : Vec Ideal S1x256x128 .f32)
    (l : Vec Ideal S1x1x256x128 .f32) : FVec Ideal S128x256 .f32 := k0_pay14 (k0_pay8 g) (k0_pay9 k x l)

/-- What one head adds to all keys' gradient, and to the values'. -/
abbrev keyTermB (x : Vec Ideal S1x256x128 .bf16) (k v : Vec Ideal S1x4352x128 .bf16) (o g : Vec Ideal S1x256x128 .f32)
    (l : Vec Ideal S1x1x256x128 .f32) : FVec Ideal S128x4352 .f32 := k0_pay52 (k0_pay46 x) (k0_pay49 k v x g o l)

abbrev valueTermB (x : Vec Ideal S1x256x128 .bf16) (k : Vec Ideal S1x4352x128 .bf16) (g : Vec Ideal S1x256x128 .f32)
    (l : Vec Ideal S1x1x256x128 .f32) : FVec Ideal S128x4352 .f32 := k0_pay53 (k0_pay47 g) (k0_pay48 k x l)

theorem keyA (x : Vec Ideal S1x256x128 .bf16) (k v : Vec Ideal S1x256x128 .bf16) (o g : Vec Ideal S1x256x128 .f32)
    (l : Vec Ideal S1x1x256x128 .f32) (d : Fin 128) (j : Fin 256) :
    keyTermA x k v o g l (ix2 d j) = ∑ r : Fin 256, x (ix3 0 r d) * grad x k v o g l r j := by
  simp only [← gradA]
  unfold keyTermA k0_pay13 k0_pay7
  generalize k0_pay10 (F := Ideal) k v x g o l = D
  pointwise

theorem keyB (x : Vec Ideal S1x256x128 .bf16) (k v : Vec Ideal S1x4352x128 .bf16) (o g : Vec Ideal S1x256x128 .f32)
    (l : Vec Ideal S1x1x256x128 .f32) (d : Fin 128) (j : Fin 4352) :
    keyTermB x k v o g l (ix2 d j) = ∑ r : Fin 256, x (ix3 0 r d) * grad x k v o g l r j := by
  simp only [← gradB]
  unfold keyTermB k0_pay52 k0_pay46
  generalize k0_pay49 (F := Ideal) k v x g o l = D
  pointwise

theorem valueA (x : Vec Ideal S1x256x128 .bf16) (k : Vec Ideal S1x256x128 .bf16) (g : Vec Ideal S1x256x128 .f32)
    (l : Vec Ideal S1x1x256x128 .f32) (d : Fin 128) (j : Fin 256) :
    valueTermA x k g l (ix2 d j) = ∑ r : Fin 256, g (ix3 0 r d) * prob x k l r j := by
  simp only [← probA]
  unfold valueTermA k0_pay14 k0_pay8
  generalize k0_pay9 (F := Ideal) k x l = D
  pointwise

theorem valueB (x : Vec Ideal S1x256x128 .bf16) (k : Vec Ideal S1x4352x128 .bf16) (g : Vec Ideal S1x256x128 .f32)
    (l : Vec Ideal S1x1x256x128 .f32) (d : Fin 128) (j : Fin 4352) :
    valueTermB x k g l (ix2 d j) = ∑ r : Fin 256, g (ix3 0 r d) * prob x k l r j := by
  simp only [← probB]
  unfold valueTermB k0_pay53 k0_pay47
  generalize k0_pay48 (F := Ideal) k x l = D
  pointwise

/-- Adding a term to what the block holds. -/
theorem addA (D : FVec Ideal S128x256 .f32) (a : Vec Ideal S1x1x128x256 .f32) (d : Fin 128) (j : Fin 256) :
    k0_pay3 (F := Ideal) D a (ix4 0 0 d j) = a (ix4 0 0 d j) + D (ix2 d j) := by
  unfold_payloads
  pointwise

theorem addB (D : FVec Ideal S128x4352 .f32) (a : Vec Ideal S1x1x128x4352 .f32) (d : Fin 128) (j : Fin 4352) :
    k0_pay4 (F := Ideal) D a (ix4 0 0 d j) = a (ix4 0 0 d j) + D (ix2 d j) := by
  unfold_payloads
  pointwise

/-- An index of a block of one row of blocks is its last two coordinates. -/
theorem unit3 {a b : ℕ} (x : (⟨3, ![1, a, b]⟩ : Shape).Idx) : x = ix3 0 (x 1) (x 2) := by
  funext i
  match i with
  | 0 => exact Subsingleton.elim (α := Fin 1) _ _
  | 1 => rfl
  | 2 => rfl

theorem unit4 {a b : ℕ} (x : (⟨4, ![1, 1, a, b]⟩ : Shape).Idx) : x = ix4 0 0 (x 2) (x 3) := by
  funext i
  match i with
  | 0 => exact Subsingleton.elim (α := Fin 1) _ _
  | 1 => exact Subsingleton.elim (α := Fin 1) _ _
  | 2 => rfl
  | 3 => rfl

section Blocks

variable {n : ℕ} (x : Vec Ideal S1x256x512 .bf16) (k v : Vec Ideal ⟨3, ![1, n, 128]⟩ .bf16) (o g : Vec Ideal S1x256x512 .f32)
  (l : Vec Ideal S1x4x256x128 .f32)

/-- The logits of row `r` of head `h` of a block of four heads. -/
def headLogit (h : Fin 4) (r : Fin 256) (j : Fin n) : EReal :=
  ∑ e : Fin 128, x (ix3 0 r ⟨h.val * 128 + e.val, by omega⟩) * k (ix3 0 j e)

/-- The gradients of its weights. -/
def headDprod (h : Fin 4) (r : Fin 256) (j : Fin n) : EReal :=
  ∑ e : Fin 128, g (ix3 0 r ⟨h.val * 128 + e.val, by omega⟩) * v (ix3 0 j e)

/-- Its output times its output's gradient. -/
def headDout (h : Fin 4) (r : Fin 256) : EReal :=
  ∑ e : Fin 128, g (ix3 0 r ⟨h.val * 128 + e.val, by omega⟩) * o (ix3 0 r ⟨h.val * 128 + e.val, by omega⟩)

/-- Its weights. -/
def headProb (h : Fin 4) (r : Fin 256) : Fin n → EReal := kerProb (headLogit x k h r) (l (ix4 0 h r 0))

/-- The gradients of its logits. -/
def headGrad (h : Fin 4) (r : Fin 256) : Fin n → EReal :=
  kerGrad (headLogit x k h r) (l (ix4 0 h r 0)) (headDprod v g h r) (headDout o g h r)

/-- A block of the queries' gradient, at row `r` and lane `p`. -/
def blockQuery (r : Fin 256) (p : Fin 512) : EReal :=
  ∑ j : Fin n, headGrad x k v o g l ⟨p.val / 128, by omega⟩ r j * k (ix3 0 j ⟨p.val % 128, Nat.mod_lt _ (by norm_num)⟩)

/-- What a block of queries adds to the keys' gradient, at coordinate `d` of key `j`. -/
def blockKey (d : Fin 128) (j : Fin n) : EReal :=
  ∑ h : Fin 4, ∑ r : Fin 256, x (ix3 0 r ⟨h.val * 128 + d.val, by omega⟩) * headGrad x k v o g l h r j

/-- What a block of queries adds to the values' gradient. -/
def blockValue (d : Fin 128) (j : Fin n) : EReal :=
  ∑ h : Fin 4, ∑ r : Fin 256, g (ix3 0 r ⟨h.val * 128 + d.val, by omega⟩) * headProb x k l h r j

end Blocks

/-- The slice of a block of four heads that one head loads. -/
abbrev slice {φ : EltTy} (x : Vec Ideal S1x256x512 φ) (o : ℕ) (inb : ∀ a, (![0, 0, o] : Fin 3 → ℕ) a + (![1, 256, 128] : Fin 3 → ℕ) a ≤ S1x256x512.size a) :
    Vec Ideal S1x256x128 φ := View.ld x (Rect.unit ![0, 0, o] ![1, 256, 128] inb)

/-- The slice of the log-normalisers that one head loads. -/
abbrev row (l : Vec Ideal S1x4x256x128 .f32) (h : ℕ) (inb : ∀ a, (![0, h, 0, 0] : Fin 4 → ℕ) a + (![1, 1, 256, 128] : Fin 4 → ℕ) a ≤ S1x4x256x128.size a) :
    Vec Ideal S1x1x256x128 .f32 := View.ld l (Rect.unit ![0, h, 0, 0] ![1, 1, 256, 128] inb)

theorem slice_at {φ : EltTy} (x : Vec Ideal S1x256x512 φ) (o : ℕ) (inb) (r : Fin 256) (e : Fin 128) (h : o + e.val < 512) :
    slice x o inb (ix3 0 r e) = x (ix3 0 r ⟨o + e.val, h⟩) := by
  unfold slice
  pointwise

theorem row_at (l : Vec Ideal S1x4x256x128 .f32) (h : ℕ) (inb) (r : Fin 256) (e : Fin 128) (hh : h < 4) :
    row l h inb (ix4 0 0 r e) = l (ix4 0 ⟨h, hh⟩ r e) := by
  unfold row
  pointwise

section Slices

variable {n : ℕ} (x : Vec Ideal S1x256x512 .bf16) (k v : Vec Ideal ⟨3, ![1, n, 128]⟩ .bf16) (o g : Vec Ideal S1x256x512 .f32)
  (l : Vec Ideal S1x4x256x128 .f32)

theorem logit_slice (h : Fin 4) (i1) (r : Fin 256) : logit (slice x (h.val * 128) i1) k r = headLogit x k h r := by
  funext j
  exact Finset.sum_congr rfl fun e _ => congrArg (· * _) (slice_at x _ i1 r e (by omega))

theorem prob_slice (h : Fin 4) (i1 i2) (r : Fin 256) (j : Fin n) :
    prob (slice x (h.val * 128) i1) k (row l h.val i2) r j = headProb x k l h r j := by
  unfold prob headProb
  rw [logit_slice, row_at l h.val i2 r 0 h.isLt]

theorem grad_slice (h : Fin 4) (i1 i2 i3 i4) (r : Fin 256) (j : Fin n) :
    grad (slice x (h.val * 128) i1) k v (slice o (h.val * 128) i2) (slice g (h.val * 128) i3) (row l h.val i4) r j
      = headGrad x k v o g l h r j := by
  have e1 : dprod (slice g (h.val * 128) i3) v r = headDprod v g h r := by
    funext j
    exact Finset.sum_congr rfl fun e _ => congrArg (· * _) (slice_at g _ i3 r e (by omega))
  have e2 : dout (slice g (h.val * 128) i3) (slice o (h.val * 128) i2) r = headDout o g h r :=
    Finset.sum_congr rfl fun e _ => congrArg₂ (· * ·) (slice_at g _ i3 r e (by omega)) (slice_at o _ i2 r e (by omega))
  unfold grad headGrad
  rw [logit_slice, row_at l h.val i4 r 0 h.isLt, e1, e2]

/-- A head's slice of the queries' gradient is the block's at the slice's place. -/
theorem query_place (h : Fin 4) (i1 i2 i3 i4) (s : S1x256x128.Idx) (y : S1x256x512.Idx) (h1 : (y 1 : ℕ) = s 1)
    (h2 : (y 2 : ℕ) = h.val * 128 + s 2) :
    ∑ j : Fin n, grad (slice x (h.val * 128) i1) k v (slice o (h.val * 128) i2) (slice g (h.val * 128) i3) (row l h.val i4) (s 1) j
        * k (ix3 0 j (s 2)) = blockQuery x k v o g l (y 1) (y 2) := by
  have hs : (s 2 : ℕ) < 128 := (s 2).isLt
  have e1 : (y 1 : Fin 256) = (s 1 : Fin 256) := Fin.ext h1
  unfold blockQuery
  refine Finset.sum_congr rfl fun j _ => ?_
  have e2 : (⟨(y 2 : ℕ) / 128, by have := (y 2).isLt; omega⟩ : Fin 4) = h := Fin.ext (by show (y 2 : ℕ) / 128 = h.val; omega)
  have e3 : (⟨(y 2 : ℕ) % 128, Nat.mod_lt _ (by norm_num)⟩ : Fin 128) = s 2 := Fin.ext (by show (y 2 : ℕ) % 128 = (s 2 : ℕ); omega)
  refine congrArg₂ (· * ·) ((grad_slice x k v o g l h i1 i2 i3 i4 (s 1) j).trans ?_) (congrArg (fun e : Fin 128 => k (ix3 0 j e)) e3.symm)
  exact congrArg₂ (fun (h : Fin 4) (r : Fin 256) => headGrad x k v o g l h r j) e2.symm e1.symm

end Slices

variable (m : (ℓ : Loc nD τ sig) → Buf (Elt Ideal) ℓ)

/-- The keys (or the values) a point of the context loads: the first 256 rows of the block. -/
abbrev ctxRows (k : Vec Ideal S1x4352x128 .bf16) : Vec Ideal S1x256x128 .bf16 :=
  View.ld k (Rect.unit ![0, 0, 0] ![1, 256, 128] inb_S1x4352x128_S1x256x128_0_0_0)

theorem ctxRows_at (k : Vec Ideal S1x4352x128 .bf16) (j : Fin 256) (e : Fin 128) :
    ctxRows k (ix3 0 j e) = k (ix3 0 ⟨j.val, by omega⟩ e) := by
  unfold ctxRows
  pointwise

/-- What a point past the context leaves in the queries' gradient's block. -/
theorem queryOutsB (c : Dev nD) (t : Fin cfg0.N) (h0 : ¬t.val % 17 = 0) (h1 : 1 ≤ t.val % 17) (y : S1x256x512.Idx) :
    (outsAt0 m c t.val t.isLt).1 y = blockQuery (iblk m c 0 t) (iblk m c 1 t) (iblk m c 2 t) (iblk m c 3 t) (iblk m c 4 t) (iblk m c 5 t) (y 1) (y 2) := by
  rw [outsAt0_B m c t h0 h0 h1]
  frame_out
  canon_tiles s h
  · exact (congrArg _ (unit3 s)).trans ((queryB (slice _ 384 _) _ _ (slice _ 384 _) (slice _ 384 _) (row _ 3 _) _ _).trans
      (query_place _ _ _ _ _ _ 3 _ _ _ _ s y h1 h2))
  · exact (congrArg _ (unit3 s)).trans ((queryB (slice _ 256 _) _ _ (slice _ 256 _) (slice _ 256 _) (row _ 2 _) _ _).trans
      (query_place _ _ _ _ _ _ 2 _ _ _ _ s y h1 h2))
  · exact (congrArg _ (unit3 s)).trans ((queryB (slice _ 128 _) _ _ (slice _ 128 _) (slice _ 128 _) (row _ 1 _) _ _).trans
      (query_place _ _ _ _ _ _ 1 _ _ _ _ s y h1 h2))
  · exact (congrArg _ (unit3 s)).trans ((queryB (slice _ 0 _) _ _ (slice _ 0 _) (slice _ 0 _) (row _ 0 _) _ _).trans
      (query_place _ _ _ _ _ _ 0 _ _ _ _ s y h1 (h2.trans (Nat.zero_add _).symm)))

/-- What a point of the context leaves in the queries' gradient's block. -/
theorem queryOutsA (c : Dev nD) (t : Fin cfg0.N) (h0 : t.val % 17 = 0) (h1 : ¬1 ≤ t.val % 17) (y : S1x256x512.Idx) :
    (outsAt0 m c t.val t.isLt).1 y = blockQuery (iblk m c 0 t) (ctxRows (iblk m c 1 t)) (ctxRows (iblk m c 2 t)) (iblk m c 3 t) (iblk m c 4 t) (iblk m c 5 t) (y 1) (y 2) := by
  rw [outsAt0_A m c t h0 h0 h1]
  frame_out
  canon_tiles s h
  · exact (congrArg _ (unit3 s)).trans ((queryA (slice _ 384 _) _ _ (slice _ 384 _) (slice _ 384 _) (row _ 3 _) _ _).trans
      (query_place _ _ _ _ _ _ 3 _ _ _ _ s y h1 h2))
  · exact (congrArg _ (unit3 s)).trans ((queryA (slice _ 256 _) _ _ (slice _ 256 _) (slice _ 256 _) (row _ 2 _) _ _).trans
      (query_place _ _ _ _ _ _ 2 _ _ _ _ s y h1 h2))
  · exact (congrArg _ (unit3 s)).trans ((queryA (slice _ 128 _) _ _ (slice _ 128 _) (slice _ 128 _) (row _ 1 _) _ _).trans
      (query_place _ _ _ _ _ _ 1 _ _ _ _ s y h1 h2))
  · exact (congrArg _ (unit3 s)).trans ((queryA (slice _ 0 _) _ _ (slice _ 0 _) (slice _ 0 _) (row _ 0 _) _ _).trans
      (query_place _ _ _ _ _ _ 0 _ _ _ _ s y h1 (h2.trans (Nat.zero_add _).symm)))

theorem inb_slice (h : Fin 4) : ∀ a, (![0, 0, h.val * 128] : Fin 3 → ℕ) a + (![1, 256, 128] : Fin 3 → ℕ) a ≤ S1x256x512.size a := by
  revert h; decide

theorem inb_row (h : Fin 4) : ∀ a, (![0, h.val, 0, 0] : Fin 4 → ℕ) a + (![1, 1, 256, 128] : Fin 4 → ℕ) a ≤ S1x4x256x128.size a := by
  revert h; decide

/-- The four heads' terms, added one after another. -/
abbrev four {S : Shape} (T : Fin 4 → FVec Ideal S .f32) : FVec Ideal S .f32 := addf (addf (addf (T 0) (T 1)) (T 2)) (T 3)

/-- What a block of queries adds to the keys' gradient. -/
abbrev keysB (x : Vec Ideal S1x256x512 .bf16) (k v : Vec Ideal S1x4352x128 .bf16) (o g : Vec Ideal S1x256x512 .f32)
    (l : Vec Ideal S1x4x256x128 .f32) : FVec Ideal S128x4352 .f32 :=
  four fun h => keyTermB (slice x _ (inb_slice h)) k v (slice o _ (inb_slice h)) (slice g _ (inb_slice h)) (row l _ (inb_row h))

abbrev keysA (x : Vec Ideal S1x256x512 .bf16) (k v : Vec Ideal S1x256x128 .bf16) (o g : Vec Ideal S1x256x512 .f32)
    (l : Vec Ideal S1x4x256x128 .f32) : FVec Ideal S128x256 .f32 :=
  four fun h => keyTermA (slice x _ (inb_slice h)) k v (slice o _ (inb_slice h)) (slice g _ (inb_slice h)) (row l _ (inb_row h))

/-- What a block of queries adds to the values' gradient. -/
abbrev valuesB (x : Vec Ideal S1x256x512 .bf16) (k : Vec Ideal S1x4352x128 .bf16) (g : Vec Ideal S1x256x512 .f32)
    (l : Vec Ideal S1x4x256x128 .f32) : FVec Ideal S128x4352 .f32 :=
  four fun h => valueTermB (slice x _ (inb_slice h)) k (slice g _ (inb_slice h)) (row l _ (inb_row h))

abbrev valuesA (x : Vec Ideal S1x256x512 .bf16) (k : Vec Ideal S1x256x128 .bf16) (g : Vec Ideal S1x256x512 .f32)
    (l : Vec Ideal S1x4x256x128 .f32) : FVec Ideal S128x256 .f32 :=
  four fun h => valueTermA (slice x _ (inb_slice h)) k (slice g _ (inb_slice h)) (row l _ (inb_row h))

theorem four_at {S : Shape} (T : Fin 4 → FVec Ideal S .f32) (i : S.Idx) : four T i = ∑ h : Fin 4, T h i := by
  rw [Fin.sum_univ_four]; rfl

section Terms

variable (x : Vec Ideal S1x256x512 .bf16) (o g : Vec Ideal S1x256x512 .f32) (l : Vec Ideal S1x4x256x128 .f32) (d : Fin 128)

theorem keysB_at (k v : Vec Ideal S1x4352x128 .bf16) (j : Fin 4352) : keysB x k v o g l (ix2 d j) = blockKey x k v o g l d j := by
  refine (four_at _ _).trans (Finset.sum_congr rfl fun h _ => (keyB _ _ _ _ _ _ d j).trans (Finset.sum_congr rfl fun r _ => ?_))
  rw [grad_slice, slice_at x _ _ r d (by omega)]

theorem keysA_at (k v : Vec Ideal S1x256x128 .bf16) (j : Fin 256) : keysA x k v o g l (ix2 d j) = blockKey x k v o g l d j := by
  refine (four_at _ _).trans (Finset.sum_congr rfl fun h _ => (keyA _ _ _ _ _ _ d j).trans (Finset.sum_congr rfl fun r _ => ?_))
  rw [grad_slice, slice_at x _ _ r d (by omega)]

theorem valuesB_at (k : Vec Ideal S1x4352x128 .bf16) (j : Fin 4352) : valuesB x k g l (ix2 d j) = blockValue x k g l d j := by
  refine (four_at _ _).trans (Finset.sum_congr rfl fun h _ => (valueB _ _ _ _ d j).trans (Finset.sum_congr rfl fun r _ => ?_))
  rw [prob_slice, slice_at g _ _ r d (by omega)]

theorem valuesA_at (k : Vec Ideal S1x256x128 .bf16) (j : Fin 256) : valuesA x k g l (ix2 d j) = blockValue x k g l d j := by
  refine (four_at _ _).trans (Finset.sum_congr rfl fun h _ => (valueA _ _ _ _ d j).trans (Finset.sum_congr rfl fun r _ => ?_))
  rw [prob_slice, slice_at g _ _ r d (by omega)]

end Terms

/-- What a point past the context leaves in the keys' gradient's block: what the point before left, and its own term. -/
theorem keyOutsB (c : Dev nD) (t : Fin cfg0.N) (h0 : ¬t.val % 17 = 0) (h1 : 1 ≤ t.val % 17) (y : S1x1x128x4352.Idx) :
    (outsAt0 m c t.val t.isLt).2.1 y = (outsAt0 m c (t.val - 1) (by omega)).2.1 y
      + blockKey (iblk m c 0 t) (iblk m c 1 t) (iblk m c 2 t) (iblk m c 3 t) (iblk m c 4 t) (iblk m c 5 t) (y 2) (y 3) := by
  rw [outsAt0_B m c t h0 h0 h1]
  frame_out
  refine Eq.trans (b := k0_pay4 (keysB (iblk m c 0 t) (iblk m c 1 t) (iblk m c 2 t) (iblk m c 3 t) (iblk m c 4 t) (iblk m c 5 t))
    (outsAt0 m c (t.val - 1) (by omega)).2.1 y) rfl ?_
  rw [unit4 y]
  exact (addB _ _ _ _).trans (congrArg _ (keysB_at _ _ _ _ _ _ _ _))

/-- What a point past the context leaves in the values' gradient's block. -/
theorem valueOutsB (c : Dev nD) (t : Fin cfg0.N) (h0 : ¬t.val % 17 = 0) (h1 : 1 ≤ t.val % 17) (y : S1x1x128x4352.Idx) :
    (outsAt0 m c t.val t.isLt).2.2 y = (outsAt0 m c (t.val - 1) (by omega)).2.2 y
      + blockValue (iblk m c 0 t) (iblk m c 1 t) (iblk m c 4 t) (iblk m c 5 t) (y 2) (y 3) := by
  rw [outsAt0_B m c t h0 h0 h1]
  frame_out
  refine Eq.trans (b := k0_pay4 (valuesB (iblk m c 0 t) (iblk m c 1 t) (iblk m c 4 t) (iblk m c 5 t))
    (outsAt0 m c (t.val - 1) (by omega)).2.2 y) rfl ?_
  rw [unit4 y]
  exact (addB _ _ _ _).trans (congrArg _ (valuesB_at _ _ _ _ _ _))

/-- A block zeroed whole and then written in its first 256 columns. -/
theorem canon_columns (w : Vec Ideal S1x1x128x256 .f32) (z : Vec Ideal S1x1x128x4352 .f32) (i1 i2) (y : S1x1x128x4352.Idx) :
    View.canon [(⟨Rect.unit ![0, 0, 0, 0] ![1, 1, 128, 256] i1, w⟩ : View.Piece (Elt Ideal) S1x1x128x4352 .f32),
        ⟨Rect.unit ![0, 0, 0, 0] ![1, 1, 128, 4352] i2, z⟩] y
      = if h : (y 3 : ℕ) < 256 then w (ix4 0 0 (y 2) ⟨y 3, h⟩) else z y := by
  split
  · rename_i h
    have e : (Rect.unit (s := S1x1x128x4352) ![0, 0, 0, 0] ![1, 1, 128, 256] i1).emb (ix4 0 0 (y 2) ⟨y 3, h⟩) = y := by
      refine Rect.emb_eq_of_coords _ _ _ fun a => ?_
      match a with
      | 0 => exact (Nat.lt_one_iff.mp (y 0).isLt)
      | 1 => exact (Nat.lt_one_iff.mp (y 1).isLt)
      | 2 => show (y 2 : ℕ) = 0 + 1 * (y 2 : ℕ); omega
      | 3 => show (y 3 : ℕ) = 0 + 1 * (y 3 : ℕ); omega
    conv_lhs => rw [← e]
    exact View.canon_cons_emb _ _ _ _
  · rename_i h
    rw [View.canon_cons_of_not_mem _ _ (Rect.not_mem_set_of_axis _ y 3 0 256 rfl rfl rfl (Or.inr (by omega))),
      View.canon_cons_unit_lit' i2 z [] (by decide)]

/-- What a read of the first 256 columns of a zeroed block returns. -/
theorem readCov_columns {κ : Kind} {sp : Space} (u : View sig κ sp S1x1x128x4352 .f32) (z : Vec Ideal S1x1x128x4352 .f32) (i1 i2)
    (d : Fin 128) (j : Fin 256) :
    u.readCov [(⟨Rect.unit ![0, 0, 0, 0] ![1, 1, 128, 4352] i2, z⟩ : View.Piece (Elt Ideal) S1x1x128x4352 .f32)]
      (Rect.unit (s := S1x1x128x4352) ![0, 0, 0, 0] ![1, 1, 128, 256] i1).toLoadRect (ix4 (n0 := 1) (n1 := 1) 0 0 d j)
      = z (ix4 0 0 d ⟨j.val, by omega⟩) := by
  rw [View.readCov_eq_canon_ld _ _ _ (fun y => ⟨_, List.mem_cons_self, by
    rw [Rect.mem_set_unit]
    intro a
    refine ⟨?_, ?_⟩
    · match a with
      | 0 => exact Nat.zero_le _
      | 1 => exact Nat.zero_le _
      | 2 => exact Nat.zero_le _
      | 3 => exact Nat.zero_le _
    · match a with
      | 0 => exact (y 0).isLt
      | 1 => exact (y 1).isLt
      | 2 => exact (Nat.zero_add 128).symm ▸ (y 2).isLt
      | 3 => exact (Nat.zero_add 4352).symm ▸ (y 3).isLt⟩)]
  rw [View.canon_cons_unit_lit' i2 z [] (by decide)]
  pointwise

/-- The block a group of points begins from is zero. -/
theorem zeroKey (y : S1x1x128x4352.Idx) : k0_pay1 (F := Ideal) y = 0 := by
  unfold_payloads
  pointwise

theorem zeroValue (y : S1x1x128x4352.Idx) : k0_pay2 (F := Ideal) y = 0 := by
  unfold_payloads
  pointwise

/-- What a point of the context leaves in the keys' gradient's block: its term at the context's keys, zero at the others. -/
theorem keyOutsA (c : Dev nD) (t : Fin cfg0.N) (h0 : t.val % 17 = 0) (h1 : ¬1 ≤ t.val % 17) (y : S1x1x128x4352.Idx) :
    (outsAt0 m c t.val t.isLt).2.1 y = if h : (y 3 : ℕ) < 256 then
      blockKey (iblk m c 0 t) (ctxRows (iblk m c 1 t)) (ctxRows (iblk m c 2 t)) (iblk m c 3 t) (iblk m c 4 t) (iblk m c 5 t) (y 2) ⟨y 3, h⟩
      else 0 := by
  rw [outsAt0_A m c t h0 h0 h1]
  frame_out
  refine (canon_columns _ _ _ _ y).trans ?_
  split
  · rename_i h
    refine (addA (keysA (iblk m c 0 t) (ctxRows (iblk m c 1 t)) (ctxRows (iblk m c 2 t)) (iblk m c 3 t) (iblk m c 4 t) (iblk m c 5 t)) _ (y 2) ⟨y 3, h⟩).trans ?_
    exact (congrArg₂ (· + ·) ((readCov_columns _ _ _ _ _ _).trans (zeroKey _)) (keysA_at _ _ _ _ _ _ _ _)).trans (zero_add _)
  · exact zeroKey y

/-- What a point of the context leaves in the values' gradient's block. -/
theorem valueOutsA (c : Dev nD) (t : Fin cfg0.N) (h0 : t.val % 17 = 0) (h1 : ¬1 ≤ t.val % 17) (y : S1x1x128x4352.Idx) :
    (outsAt0 m c t.val t.isLt).2.2 y = if h : (y 3 : ℕ) < 256 then
      blockValue (iblk m c 0 t) (ctxRows (iblk m c 1 t)) (iblk m c 4 t) (iblk m c 5 t) (y 2) ⟨y 3, h⟩ else 0 := by
  rw [outsAt0_A m c t h0 h0 h1]
  frame_out
  refine (canon_columns _ _ _ _ y).trans ?_
  split
  · rename_i h
    refine (addA (valuesA (iblk m c 0 t) (ctxRows (iblk m c 1 t)) (iblk m c 4 t) (iblk m c 5 t)) _ (y 2) ⟨y 3, h⟩).trans ?_
    exact (congrArg₂ (· + ·) ((readCov_columns _ _ _ _ _ _).trans (zeroValue _)) (valuesA_at _ _ _ _ _ _)).trans (zero_add _)
  · exact zeroValue y

end Cert.KernelIdeal.Value

end
-- ==== Proof.BwdSpec.lean ====
/- The gradients the programs compute, over whole arrays, by the gradients of the logits and the weights of each query's row. -/
module

public import proofs.«01_k».proof.Proof.Spec
public import proofs.«01_k».proof.Proof.Grad
public import Idealize.ShloMosaic.Lib.Pipeline.ValueKit

@[expose] public section

noncomputable section

namespace Cert.Attention

open Idealize.ShloMosaic

/-- A number for each of the first `n` keys, of every query of every head. -/
abbrev Rows : Type := {n : ℕ} → n ≤ 4352 → Fin 2 → Fin 8 → Fin 4352 → Fin n → EReal

/-- The gradient of the queries, at token `i` and lane `p`, from the gradients `G` of the logits. -/
def queryGrad (G : Rows) (K : Arr3 2 4352 256) (b : Fin 2) (i : Fin 4352) (p : Fin 1024) : EReal :=
  if i.val < 256 then ∑ j, G ctx_le b (headOf p) i j * K (ix3 b (Fin.castLE ctx_le j) (keyLane (headOf p) (coordOf p)))
  else ∑ j, G le_rfl b (headOf p) i j * K (ix3 b j (keyLane (headOf p) (coordOf p)))

/-- A product of the rows `X` of the queries with numbers `G` of queries and keys, summed over the queries and the heads that
    see the key: the gradient of the keys from the gradients of the logits (`X` the queries), and the gradient of the values from
    the weights (`X` the gradient of the output). The context's keys are seen by the context's queries too. -/
def keyGrad (G : Rows) (X : Arr3 2 4352 1024) (b kh : Fin 2) (d : Fin 128) (j : Fin 4352) : EReal :=
  (if h : j.val < 256 then
    ∑ g : Fin 4, ∑ r : Fin 256, X (ix3 b (Fin.castLE ctx_le r) (lane (headAt kh g) d)) * G ctx_le b (headAt kh g) (Fin.castLE ctx_le r) ⟨j.val, h⟩
    else 0)
  + ∑ g : Fin 4, ∑ r : Fin 4096, X (ix3 b (gridRow r) (lane (headAt kh g) d)) * G le_rfl b (headAt kh g) (gridRow r) j

/-- The gradient of all queries. -/
def queryGrads (G : Rows) (K : Arr3 2 4352 256) : Arr3 2 4352 1024 := fun x => queryGrad G K (x 0) (x 1) (x 2)

/-- The gradient of all keys (or values), transposed. -/
def keyGrads (G : Rows) (X : Arr3 2 4352 1024) : Arr4 2 2 128 4352 := fun x => keyGrad G X (x 0) (x 1) (x 2) (x 3)

/-- Two families of rows agree where they are read: the context's queries over the context's keys, the others over all keys. -/
def Agree (G H : Rows) : Prop :=
  (∀ b h (i : Fin 4352), i.val < 256 → G ctx_le b h i = H ctx_le b h i) ∧ ∀ b h (i : Fin 4352), ¬ i.val < 256 → G le_rfl b h i = H le_rfl b h i

theorem queryGrads_congr {G H : Rows} (e : Agree G H) (K : Arr3 2 4352 256) : queryGrads G K = queryGrads H K := by
  have key : ∀ b i p, queryGrad G K b i p = queryGrad H K b i p := fun b i p => by
    unfold queryGrad
    split
    · rename_i h; rw [e.1 b (headOf p) i h]
    · rename_i h; rw [e.2 b (headOf p) i h]
  exact funext fun x => key _ _ _

theorem keyGrads_congr {G H : Rows} (e : Agree G H) (X : Arr3 2 4352 1024) : keyGrads G X = keyGrads H X := by
  have key : ∀ b kh d j, keyGrad G X b kh d j = keyGrad H X b kh d j := fun b kh d j => by
    unfold keyGrad
    refine congrArg₂ (· + ·) ?_ ?_
    · split
      · exact Finset.sum_congr rfl fun g _ => Finset.sum_congr rfl fun r _ => by rw [e.1 b (headAt kh g) (Fin.castLE ctx_le r) r.isLt]
      · rfl
    · exact Finset.sum_congr rfl fun g _ => Finset.sum_congr rfl fun r _ => by
        rw [e.2 b (headAt kh g) (gridRow r) (by simp [gridRow])]
  exact funext fun x => key _ _ _ _

/-- The gradient of a key from one term for each of the 17 blocks of queries, the first of them the context's. -/
theorem sum_blocks (G : Rows) (X : Arr3 2 4352 1024) (b kh : Fin 2) (d : Fin 128) (j : Fin 4352) (T : Fin 17 → EReal)
    (h0 : T 0 = if h : j.val < 256 then
      ∑ g : Fin 4, ∑ r : Fin 256, X (ix3 b (Fin.castLE ctx_le r) (lane (headAt kh g) d)) * G ctx_le b (headAt kh g) (Fin.castLE ctx_le r) ⟨j.val, h⟩
      else 0)
    (hs : ∀ s : Fin 16, T s.succ = ∑ g : Fin 4, ∑ r : Fin 256, X (ix3 b ⟨256 * (s.val + 1) + r.val, by omega⟩ (lane (headAt kh g) d))
      * G le_rfl b (headAt kh g) ⟨256 * (s.val + 1) + r.val, by omega⟩ j) :
    ∑ s, T s = keyGrad G X b kh d j := by
  rw [Fin.sum_univ_succ, h0, Finset.sum_congr rfl fun s _ => hs s, Finset.sum_comm]
  refine congrArg _ (Finset.sum_congr rfl fun g _ => ?_)
  refine Fin.sum_mul_add_congr fun s r hl => ?_
  have e : (⟨256 * (s.val + 1) + r.val, by omega⟩ : Fin 4352) = gridRow ⟨s.val * 256 + r.val, hl⟩ :=
    Fin.ext (by show 256 * (s.val + 1) + r.val = 256 + (s.val * 256 + r.val); ring)
  rw [e]

variable (Q dO : Arr3 2 4352 1024) (K W : Arr3 2 4352 256)

/-- The product of a query's output and the output's gradient. -/
def rowDout (O : Arr3 2 4352 1024) (b : Fin 2) (h : Fin 8) (i : Fin 4352) : EReal :=
  ∑ e : Fin 128, dO (ix3 b i (lane h e)) * O (ix3 b i (lane h e))

/-- The gradients of the logits as the kernel computes them from the saved output `O` and log-normalisers `L`. -/
def kerGrads (O : Arr3 2 4352 1024) (L : Arr4 2 8 4352 128) : Rows := fun hn b h i =>
  kerGrad (rowLogits hn Q K b h i) (L (ix4 b h i 0)) (rowLogits hn dO W b h i) (rowDout dO O b h i)

/-- The weights as the kernel recovers them from the log-normalisers. -/
def kerProbs (L : Arr4 2 8 4352 128) : Rows := fun hn b h i => kerProb (rowLogits hn Q K b h i) (L (ix4 b h i 0))

/-- The gradients of the logits as the reference writes them. -/
def refGrads : Rows := fun hn b h i => refGrad (rowLogits hn Q K b h i) (rowLogits hn dO W b h i)

/-- The weights as the reference writes them. -/
def refProbs : Rows := fun hn b h i => refWeight (rowLogits hn Q K b h i)

variable {Q dO K W}

/-- The product of the output and its gradient is the sum of the weights times their gradients. -/
theorem dout_coe {n : ℕ} [NeZero n] (hn : n ≤ 4352) (hQ : IsReal Q) (hK : IsReal K) (hW : IsReal W) (hD : IsReal dO) (b : Fin 2) (h : Fin 8)
    (i : Fin 4352) (O : Arr3 2 4352 1024)
    (hO : ∀ e, O (ix3 b i (lane h e)) = refOut (rowLogits hn Q K b h i) (rowValues hn W b h e)) :
    rowDout dO O b h i = ((∑ j, weight (realLogits hn Q K b h i) j * realLogits hn dO W b h i j : ℝ) : EReal) := by
  unfold rowDout
  have e : ∀ e : Fin 128, O (ix3 b i (lane h e))
      = ((∑ j, weight (realLogits hn Q K b h i) j * (W (ix3 b (Fin.castLE hn j) (keyLane h e))).toReal : ℝ) : EReal) := fun e => by
    rw [hO, rowLogits_coe hn hQ hK, refOut_coe, ← coe_sum_mul]
    exact Finset.sum_congr rfl fun j _ => congrArg _ (hW _)
  simp only [e]
  have e' : ∀ e : Fin 128, dO (ix3 b i (lane h e)) = ((dO (ix3 b i (lane h e))).toReal : EReal) := fun e => hD _
  rw [Finset.sum_congr rfl fun e _ => congrArg (· * _) (e' e), coe_sum_mul]
  congr 1
  unfold realLogits
  simp only [Finset.mul_sum]
  rw [Finset.sum_comm]
  exact Finset.sum_congr rfl fun j _ => Finset.sum_congr rfl fun e _ => by ring

theorem refLog_ctx (b : Fin 2) (h : Fin 8) (i : Fin 4352) (hi : i.val < 256) :
    normaliserBy refLog Q K (ix4 b h i 0) = refLog (rowLogits ctx_le Q K b h i) := if_pos hi

theorem refLog_grid (b : Fin 2) (h : Fin 8) (i : Fin 4352) (hi : ¬ i.val < 256) :
    normaliserBy refLog Q K (ix4 b h i 0) = refLog (rowLogits le_rfl Q K b h i) := if_neg hi

/-- On real arrays the kernel's gradients of the logits are the reference's. -/
theorem grads_agree (hQ : IsReal Q) (hK : IsReal K) (hW : IsReal W) (hD : IsReal dO) :
    Agree (refGrads Q dO K W) (kerGrads Q dO K W (attentionBy refOut Q K W) (normaliserBy refLog Q K)) := by
  have hl : ∀ h e, headOf (lane h e) = h := fun h e => Fin.ext (by simp only [headOf, lane]; omega)
  have hc : ∀ h e, coordOf (lane h e) = e := fun h e => Fin.ext (by simp only [coordOf, lane]; omega)
  refine ⟨fun b h i hi => funext fun j => ?_, fun b h i hi => funext fun j => ?_⟩
  · show refGrad (rowLogits ctx_le Q K b h i) (rowLogits ctx_le dO W b h i) j = kerGrad (rowLogits ctx_le Q K b h i)
      (normaliserBy refLog Q K (ix4 b h i 0)) (rowLogits ctx_le dO W b h i) (rowDout dO (attentionBy refOut Q K W) b h i) j
    rw [dout_coe ctx_le hQ hK hW hD b h i (attentionBy refOut Q K W) fun e => (show attentionAt refOut Q K W b i (lane h e) = _ by
        unfold attentionAt; rw [if_pos hi, hl, hc]),
      refLog_ctx b h i hi, rowLogits_coe ctx_le hQ hK, rowLogits_coe ctx_le hD hW,
      refLog_coe, kerGrad_coe, refGrad_coe]
  · show refGrad (rowLogits le_rfl Q K b h i) (rowLogits le_rfl dO W b h i) j = kerGrad (rowLogits le_rfl Q K b h i)
      (normaliserBy refLog Q K (ix4 b h i 0)) (rowLogits le_rfl dO W b h i) (rowDout dO (attentionBy refOut Q K W) b h i) j
    rw [dout_coe le_rfl hQ hK hW hD b h i (attentionBy refOut Q K W) fun e => (show attentionAt refOut Q K W b i (lane h e) = _ by
        unfold attentionAt; rw [if_neg hi, hl, hc]),
      refLog_grid b h i hi, rowLogits_coe le_rfl hQ hK, rowLogits_coe le_rfl hD hW,
      refLog_coe, kerGrad_coe, refGrad_coe]

/-- On real arrays the kernel's weights are the reference's. -/
theorem probs_agree (hQ : IsReal Q) (hK : IsReal K) : Agree (refProbs Q K) (kerProbs Q K (normaliserBy refLog Q K)) := by
  refine ⟨fun b h i hi => funext fun j => ?_, fun b h i hi => funext fun j => ?_⟩
  · show refWeight (rowLogits ctx_le Q K b h i) j = kerProb (rowLogits ctx_le Q K b h i) (normaliserBy refLog Q K (ix4 b h i 0)) j
    rw [refLog_ctx b h i hi, rowLogits_coe ctx_le hQ hK, refLog_coe, kerProb_coe, refWeight_coe]
  · show refWeight (rowLogits le_rfl Q K b h i) j = kerProb (rowLogits le_rfl Q K b h i) (normaliserBy refLog Q K (ix4 b h i 0)) j
    rw [refLog_grid b h i hi, rowLogits_coe le_rfl hQ hK, refLog_coe, kerProb_coe, refWeight_coe]

end Cert.Attention

end
-- ==== Proof.BwdArray.lean ====
/- The gradient call's result arrays: the blocks its points leave, put together. -/
module

public import proofs.«01_k».proof.Proof.BwdBlock
public import proofs.«01_k».proof.Proof.BwdSpec
public import proofs.«01_k».proof.Proof.FwdRef

@[expose] public section

set_option maxRecDepth 16384

noncomputable section

namespace Cert.KernelIdeal.Value

open Cert.KernelIdeal Cert.KernelIdeal.Gen Cert.Attention Idealize.ShloMosaic Idealize.ShloMosaic.TcCoe

variable (m : (ℓ : Loc nD τ sig) → Buf (Elt Ideal) ℓ)

/-- The block each grid point takes of each window's array: the points run over the batch, the key head and the block of
    queries. -/
theorem idx : ∀ t : Fin cfg0.N, win0_0.index t = ![t.val / 34, t.val % 17, t.val / 17 % 2]
    ∧ win0_1.index t = ![t.val / 34, 0, 8 + t.val / 17 % 2] ∧ win0_2.index t = ![t.val / 34, 0, 10 + t.val / 17 % 2]
    ∧ win0_3.index t = ![t.val / 34, t.val % 17, t.val / 17 % 2] ∧ win0_4.index t = ![t.val / 34, t.val % 17, t.val / 17 % 2]
    ∧ win0_5.index t = ![t.val / 34, t.val / 17 % 2, t.val % 17, 0] ∧ win0_6.index t = ![t.val / 34, t.val % 17, t.val / 17 % 2]
    ∧ win0_7.index t = ![t.val / 34, t.val / 17 % 2, 0, 0] ∧ win0_8.index t = ![t.val / 34, t.val / 17 % 2, 0, 0]
    ∧ t.val < 68 :=
  (by decide +kernel : ∀ t : Fin grid0.N, _)

/-- The queries, the keys, the values and the output's gradient the call was given. -/
abbrev Q (c : Dev nD) : Arr3 2 4352 1024 := m ((c : Thread nD τ).loc main_arg0)
abbrev K (c : Dev nD) : Arr3 2 4352 256 := m ((c : Thread nD τ).loc main_arg1)
abbrev W (c : Dev nD) : Arr3 2 4352 256 := m ((c : Thread nD τ).loc main_arg2)
abbrev dO (c : Dev nD) : Arr3 2 4352 1024 := m ((c : Thread nD τ).loc main_arg3)

/-- The output the call is given: the reference's attention. -/
abbrev O (c : Dev nD) : Arr3 2 4352 1024 := attentionBy refOut (Q m c) (K m c) (W m c)

/-- The log-normalisers the call is given: the reference's. -/
abbrev L (c : Dev nD) : Arr4 2 8 4352 128 := normaliserBy refLog (Q m c) (K m c)

/-- The array the call reads holds queries, keys and values side by side. -/
theorem entry_at (c : Dev nD) (b : Fin 2) (i : Fin 4352) (l : Fin 1536) : (V m c main_v79 : Vec Ideal S2x4352x1536 .bf16) (ix3 b i l)
    = if h : l.val < 1024 then Q m c (ix3 b i ⟨l.val, h⟩)
      else if h : l.val - 1024 < 256 then K m c (ix3 b i ⟨l.val - 1024, h⟩)
      else W m c (ix3 b i ⟨l.val - 1024 - 256, by omega⟩) := by
  entry_read
  pointwise

/-- The output array is computed by the reference's lines. -/
theorem out_entry (c : Dev nD) : (V m c main_v44 : Arr3 2 4352 1024) = O m c := by
  refine Eq.trans (b := Cert.ForwardReferenceIdeal.Read.val_main_v44 (F := Ideal) (Q m c) (K m c) (W m c)) ?_
    (Cert.ForwardReferenceIdeal.Value.out_eq _ _ _)
  entry_read
  rfl

/-- The log-normalisers are computed by the reference's lines. -/
theorem log_entry (c : Dev nD) : (V m c main_v81 : Arr4 2 8 4352 128) = L m c := by
  refine Eq.trans (b := Cert.ForwardReferenceIdeal.Read.val_main_v79 (F := Ideal) (Q m c) (K m c)) ?_
    (Cert.ForwardReferenceIdeal.Value.log_eq _ _)
  entry_read
  rfl

/-- A point's query block, read at an index. -/
theorem query_at (c : Dev nD) (t : Fin cfg0.N) (r : Fin 256) (l : Fin 512) (b : Fin 2) (i : Fin 4352) (p : Fin 1024)
    (hb : b.val = t.val / 34) (hi : i.val = 256 * (t.val % 17) + r.val) (hp : p.val = 512 * (t.val / 17 % 2) + l.val) :
    (iblk m c 0 t : Vec Ideal S1x256x512 .bf16) (ix3 0 r l) = Q m c (ix3 b i p) := by
  have h : (iblk m c 0 t : Vec Ideal S1x256x512 .bf16) (ix3 0 r l)
      = (V m c main_v79 : Vec Ideal S2x4352x1536 .bf16) (ix3 b i ⟨p.val, by omega⟩) := by blk_ext [iblk, idx t]
  rw [h, entry_at, dif_pos p.isLt]

/-- A point's key block, read at an index. -/
theorem key_at (c : Dev nD) (t : Fin cfg0.N) (j : Fin 4352) (e : Fin 128) (b : Fin 2) (p : Fin 256)
    (hb : b.val = t.val / 34) (hp : p.val = 128 * (t.val / 17 % 2) + e.val) :
    (iblk m c 1 t : Vec Ideal S1x4352x128 .bf16) (ix3 0 j e) = K m c (ix3 b j p) := by
  have h : (iblk m c 1 t : Vec Ideal S1x4352x128 .bf16) (ix3 0 j e)
      = (V m c main_v79 : Vec Ideal S2x4352x1536 .bf16) (ix3 b j ⟨1024 + p.val, by omega⟩) := by blk_ext [iblk, idx t]
  rw [h, entry_at, dif_neg (by show ¬ 1024 + p.val < 1024; omega), dif_pos (by show 1024 + p.val - 1024 < 256; omega)]
  congr 2
  exact Fin.ext (by show 1024 + p.val - 1024 = p.val; omega)

/-- A point's value block, read at an index. -/
theorem value_at (c : Dev nD) (t : Fin cfg0.N) (j : Fin 4352) (e : Fin 128) (b : Fin 2) (p : Fin 256)
    (hb : b.val = t.val / 34) (hp : p.val = 128 * (t.val / 17 % 2) + e.val) :
    (iblk m c 2 t : Vec Ideal S1x4352x128 .bf16) (ix3 0 j e) = W m c (ix3 b j p) := by
  have h : (iblk m c 2 t : Vec Ideal S1x4352x128 .bf16) (ix3 0 j e)
      = (V m c main_v79 : Vec Ideal S2x4352x1536 .bf16) (ix3 b j ⟨1280 + p.val, by omega⟩) := by blk_ext [iblk, idx t]
  rw [h, entry_at, dif_neg (by show ¬ 1280 + p.val < 1024; omega), dif_neg (by show ¬ 1280 + p.val - 1024 < 256; omega)]
  congr 2
  exact Fin.ext (by show 1280 + p.val - 1024 - 256 = p.val; omega)

/-- A point's block of the output, read at an index. -/
theorem out_at (c : Dev nD) (t : Fin cfg0.N) (r : Fin 256) (l : Fin 512) (b : Fin 2) (i : Fin 4352) (p : Fin 1024)
    (hb : b.val = t.val / 34) (hi : i.val = 256 * (t.val % 17) + r.val) (hp : p.val = 512 * (t.val / 17 % 2) + l.val) :
    (iblk m c 3 t : Vec Ideal S1x256x512 .f32) (ix3 0 r l) = O m c (ix3 b i p) := by
  have h : (iblk m c 3 t : Vec Ideal S1x256x512 .f32) (ix3 0 r l) = (V m c main_v44 : Arr3 2 4352 1024) (ix3 b i p) := by blk_ext [iblk, idx t]
  rw [h, out_entry]

/-- A point's block of the output's gradient, read at an index. -/
theorem do_at (c : Dev nD) (t : Fin cfg0.N) (r : Fin 256) (l : Fin 512) (b : Fin 2) (i : Fin 4352) (p : Fin 1024)
    (hb : b.val = t.val / 34) (hi : i.val = 256 * (t.val % 17) + r.val) (hp : p.val = 512 * (t.val / 17 % 2) + l.val) :
    (iblk m c 4 t : Vec Ideal S1x256x512 .f32) (ix3 0 r l) = dO m c (ix3 b i p) := by
  blk_ext [iblk, V, idx t]

/-- A point's block of the log-normalisers, read at an index. -/
theorem log_at (c : Dev nD) (t : Fin cfg0.N) (g : Fin 4) (r : Fin 256) (l : Fin 128) (b : Fin 2) (h : Fin 8) (i : Fin 4352)
    (hb : b.val = t.val / 34) (hh : h.val = 4 * (t.val / 17 % 2) + g.val) (hi : i.val = 256 * (t.val % 17) + r.val) :
    (iblk m c 5 t : Vec Ideal S1x4x256x128 .f32) (ix4 0 g r l) = L m c (ix4 b h i l) := by
  have h : (iblk m c 5 t : Vec Ideal S1x4x256x128 .f32) (ix4 0 g r l) = (V m c main_v81 : Arr4 2 8 4352 128) (ix4 b h i l) := by blk_ext [iblk, idx t]
  rw [h, log_entry]

/-- The gradients of the logits by the kernel's row function, of the arrays the call is given. -/
abbrev G (c : Dev nD) : Rows := kerGrads (Q m c) (dO m c) (K m c) (W m c) (O m c) (L m c)

/-- The weights by the kernel's row function. -/
abbrev P (c : Dev nD) : Rows := kerProbs (Q m c) (K m c) (L m c)

section Rows

variable (c : Dev nD) (t : Fin cfg0.N) {n : ℕ} (hn : n ≤ 4352) (k v : Vec Ideal ⟨3, ![1, n, 128]⟩ .bf16)
  (hk : ∀ j e, k (ix3 0 j e) = (iblk m c 1 t : Vec Ideal S1x4352x128 .bf16) (ix3 0 (Fin.castLE hn j) e))
  (hv : ∀ j e, v (ix3 0 j e) = (iblk m c 2 t : Vec Ideal S1x4352x128 .bf16) (ix3 0 (Fin.castLE hn j) e))
  (g : Fin 4) (r : Fin 256) (b : Fin 2) (h : Fin 8) (i : Fin 4352)
  (hb : b.val = t.val / 34) (hi : i.val = 256 * (t.val % 17) + r.val) (hh : h.val = 4 * (t.val / 17 % 2) + g.val)

include hk hb hi hh

theorem headLogit_eq : headLogit (iblk m c 0 t) k g r = rowLogits hn (Q m c) (K m c) b h i := by
  funext j
  refine Finset.sum_congr rfl fun e _ => ?_
  rw [hk, query_at m c t r _ b i (lane h e) hb hi (by simp only [lane]; omega),
    key_at m c t _ e b (keyLane h e) hb (by simp only [keyLane]; omega)]

theorem headProb_eq : headProb (iblk m c 0 t) k (iblk m c 5 t) g r = P m c hn b h i := by
  unfold headProb
  rw [headLogit_eq m c t hn k hk g r b h i hb hi hh, log_at m c t g r 0 b h i hb hh hi]
  rfl

include hv

theorem headDprod_eq : headDprod v (iblk m c 4 t) g r = rowLogits hn (dO m c) (W m c) b h i := by
  funext j
  refine Finset.sum_congr rfl fun e _ => ?_
  rw [hv, do_at m c t r _ b i (lane h e) hb hi (by simp only [lane]; omega),
    value_at m c t _ e b (keyLane h e) hb (by simp only [keyLane]; omega)]

theorem headDout_eq : headDout (iblk m c 3 t) (iblk m c 4 t) g r = rowDout (dO m c) (O m c) b h i := by
  refine Finset.sum_congr rfl fun e _ => ?_
  rw [do_at m c t r _ b i (lane h e) hb hi (by simp only [lane]; omega), out_at m c t r _ b i (lane h e) hb hi (by simp only [lane]; omega)]

theorem headGrad_eq : headGrad (iblk m c 0 t) k v (iblk m c 3 t) (iblk m c 4 t) (iblk m c 5 t) g r = G m c hn b h i := by
  unfold headGrad
  rw [headLogit_eq m c t hn k hk g r b h i hb hi hh, headDprod_eq m c t hn k v hk hv g r b h i hb hi hh,
    headDout_eq m c t hn k v hk hv g r b h i hb hi hh, log_at m c t g r 0 b h i hb hh hi]
  rfl

end Rows

end Cert.KernelIdeal.Value

end
-- ==== Proof.BwdFinal.lean ====
/- The gradient call's three result arrays are the gradients by the kernel's row functions. -/
module

public import proofs.«01_k».proof.Proof.BwdArray

@[expose] public section

set_option maxRecDepth 16384

noncomputable section

namespace Cert.KernelIdeal.Value

open Cert.KernelIdeal Cert.KernelIdeal.Gen Cert.Attention Idealize.ShloMosaic Idealize.ShloMosaic.TcCoe

variable (m : (ℓ : Loc nD τ sig) → Buf (Elt Ideal) ℓ) (c : Dev nD)

/-- A point's block of the queries' gradient over any number of leading keys, by the whole arrays. -/
theorem blockQuery_eq (t : Fin cfg0.N) {n : ℕ} (hn : n ≤ 4352) (k v : Vec Ideal ⟨3, ![1, n, 128]⟩ .bf16)
    (hk : ∀ j e, k (ix3 0 j e) = (iblk m c 1 t : Vec Ideal S1x4352x128 .bf16) (ix3 0 (Fin.castLE hn j) e))
    (hv : ∀ j e, v (ix3 0 j e) = (iblk m c 2 t : Vec Ideal S1x4352x128 .bf16) (ix3 0 (Fin.castLE hn j) e))
    (r : Fin 256) (l : Fin 512) (b : Fin 2) (i : Fin 4352) (p : Fin 1024)
    (hb : b.val = t.val / 34) (hi : i.val = 256 * (t.val % 17) + r.val) (hp : p.val = 512 * (t.val / 17 % 2) + l.val) :
    blockQuery (iblk m c 0 t) k v (iblk m c 3 t) (iblk m c 4 t) (iblk m c 5 t) r l
      = ∑ j, G m c hn b (headOf p) i j * K m c (ix3 b (Fin.castLE hn j) (keyLane (headOf p) (coordOf p))) := by
  unfold blockQuery
  refine Finset.sum_congr rfl fun j _ => ?_
  rw [headGrad_eq m c t hn k v hk hv _ r b (headOf p) i hb hi (by simp only [headOf]; omega), hk,
    key_at m c t _ _ b (keyLane (headOf p) (coordOf p)) hb (by simp only [keyLane, headOf, coordOf]; omega)]

/-- What a point leaves in the queries' gradient's block, by the whole arrays. -/
theorem query_outs_at (t : Fin cfg0.N) (y : S1x256x512.Idx) (b : Fin 2) (i : Fin 4352) (p : Fin 1024)
    (hb : b.val = t.val / 34) (hi : i.val = 256 * (t.val % 17) + (y 1 : ℕ)) (hp : p.val = 512 * (t.val / 17 % 2) + (y 2 : ℕ)) :
    (outsAt0 m c t.val t.isLt).1 y = queryGrad (G m c) (K m c) b i p := by
  have hy : (y 1 : ℕ) < 256 := (y 1).isLt
  unfold queryGrad
  by_cases h : t.val % 17 = 0
  · rw [if_pos (by omega), queryOutsA m c t h (by omega) y]
    exact blockQuery_eq m c t ctx_le _ _ (ctxRows_at _) (ctxRows_at _) (y 1) (y 2) b i p hb hi hp
  · rw [if_neg (by omega), queryOutsB m c t h (by omega) y]
    exact blockQuery_eq m c t le_rfl _ _ (fun _ _ => rfl) (fun _ _ => rfl) (y 1) (y 2) b i p hb hi hp

/-- The gradient of the queries the call writes. -/
theorem query_final : (dats m 0 c).arrAt 6 (cfgs 0).N = queryGrads (G m c) (K m c) := by
  refine (dats m 0 c).arrAt_eq_of_covers 6 _ (by decide +kernel) fun t _ y => ?_
  blk_simp
  rw [after0_6]
  refine query_outs_at m c t y _ _ _ ?_ ?_ ?_ <;> blk_simp [idx t] <;> idx_bounds <;> try omega

/-- A point's term of the keys' gradient, by the whole arrays. -/
theorem blockKey_eq (t : Fin cfg0.N) {n : ℕ} (hn : n ≤ 4352) (k v : Vec Ideal ⟨3, ![1, n, 128]⟩ .bf16)
    (hk : ∀ j e, k (ix3 0 j e) = (iblk m c 1 t : Vec Ideal S1x4352x128 .bf16) (ix3 0 (Fin.castLE hn j) e))
    (hv : ∀ j e, v (ix3 0 j e) = (iblk m c 2 t : Vec Ideal S1x4352x128 .bf16) (ix3 0 (Fin.castLE hn j) e))
    (b kh : Fin 2) (hb : b.val = t.val / 34) (hkh : kh.val = t.val / 17 % 2) (i : Fin 256 → Fin 4352)
    (hi : ∀ r, (i r).val = 256 * (t.val % 17) + r.val) (d : Fin 128) (j : Fin n) :
    blockKey (iblk m c 0 t) k v (iblk m c 3 t) (iblk m c 4 t) (iblk m c 5 t) d j
      = ∑ g : Fin 4, ∑ r : Fin 256, Q m c (ix3 b (i r) (lane (headAt kh g) d)) * G m c hn b (headAt kh g) (i r) j := by
  refine Finset.sum_congr rfl fun g _ => Finset.sum_congr rfl fun r _ => ?_
  rw [headGrad_eq m c t hn k v hk hv g r b (headAt kh g) (i r) hb (hi r) (by simp only [headAt]; omega),
    query_at m c t r _ b (i r) (lane (headAt kh g) d) hb (hi r) (by simp only [lane, headAt]; omega)]

/-- A point's term of the values' gradient, by the whole arrays. -/
theorem blockValue_eq (t : Fin cfg0.N) {n : ℕ} (hn : n ≤ 4352) (k : Vec Ideal ⟨3, ![1, n, 128]⟩ .bf16)
    (hk : ∀ j e, k (ix3 0 j e) = (iblk m c 1 t : Vec Ideal S1x4352x128 .bf16) (ix3 0 (Fin.castLE hn j) e))
    (b kh : Fin 2) (hb : b.val = t.val / 34) (hkh : kh.val = t.val / 17 % 2) (i : Fin 256 → Fin 4352)
    (hi : ∀ r, (i r).val = 256 * (t.val % 17) + r.val) (d : Fin 128) (j : Fin n) :
    blockValue (iblk m c 0 t) k (iblk m c 4 t) (iblk m c 5 t) d j
      = ∑ g : Fin 4, ∑ r : Fin 256, dO m c (ix3 b (i r) (lane (headAt kh g) d)) * P m c hn b (headAt kh g) (i r) j := by
  refine Finset.sum_congr rfl fun g _ => Finset.sum_congr rfl fun r _ => ?_
  rw [headProb_eq m c t hn k hk g r b (headAt kh g) (i r) hb (hi r) (by simp only [headAt]; omega),
    do_at m c t r _ b (i r) (lane (headAt kh g) d) hb (hi r) (by simp only [lane, headAt]; omega)]

/-- What a point adds to the keys' gradient's block. -/
def keyTerm (t : Fin cfg0.N) (d : Fin 128) (j : Fin 4352) : EReal :=
  if t.val % 17 = 0 then
    if h : j.val < 256 then
      blockKey (iblk m c 0 t) (ctxRows (iblk m c 1 t)) (ctxRows (iblk m c 2 t)) (iblk m c 3 t) (iblk m c 4 t) (iblk m c 5 t) d ⟨j.val, h⟩
    else 0
  else blockKey (iblk m c 0 t) (iblk m c 1 t : Vec Ideal S1x4352x128 .bf16) (iblk m c 2 t) (iblk m c 3 t) (iblk m c 4 t) (iblk m c 5 t) d j

/-- What a point adds to the values' gradient's block. -/
def valueTerm (t : Fin cfg0.N) (d : Fin 128) (j : Fin 4352) : EReal :=
  if t.val % 17 = 0 then
    if h : j.val < 256 then blockValue (iblk m c 0 t) (ctxRows (iblk m c 1 t)) (iblk m c 4 t) (iblk m c 5 t) d ⟨j.val, h⟩ else 0
  else blockValue (iblk m c 0 t) (iblk m c 1 t : Vec Ideal S1x4352x128 .bf16) (iblk m c 4 t) (iblk m c 5 t) d j

/-- The 17 points of a batch row and a key head add up to the keys' gradient. -/
theorem key_sum (t : Fin cfg0.N) (ht : t.val % 17 = 16) (b kh : Fin 2) (hb : b.val = t.val / 34) (hkh : kh.val = t.val / 17 % 2)
    (d : Fin 128) (j : Fin 4352) (hp : ∀ s : Fin 17, 17 * (t.val / 17) + s.val < cfg0.N) :
    ∑ s : Fin 17, keyTerm m c ⟨17 * (t.val / 17) + s.val, hp s⟩ d j = keyGrad (G m c) (Q m c) b kh d j := by
  refine sum_blocks (G m c) (Q m c) b kh d j _ ?_ fun s => ?_
  · unfold keyTerm
    rw [if_pos (by show (17 * (t.val / 17) + 0) % 17 = 0; omega)]
    split
    · exact blockKey_eq m c _ ctx_le _ _ (ctxRows_at _) (ctxRows_at _) b kh (by show b.val = (17 * (t.val / 17) + 0) / 34; omega)
        (by show kh.val = (17 * (t.val / 17) + 0) / 17 % 2; omega) (Fin.castLE ctx_le)
        (fun r => by show r.val = 256 * ((17 * (t.val / 17) + 0) % 17) + r.val; omega) d _
    · rfl
  · have hs := s.isLt
    unfold keyTerm
    rw [if_neg (by show ¬ (17 * (t.val / 17) + (s.val + 1)) % 17 = 0; omega)]
    exact blockKey_eq m c _ le_rfl _ _ (fun _ _ => rfl) (fun _ _ => rfl) b kh (by show b.val = (17 * (t.val / 17) + (s.val + 1)) / 34; omega)
      (by show kh.val = (17 * (t.val / 17) + (s.val + 1)) / 17 % 2; omega) (fun r => ⟨256 * (s.val + 1) + r.val, by omega⟩)
      (fun r => by show 256 * (s.val + 1) + r.val = 256 * ((17 * (t.val / 17) + (s.val + 1)) % 17) + r.val; omega) d j

/-- The 17 points of a batch row and a key head add up to the values' gradient. -/
theorem value_sum (t : Fin cfg0.N) (ht : t.val % 17 = 16) (b kh : Fin 2) (hb : b.val = t.val / 34) (hkh : kh.val = t.val / 17 % 2)
    (d : Fin 128) (j : Fin 4352) (hp : ∀ s : Fin 17, 17 * (t.val / 17) + s.val < cfg0.N) :
    ∑ s : Fin 17, valueTerm m c ⟨17 * (t.val / 17) + s.val, hp s⟩ d j = keyGrad (P m c) (dO m c) b kh d j := by
  refine sum_blocks (P m c) (dO m c) b kh d j _ ?_ fun s => ?_
  · unfold valueTerm
    rw [if_pos (by show (17 * (t.val / 17) + 0) % 17 = 0; omega)]
    split
    · exact blockValue_eq m c _ ctx_le _ (ctxRows_at _) b kh (by show b.val = (17 * (t.val / 17) + 0) / 34; omega)
        (by show kh.val = (17 * (t.val / 17) + 0) / 17 % 2; omega) (Fin.castLE ctx_le)
        (fun r => by show r.val = 256 * ((17 * (t.val / 17) + 0) % 17) + r.val; omega) d _
    · rfl
  · have hs := s.isLt
    unfold valueTerm
    rw [if_neg (by show ¬ (17 * (t.val / 17) + (s.val + 1)) % 17 = 0; omega)]
    exact blockValue_eq m c _ le_rfl _ (fun _ _ => rfl) b kh (by show b.val = (17 * (t.val / 17) + (s.val + 1)) / 34; omega)
      (by show kh.val = (17 * (t.val / 17) + (s.val + 1)) / 17 % 2; omega) (fun r => ⟨256 * (s.val + 1) + r.val, by omega⟩)
      (fun r => by show 256 * (s.val + 1) + r.val = 256 * ((17 * (t.val / 17) + (s.val + 1)) % 17) + r.val; omega) d j

/-- What a group of points leaves in the keys' gradient's block at its last point. -/
theorem key_outs_at (t : Fin cfg0.N) (ht : t.val % 17 = 16) (y : S1x1x128x4352.Idx) (b kh : Fin 2) (d : Fin 128) (j : Fin 4352)
    (hb : b.val = t.val / 34) (hkh : kh.val = t.val / 17 % 2) (hd : d.val = (y 2 : ℕ)) (hj : j.val = (y 3 : ℕ)) :
    (outsAt0 m c t.val t.isLt).2.1 y = keyGrad (G m c) (Q m c) b kh d j := by
  have ed : (y 2 : Fin 128) = d := Fin.ext hd.symm
  have ej : (y 3 : Fin 4352) = j := Fin.ext hj.symm
  refine (Pipeline.eq_sum_fin_of_reset_step_apply_of_flush (fun n h => (outsAt0 m c n h).2.1) 17 (fun _ => (0 : EReal))
    (fun p (y : S1x1x128x4352.Idx) => keyTerm m c p (y 2) (y 3)) (fun p h y => ?_) (fun p h y => ?_) t ht y).trans ?_
  · rw [zero_add]
    unfold keyTerm
    rw [if_pos h]
    exact keyOutsA m c p h (by omega) y
  · unfold keyTerm
    rw [if_neg h]
    exact keyOutsB m c p h (by omega) y
  · rw [zero_add]
    refine (key_sum m c t ht b kh hb hkh (y 2) (y 3) _).trans ?_
    exact congrArg₂ (fun (d : Fin 128) (j : Fin 4352) => keyGrad (G m c) (Q m c) b kh d j) ed ej

/-- What a group of points leaves in the values' gradient's block at its last point. -/
theorem value_outs_at (t : Fin cfg0.N) (ht : t.val % 17 = 16) (y : S1x1x128x4352.Idx) (b kh : Fin 2) (d : Fin 128) (j : Fin 4352)
    (hb : b.val = t.val / 34) (hkh : kh.val = t.val / 17 % 2) (hd : d.val = (y 2 : ℕ)) (hj : j.val = (y 3 : ℕ)) :
    (outsAt0 m c t.val t.isLt).2.2 y = keyGrad (P m c) (dO m c) b kh d j := by
  have ed : (y 2 : Fin 128) = d := Fin.ext hd.symm
  have ej : (y 3 : Fin 4352) = j := Fin.ext hj.symm
  refine (Pipeline.eq_sum_fin_of_reset_step_apply_of_flush (fun n h => (outsAt0 m c n h).2.2) 17 (fun _ => (0 : EReal))
    (fun p (y : S1x1x128x4352.Idx) => valueTerm m c p (y 2) (y 3)) (fun p h y => ?_) (fun p h y => ?_) t ht y).trans ?_
  · rw [zero_add]
    unfold valueTerm
    rw [if_pos h]
    exact valueOutsA m c p h (by omega) y
  · unfold valueTerm
    rw [if_neg h]
    exact valueOutsB m c p h (by omega) y
  · rw [zero_add]
    refine (value_sum m c t ht b kh hb hkh (y 2) (y 3) _).trans ?_
    exact congrArg₂ (fun (d : Fin 128) (j : Fin 4352) => keyGrad (P m c) (dO m c) b kh d j) ed ej

/-- The gradient of the keys the call writes. -/
theorem key_final : (dats m 0 c).arrAt 7 (cfgs 0).N = keyGrads (G m c) (Q m c) := by
  refine (dats m 0 c).arrAt_eq_of_covers 7 _ (by decide +kernel) fun t hf y => ?_
  have ht := (flush0_7 t).mp hf
  blk_simp
  rw [after0_7]
  refine key_outs_at m c t ht y _ _ _ _ ?_ ?_ ?_ ?_ <;> blk_simp [idx t] <;> idx_bounds <;> try omega

/-- The gradient of the values the call writes. -/
theorem value_final : (dats m 0 c).arrAt 8 (cfgs 0).N = keyGrads (P m c) (dO m c) := by
  refine (dats m 0 c).arrAt_eq_of_covers 8 _ (by decide +kernel) fun t hf y => ?_
  have ht := (flush0_8 t).mp hf
  blk_simp
  rw [after0_8]
  refine value_outs_at m c t ht y _ _ _ _ ?_ ?_ ?_ ?_ <;> blk_simp [idx t] <;> idx_bounds <;> try omega

end Cert.KernelIdeal.Value

end
-- ==== Proof.BwdRefRows.lean ====
/- What the backward reference computes of a query's row, read at an index: the weights, and the gradients of the logits. -/
module

public import proofs.«01_k».proof.Proof.BwdSpec
public import proofs.«01_k».proof.Proof.Gen.ReferenceIdeal.Read

@[expose] public section

set_option maxRecDepth 16384

noncomputable section

namespace Cert.ReferenceIdeal.Value

open Cert.ReferenceIdeal.Read Cert.ReferenceIdeal Cert.ReferenceIdeal.Gen Cert.Attention
open Idealize.ShloMosaic Idealize.ShloMosaic.TcCoe

/-- The literal one denotes one. -/
theorem ofBits_one : Ideal.ofBits .f32 0x3F800000#32 = 1 := by
  simp [Ideal.ofBits, Ideal.ieee]
  rw [← EReal.coe_mul, ← EReal.coe_one]
  norm_num

variable (x0 : Arr3 2 4352 1024) (x1 x2 : Arr3 2 4352 256) (x3 : Arr3 2 4352 1024)

/-- The scaled logits of a context query against the context's keys. -/
theorem logit_ctx (b kh : Fin 2) (g : Fin 4) (i : Fin 256) (j : Fin 256) : val_main_v10 (F := Ideal) x0 x1 (ix5 b kh g i j)
    = rowLogits ctx_le x0 x1 b (headAt kh g) (Fin.castLE ctx_le i) j * Ideal.ofBits .f32 0x3DB504F3#32 := by
  rw [val_main_v10_apply, val_main_v9_apply, val_main_v8_apply, val_main_v7_apply]
  refine congrArg₂ (· * ·) (Finset.sum_congr rfl fun e _ => ?_) rfl
  rw [mul_comm, val_main_v5_apply, val_main_v4_apply, val_main_v2_apply, val_main_v1_apply, val_main_v0_apply]
  refine congrArg₂ (· * ·) (at3 _ ?_ ?_ ?_) (at3 _ ?_ ?_ ?_) <;> simp [lane, keyLane, headAt, gridRow] <;> omega

/-- Their maximum over the keys. -/
theorem max_ctx (b kh : Fin 2) (g : Fin 4) (i : Fin 256) : val_main_v18 (F := Ideal) x0 x1 (ix4 b kh g i)
    = refMax (rowLogits ctx_le x0 x1 b (headAt kh g) (Fin.castLE ctx_le i)) := by
  unfold refMax
  simp only [← logit_ctx]
  rw [val_main_v18_apply, val_main_v17_apply]
  rw [show val_main_v11 (F := Ideal) x0 x1 (ix4 b kh g i) = _ from reduce_max (val_main_v10 (F := Ideal) x0 x1) _ (by decide) _ b kh g i]
  exact (congrArg (max · _) ofBits_bot).trans (max_bot_left _)

/-- The numerators. -/
theorem exp_ctx (b kh : Fin 2) (g : Fin 4) (i : Fin 256) (j : Fin 256) : val_main_v31 (F := Ideal) x0 x1 (ix5 b kh g i j)
    = refExp (rowLogits ctx_le x0 x1 b (headAt kh g) (Fin.castLE ctx_le i)) j := by
  rw [val_main_v31_apply, val_main_v30_apply, val_main_v29_apply, val_main_v28_apply, logit_ctx]
  have e : val_main_v18 (F := Ideal) x0 x1 (idx_main_v28 (idx_main_v29 (ix5 b kh g i j))) = val_main_v18 (F := Ideal) x0 x1 (ix4 b kh g i) :=
    at4 _ rfl rfl rfl rfl
  rw [e, max_ctx]
  rfl

/-- Their sum over the keys. -/
theorem sum_ctx (b kh : Fin 2) (g : Fin 4) (i : Fin 256) : val_main_v32 (F := Ideal) x0 x1 (ix4 b kh g i)
    = ∑ j, refExp (rowLogits ctx_le x0 x1 b (headAt kh g) (Fin.castLE ctx_le i)) j := by
  rw [val_main_v32_apply]
  refine (congrArg (· + _) ofBits_zero).trans <| (zero_add _).trans (Finset.sum_congr rfl fun j _ => ?_)
  have e : val_main_v31 (F := Ideal) x0 x1 (idx_main_v32 (ix4 b kh g i) j) = val_main_v31 (F := Ideal) x0 x1 (ix5 b kh g i j) :=
    at5 _ rfl rfl rfl rfl rfl
  rw [e, exp_ctx]

/-- The sum, with the axis of the keys kept at length one. -/
theorem sum1_ctx (b kh : Fin 2) (g : Fin 4) (i : Fin 256) (o : Fin 1) : val_main_v33 (F := Ideal) x0 x1 (ix5 b kh g i o)
    = ∑ j, refExp (rowLogits ctx_le x0 x1 b (headAt kh g) (Fin.castLE ctx_le i)) j := by
  rw [val_main_v33_apply, ← sum_ctx]
  exact at4 _ rfl rfl rfl rfl

/-- The weights. -/
theorem weight_ctx (b kh : Fin 2) (g : Fin 4) (i : Fin 256) (j : Fin 256) : val_main_v35 (F := Ideal) x0 x1 (ix5 b kh g i j)
    = refWeight (rowLogits ctx_le x0 x1 b (headAt kh g) (Fin.castLE ctx_le i)) j := by
  rw [val_main_v35_apply, val_main_v34_apply, exp_ctx]
  have e : val_main_v33 (F := Ideal) x0 x1 (idx_main_v34 (ix5 b kh g i j)) = val_main_v33 (F := Ideal) x0 x1 (ix5 b kh g i 0) :=
    at5 _ rfl rfl rfl rfl rfl
  rw [e, sum1_ctx]
  rfl

/-- One over the square of the sum. -/
theorem square_ctx (b kh : Fin 2) (g : Fin 4) (i : Fin 256) (o : Fin 1) : val_main_v38 (F := Ideal) x0 x1 (ix5 b kh g i o)
    = Ideal.div 1 ((∑ j, refExp (rowLogits ctx_le x0 x1 b (headAt kh g) (Fin.castLE ctx_le i)) j)
      * ∑ j, refExp (rowLogits ctx_le x0 x1 b (headAt kh g) (Fin.castLE ctx_le i)) j) := by
  rw [val_main_v38_apply, val_main_v36_apply, sum1_ctx, val_main_v37_apply]
  exact congrArg (Ideal.div · _) ofBits_one

/-- The gradients of the weights: the products of the output's gradient with the values. -/
theorem dp_ctx (b kh : Fin 2) (g : Fin 4) (i : Fin 256) (j : Fin 256) : val_main_v108 (F := Ideal) x2 x3 (ix5 b kh g i j)
    = rowLogits ctx_le x3 x2 b (headAt kh g) (Fin.castLE ctx_le i) j := by
  rw [val_main_v108_apply]
  refine Finset.sum_congr rfl fun e _ => ?_
  rw [val_main_v107_apply, val_main_v82_apply, val_main_v79_apply, val_main_v6_apply, val_main_v3_apply]
  refine congrArg₂ (· * ·) (at3 _ ?_ ?_ ?_) (at3 _ ?_ ?_ ?_) <;> simp [lane, keyLane, headAt, gridRow] <;> omega

/-- The sum over the keys that the quotient's derivative subtracts. -/
theorem total_ctx (b kh : Fin 2) (g : Fin 4) (i : Fin 256) : val_main_v114 (F := Ideal) x0 x1 x2 x3 (ix4 b kh g i)
    = ∑ j, rowLogits ctx_le x3 x2 b (headAt kh g) (Fin.castLE ctx_le i) j
      * Ideal.div 1 ((∑ j, refExp (rowLogits ctx_le x0 x1 b (headAt kh g) (Fin.castLE ctx_le i)) j)
        * ∑ j, refExp (rowLogits ctx_le x0 x1 b (headAt kh g) (Fin.castLE ctx_le i)) j)
      * refExp (rowLogits ctx_le x0 x1 b (headAt kh g) (Fin.castLE ctx_le i)) j := by
  rw [val_main_v114_apply]
  refine (congrArg (· + _) ofBits_zero).trans <| (zero_add _).trans (Finset.sum_congr rfl fun j _ => ?_)
  have e : val_main_v113 (F := Ideal) x0 x1 x2 x3 (idx_main_v114 (ix4 b kh g i) j) = val_main_v113 (F := Ideal) x0 x1 x2 x3 (ix5 b kh g i j) :=
    at5 _ rfl rfl rfl rfl rfl
  rw [e, val_main_v113_apply, val_main_v112_apply, dp_ctx, exp_ctx, val_main_v111_apply]
  have e : val_main_v38 (F := Ideal) x0 x1 (idx_main_v111 (ix5 b kh g i j)) = val_main_v38 (F := Ideal) x0 x1 (ix5 b kh g i 0) :=
    at5 _ rfl rfl rfl rfl rfl
  rw [e, square_ctx]
  rfl

/-- Its negative. -/
theorem minus_ctx (b kh : Fin 2) (g : Fin 4) (i : Fin 256) : val_main_v119 (F := Ideal) x0 x1 x2 x3 (ix4 b kh g i)
    = -val_main_v114 (F := Ideal) x0 x1 x2 x3 (ix4 b kh g i) := by
  rw [val_main_v119_apply]
  refine (congrArg (· + _) ofBits_zero).trans <| (zero_add _).trans <| (Fin.sum_univ_one _).trans ?_
  rw [val_main_v116_apply, val_main_v115_apply]
  refine congrArg (fun y : EReal => -y) (at4 _ ?_ ?_ ?_ ?_) <;> simp <;> omega

/-- The gradients of the logits. -/
theorem grad_ctx (b kh : Fin 2) (g : Fin 4) (i : Fin 256) (j : Fin 256) : val_main_v124 (F := Ideal) x0 x1 x2 x3 (ix5 b kh g i j)
    = refGrads x0 x3 x1 x2 ctx_le b (headAt kh g) (Fin.castLE ctx_le i) j := by
  rw [val_main_v124_apply, val_main_v122_apply, val_main_v121_apply, val_main_v118_apply, val_main_v120_apply, val_main_v117_apply, dp_ctx, exp_ctx]
  have e : val_main_v33 (F := Ideal) x0 x1 (idx_main_v117 (ix5 b kh g i j)) = val_main_v33 (F := Ideal) x0 x1 (ix5 b kh g i 0) :=
    at5 _ rfl rfl rfl rfl rfl
  have e' : val_main_v119 (F := Ideal) x0 x1 x2 x3 (idx_main_v120 (ix5 b kh g i j)) = val_main_v119 (F := Ideal) x0 x1 x2 x3 (ix4 b kh g i) :=
    at4 _ rfl rfl rfl rfl
  rw [e, e', sum1_ctx, minus_ctx, total_ctx, val_main_v123_apply]
  rfl

/-- The scaled logits of a grid query against all keys. -/
theorem logit_grid (b kh : Fin 2) (g : Fin 4) (i : Fin 4096) (j : Fin 4352) : val_main_v45 (F := Ideal) x0 x1 (ix5 b kh g i j)
    = rowLogits le_rfl x0 x1 b (headAt kh g) (gridRow i) j * Ideal.ofBits .f32 0x3DB504F3#32 := by
  rw [val_main_v45_apply, val_main_v44_apply, val_main_v43_apply, val_main_v42_apply]
  refine congrArg₂ (· * ·) (Finset.sum_congr rfl fun e _ => ?_) rfl
  rw [mul_comm, val_main_v41_apply, val_main_v2_apply, val_main_v1_apply, val_main_v0_apply]
  refine congrArg₂ (· * ·) (at3 _ ?_ ?_ ?_) (at3 _ ?_ ?_ ?_) <;> simp [lane, keyLane, headAt, gridRow] <;> omega

/-- Their maximum over the keys. -/
theorem max_grid (b kh : Fin 2) (g : Fin 4) (i : Fin 4096) : val_main_v53 (F := Ideal) x0 x1 (ix4 b kh g i)
    = refMax (rowLogits le_rfl x0 x1 b (headAt kh g) (gridRow i)) := by
  unfold refMax
  simp only [← logit_grid]
  rw [val_main_v53_apply, val_main_v52_apply]
  rw [show val_main_v46 (F := Ideal) x0 x1 (ix4 b kh g i) = _ from reduce_max (val_main_v45 (F := Ideal) x0 x1) _ (by decide) _ b kh g i]
  exact (congrArg (max · _) ofBits_bot).trans (max_bot_left _)

/-- The numerators. -/
theorem exp_grid (b kh : Fin 2) (g : Fin 4) (i : Fin 4096) (j : Fin 4352) : val_main_v66 (F := Ideal) x0 x1 (ix5 b kh g i j)
    = refExp (rowLogits le_rfl x0 x1 b (headAt kh g) (gridRow i)) j := by
  rw [val_main_v66_apply, val_main_v65_apply, val_main_v64_apply, val_main_v63_apply, logit_grid]
  have e : val_main_v53 (F := Ideal) x0 x1 (idx_main_v63 (idx_main_v64 (ix5 b kh g i j))) = val_main_v53 (F := Ideal) x0 x1 (ix4 b kh g i) :=
    at4 _ rfl rfl rfl rfl
  rw [e, max_grid]
  rfl

/-- Their sum over the keys. -/
theorem sum_grid (b kh : Fin 2) (g : Fin 4) (i : Fin 4096) : val_main_v67 (F := Ideal) x0 x1 (ix4 b kh g i)
    = ∑ j, refExp (rowLogits le_rfl x0 x1 b (headAt kh g) (gridRow i)) j := by
  rw [val_main_v67_apply]
  refine (congrArg (· + _) ofBits_zero).trans <| (zero_add _).trans (Finset.sum_congr rfl fun j _ => ?_)
  have e : val_main_v66 (F := Ideal) x0 x1 (idx_main_v67 (ix4 b kh g i) j) = val_main_v66 (F := Ideal) x0 x1 (ix5 b kh g i j) :=
    at5 _ rfl rfl rfl rfl rfl
  rw [e, exp_grid]

/-- The sum, with the axis of the keys kept at length one. -/
theorem sum1_grid (b kh : Fin 2) (g : Fin 4) (i : Fin 4096) (o : Fin 1) : val_main_v68 (F := Ideal) x0 x1 (ix5 b kh g i o)
    = ∑ j, refExp (rowLogits le_rfl x0 x1 b (headAt kh g) (gridRow i)) j := by
  rw [val_main_v68_apply, ← sum_grid]
  exact at4 _ rfl rfl rfl rfl

/-- The weights. -/
theorem weight_grid (b kh : Fin 2) (g : Fin 4) (i : Fin 4096) (j : Fin 4352) : val_main_v70 (F := Ideal) x0 x1 (ix5 b kh g i j)
    = refWeight (rowLogits le_rfl x0 x1 b (headAt kh g) (gridRow i)) j := by
  rw [val_main_v70_apply, val_main_v69_apply, exp_grid]
  have e : val_main_v68 (F := Ideal) x0 x1 (idx_main_v69 (ix5 b kh g i j)) = val_main_v68 (F := Ideal) x0 x1 (ix5 b kh g i 0) :=
    at5 _ rfl rfl rfl rfl rfl
  rw [e, sum1_grid]
  rfl

/-- One over the square of the sum. -/
theorem square_grid (b kh : Fin 2) (g : Fin 4) (i : Fin 4096) (o : Fin 1) : val_main_v73 (F := Ideal) x0 x1 (ix5 b kh g i o)
    = Ideal.div 1 ((∑ j, refExp (rowLogits le_rfl x0 x1 b (headAt kh g) (gridRow i)) j)
      * ∑ j, refExp (rowLogits le_rfl x0 x1 b (headAt kh g) (gridRow i)) j) := by
  rw [val_main_v73_apply, val_main_v71_apply, sum1_grid, val_main_v72_apply]
  exact congrArg (Ideal.div · _) ofBits_one

/-- The gradients of the weights: the products of the output's gradient with the values. -/
theorem dp_grid (b kh : Fin 2) (g : Fin 4) (i : Fin 4096) (j : Fin 4352) : val_main_v84 (F := Ideal) x2 x3 (ix5 b kh g i j)
    = rowLogits le_rfl x3 x2 b (headAt kh g) (gridRow i) j := by
  rw [val_main_v84_apply]
  refine Finset.sum_congr rfl fun e _ => ?_
  rw [val_main_v83_apply, val_main_v81_apply, val_main_v80_apply, val_main_v3_apply]
  refine congrArg₂ (· * ·) (at3 _ ?_ ?_ ?_) (at3 _ ?_ ?_ ?_) <;> simp [lane, keyLane, headAt, gridRow] <;> omega

/-- The sum over the keys that the quotient's derivative subtracts. -/
theorem total_grid (b kh : Fin 2) (g : Fin 4) (i : Fin 4096) : val_main_v90 (F := Ideal) x0 x1 x2 x3 (ix4 b kh g i)
    = ∑ j, rowLogits le_rfl x3 x2 b (headAt kh g) (gridRow i) j
      * Ideal.div 1 ((∑ j, refExp (rowLogits le_rfl x0 x1 b (headAt kh g) (gridRow i)) j)
        * ∑ j, refExp (rowLogits le_rfl x0 x1 b (headAt kh g) (gridRow i)) j)
      * refExp (rowLogits le_rfl x0 x1 b (headAt kh g) (gridRow i)) j := by
  rw [val_main_v90_apply]
  refine (congrArg (· + _) ofBits_zero).trans <| (zero_add _).trans (Finset.sum_congr rfl fun j _ => ?_)
  have e : val_main_v89 (F := Ideal) x0 x1 x2 x3 (idx_main_v90 (ix4 b kh g i) j) = val_main_v89 (F := Ideal) x0 x1 x2 x3 (ix5 b kh g i j) :=
    at5 _ rfl rfl rfl rfl rfl
  rw [e, val_main_v89_apply, val_main_v88_apply, dp_grid, exp_grid, val_main_v87_apply]
  have e : val_main_v73 (F := Ideal) x0 x1 (idx_main_v87 (ix5 b kh g i j)) = val_main_v73 (F := Ideal) x0 x1 (ix5 b kh g i 0) :=
    at5 _ rfl rfl rfl rfl rfl
  rw [e, square_grid]
  rfl

/-- Its negative. -/
theorem minus_grid (b kh : Fin 2) (g : Fin 4) (i : Fin 4096) : val_main_v95 (F := Ideal) x0 x1 x2 x3 (ix4 b kh g i)
    = -val_main_v90 (F := Ideal) x0 x1 x2 x3 (ix4 b kh g i) := by
  rw [val_main_v95_apply]
  refine (congrArg (· + _) ofBits_zero).trans <| (zero_add _).trans <| (Fin.sum_univ_one _).trans ?_
  rw [val_main_v92_apply, val_main_v91_apply]
  refine congrArg (fun y : EReal => -y) (at4 _ ?_ ?_ ?_ ?_) <;> simp <;> omega

/-- The gradients of the logits. -/
theorem grad_grid (b kh : Fin 2) (g : Fin 4) (i : Fin 4096) (j : Fin 4352) : val_main_v100 (F := Ideal) x0 x1 x2 x3 (ix5 b kh g i j)
    = refGrads x0 x3 x1 x2 le_rfl b (headAt kh g) (gridRow i) j := by
  rw [val_main_v100_apply, val_main_v98_apply, val_main_v97_apply, val_main_v94_apply, val_main_v96_apply, val_main_v93_apply, dp_grid, exp_grid]
  have e : val_main_v68 (F := Ideal) x0 x1 (idx_main_v93 (ix5 b kh g i j)) = val_main_v68 (F := Ideal) x0 x1 (ix5 b kh g i 0) :=
    at5 _ rfl rfl rfl rfl rfl
  have e' : val_main_v95 (F := Ideal) x0 x1 x2 x3 (idx_main_v96 (ix5 b kh g i j)) = val_main_v95 (F := Ideal) x0 x1 x2 x3 (ix4 b kh g i) :=
    at4 _ rfl rfl rfl rfl
  rw [e, e', sum1_grid, minus_grid, total_grid, val_main_v99_apply]
  rfl

end Cert.ReferenceIdeal.Value

end
-- ==== Proof.BwdRef.lean ====
/- What the backward reference computes: the gradients of the queries, of the keys and of the values, by the row functions
   the reference writes. -/
module

public import proofs.«01_k».proof.Proof.BwdRefRows
public import Idealize.ShloMosaic.Lib.TwoAxisContraction

@[expose] public section

set_option maxRecDepth 16384

noncomputable section

namespace Cert.ReferenceIdeal.Value

open Cert.ReferenceIdeal.Read Cert.ReferenceIdeal Cert.ReferenceIdeal.Gen Cert.Attention
open Idealize.ShloMosaic Idealize.ShloMosaic.TcCoe

/-- A product contracted over the group's heads and the context queries: the weights' one, read at an index. -/
theorem dot_v_ctx (y : FVec Ideal S2x2x128x4x256 .f32) (z : FVec Ideal S2x2x4x256x256 .f32) (b kh : Fin 2) (d : Fin 128) (j : Fin 256) :
    Host.dotGeneral dot_S2x2x128x4x256_S2x2x4x256x256_S2x2x128x256_34_23_2_4_01_01 none y z (ix4 b kh d j) = ∑ g : Fin 4, ∑ r : Fin 256, y (ix5 b kh d g r) * z (ix5 b kh g r j) := by
  simp only [Host.dotGeneral]
  rw [Ideal.dotGeneral_apply, ValueIdx.sum_contr2 dot_S2x2x128x4x256_S2x2x4x256x256_S2x2x128x256_34_23_2_4_01_01 4 256 rfl rfl rfl]
  refine Finset.sum_congr rfl fun g _ => Finset.sum_congr rfl fun r _ => ?_
  have h0 := ValueIdx.contrEquiv2_symm_val0 dot_S2x2x128x4x256_S2x2x4x256x256_S2x2x128x256_34_23_2_4_01_01 4 256 rfl rfl rfl (g, r)
  have h1 := ValueIdx.contrEquiv2_symm_val1 dot_S2x2x128x4x256_S2x2x4x256x256_S2x2x128x256_34_23_2_4_01_01 4 256 rfl rfl rfl (g, r)
  generalize (ValueIdx.contrEquiv2 dot_S2x2x128x4x256_S2x2x4x256x256_S2x2x128x256_34_23_2_4_01_01 4 256 rfl rfl rfl).symm (g, r) = q at *
  refine congrArg₂ (· * ·) (at5 y ?_ ?_ ?_ ?_ ?_) (at5 z ?_ ?_ ?_ ?_ ?_)
  · unfold DotDims.lhsIdx; rw [dif_pos (by decide)]; rfl
  · unfold DotDims.lhsIdx; rw [dif_pos (by decide)]; rfl
  · unfold DotDims.lhsIdx; rw [dif_neg (by decide), dif_pos (by decide)]; rfl
  · unfold DotDims.lhsIdx; rw [dif_neg (by decide), dif_neg (by decide)]; exact h0
  · unfold DotDims.lhsIdx; rw [dif_neg (by decide), dif_neg (by decide)]; exact h1
  · unfold DotDims.rhsIdx; rw [dif_pos (by decide)]; rfl
  · unfold DotDims.rhsIdx; rw [dif_pos (by decide)]; rfl
  · unfold DotDims.rhsIdx; rw [dif_neg (by decide), dif_neg (by decide)]; exact h0
  · unfold DotDims.rhsIdx; rw [dif_neg (by decide), dif_neg (by decide)]; exact h1
  · unfold DotDims.rhsIdx; rw [dif_neg (by decide), dif_pos (by decide)]; rfl

/-- The same of the logits' gradients, whose axes lie the other way. -/
theorem dot_k_ctx (y : FVec Ideal S2x2x256x256x4 .f32) (z : FVec Ideal S2x256x2x4x128 .f32) (b kh : Fin 2) (d : Fin 128) (j : Fin 256) :
    Host.dotGeneral dot_S2x2x256x256x4_S2x256x2x4x128_S2x2x256x128_34_13_2_4_01_02 none y z (ix4 b kh j d) = ∑ g : Fin 4, ∑ r : Fin 256, z (ix5 b r kh g d) * y (ix5 b kh j r g) := by
  simp only [Host.dotGeneral]
  rw [Ideal.dotGeneral_apply, ValueIdx.sum_contr2 dot_S2x2x256x256x4_S2x256x2x4x128_S2x2x256x128_34_13_2_4_01_02 256 4 rfl rfl rfl, Finset.sum_comm]
  refine Finset.sum_congr rfl fun g _ => Finset.sum_congr rfl fun r _ => ?_
  have h0 := ValueIdx.contrEquiv2_symm_val0 dot_S2x2x256x256x4_S2x256x2x4x128_S2x2x256x128_34_13_2_4_01_02 256 4 rfl rfl rfl (r, g)
  have h1 := ValueIdx.contrEquiv2_symm_val1 dot_S2x2x256x256x4_S2x256x2x4x128_S2x2x256x128_34_13_2_4_01_02 256 4 rfl rfl rfl (r, g)
  generalize (ValueIdx.contrEquiv2 dot_S2x2x256x256x4_S2x256x2x4x128_S2x2x256x128_34_13_2_4_01_02 256 4 rfl rfl rfl).symm (r, g) = q at *
  rw [mul_comm]
  refine congrArg₂ (· * ·) (at5 z ?_ ?_ ?_ ?_ ?_) (at5 y ?_ ?_ ?_ ?_ ?_)
  · unfold DotDims.rhsIdx; rw [dif_pos (by decide)]; rfl
  · unfold DotDims.rhsIdx; rw [dif_neg (by decide), dif_neg (by decide)]; exact h0
  · unfold DotDims.rhsIdx; rw [dif_pos (by decide)]; rfl
  · unfold DotDims.rhsIdx; rw [dif_neg (by decide), dif_neg (by decide)]; exact h1
  · unfold DotDims.rhsIdx; rw [dif_neg (by decide), dif_pos (by decide)]; rfl
  · unfold DotDims.lhsIdx; rw [dif_pos (by decide)]; rfl
  · unfold DotDims.lhsIdx; rw [dif_pos (by decide)]; rfl
  · unfold DotDims.lhsIdx; rw [dif_neg (by decide), dif_pos (by decide)]; rfl
  · unfold DotDims.lhsIdx; rw [dif_neg (by decide), dif_neg (by decide)]; exact h0
  · unfold DotDims.lhsIdx; rw [dif_neg (by decide), dif_neg (by decide)]; exact h1

/-- A product contracted over the group's heads and the grid queries: the weights' one, read at an index. -/
theorem dot_v_grid (y : FVec Ideal S2x2x128x4x4096 .f32) (z : FVec Ideal S2x2x4x4096x4352 .f32) (b kh : Fin 2) (d : Fin 128) (j : Fin 4352) :
    Host.dotGeneral dot_S2x2x128x4x4096_S2x2x4x4096x4352_S2x2x128x4352_34_23_2_4_01_01 none y z (ix4 b kh d j) = ∑ g : Fin 4, ∑ r : Fin 4096, y (ix5 b kh d g r) * z (ix5 b kh g r j) := by
  simp only [Host.dotGeneral]
  rw [Ideal.dotGeneral_apply, ValueIdx.sum_contr2 dot_S2x2x128x4x4096_S2x2x4x4096x4352_S2x2x128x4352_34_23_2_4_01_01 4 4096 rfl rfl rfl]
  refine Finset.sum_congr rfl fun g _ => Finset.sum_congr rfl fun r _ => ?_
  have h0 := ValueIdx.contrEquiv2_symm_val0 dot_S2x2x128x4x4096_S2x2x4x4096x4352_S2x2x128x4352_34_23_2_4_01_01 4 4096 rfl rfl rfl (g, r)
  have h1 := ValueIdx.contrEquiv2_symm_val1 dot_S2x2x128x4x4096_S2x2x4x4096x4352_S2x2x128x4352_34_23_2_4_01_01 4 4096 rfl rfl rfl (g, r)
  generalize (ValueIdx.contrEquiv2 dot_S2x2x128x4x4096_S2x2x4x4096x4352_S2x2x128x4352_34_23_2_4_01_01 4 4096 rfl rfl rfl).symm (g, r) = q at *
  refine congrArg₂ (· * ·) (at5 y ?_ ?_ ?_ ?_ ?_) (at5 z ?_ ?_ ?_ ?_ ?_)
  · unfold DotDims.lhsIdx; rw [dif_pos (by decide)]; rfl
  · unfold DotDims.lhsIdx; rw [dif_pos (by decide)]; rfl
  · unfold DotDims.lhsIdx; rw [dif_neg (by decide), dif_pos (by decide)]; rfl
  · unfold DotDims.lhsIdx; rw [dif_neg (by decide), dif_neg (by decide)]; exact h0
  · unfold DotDims.lhsIdx; rw [dif_neg (by decide), dif_neg (by decide)]; exact h1
  · unfold DotDims.rhsIdx; rw [dif_pos (by decide)]; rfl
  · unfold DotDims.rhsIdx; rw [dif_pos (by decide)]; rfl
  · unfold DotDims.rhsIdx; rw [dif_neg (by decide), dif_neg (by decide)]; exact h0
  · unfold DotDims.rhsIdx; rw [dif_neg (by decide), dif_neg (by decide)]; exact h1
  · unfold DotDims.rhsIdx; rw [dif_neg (by decide), dif_pos (by decide)]; rfl

/-- The same of the logits' gradients, whose axes lie the other way. -/
theorem dot_k_grid (y : FVec Ideal S2x2x4352x4096x4 .f32) (z : FVec Ideal S2x4096x2x4x128 .f32) (b kh : Fin 2) (d : Fin 128) (j : Fin 4352) :
    Host.dotGeneral dot_S2x2x4352x4096x4_S2x4096x2x4x128_S2x2x4352x128_34_13_2_4_01_02 none y z (ix4 b kh j d) = ∑ g : Fin 4, ∑ r : Fin 4096, z (ix5 b r kh g d) * y (ix5 b kh j r g) := by
  simp only [Host.dotGeneral]
  rw [Ideal.dotGeneral_apply, ValueIdx.sum_contr2 dot_S2x2x4352x4096x4_S2x4096x2x4x128_S2x2x4352x128_34_13_2_4_01_02 4096 4 rfl rfl rfl, Finset.sum_comm]
  refine Finset.sum_congr rfl fun g _ => Finset.sum_congr rfl fun r _ => ?_
  have h0 := ValueIdx.contrEquiv2_symm_val0 dot_S2x2x4352x4096x4_S2x4096x2x4x128_S2x2x4352x128_34_13_2_4_01_02 4096 4 rfl rfl rfl (r, g)
  have h1 := ValueIdx.contrEquiv2_symm_val1 dot_S2x2x4352x4096x4_S2x4096x2x4x128_S2x2x4352x128_34_13_2_4_01_02 4096 4 rfl rfl rfl (r, g)
  generalize (ValueIdx.contrEquiv2 dot_S2x2x4352x4096x4_S2x4096x2x4x128_S2x2x4352x128_34_13_2_4_01_02 4096 4 rfl rfl rfl).symm (r, g) = q at *
  rw [mul_comm]
  refine congrArg₂ (· * ·) (at5 z ?_ ?_ ?_ ?_ ?_) (at5 y ?_ ?_ ?_ ?_ ?_)
  · unfold DotDims.rhsIdx; rw [dif_pos (by decide)]; rfl
  · unfold DotDims.rhsIdx; rw [dif_neg (by decide), dif_neg (by decide)]; exact h0
  · unfold DotDims.rhsIdx; rw [dif_pos (by decide)]; rfl
  · unfold DotDims.rhsIdx; rw [dif_neg (by decide), dif_neg (by decide)]; exact h1
  · unfold DotDims.rhsIdx; rw [dif_neg (by decide), dif_pos (by decide)]; rfl
  · unfold DotDims.lhsIdx; rw [dif_pos (by decide)]; rfl
  · unfold DotDims.lhsIdx; rw [dif_pos (by decide)]; rfl
  · unfold DotDims.lhsIdx; rw [dif_neg (by decide), dif_pos (by decide)]; rfl
  · unfold DotDims.lhsIdx; rw [dif_neg (by decide), dif_neg (by decide)]; exact h0
  · unfold DotDims.lhsIdx; rw [dif_neg (by decide), dif_neg (by decide)]; exact h1

variable (x0 : Arr3 2 4352 1024) (x1 x2 : Arr3 2 4352 256) (x3 : Arr3 2 4352 1024)

/-- The gradient of the context queries. -/
theorem dq_ctx (b : Fin 2) (i : Fin 256) (kh : Fin 2) (g : Fin 4) (d : Fin 128) : val_main_v127 (F := Ideal) x0 x1 x2 x3 (ix5 b i kh g d)
    = ∑ j, refGrads x0 x3 x1 x2 ctx_le b (headAt kh g) (Fin.castLE ctx_le i) j * x1 (ix3 b (Fin.castLE ctx_le j) (keyLane (headAt kh g) d)) := by
  rw [val_main_v127_apply]
  have e : val_main_v126 (F := Ideal) x0 x1 x2 x3 (idx_main_v127 (ix5 b i kh g d)) = val_main_v126 (F := Ideal) x0 x1 x2 x3 (ix5 b kh i g d) :=
    at5 _ rfl rfl rfl rfl rfl
  rw [e, val_main_v126_apply]
  refine Finset.sum_congr rfl fun j _ => ?_
  rw [val_main_v125_apply]
  have e : val_main_v124 (F := Ideal) x0 x1 x2 x3 (idx_main_v125 (lidx_main_v126 (ix5 b kh i g d) j)) = val_main_v124 (F := Ideal) x0 x1 x2 x3 (ix5 b kh g i j) :=
    at5 _ rfl rfl rfl rfl rfl
  rw [e, grad_ctx, val_main_v5_apply, val_main_v2_apply]
  refine congrArg (_ * ·) (at3 _ ?_ ?_ ?_) <;> simp [keyLane, headAt] <;> omega

/-- The gradient of the keys from the context queries. -/
theorem dk_ctx (b : Fin 2) (j : Fin 256) (kh : Fin 2) (d : Fin 128) : val_main_v129 (F := Ideal) x0 x1 x2 x3 (ix4 b j kh d)
    = ∑ g : Fin 4, ∑ r : Fin 256, x0 (ix3 b (Fin.castLE ctx_le r) (lane (headAt kh g) d)) * refGrads x0 x3 x1 x2 ctx_le b (headAt kh g) (Fin.castLE ctx_le r) j := by
  rw [val_main_v129_apply]
  have e : val_main_v128 (F := Ideal) x0 x1 x2 x3 (idx_main_v129 (ix4 b j kh d)) = val_main_v128 (F := Ideal) x0 x1 x2 x3 (ix4 b kh j d) :=
    at4 _ rfl rfl rfl rfl
  rw [e]
  refine (dot_k_ctx _ _ b kh d j).trans (Finset.sum_congr rfl fun g _ => Finset.sum_congr rfl fun r _ => ?_)
  rw [val_main_v125_apply, val_main_v4_apply, val_main_v1_apply, val_main_v0_apply]
  have e : val_main_v124 (F := Ideal) x0 x1 x2 x3 (idx_main_v125 (ix5 b kh j r g)) = val_main_v124 (F := Ideal) x0 x1 x2 x3 (ix5 b kh g r j) :=
    at5 _ rfl rfl rfl rfl rfl
  rw [e, grad_ctx]
  refine congrArg (· * _) (at3 _ ?_ ?_ ?_) <;> simp [lane, headAt, gridRow] <;> omega

/-- The gradient of the values from the context queries. -/
theorem dv_ctx (b : Fin 2) (j : Fin 256) (kh : Fin 2) (d : Fin 128) : val_main_v110 (F := Ideal) x0 x1 x3 (ix4 b j kh d)
    = ∑ g : Fin 4, ∑ r : Fin 256, x3 (ix3 b (Fin.castLE ctx_le r) (lane (headAt kh g) d)) * refProbs x0 x1 ctx_le b (headAt kh g) (Fin.castLE ctx_le r) j := by
  rw [val_main_v110_apply]
  have e : val_main_v109 (F := Ideal) x0 x1 x3 (idx_main_v110 (ix4 b j kh d)) = val_main_v109 (F := Ideal) x0 x1 x3 (ix4 b kh d j) :=
    at4 _ rfl rfl rfl rfl
  rw [e]
  refine (dot_v_ctx _ _ b kh d j).trans (Finset.sum_congr rfl fun g _ => Finset.sum_congr rfl fun r _ => ?_)
  rw [weight_ctx, val_main_v107_apply, val_main_v82_apply, val_main_v79_apply]
  refine congrArg₂ (· * ·) (at3 _ ?_ ?_ ?_) rfl <;> simp [lane, headAt, gridRow] <;> omega

/-- The gradient of the grid queries. -/
theorem dq_grid (b : Fin 2) (i : Fin 4096) (kh : Fin 2) (g : Fin 4) (d : Fin 128) : val_main_v103 (F := Ideal) x0 x1 x2 x3 (ix5 b i kh g d)
    = ∑ j, refGrads x0 x3 x1 x2 le_rfl b (headAt kh g) (gridRow i) j * x1 (ix3 b (Fin.castLE le_rfl j) (keyLane (headAt kh g) d)) := by
  rw [val_main_v103_apply]
  have e : val_main_v102 (F := Ideal) x0 x1 x2 x3 (idx_main_v103 (ix5 b i kh g d)) = val_main_v102 (F := Ideal) x0 x1 x2 x3 (ix5 b kh i g d) :=
    at5 _ rfl rfl rfl rfl rfl
  rw [e, val_main_v102_apply]
  refine Finset.sum_congr rfl fun j _ => ?_
  rw [val_main_v101_apply]
  have e : val_main_v100 (F := Ideal) x0 x1 x2 x3 (idx_main_v101 (lidx_main_v102 (ix5 b kh i g d) j)) = val_main_v100 (F := Ideal) x0 x1 x2 x3 (ix5 b kh g i j) :=
    at5 _ rfl rfl rfl rfl rfl
  rw [e, grad_grid, val_main_v2_apply]
  refine congrArg (_ * ·) (at3 _ ?_ ?_ ?_) <;> simp [keyLane, headAt] <;> omega

/-- The gradient of the keys from the grid queries. -/
theorem dk_grid (b : Fin 2) (j : Fin 4352) (kh : Fin 2) (d : Fin 128) : val_main_v105 (F := Ideal) x0 x1 x2 x3 (ix4 b j kh d)
    = ∑ g : Fin 4, ∑ r : Fin 4096, x0 (ix3 b (gridRow r) (lane (headAt kh g) d)) * refGrads x0 x3 x1 x2 le_rfl b (headAt kh g) (gridRow r) j := by
  rw [val_main_v105_apply]
  have e : val_main_v104 (F := Ideal) x0 x1 x2 x3 (idx_main_v105 (ix4 b j kh d)) = val_main_v104 (F := Ideal) x0 x1 x2 x3 (ix4 b kh j d) :=
    at4 _ rfl rfl rfl rfl
  rw [e]
  refine (dot_k_grid _ _ b kh d j).trans (Finset.sum_congr rfl fun g _ => Finset.sum_congr rfl fun r _ => ?_)
  rw [val_main_v101_apply, val_main_v41_apply, val_main_v1_apply, val_main_v0_apply]
  have e : val_main_v100 (F := Ideal) x0 x1 x2 x3 (idx_main_v101 (ix5 b kh j r g)) = val_main_v100 (F := Ideal) x0 x1 x2 x3 (ix5 b kh g r j) :=
    at5 _ rfl rfl rfl rfl rfl
  rw [e, grad_grid]
  refine congrArg (· * _) (at3 _ ?_ ?_ ?_) <;> simp [lane, headAt, gridRow] <;> omega

/-- The gradient of the values from the grid queries. -/
theorem dv_grid (b : Fin 2) (j : Fin 4352) (kh : Fin 2) (d : Fin 128) : val_main_v86 (F := Ideal) x0 x1 x3 (ix4 b j kh d)
    = ∑ g : Fin 4, ∑ r : Fin 4096, x3 (ix3 b (gridRow r) (lane (headAt kh g) d)) * refProbs x0 x1 le_rfl b (headAt kh g) (gridRow r) j := by
  rw [val_main_v86_apply]
  have e : val_main_v85 (F := Ideal) x0 x1 x3 (idx_main_v86 (ix4 b j kh d)) = val_main_v85 (F := Ideal) x0 x1 x3 (ix4 b kh d j) :=
    at4 _ rfl rfl rfl rfl
  rw [e]
  refine (dot_v_grid _ _ b kh d j).trans (Finset.sum_congr rfl fun g _ => Finset.sum_congr rfl fun r _ => ?_)
  rw [weight_grid, val_main_v83_apply, val_main_v81_apply, val_main_v80_apply]
  refine congrArg₂ (· * ·) (at3 _ ?_ ?_ ?_) rfl <;> simp [lane, headAt, gridRow] <;> omega

/-- The gradient of the queries the reference computes. -/
theorem query_eq : val_main_v139 (F := Ideal) x0 x1 x2 x3 = queryGrads (refGrads x0 x3 x1 x2) x1 := by
  have key : ∀ b i p, val_main_v139 (F := Ideal) x0 x1 x2 x3 (ix3 b i p) = queryGrad (refGrads x0 x3 x1 x2) x1 b i p := fun b i p => by
    have e : val_main_v139 (F := Ideal) x0 x1 x2 x3 (ix3 b i p)
        = val_main_v135 (F := Ideal) x0 x1 x2 x3 (ix5 b i ⟨p.val / 512, by omega⟩ ⟨p.val / 128 % 4, by omega⟩ (coordOf p)) := by
      rw [val_main_v139_apply, val_main_v138_apply]
      refine at5 _ ?_ ?_ ?_ ?_ ?_ <;> simp [coordOf] <;> omega
    have eg : ∀ kh g d, val_main_v106 (F := Ideal) x0 x1 x2 x3 (ix5 b i kh g d)
        = if h : 256 ≤ i.val ∧ i.val - 256 < 4096 then val_main_v103 (F := Ideal) x0 x1 x2 x3 (ix5 b ⟨i.val - 256, h.2⟩ kh g d)
          else val_main_cst_24 (F := Ideal) (Shape.Idx.first h_S_) := fun kh g d => by
      unfold val_main_v106
      generalize val_main_v103 (F := Ideal) x0 x1 x2 x3 = y
      pointwise
    have ec : ∀ kh g d, val_main_v134 (F := Ideal) x0 x1 x2 x3 (ix5 b i kh g d)
        = if h : i.val < 256 then val_main_v127 (F := Ideal) x0 x1 x2 x3 (ix5 b ⟨i.val, h⟩ kh g d)
          else val_main_cst_30 (F := Ideal) (Shape.Idx.first h_S_) := fun kh g d => by
      unfold val_main_v134
      generalize val_main_v127 (F := Ideal) x0 x1 x2 x3 = y
      pointwise
    have zg : val_main_cst_24 (F := Ideal) (Shape.Idx.first h_S_) = 0 := ofBits_zero
    have zc : val_main_cst_30 (F := Ideal) (Shape.Idx.first h_S_) = 0 := ofBits_zero
    have hh : headAt ⟨p.val / 512, by omega⟩ ⟨p.val / 128 % 4, by omega⟩ = headOf p := Fin.ext (by simp [headAt, headOf]; omega)
    rw [e, val_main_v135_apply, eg, ec, zg, zc]
    unfold queryGrad
    by_cases hi : i.val < 256
    · rw [if_pos hi, dif_neg (by omega), dif_pos hi, dq_ctx, hh]
      exact zero_add _
    · rw [if_neg hi, dif_pos (by omega), dif_neg hi, dq_grid, hh]
      refine (add_zero _).trans ?_
      rw [show gridRow ⟨i.val - 256, by omega⟩ = i from Fin.ext (by simp [gridRow]; omega)]
      rfl
  funext x
  have e : val_main_v139 (F := Ideal) x0 x1 x2 x3 x = val_main_v139 (F := Ideal) x0 x1 x2 x3 (ix3 (x 0) (x 1) (x 2)) := at3 _ rfl rfl rfl
  exact e.trans (key (x 0) (x 1) (x 2))

/-- The gradient of the keys the reference computes, transposed. -/
theorem key_eq : val_main_v141 (F := Ideal) x0 x1 x2 x3 = keyGrads (refGrads x0 x3 x1 x2) x0 := by
  have key : ∀ b kh d j, val_main_v141 (F := Ideal) x0 x1 x2 x3 (ix4 b kh d j) = keyGrad (refGrads x0 x3 x1 x2) x0 b kh d j := fun b kh d j => by
    have e : val_main_v141 (F := Ideal) x0 x1 x2 x3 (ix4 b kh d j) = val_main_v133 (F := Ideal) x0 x1 x2 x3 (ix4 b j kh d) := by
      rw [val_main_v141_apply, val_main_v140_apply, val_main_v137_apply]
      refine at4 _ ?_ ?_ ?_ ?_ <;> simp <;> omega
    have ec : val_main_v132 (F := Ideal) x0 x1 x2 x3 (ix4 b j kh d)
        = if h : j.val < 256 then val_main_v129 (F := Ideal) x0 x1 x2 x3 (ix4 b ⟨j.val, h⟩ kh d) else val_main_cst_29 (F := Ideal) (Shape.Idx.first h_S_) := by
      unfold val_main_v132
      generalize val_main_v129 (F := Ideal) x0 x1 x2 x3 = y
      pointwise
    have z : val_main_cst_29 (F := Ideal) (Shape.Idx.first h_S_) = 0 := ofBits_zero
    rw [e, val_main_v133_apply, ec, z, dk_grid]
    refine (add_comm _ _).trans ?_
    unfold keyGrad
    refine congrArg₂ (· + ·) ?_ rfl
    split
    · rw [dk_ctx]
    · rfl
  funext x
  have e : val_main_v141 (F := Ideal) x0 x1 x2 x3 x = val_main_v141 (F := Ideal) x0 x1 x2 x3 (ix4 (x 0) (x 1) (x 2) (x 3)) := at4 _ rfl rfl rfl rfl
  exact e.trans (key (x 0) (x 1) (x 2) (x 3))

/-- The gradient of the values the reference computes, transposed. -/
theorem value_eq : val_main_v143 (F := Ideal) x0 x1 x3 = keyGrads (refProbs x0 x1) x3 := by
  have key : ∀ b kh d j, val_main_v143 (F := Ideal) x0 x1 x3 (ix4 b kh d j) = keyGrad (refProbs x0 x1) x3 b kh d j := fun b kh d j => by
    have e : val_main_v143 (F := Ideal) x0 x1 x3 (ix4 b kh d j) = val_main_v131 (F := Ideal) x0 x1 x3 (ix4 b j kh d) := by
      rw [val_main_v143_apply, val_main_v142_apply, val_main_v136_apply]
      refine at4 _ ?_ ?_ ?_ ?_ <;> simp <;> omega
    have ec : val_main_v130 (F := Ideal) x0 x1 x3 (ix4 b j kh d)
        = if h : j.val < 256 then val_main_v110 (F := Ideal) x0 x1 x3 (ix4 b ⟨j.val, h⟩ kh d) else val_main_cst_28 (F := Ideal) (Shape.Idx.first h_S_) := by
      unfold val_main_v130
      generalize val_main_v110 (F := Ideal) x0 x1 x3 = y
      pointwise
    have z : val_main_cst_28 (F := Ideal) (Shape.Idx.first h_S_) = 0 := ofBits_zero
    rw [e, val_main_v131_apply, ec, z, dv_grid]
    refine (add_comm _ _).trans ?_
    unfold keyGrad
    refine congrArg₂ (· + ·) ?_ rfl
    split
    · rw [dv_ctx]
    · rfl
  funext x
  have e : val_main_v143 (F := Ideal) x0 x1 x3 x = val_main_v143 (F := Ideal) x0 x1 x3 (ix4 (x 0) (x 1) (x 2) (x 3)) := at4 _ rfl rfl rfl rfl
  exact e.trans (key (x 0) (x 1) (x 2) (x 3))

end Cert.ReferenceIdeal.Value

end
-- ==== Proof.PreFinite.lean ====
/- The side conditions of the backward call's precondition: the shapes its operations take fit. -/
module

public import proofs.«01_k».proof.Pre_finite

@[expose] public section

namespace Cert.Attention

open Cert.Pre_finite Idealize.ShloMosaic

theorem big_bcast : S_.BroadcastsInDim S2x4352x1024 (![] : Fin 0 → Fin S2x4352x1024.rank) := by decide

theorem big_reduces : S2x4352x1024.ReducesTo [0, 1, 2] S_ := by decide

theorem scalar_pos : 0 < S_.numel := by decide

theorem small_bcast : S_.BroadcastsInDim S2x4352x256 (![] : Fin 0 → Fin S2x4352x256.rank) := by decide

theorem small_reduces : S2x4352x256.ReducesTo [0, 1, 2] S_ := by decide

instance preFacts : Cert.Pre_finite.Facts := ⟨big_bcast, big_reduces, scalar_pos, small_bcast, small_reduces⟩

end Cert.Attention
-- ==== Proof.BwdClaim.lean ====
/- The backward call against its reference: equal gradients where queries, keys, values and the output's gradient are finite. -/
module

public import proofs.«01_k».proof.Proof.BwdFinal
public import proofs.«01_k».proof.Proof.BwdRef
public import proofs.«01_k».proof.Proof.Finite
public import proofs.«01_k».proof.Proof.PreFinite

@[expose] public section

noncomputable section

namespace Cert.Attention

open Idealize.ShloMosaic Idealize.ShloMosaic.TcCoe

/-- The backward call's precondition says that its four arguments are real numbers. -/
theorem isReal_of_finite (q : Arr3 2 4352 1024) (k v : Arr3 2 4352 256) (d : Arr3 2 4352 1024)
    (h : Cert.Pre_finite.fn (F := Ideal) q k v d = fun _ => 1#1) : IsReal q ∧ IsReal k ∧ IsReal v ∧ IsReal d := by
  have e := congrFun h (fun a => a.elim0)
  have e' : IntOp.andi (IntOp.andi (IntOp.andi (allFinite q big_bcast big_reduces scalar_pos _) (allFinite k small_bcast small_reduces scalar_pos _))
    (allFinite v small_bcast small_reduces scalar_pos _)) (allFinite d big_bcast big_reduces scalar_pos _) = 1#1 := e
  obtain ⟨e1, hd⟩ := andi_eq_one e'
  obtain ⟨e2, hv⟩ := andi_eq_one e1
  obtain ⟨hq, hk⟩ := andi_eq_one e2
  exact ⟨isReal_of_allFinite q _ _ _ _ hq, isReal_of_allFinite k _ _ _ _ hk, isReal_of_allFinite v _ _ _ _ hv,
    isReal_of_allFinite d _ _ _ _ hd⟩

open Cert.KernelIdeal Cert.KernelIdeal.Gen

variable (m : (ℓ : Loc nD τ sig) → Buf (Elt Ideal) ℓ) (c : Dev nD)

/-- The arguments of the backward call are real. -/
def Real4 : Prop := IsReal (Value.Q m c) ∧ IsReal (Value.K m c) ∧ IsReal (Value.W m c) ∧ IsReal (Value.dO m c)

/-- The reference's gradient of the queries, over the kernel's arguments, is the array the backward call leaves. -/
theorem backward_query (h : Real4 m c) :
    Cert.ReferenceIdeal.Read.val_main_v139 (F := Ideal) (Value.Q m c) (Value.K m c) (Value.W m c) (Value.dO m c)
      = (dats m 0 c).arrAt 6 (cfgs 0).N :=
  (Cert.ReferenceIdeal.Value.query_eq _ _ _ _).trans
    ((queryGrads_congr (grads_agree h.1 h.2.1 h.2.2.1 h.2.2.2) _).trans (Value.query_final m c).symm)

/-- The reference's gradient of the keys. -/
theorem backward_key (h : Real4 m c) :
    Cert.ReferenceIdeal.Read.val_main_v141 (F := Ideal) (Value.Q m c) (Value.K m c) (Value.W m c) (Value.dO m c)
      = (dats m 0 c).arrAt 7 (cfgs 0).N :=
  (Cert.ReferenceIdeal.Value.key_eq _ _ _ _).trans
    ((keyGrads_congr (grads_agree h.1 h.2.1 h.2.2.1 h.2.2.2) _).trans (Value.key_final m c).symm)

/-- The reference's gradient of the values. -/
theorem backward_value (h : Real4 m c) :
    Cert.ReferenceIdeal.Read.val_main_v143 (F := Ideal) (Value.Q m c) (Value.K m c) (Value.dO m c)
      = (dats m 0 c).arrAt 8 (cfgs 0).N :=
  (Cert.ReferenceIdeal.Value.value_eq _ _ _).trans
    ((keyGrads_congr (probs_agree h.1 h.2.1) _).trans (Value.value_final m c).symm)

end Cert.Attention

end
-- ==== Proof.Product.lean ====
/- Sums of a blocked product put together, and the rows of a product of two samples' tokens. -/
module

public import proofs.«01_k».proof.Proof.Spec
public import Mathlib.Logic.Equiv.Fin.Basic
public import Mathlib.Algebra.BigOperators.Fin

@[expose] public section

noncomputable section

namespace Cert.Product

open Idealize.ShloMosaic Cert.Attention

/-- The sample that a row of the product belongs to: the rows are the two samples' tokens, one sample after the other. -/
def sample (x : Fin 8704) : Fin 2 := ⟨x.val / 4352, by omega⟩

/-- The token of its sample that a row of the product is. -/
def token (x : Fin 8704) : Fin 4352 := ⟨x.val % 4352, Nat.mod_lt _ (by norm_num)⟩

/-- A sum over `a` blocks of `b` terms is the sum over all terms, in any commutative monoid: no term need be finite. -/
theorem sum_of_blocks {M : Type} [AddCommMonoid M] {a b n : ℕ} (h : a * b = n) (f : Fin n → M)
    (hp : ∀ (s : Fin a) (r : Fin b), b * s.val + r.val < n) :
    ∑ s : Fin a, ∑ r : Fin b, f ⟨b * s.val + r.val, hp s r⟩ = ∑ x : Fin n, f x := by
  subst h
  rw [← Fintype.sum_prod_type', ← Equiv.sum_comp finProdFinEquiv f]
  refine Finset.sum_congr rfl fun x _ => congrArg f (Fin.ext ?_)
  show b * x.1.val + x.2.val = x.2.val + b * x.1.val
  omega

/-- A sum over the rows is the sum over the samples and their tokens. -/
theorem sum_rows (f : Fin 2 → Fin 4352 → EReal) : ∑ x : Fin 8704, f (sample x) (token x) = ∑ b : Fin 2, ∑ i : Fin 4352, f b i := by
  rw [← sum_of_blocks (a := 2) (b := 4352) (n := 8704) rfl (fun x => f (sample x) (token x)) (fun s r => by omega)]
  refine Finset.sum_congr rfl fun s _ => Finset.sum_congr rfl fun r _ => ?_
  have e1 : sample ⟨4352 * s.val + r.val, by omega⟩ = s := Fin.ext (by show (4352 * s.val + r.val) / 4352 = s.val; omega)
  have e2 : token ⟨4352 * s.val + r.val, by omega⟩ = r := Fin.ext (by show (4352 * s.val + r.val) % 4352 = r.val; omega)
  rw [e1, e2]

/-- An array with two axes. -/
abbrev Arr2 (a b : ℕ) : Type := (⟨2, ![a, b]⟩ : Shape).Idx → EReal

/-- Two reads of an array with two axes are the same where the coordinates are. -/
theorem at2 {a b : ℕ} (v : Arr2 a b) {j : (⟨2, ![a, b]⟩ : Shape).Idx} {y0 : Fin a} {y1 : Fin b} (h0 : (j 0 : ℕ) = (y0 : ℕ))
    (h1 : (j 1 : ℕ) = (y1 : ℕ)) : v j = v (ix2 y0 y1) :=
  congrArg v (funext fun q => Fin.ext (match q with | 0 => h0 | 1 => h1))

/-- The projection of every row by the second layer's matrix. -/
def projected (h : Arr3 2 4352 1024) (w : Arr3 2 1024 10240) : Arr2 8704 10240 := fun y =>
  ∑ k : Fin 1024, h (ix3 (sample (y 0)) (token (y 0)) k) * w (ix3 1 k (y 1))

/-- The gradient of the projection's matrix: each input column against each output's gradient, over all tokens. -/
def matrixGrad (h : Arr3 2 4352 1024) (g : Arr3 2 4352 10240) : Arr2 1024 10240 := fun y =>
  ∑ b : Fin 2, ∑ i : Fin 4352, h (ix3 b i (y 0)) * g (ix3 b i (y 1))

/-- The gradient of the projection's input: each row of the outputs' gradients against each row of the second layer's matrix. -/
def inputGrad (w : Arr3 2 1024 10240) (g : Arr3 2 4352 10240) : Arr2 8704 1024 := fun y =>
  ∑ n : Fin 10240, g (ix3 (sample (y 0)) (token (y 0)) n) * w (ix3 1 (y 1) n)

end Cert.Product

end
-- ==== Proof.ProjectValue.lean ====
/- The call that forms the projection: its blocks and its result. -/
module

public import proofs.«01_k».proof.Proof.Product
public import proofs.«01_k».proof.Proof.Gen.ProjectIdeal.Value
public import Idealize.ShloMosaic.Lib.Pipeline.ValueKit
public import Idealize.ShloMosaic.Lib.Pointwise

@[expose] public section

set_option maxRecDepth 16384

noncomputable section

namespace Cert.ProjectIdeal.Value

open Cert.ProjectIdeal Cert.ProjectIdeal.Gen Cert.Attention Cert.Product Idealize.ShloMosaic Idealize.ShloMosaic.TcCoe

/-- A point's product, over the block's whole depth. -/
theorem out_at (h : Vec Ideal S1088x1024 .bf16) (w : Vec Ideal S1x1024x1024 .bf16) (y : S1088x1024.Idx) :
    out0_2 (F := Ideal) h w y = ∑ k : Fin 1024, h (ix2 (y 0) k) * w (ix3 0 k (y 1)) := by
  rw [show y = ix2 (y 0) (y 1) from funext fun a => match a with | 0 => rfl | 1 => rfl]
  frame_out
  unfold_payloads
  pointwise

variable (m : (ℓ : Loc nD τ sig) → Buf (Elt Ideal) ℓ) (c : Dev nD)

/-- The block each grid point takes of each window's array: the points run over the column blocks and the row blocks. -/
theorem idx : ∀ t : Fin cfg0.N, win0_0.index t = ![t.val % 8, 0] ∧ win0_1.index t = ![1, 0, t.val / 8]
    ∧ win0_2.index t = ![t.val % 8, t.val / 8] ∧ t.val < 80 :=
  (by decide +kernel : ∀ t : Fin grid0.N, _)

/-- The projection's input and the projections' matrices, as the call was given them. -/
abbrev H : Arr3 2 4352 1024 := m ((c : Thread nD τ).loc main_arg0)
abbrev W : Arr3 2 1024 10240 := m ((c : Thread nD τ).loc main_arg1)

theorem input_entry (x : Fin 8704) (k : Fin 1024) : (V m c main_v2 : Vec Ideal S8704x1024 .bf16) (ix2 x k)
    = H m c (ix3 (sample x) (token x) k) := by
  entry_read
  pointwise
  rfl

theorem weight_entry (l : Fin 2) (k : Fin 1024) (n : Fin 10240) : (V m c main_v1 : Vec Ideal S2x1024x10240 .bf16) (ix3 l k n)
    = W m c (ix3 l k n) := by
  entry_read
  pointwise

/-- A point's block of the input. -/
theorem input_at (t : Fin cfg0.N) (i : Fin 1088) (k : Fin 1024) (x : Fin 8704) (hx : x.val = 1088 * (t.val % 8) + i.val) :
    (iblk m c 0 t : Vec Ideal S1088x1024 .bf16) (ix2 i k) = H m c (ix3 (sample x) (token x) k) := by
  have h : (iblk m c 0 t : Vec Ideal S1088x1024 .bf16) (ix2 i k) = (V m c main_v2 : Vec Ideal S8704x1024 .bf16) (ix2 x k) := by
    blk_ext [iblk, idx t]
  rw [h, input_entry]

/-- A point's block of the second layer's matrix. -/
theorem weight_at (t : Fin cfg0.N) (k j : Fin 1024) (n : Fin 10240) (hn : n.val = 1024 * (t.val / 8) + j.val) :
    (iblk m c 1 t : Vec Ideal S1x1024x1024 .bf16) (ix3 0 k j) = W m c (ix3 1 k n) := by
  have h : (iblk m c 1 t : Vec Ideal S1x1024x1024 .bf16) (ix3 0 k j) = (V m c main_v1 : Vec Ideal S2x1024x10240 .bf16) (ix3 1 k n) := by
    blk_ext [iblk, idx t]
  rw [h, weight_entry]

/-- What a point writes out, by the whole arrays. -/
theorem outs_at (t : Fin cfg0.N) (y : S1088x1024.Idx) (x : Fin 8704) (n : Fin 10240) (hx : x.val = 1088 * (t.val % 8) + (y 0 : ℕ))
    (hn : n.val = 1024 * (t.val / 8) + (y 1 : ℕ)) :
    out0_2 (F := Ideal) (iblk m c 0 t) (iblk m c 1 t) y = projected (H m c) (W m c) (ix2 x n) :=
  (out_at _ _ y).trans (Finset.sum_congr rfl fun k _ => congrArg₂ (· * ·) (input_at m c t (y 0) k x hx) (weight_at m c t k (y 1) n hn))

/-- The projection that the call writes. -/
theorem final : (dats m 0 c).arrAt 2 (cfgs 0).N = projected (H m c) (W m c) := by
  refine (dats m 0 c).arrAt_eq_of_covers 2 _ (by decide +kernel) fun t hf y => ?_
  blk_simp
  rw [after0_2]
  refine outs_at m c t y _ _ ?_ ?_ <;> blk_simp [idx t] <;> idx_bounds <;> try omega

end Cert.ProjectIdeal.Value

end
-- ==== Proof.WeightGradValue.lean ====
/- The call that forms the gradient of the projection's matrix: its blocks, its accumulation and its result. -/
module

public import proofs.«01_k».proof.Proof.Product
public import proofs.«01_k».proof.Proof.Gen.WeightGradIdeal.Value
public import Idealize.ShloMosaic.Lib.Pipeline.ValueKit
public import Idealize.ShloMosaic.Lib.Pointwise

@[expose] public section

set_option maxRecDepth 16384

noncomputable section

namespace Cert.WeightGradIdeal.Value

open Cert.WeightGradIdeal Cert.WeightGradIdeal.Gen Cert.Attention Cert.Product Idealize.ShloMosaic Idealize.ShloMosaic.TcCoe

/-- The product of a point's two blocks, over the block's rows. -/
def part (x g : Vec Ideal S2176x1024 .bf16) (y : S1024x1024.Idx) : EReal := ∑ r : Fin 2176, x (ix2 r (y 0)) * g (ix2 r (y 1))

/-- The first point of a column block keeps that product. -/
theorem part_at (x g : Vec Ideal S2176x1024 .bf16) (y : S1024x1024.Idx) :
    k0_pay2 (F := Ideal) x g y = part x g y := by
  unfold part
  rw [show y = ix2 (y 0) (y 1) from funext fun a => match a with | 0 => rfl | 1 => rfl]
  unfold_payloads
  pointwise

/-- That product added to what the scratch holds. -/
theorem step_at (x g : Vec Ideal S2176x1024 .bf16) (a : Vec Ideal S1024x1024 .f32) (y : S1024x1024.Idx) :
    k0_pay3 (F := Ideal) x g a y = a y + part x g y := by
  unfold part
  rw [show y = ix2 (y 0) (y 1) from funext fun a => match a with | 0 => rfl | 1 => rfl]
  unfold_payloads
  pointwise

variable (m : (ℓ : Loc nD τ sig) → Buf (Elt Ideal) ℓ) (c : Dev nD)

/-- The scratch after a point that starts a column block. -/
theorem scratchA (t : Fin cfg0.N) (h0 : t.val % 4 = 0) (y : S1024x1024.Idx) : (outsAt0 m c t.val t.isLt).2 y
    = part (iblk m c 0 t) (iblk m c 1 t) y := by
  rw [outsAt0_A m c t h0 (by omega) (by omega)]
  frame_out
  exact part_at _ _ y

/-- The scratch after a later point: what it held, and the point's product. -/
theorem scratchB (t : Fin cfg0.N) (h0 : ¬t.val % 4 = 0) (y : S1024x1024.Idx) : (outsAt0 m c t.val t.isLt).2 y
    = (outsAt0 m c (t.val - 1) (Nat.lt_of_le_of_lt (Nat.sub_le _ _) t.isLt)).2 y
      + part (iblk m c 0 t) (iblk m c 1 t) y := by
  by_cases h2 : t.val % 4 = 3
  · rw [outsAt0_C m c t h0 (by omega) h2]
    frame_out
    exact (congrArg (fun a => k0_pay3 (F := Ideal) (iblk m c 0 t) (iblk m c 1 t) a y) (Memref.IsWhole.read_unread _ _)).trans (step_at _ _ _ y)
  · rw [outsAt0_B m c t h0 (by omega) h2]
    frame_out
    exact (congrArg (fun a => k0_pay3 (F := Ideal) (iblk m c 0 t) (iblk m c 1 t) a y) (Memref.IsWhole.read_unread _ _)).trans (step_at _ _ _ y)

/-- The last point of a column block writes the scratch out. -/
theorem out_eq (t : Fin cfg0.N) (h2 : t.val % 4 = 3) (y : S1024x1024.Idx) :
    (outsAt0 m c t.val t.isLt).1 y = (outsAt0 m c t.val t.isLt).2 y := by
  rw [outsAt0_C m c t (by omega) (by omega) h2]
  frame_out

/-- The block each grid point takes of each window's array: the points run over the column blocks and the row blocks. -/
theorem idx : ∀ t : Fin cfg0.N, win0_0.index t = ![t.val % 4, 0] ∧ win0_1.index t = ![t.val % 4, t.val / 4]
    ∧ win0_2.index t = ![0, t.val / 4] ∧ t.val < 40 :=
  (by decide +kernel : ∀ t : Fin grid0.N, _)

/-- The projection's input and the gradient of its output, as the call was given them. -/
abbrev H : Arr3 2 4352 1024 := m ((c : Thread nD τ).loc main_arg0)
abbrev D : Arr3 2 4352 10240 := m ((c : Thread nD τ).loc main_arg1)

theorem input_entry (x : Fin 8704) (k : Fin 1024) : (V m c main_v3 : Vec Ideal S8704x1024 .bf16) (ix2 x k)
    = H m c (ix3 (sample x) (token x) k) := by
  entry_read
  pointwise
  rfl

theorem grad_entry (x : Fin 8704) (n : Fin 10240) : (V m c main_v2 : Vec Ideal S8704x10240 .bf16) (ix2 x n)
    = D m c (ix3 (sample x) (token x) n) := by
  entry_read
  pointwise
  rfl

/-- A point's block of the input. -/
theorem input_at (t : Fin cfg0.N) (r : Fin 2176) (k : Fin 1024) (x : Fin 8704) (hx : x.val = 2176 * (t.val % 4) + r.val) :
    (iblk m c 0 t : Vec Ideal S2176x1024 .bf16) (ix2 r k) = H m c (ix3 (sample x) (token x) k) := by
  have h : (iblk m c 0 t : Vec Ideal S2176x1024 .bf16) (ix2 r k) = (V m c main_v3 : Vec Ideal S8704x1024 .bf16) (ix2 x k) := by
    blk_ext [iblk, idx t]
  rw [h, input_entry]

/-- A point's block of the output's gradient. -/
theorem grad_at (t : Fin cfg0.N) (r : Fin 2176) (l : Fin 1024) (x : Fin 8704) (n : Fin 10240) (hx : x.val = 2176 * (t.val % 4) + r.val)
    (hn : n.val = 1024 * (t.val / 4) + l.val) :
    (iblk m c 1 t : Vec Ideal S2176x1024 .bf16) (ix2 r l) = D m c (ix3 (sample x) (token x) n) := by
  have h : (iblk m c 1 t : Vec Ideal S2176x1024 .bf16) (ix2 r l) = (V m c main_v2 : Vec Ideal S8704x10240 .bf16) (ix2 x n) := by
    blk_ext [iblk, idx t]
  rw [h, grad_entry]

/-- What the last point of a column block writes out, by the whole arrays. -/
theorem outs_at (t : Fin cfg0.N) (ht : t.val % 4 = 3) (y : S1024x1024.Idx) (k : Fin 1024) (n : Fin 10240)
    (hk : k.val = (y 0 : ℕ)) (hn : n.val = 1024 * (t.val / 4) + (y 1 : ℕ)) :
    (outsAt0 m c t.val t.isLt).1 y = matrixGrad (H m c) (D m c) (ix2 k n) := by
  have hN := (idx t).2.2.2
  obtain rfl : k = (y 0 : Fin 1024) := Fin.ext hk
  rw [out_eq m c t ht y]
  refine (Pipeline.eq_sum_fin_of_reset_step_apply_of_flush (fun n h => (outsAt0 m c n h).2) 4 (fun _ => (0 : EReal))
    (fun p (y : S1024x1024.Idx) => part (iblk m c 0 p) (iblk m c 1 p) y)
    (fun p h y => (scratchA m c p h y).trans (zero_add _).symm) (fun p h y => scratchB m c p h y) t ht y).trans ?_
  rw [zero_add]
  refine Eq.trans ?_ (sum_rows fun b i => H m c (ix3 b i (y 0 : Fin 1024)) * D m c (ix3 b i n))
  rw [← sum_of_blocks (a := 4) (b := 2176) (n := 8704) rfl
    (fun x => H m c (ix3 (sample x) (token x) (y 0 : Fin 1024)) * D m c (ix3 (sample x) (token x) n)) (fun s r => by omega)]
  refine Finset.sum_congr rfl fun s _ => ?_
  unfold part
  refine Finset.sum_congr rfl fun r _ => ?_
  refine congrArg₂ (· * ·) (input_at m c _ r (y 0) ⟨2176 * s.val + r.val, by omega⟩ ?_)
    (grad_at m c _ r (y 1) ⟨2176 * s.val + r.val, by omega⟩ n ?_ ?_)
  · show 2176 * s.val + r.val = 2176 * ((4 * (t.val / 4) + s.val) % 4) + r.val
    omega
  · show 2176 * s.val + r.val = 2176 * ((4 * (t.val / 4) + s.val) % 4) + r.val
    omega
  · show n.val = 1024 * ((4 * (t.val / 4) + s.val) / 4) + (y 1 : ℕ)
    omega

/-- The gradient of the matrix that the call writes. -/
theorem final : (dats m 0 c).arrAt 2 (cfgs 0).N = matrixGrad (H m c) (D m c) := by
  refine (dats m 0 c).arrAt_eq_of_covers 2 _ (by decide +kernel) fun t hf y => ?_
  have ht := (flush0_2 t).mp hf
  blk_simp
  rw [after0_2]
  refine outs_at m c t ht y _ _ ?_ ?_ <;> blk_simp [idx t] <;> idx_bounds <;> try omega

end Cert.WeightGradIdeal.Value

end
-- ==== Proof.InputGradValue.lean ====
/- The call that forms the gradient of the projection's input: its blocks, its accumulation and its result. -/
module

public import proofs.«01_k».proof.Proof.Product
public import proofs.«01_k».proof.Proof.Gen.InputGradIdeal.Value
public import Idealize.ShloMosaic.Lib.Pipeline.ValueKit
public import Idealize.ShloMosaic.Lib.Pointwise

@[expose] public section

set_option maxRecDepth 16384

noncomputable section

namespace Cert.InputGradIdeal.Value

open Cert.InputGradIdeal Cert.InputGradIdeal.Gen Cert.Attention Cert.Product Idealize.ShloMosaic Idealize.ShloMosaic.TcCoe

/-- The product of a point's two blocks, over the block's columns. -/
def part (g : Vec Ideal S1088x2560 .bf16) (w : Vec Ideal S1x1024x2560 .bf16) (y : S1088x1024.Idx) : EReal :=
  ∑ r : Fin 2560, g (ix2 (y 0) r) * w (ix3 0 (y 1) r)

/-- The first point of a row block keeps that product. -/
theorem part_at (g : Vec Ideal S1088x2560 .bf16) (w : Vec Ideal S1x1024x2560 .bf16) (y : S1088x1024.Idx) :
    k0_pay2 (F := Ideal) g w y = part g w y := by
  unfold part
  rw [show y = ix2 (y 0) (y 1) from funext fun a => match a with | 0 => rfl | 1 => rfl]
  unfold_payloads
  pointwise

/-- That product added to what the scratch holds. -/
theorem step_at (g : Vec Ideal S1088x2560 .bf16) (w : Vec Ideal S1x1024x2560 .bf16) (a : Vec Ideal S1088x1024 .f32) (y : S1088x1024.Idx) :
    k0_pay3 (F := Ideal) g w a y = a y + part g w y := by
  unfold part
  rw [show y = ix2 (y 0) (y 1) from funext fun a => match a with | 0 => rfl | 1 => rfl]
  unfold_payloads
  pointwise

variable (m : (ℓ : Loc nD τ sig) → Buf (Elt Ideal) ℓ) (c : Dev nD)

/-- The scratch after a point that starts a row block. -/
theorem scratchA (t : Fin cfg0.N) (h0 : t.val % 4 = 0) (y : S1088x1024.Idx) :
    (outsAt0 m c t.val t.isLt).2 y = part (iblk m c 0 t) (iblk m c 1 t) y := by
  rw [outsAt0_A m c t h0 (by omega) (by omega)]
  frame_out
  exact part_at _ _ y

/-- The scratch after a later point: what it held, and the point's product. -/
theorem scratchB (t : Fin cfg0.N) (h0 : ¬t.val % 4 = 0) (y : S1088x1024.Idx) : (outsAt0 m c t.val t.isLt).2 y
    = (outsAt0 m c (t.val - 1) (Nat.lt_of_le_of_lt (Nat.sub_le _ _) t.isLt)).2 y + part (iblk m c 0 t) (iblk m c 1 t) y := by
  by_cases h2 : t.val % 4 = 3
  · rw [outsAt0_C m c t h0 (by omega) h2]
    frame_out
    exact (congrArg (fun a => k0_pay3 (F := Ideal) (iblk m c 0 t) (iblk m c 1 t) a y) (Memref.IsWhole.read_unread _ _)).trans (step_at _ _ _ y)
  · rw [outsAt0_B m c t h0 (by omega) h2]
    frame_out
    exact (congrArg (fun a => k0_pay3 (F := Ideal) (iblk m c 0 t) (iblk m c 1 t) a y) (Memref.IsWhole.read_unread _ _)).trans (step_at _ _ _ y)

/-- The last point of a row block writes the scratch out. -/
theorem out_eq (t : Fin cfg0.N) (h2 : t.val % 4 = 3) (y : S1088x1024.Idx) :
    (outsAt0 m c t.val t.isLt).1 y = (outsAt0 m c t.val t.isLt).2 y := by
  rw [outsAt0_C m c t (by omega) (by omega) h2]
  frame_out

/-- The block each grid point takes of each window's array: the points run over the row blocks and the column blocks. -/
theorem idx : ∀ t : Fin cfg0.N, win0_0.index t = ![t.val / 4, t.val % 4] ∧ win0_1.index t = ![1, 0, t.val % 4]
    ∧ win0_2.index t = ![t.val / 4, 0] ∧ t.val < 32 :=
  (by decide +kernel : ∀ t : Fin grid0.N, _)

/-- The projections' matrices and the gradient of the projection's output, as the call was given them. -/
abbrev W : Arr3 2 1024 10240 := m ((c : Thread nD τ).loc main_arg0)
abbrev D : Arr3 2 4352 10240 := m ((c : Thread nD τ).loc main_arg1)

theorem weight_entry (l : Fin 2) (k : Fin 1024) (n : Fin 10240) : (V m c main_v0 : Vec Ideal S2x1024x10240 .bf16) (ix3 l k n)
    = W m c (ix3 l k n) := by
  entry_read
  pointwise

theorem grad_entry (x : Fin 8704) (n : Fin 10240) : (V m c main_v2 : Vec Ideal S8704x10240 .bf16) (ix2 x n)
    = D m c (ix3 (sample x) (token x) n) := by
  entry_read
  pointwise
  rfl

/-- A point's block of the output's gradient. -/
theorem grad_at (t : Fin cfg0.N) (i : Fin 1088) (r : Fin 2560) (x : Fin 8704) (n : Fin 10240) (hx : x.val = 1088 * (t.val / 4) + i.val)
    (hn : n.val = 2560 * (t.val % 4) + r.val) :
    (iblk m c 0 t : Vec Ideal S1088x2560 .bf16) (ix2 i r) = D m c (ix3 (sample x) (token x) n) := by
  have h : (iblk m c 0 t : Vec Ideal S1088x2560 .bf16) (ix2 i r) = (V m c main_v2 : Vec Ideal S8704x10240 .bf16) (ix2 x n) := by
    blk_ext [iblk, idx t]
  rw [h, grad_entry]

/-- A point's block of the second layer's matrix. -/
theorem weight_at (t : Fin cfg0.N) (k : Fin 1024) (r : Fin 2560) (n : Fin 10240) (hn : n.val = 2560 * (t.val % 4) + r.val) :
    (iblk m c 1 t : Vec Ideal S1x1024x2560 .bf16) (ix3 0 k r) = W m c (ix3 1 k n) := by
  have h : (iblk m c 1 t : Vec Ideal S1x1024x2560 .bf16) (ix3 0 k r) = (V m c main_v0 : Vec Ideal S2x1024x10240 .bf16) (ix3 1 k n) := by
    blk_ext [iblk, idx t]
  rw [h, weight_entry]

/-- What the last point of a row block writes out, by the whole arrays. -/
theorem outs_at (t : Fin cfg0.N) (ht : t.val % 4 = 3) (y : S1088x1024.Idx) (x : Fin 8704) (k : Fin 1024)
    (hx : x.val = 1088 * (t.val / 4) + (y 0 : ℕ)) (hk : k.val = (y 1 : ℕ)) :
    (outsAt0 m c t.val t.isLt).1 y = inputGrad (W m c) (D m c) (ix2 x k) := by
  have hN := (idx t).2.2.2
  obtain rfl : k = (y 1 : Fin 1024) := Fin.ext hk
  rw [out_eq m c t ht y]
  refine (Pipeline.eq_sum_fin_of_reset_step_apply_of_flush (fun n h => (outsAt0 m c n h).2) 4 (fun _ => (0 : EReal))
    (fun p (y : S1088x1024.Idx) => part (iblk m c 0 p) (iblk m c 1 p) y)
    (fun p h y => (scratchA m c p h y).trans (zero_add _).symm) (fun p h y => scratchB m c p h y) t ht y).trans ?_
  rw [zero_add]
  refine Eq.trans ?_ (sum_of_blocks (a := 4) (b := 2560) (n := 10240) rfl
    (fun n => D m c (ix3 (sample x) (token x) n) * W m c (ix3 1 (y 1 : Fin 1024) n)) (fun s r => by omega))
  refine Finset.sum_congr rfl fun s _ => ?_
  unfold part
  refine Finset.sum_congr rfl fun r _ => ?_
  refine congrArg₂ (· * ·) (grad_at m c _ (y 0) r x ⟨2560 * s.val + r.val, by omega⟩ ?_ ?_)
    (weight_at m c _ (y 1) r ⟨2560 * s.val + r.val, by omega⟩ ?_)
  · show x.val = 1088 * ((4 * (t.val / 4) + s.val) / 4) + (y 0 : ℕ)
    omega
  · show 2560 * s.val + r.val = 2560 * ((4 * (t.val / 4) + s.val) % 4) + r.val
    omega
  · show 2560 * s.val + r.val = 2560 * ((4 * (t.val / 4) + s.val) % 4) + r.val
    omega

/-- The gradient of the input that the call writes. -/
theorem final : (dats m 0 c).arrAt 2 (cfgs 0).N = inputGrad (W m c) (D m c) := by
  refine (dats m 0 c).arrAt_eq_of_covers 2 _ (by decide +kernel) fun t hf y => ?_
  have ht := (flush0_2 t).mp hf
  blk_simp
  rw [after0_2]
  refine outs_at m c t ht y _ _ ?_ ?_ <;> blk_simp [idx t] <;> idx_bounds <;> try omega

end Cert.InputGradIdeal.Value

end
-- ==== Proof.ProductRef.lean ====
/- What the references of the projection and of its two gradients compute. -/
module

public import proofs.«01_k».proof.Proof.Product
public import proofs.«01_k».proof.Proof.Gen.ProjectReferenceIdeal.Read
public import proofs.«01_k».proof.Proof.Gen.WeightGradReferenceIdeal.Read
public import proofs.«01_k».proof.Proof.Gen.InputGradReferenceIdeal.Read
public import Idealize.ShloMosaic.Lib.TwoAxisContraction

@[expose] public section

set_option maxRecDepth 16384

noncomputable section

namespace Cert.ProjectReferenceIdeal.Value

open Cert.ProjectReferenceIdeal.Read Cert.ProjectReferenceIdeal Cert.ProjectReferenceIdeal.Gen Cert.Attention Cert.Product
open Idealize.ShloMosaic Idealize.ShloMosaic.TcCoe

/-- The reference's matrix is the second layer's. -/
theorem layer (w : Arr3 2 1024 10240) (k : Fin 1024) (n : Fin 10240) : val_main_v1 (F := Ideal) w (ix2 k n) = w (ix3 1 k n) := by
  rw [val_main_v1_apply, val_main_v0_apply]
  refine at3 w ?_ ?_ ?_ <;> simp <;> omega

/-- The reference projects every row. -/
theorem computes (h : Arr3 2 4352 1024) (w : Arr3 2 1024 10240) : val_main_v4 (F := Ideal) h w = projected h w := by
  funext y
  obtain ⟨x, n, rfl⟩ : ∃ (x : Fin 8704) (n : Fin 10240), y = ix2 x n := ⟨y 0, y 1, funext fun a => match a with | 0 => rfl | 1 => rfl⟩
  rw [val_main_v4_apply, val_main_v3_apply]
  refine Eq.trans (b := val_main_v2 (F := Ideal) h w (ix3 (sample x) (token x) n)) ?_ ?_
  · refine at3 (val_main_v2 (F := Ideal) h w) ?_ ?_ ?_ <;> simp [sample, token] <;> omega
  · rw [val_main_v2_apply]
    exact Finset.sum_congr rfl fun k _ => congrArg₂ (· * ·) (at3 h rfl rfl rfl)
      ((at2 (val_main_v1 (F := Ideal) w) rfl rfl).trans (layer w k n))

end Cert.ProjectReferenceIdeal.Value

namespace Cert.InputGradReferenceIdeal.Value

open Cert.InputGradReferenceIdeal.Read Cert.InputGradReferenceIdeal Cert.InputGradReferenceIdeal.Gen Cert.Attention Cert.Product
open Idealize.ShloMosaic Idealize.ShloMosaic.TcCoe

/-- The reference's matrix is the second layer's. -/
theorem layer (w : Arr3 2 1024 10240) (k : Fin 1024) (n : Fin 10240) : val_main_v2 (F := Ideal) w (ix2 k n) = w (ix3 1 k n) := by
  rw [val_main_v2_apply, val_main_v1_apply]
  refine at3 w ?_ ?_ ?_ <;> simp <;> omega

/-- The reference's gradient of the projection's input. -/
theorem computes (w : Arr3 2 1024 10240) (g : Arr3 2 4352 10240) : val_main_v5 (F := Ideal) w g = inputGrad w g := by
  funext y
  obtain ⟨x, k, rfl⟩ : ∃ (x : Fin 8704) (k : Fin 1024), y = ix2 x k := ⟨y 0, y 1, funext fun a => match a with | 0 => rfl | 1 => rfl⟩
  rw [val_main_v5_apply]
  refine Eq.trans (b := val_main_v4 (F := Ideal) w g (ix3 (sample x) (token x) k)) ?_ ?_
  · refine at3 (val_main_v4 (F := Ideal) w g) ?_ ?_ ?_ <;> simp [sample, token] <;> omega
  · rw [val_main_v4_apply]
    exact Finset.sum_congr rfl fun n _ => congrArg₂ (· * ·) (at3 g rfl rfl rfl)
      ((at2 (val_main_v2 (F := Ideal) w) rfl rfl).trans (layer w k n))

end Cert.InputGradReferenceIdeal.Value

namespace Cert.WeightGradReferenceIdeal.Value

open Cert.WeightGradReferenceIdeal.Read Cert.WeightGradReferenceIdeal Cert.WeightGradReferenceIdeal.Gen Cert.Attention Cert.Product
open Idealize.ShloMosaic Idealize.ShloMosaic.TcCoe

/-- The product over the samples and their tokens, read at an index. -/
theorem over_rows (h : Arr3 2 4352 1024) (g : Arr3 2 4352 10240) (n : Fin 10240) (k : Fin 1024) :
    val_main_v2 (F := Ideal) h g (ix2 n k) = ∑ b : Fin 2, ∑ i : Fin 4352, h (ix3 b i k) * g (ix3 b i n) := by
  unfold val_main_v2
  simp only [Host.dotGeneral]
  rw [Ideal.dotGeneral_apply, ValueIdx.sum_contr2 dot_S2x4352x10240_S2x4352x1024_S10240x1024_01_01_2_2_n_n 2 4352 rfl rfl rfl]
  refine Finset.sum_congr rfl fun b _ => Finset.sum_congr rfl fun i _ => ?_
  have h0 := ValueIdx.contrEquiv2_symm_val0 dot_S2x4352x10240_S2x4352x1024_S10240x1024_01_01_2_2_n_n 2 4352 rfl rfl rfl (b, i)
  have h1 := ValueIdx.contrEquiv2_symm_val1 dot_S2x4352x10240_S2x4352x1024_S10240x1024_01_01_2_2_n_n 2 4352 rfl rfl rfl (b, i)
  generalize (ValueIdx.contrEquiv2 dot_S2x4352x10240_S2x4352x1024_S10240x1024_01_01_2_2_n_n 2 4352 rfl rfl rfl).symm (b, i) = q at *
  rw [mul_comm]
  refine congrArg₂ (· * ·) (at3 h ?_ ?_ ?_) (at3 g ?_ ?_ ?_)
  · unfold DotDims.rhsIdx; rw [dif_neg (by decide), dif_neg (by decide)]; exact h0
  · unfold DotDims.rhsIdx; rw [dif_neg (by decide), dif_neg (by decide)]; exact h1
  · unfold DotDims.rhsIdx; rw [dif_neg (by decide), dif_pos (by decide)]; rfl
  · unfold DotDims.lhsIdx; rw [dif_neg (by decide), dif_neg (by decide)]; exact h0
  · unfold DotDims.lhsIdx; rw [dif_neg (by decide), dif_neg (by decide)]; exact h1
  · unfold DotDims.lhsIdx; rw [dif_neg (by decide), dif_pos (by decide)]; rfl

/-- The reference's gradient of the projection's matrix. -/
theorem computes (h : Arr3 2 4352 1024) (g : Arr3 2 4352 10240) : val_main_v3 (F := Ideal) h g = matrixGrad h g := by
  funext y
  obtain ⟨k, n, rfl⟩ : ∃ (k : Fin 1024) (n : Fin 10240), y = ix2 k n := ⟨y 0, y 1, funext fun a => match a with | 0 => rfl | 1 => rfl⟩
  rw [val_main_v3_apply]
  exact (at2 (val_main_v2 (F := Ideal) h g) rfl rfl).trans (over_rows h g n k)

end Cert.WeightGradReferenceIdeal.Value

end
-- ==== Proof.MergeSpec.lean ====
/- The merge of the three branches on ideal values: what each token's row becomes. -/
module

public import proofs.«01_k».proof.Proof.Product

@[expose] public section

noncomputable section

namespace Cert.Merge

open Idealize.ShloMosaic Cert.Attention Cert.Product

/-- The logistic function. -/
def sigmoid (x : EReal) : EReal := Ideal.div 1 (1 + Ideal.exp (-x))

/-- One branch's share of a token's merged row: the row gated, multiplied by the branch's matrix, and weighted. -/
def rowTerm (y g p : Fin 1024 → EReal) (w : Fin 1024 → Fin 1024 → EReal) (k : Fin 1024) : EReal :=
  sigmoid (p k) * ∑ j : Fin 1024, y j * (g j * sigmoid (g j)) * w j k

/-- A token's merged row: the projection's first three parts gate the branches, the next three weigh them. -/
def rowMix (y0 y1 y2 : Fin 1024 → EReal) (p : Fin 6 → Fin 1024 → EReal) (w : Fin 3 → Fin 1024 → Fin 1024 → EReal) (k : Fin 1024) : EReal :=
  rowTerm y0 (p 0) (p 3) (w 0) k + rowTerm y1 (p 1) (p 4) (w 1) k + rowTerm y2 (p 2) (p 5) (w 2) k

/-- A token's output row: the merged row multiplied by the output matrix. -/
def rowOut (y0 y1 y2 : Fin 1024 → EReal) (p : Fin 6 → Fin 1024 → EReal) (w : Fin 3 → Fin 1024 → Fin 1024 → EReal)
    (o : Fin 1024 → Fin 1024 → EReal) (n : Fin 1024) : EReal :=
  ∑ k : Fin 1024, rowMix y0 y1 y2 p w k * o k n

/-- One of the six parts of the projection's first 6144 columns. -/
abbrev col (n : Fin 6) (j : Fin 1024) : Fin 10240 := ⟨1024 * n.val + j.val, by omega⟩

/-- The output of the merge, for every token. -/
def merged (ya yb yc : Arr3 2 4352 1024) (p : Arr3 2 4352 10240) (w : Arr3 3 1024 1024) (o : Arr2 1024 1024) : Arr3 2 4352 1024 := fun y =>
  rowOut (fun j => ya (ix3 (y 0) (y 1) j)) (fun j => yb (ix3 (y 0) (y 1) j)) (fun j => yc (ix3 (y 0) (y 1) j))
    (fun n j => p (ix3 (y 0) (y 1) (col n j))) (fun n j k => w (ix3 n j k)) (fun k n => o (ix2 k n)) (y 2)

/-- The row of the modulation that a token takes: the constant conditioning's for the context, its sample's past it. -/
def modRow (b : Fin 2) (i : Fin 4352) : Fin 16 := if i.val < 256 then 2 else ⟨b.val, by omega⟩

/-- The stream after the merge: the merge's output added through the token's gate. -/
def stepped (x ya yb yc : Arr3 2 4352 1024) (p : Arr3 2 4352 10240) (w : Arr3 3 1024 1024) (o : Arr2 1024 1024) (s : Arr2 16 3072) :
    Arr3 2 4352 1024 := fun y =>
  x (ix3 (y 0) (y 1) (y 2)) + s (ix2 (modRow (y 0) (y 1)) ⟨2048 + (y 2 : Fin 1024).val, by have h : (y 2 : ℕ) < 1024 := (y 2).isLt; omega⟩)
    * merged ya yb yc p w o (ix3 (y 0) (y 1) (y 2))

end Cert.Merge

end
-- ==== Proof.MergeValue.lean ====
/- The merge's forward call: its blocks and its two results. -/
module

public import proofs.«01_k».proof.Proof.MergeSpec
public import proofs.«01_k».proof.Proof.Gen.MergeIdeal.Value
public import Idealize.ShloMosaic.Lib.Pipeline.ValueKit
public import Idealize.ShloMosaic.Lib.Pointwise

@[expose] public section

set_option maxRecDepth 16384

noncomputable section

namespace Cert.MergeIdeal.Value

open Cert.MergeIdeal Cert.MergeIdeal.Gen Cert.Attention Cert.Product Cert.Merge Idealize.ShloMosaic Idealize.ShloMosaic.TcCoe

/-- One branch's share of a row of the block. -/
def part (y : Vec Ideal S1x256x1024 .f32) (g p : Vec Ideal S1x256x1024 .bf16) (w : Vec Ideal S1x1024x1024 .bf16) (r : Fin 256) (k : Fin 1024) : EReal :=
  rowTerm (fun j => y (ix3 0 r j)) (fun j => g (ix3 0 r j)) (fun k => p (ix3 0 r k)) (fun j k => w (ix3 0 j k)) k

theorem first_at (y : Vec Ideal S1x256x1024 .f32) (g p : Vec Ideal S1x256x1024 .bf16) (w : Vec Ideal S1x1024x1024 .bf16) (r : Fin 256)
    (k : Fin 1024) : k0_pay2 (F := Ideal) y g p w (ix2 r k) = part y g p w r k := by
  unfold part rowTerm sigmoid
  simp only [← zero_sub (G := EReal)]
  unfold_payloads
  pointwise

theorem second_at (a : Vec Ideal S256x1024 .f32) (y : Vec Ideal S1x256x1024 .f32) (g p : Vec Ideal S1x256x1024 .bf16)
    (w : Vec Ideal S1x1024x1024 .bf16) (r : Fin 256) (k : Fin 1024) :
    k0_pay4 (F := Ideal) a (k0_pay3 y) g p w (ix2 r k) = a (ix2 r k) + part y g p w r k := by
  unfold part rowTerm sigmoid
  simp only [← zero_sub (G := EReal)]
  unfold_payloads
  pointwise

/-- The output's block: the third share added to the first two, and the product with the output matrix. -/
theorem third_at (a : Vec Ideal S256x1024 .f32) (y : Vec Ideal S1x256x1024 .f32) (g p : Vec Ideal S1x256x1024 .bf16)
    (w : Vec Ideal S1x1024x1024 .bf16) (o : Vec Ideal S1024x1024 .bf16) (r : Fin 256) (n : Fin 1024) :
    k0_pay8 (F := Ideal) a (k0_pay5 y) (k0_pay6 g) (k0_pay7 g) p w o (ix2 r n)
      = ∑ k : Fin 1024, (show EReal from a (ix2 r k) + part y g p w r k) * (show EReal from o (ix2 k n)) := by
  unfold part rowTerm sigmoid
  simp only [← zero_sub (G := EReal)]
  unfold_payloads
  pointwise

theorem out_block (a : Vec Ideal S256x1024 .f32) (y : Vec Ideal S256x1024 .f32) (g h : Vec Ideal S256x1024 .f32) (p : Vec Ideal S1x256x1024 .bf16)
    (w : Vec Ideal S1x1024x1024 .bf16) (o : Vec Ideal S1024x1024 .bf16) (r : Fin 256) (n : Fin 1024) :
    k0_pay9 (F := Ideal) a y g h p w o (ix3 0 r n) = k0_pay8 (F := Ideal) a y g h p w o (ix2 r n) := by
  unfold k0_pay9
  pointwise

theorem step_block (a : Vec Ideal S256x1024 .f32) (y : Vec Ideal S256x1024 .f32) (g h : Vec Ideal S256x1024 .f32) (p : Vec Ideal S1x256x1024 .bf16)
    (w : Vec Ideal S1x1024x1024 .bf16) (o : Vec Ideal S1024x1024 .bf16) (x : Vec Ideal S1x256x1024 .f32) (s : Vec Ideal S1x1x1x1024 .f32)
    (r : Fin 256) (n : Fin 1024) :
    k0_pay1 (F := Ideal) (k0_pay10 (F := Ideal) a y g h p w o x s) (ix3 0 r n)
      = (show EReal from x (ix3 0 r n)) + (show EReal from s (ix4 0 0 0 n)) * k0_pay8 (F := Ideal) a y g h p w o (ix2 r n) := by
  unfold k0_pay1 k0_pay10
  pointwise

theorem ld_proj (x : Vec Ideal S1x256x6144 .bf16) (o : ℕ) (inb) (r : Fin 256) (j : Fin 1024) (h : o + j.val < 6144) :
    View.ld x (Rect.unit ![0, 0, o] ![1, 256, 1024] inb) (ix3 0 r j) = x (ix3 0 r ⟨o + j.val, h⟩) := by
  pointwise

theorem ld_branch (x : Vec Ideal S3x1024x1024 .bf16) (n : ℕ) (inb) (j k : Fin 1024) (h : n < 3) :
    View.ld x (Rect.unit ![n, 0, 0] ![1, 1024, 1024] inb) (ix3 0 j k) = x (ix3 ⟨n, h⟩ j k) := by
  pointwise

theorem ld_gate (x : Vec Ideal S1x1x8x1024 .f32) (inb) (n : Fin 1024) :
    View.ld x (Rect.unit ![0, 0, 2, 0] ![1, 1, 1, 1024] inb) (ix4 0 0 0 n) = x (ix4 0 0 2 n) := by
  pointwise

variable (m : (ℓ : Loc nD τ sig) → Buf (Elt Ideal) ℓ) (c : Dev nD)

/-- The block each grid point takes of each window's array: the points run over the samples and their blocks of tokens. -/
theorem idx : ∀ t : Fin cfg0.N, win0_0.index t = ![t.val / 17, t.val % 17, 0] ∧ win0_1.index t = ![t.val / 17, t.val % 17, 0]
    ∧ win0_2.index t = ![t.val / 17, t.val % 17, 0] ∧ win0_3.index t = ![t.val / 17, t.val % 17, 0]
    ∧ win0_4.index t = ![t.val / 17, t.val % 17, 0] ∧ win0_5.index t = ![0, 0, 0] ∧ win0_6.index t = ![0, 0]
    ∧ win0_7.index t = ![t.val / 17, if t.val % 17 = 0 then 0 else 1, 0, 0]
    ∧ win0_8.index t = ![t.val / 17, t.val % 17, 0] ∧ win0_9.index t = ![t.val / 17, t.val % 17, 0] ∧ t.val < 34 :=
  (by decide +kernel : ∀ t : Fin grid0.N, _)

/-- The call's arguments: the stream, the three branches, the projection, the branches' matrices, the output matrix and the modulation. -/
abbrev X : Arr3 2 4352 1024 := m ((c : Thread nD τ).loc main_arg0)
abbrev Ya : Arr3 2 4352 1024 := m ((c : Thread nD τ).loc main_arg1)
abbrev Yb : Arr3 2 4352 1024 := m ((c : Thread nD τ).loc main_arg2)
abbrev Yc : Arr3 2 4352 1024 := m ((c : Thread nD τ).loc main_arg3)
abbrev P : Arr3 2 4352 10240 := m ((c : Thread nD τ).loc main_arg4)
abbrev W : Arr3 3 1024 1024 := m ((c : Thread nD τ).loc main_arg5)
abbrev O : Arr2 1024 1024 := m ((c : Thread nD τ).loc main_arg6)
abbrev S : Arr2 16 3072 := m ((c : Thread nD τ).loc main_arg7)

theorem proj_entry (y : S2x4352x10240.Idx) : (V m c main_v0 : Vec Ideal S2x4352x10240 .bf16) y = P m c y := by
  simp only [V, hostOps0, hostOps0_1, List.flatten_cons, List.flatten_nil, List.append_nil, List.cons_append, List.nil_append]
  entry_read
  pointwise

theorem branch_entry (y : S3x1024x1024.Idx) : (V m c main_v1 : Vec Ideal S3x1024x1024 .bf16) y = W m c y := by
  simp only [V, hostOps0, hostOps0_1, List.flatten_cons, List.flatten_nil, List.append_nil, List.cons_append, List.nil_append]
  entry_read
  pointwise

theorem outMat_entry (y : S1024x1024.Idx) : (V m c main_v2 : Vec Ideal S1024x1024 .bf16) y = O m c y := by
  simp only [V, hostOps0, hostOps0_1, List.flatten_cons, List.flatten_nil, List.append_nil, List.cons_append, List.nil_append]
  entry_read
  pointwise

theorem gate_entry (b q : Fin 2) (n : Fin 1024) : (V m c main_v12 : Vec Ideal S2x2x8x1024 .f32) (ix4 b q 2 n)
    = S m c (ix2 (if q.val = 0 then 2 else ⟨b.val, by omega⟩) ⟨2048 + n.val, by omega⟩) := by
  simp only [V, hostOps0, hostOps0_1, List.flatten_cons, List.flatten_nil, List.append_nil, List.cons_append, List.nil_append]
  entry_read
  simp only [StableHlo.TRef.ofBuf, StableHlo.TRef.toBuf, cast_eq]
  pointwise
  by_cases h : q.val = 0
  · rw [dif_pos (by omega), if_pos h]
  · rw [dif_neg (by omega), if_neg h]

variable (t : Fin cfg0.N) (r : Fin 256) (b : Fin 2) (i : Fin 4352)

theorem x_at (j : Fin 1024) (hb : b.val = t.val / 17) (hi : i.val = 256 * (t.val % 17) + r.val) :
    (iblk m c 0 t : Vec Ideal S1x256x1024 .f32) (ix3 0 r j) = X m c (ix3 b i j) := by
  blk_ext [iblk, V, idx t]

theorem ya_at (j : Fin 1024) (hb : b.val = t.val / 17) (hi : i.val = 256 * (t.val % 17) + r.val) :
    (iblk m c 1 t : Vec Ideal S1x256x1024 .f32) (ix3 0 r j) = Ya m c (ix3 b i j) := by
  blk_ext [iblk, V, idx t]

theorem yb_at (j : Fin 1024) (hb : b.val = t.val / 17) (hi : i.val = 256 * (t.val % 17) + r.val) :
    (iblk m c 2 t : Vec Ideal S1x256x1024 .f32) (ix3 0 r j) = Yb m c (ix3 b i j) := by
  blk_ext [iblk, V, idx t]

theorem yc_at (j : Fin 1024) (hb : b.val = t.val / 17) (hi : i.val = 256 * (t.val % 17) + r.val) :
    (iblk m c 3 t : Vec Ideal S1x256x1024 .f32) (ix3 0 r j) = Yc m c (ix3 b i j) := by
  blk_ext [iblk, V, idx t]

theorem proj_at (k : Fin 6144) (hb : b.val = t.val / 17) (hi : i.val = 256 * (t.val % 17) + r.val) :
    (X0_4 m c t : Vec Ideal S1x256x6144 .bf16) (ix3 0 r k) = P m c (ix3 b i ⟨k.val, by omega⟩) := by
  refine Eq.trans ?_ (proj_entry m c _)
  unfold X0_4 Pipeline.Window.fill
  rw [dif_pos (moved0_4 t _)]
  blk_ext [iblk, idx t]

theorem branch_at (n : Fin 3) (j k : Fin 1024) :
    (iblk m c 5 t : Vec Ideal S3x1024x1024 .bf16) (ix3 n j k) = W m c (ix3 n j k) := by
  refine Eq.trans ?_ (branch_entry m c _)
  blk_ext [iblk, idx t]

theorem outMat_at (j k : Fin 1024) :
    (iblk m c 6 t : Vec Ideal S1024x1024 .bf16) (ix2 j k) = O m c (ix2 j k) := by
  refine Eq.trans ?_ (outMat_entry m c _)
  blk_ext [iblk, idx t]

theorem gate_at (n : Fin 1024) (hb : b.val = t.val / 17) (hi : i.val = 256 * (t.val % 17) + r.val) :
    (iblk m c 7 t : Vec Ideal S1x1x8x1024 .f32) (ix4 0 0 2 n) = S m c (ix2 (modRow b i) ⟨2048 + n.val, by omega⟩) := by
  have h : (iblk m c 7 t : Vec Ideal S1x1x8x1024 .f32) (ix4 0 0 2 n)
      = (V m c main_v12 : Vec Ideal S2x2x8x1024 .f32) (ix4 b (if t.val % 17 = 0 then 0 else 1) 2 n) := by
    blk_ext [iblk, idx t]
    split_ifs <;> rfl
  rw [h, gate_entry]
  refine at2 (S m c) ?_ rfl
  unfold modRow
  by_cases h0 : t.val % 17 = 0
  · rw [if_pos (by rw [if_pos h0]; rfl), if_pos (by omega)]; rfl
  · rw [if_neg (by rw [if_neg h0]; decide), if_neg (by omega)]; rfl

/-- The slices of a point's blocks that the call loads. -/
theorem proj_ld (n : Fin 6) (o : ℕ) (ho : o = 1024 * n.val) (inb) (j : Fin 1024) (hb : b.val = t.val / 17)
    (hi : i.val = 256 * (t.val % 17) + r.val) :
    View.ld (X0_4 m c t : Vec Ideal S1x256x6144 .bf16) (Rect.unit ![0, 0, o] ![1, 256, 1024] inb) (ix3 0 r j) = P m c (ix3 b i (col n j)) := by
  subst ho
  exact (ld_proj _ _ inb r j (by omega)).trans (proj_at m c t r b i _ hb hi)

theorem branch_ld (n : Fin 3) (inb) (j k : Fin 1024) :
    View.ld (iblk m c 5 t : Vec Ideal S3x1024x1024 .bf16) (Rect.unit ![n.val, 0, 0] ![1, 1024, 1024] inb) (ix3 0 j k) = W m c (ix3 n j k) :=
  (ld_branch _ n.val inb j k n.isLt).trans (branch_at m c t n j k)

/-- A row's share by any rows that hold the same. -/
theorem part_eq {y : Vec Ideal S1x256x1024 .f32} {g p : Vec Ideal S1x256x1024 .bf16} {w : Vec Ideal S1x1024x1024 .bf16} {r : Fin 256}
    {k : Fin 1024} {y' g' p' : Fin 1024 → EReal} {w' : Fin 1024 → Fin 1024 → EReal} (hy : ∀ j, y (ix3 0 r j) = y' j)
    (hg : ∀ j, g (ix3 0 r j) = g' j) (hp : ∀ j, p (ix3 0 r j) = p' j) (hw : ∀ j k, w (ix3 0 j k) = w' j k) :
    part y g p w r k = rowTerm y' g' p' w' k := by
  simp only [part, hy, hg, hp, hw]

/-- A row of the merge's output that a point forms, by the whole arrays. -/
theorem row_at (n : Fin 1024) (hb : b.val = t.val / 17) (hi : i.val = 256 * (t.val % 17) + r.val) :
    (outsAt0 m c t).2 (ix3 0 r n : S1x256x1024.Idx) = merged (Ya m c) (Yb m c) (Yc m c) (P m c) (W m c) (O m c) (ix3 b i n) := by
  unfold outsAt0
  frame_out
  rw [out_block, third_at]
  unfold merged rowOut
  refine Finset.sum_congr rfl fun k _ => congrArg₂ (· * ·) ?_ (outMat_at m c t k n)
  unfold rowMix
  exact congrArg₂ (· + ·)
    ((second_at _ _ _ _ _ r k).trans (congrArg₂ (· + ·)
      ((first_at _ _ _ _ r k).trans (part_eq (fun j => ya_at m c t r b i j hb hi) (fun j => proj_ld m c t r b i 0 0 rfl _ j hb hi)
        (fun j => proj_ld m c t r b i 3 3072 rfl _ j hb hi) (fun j k => branch_ld m c t 0 _ j k)))
      (part_eq (fun j => yb_at m c t r b i j hb hi) (fun j => proj_ld m c t r b i 1 1024 rfl _ j hb hi)
        (fun j => proj_ld m c t r b i 4 4096 rfl _ j hb hi) (fun j k => branch_ld m c t 1 _ j k))))
    (part_eq (fun j => yc_at m c t r b i j hb hi) (fun j => proj_ld m c t r b i 2 2048 rfl _ j hb hi)
      (fun j => proj_ld m c t r b i 5 5120 rfl _ j hb hi) (fun j k => branch_ld m c t 2 _ j k))

/-- A row of the stream that a point writes, by the whole arrays. -/
theorem step_at (n : Fin 1024) (hb : b.val = t.val / 17) (hi : i.val = 256 * (t.val % 17) + r.val) :
    (outsAt0 m c t).1 (ix3 0 r n : S1x256x1024.Idx)
      = stepped (X m c) (Ya m c) (Yb m c) (Yc m c) (P m c) (W m c) (O m c) (S m c) (ix3 b i n) := by
  have h := row_at m c t r b i n hb hi
  unfold outsAt0 at h ⊢
  revert h
  frame_out
  intro h
  rw [out_block] at h
  rw [step_block, h, ld_gate]
  exact congrArg₂ (· + ·) (x_at m c t r b i n hb hi) (congrArg (· * _) (gate_at m c t r b i n hb hi))

/-- What a point leaves in the output's block and in the stream's, by the whole arrays. -/
theorem outs_at (y : S1x256x1024.Idx) (z : S2x4352x1024.Idx) (h0 : (z 0 : ℕ) = t.val / 17)
    (h1 : (z 1 : ℕ) = 256 * (t.val % 17) + (y 1 : ℕ)) (h2 : (z 2 : ℕ) = (y 2 : ℕ)) :
    (outsAt0 m c t).1 y = stepped (X m c) (Ya m c) (Yb m c) (Yc m c) (P m c) (W m c) (O m c) (S m c) z
      ∧ (outsAt0 m c t).2 y = merged (Ya m c) (Yb m c) (Yc m c) (P m c) (W m c) (O m c) z := by
  obtain ⟨r, n, rfl⟩ : ∃ (r : Fin 256) (n : Fin 1024), y = ix3 0 r n :=
    ⟨y 1, y 2, funext fun a => match a with | 0 => Subsingleton.elim (α := Fin 1) _ _ | 1 => rfl | 2 => rfl⟩
  obtain ⟨b, i, k, rfl⟩ : ∃ (b : Fin 2) (i : Fin 4352) (k : Fin 1024), z = ix3 b i k :=
    ⟨z 0, z 1, z 2, funext fun a => match a with | 0 => rfl | 1 => rfl | 2 => rfl⟩
  obtain rfl : k = n := Fin.ext h2
  exact ⟨step_at m c t r b i k h0 h1, row_at m c t r b i k h0 h1⟩

/-- The merge's output that the call writes. -/
theorem final_out : (dats m 0 c).arrAt 9 (cfgs 0).N = merged (Ya m c) (Yb m c) (Yc m c) (P m c) (W m c) (O m c) := by
  refine (dats m 0 c).arrAt_eq_of_covers 9 _ (by decide +kernel) fun t hf y => ?_
  blk_simp
  rw [after0_9]
  refine (outs_at m c t y _ ?_ ?_ ?_).2 <;> blk_simp [idx t] <;> idx_bounds <;> try omega

/-- The stream that the call writes. -/
theorem final_step : (dats m 0 c).arrAt 8 (cfgs 0).N = stepped (X m c) (Ya m c) (Yb m c) (Yc m c) (P m c) (W m c) (O m c) (S m c) := by
  refine (dats m 0 c).arrAt_eq_of_covers 8 _ (by decide +kernel) fun t hf y => ?_
  blk_simp
  rw [after0_8]
  refine (outs_at m c t y _ ?_ ?_ ?_).1 <;> blk_simp [idx t] <;> idx_bounds <;> try omega

end Cert.MergeIdeal.Value

end
-- ==== Proof.MergeRef.lean ====
/- What the reference of the merge computes. -/
module

public import proofs.«01_k».proof.Proof.MergeSpec
public import proofs.«01_k».proof.Proof.Gen.MergeReferenceIdeal.Read
public import Idealize.ShloMosaic.Lib.Pointwise

@[expose] public section

set_option maxRecDepth 16384

noncomputable section

namespace Cert.MergeReferenceIdeal.Value

open Cert.MergeReferenceIdeal.Read Cert.MergeReferenceIdeal Cert.MergeReferenceIdeal.Gen Cert.Attention Cert.Product Cert.Merge
open Idealize.ShloMosaic Idealize.ShloMosaic.TcCoe

variable (x ya yb yc : Arr3 2 4352 1024) (p : Arr3 2 4352 10240) (w : Arr3 3 1024 1024) (o : Arr2 1024 1024) (s : Arr2 16 3072)
variable (b : Fin 2) (i : Fin 4352)

/-- The reference's six parts of the projection. -/
theorem part0 (k : Fin 1024) : val_main_v1 (F := Ideal) p (ix3 b i k) = p (ix3 b i (col 0 k)) := by
  rw [val_main_v1_apply, val_main_v0_apply]
  refine at3 p ?_ ?_ ?_ <;> simp

theorem part1 (k : Fin 1024) : val_main_v2 (F := Ideal) p (ix3 b i k) = p (ix3 b i (col 1 k)) := by
  rw [val_main_v2_apply, val_main_v0_apply]
  refine at3 p ?_ ?_ ?_ <;> simp

theorem part2 (k : Fin 1024) : val_main_v3 (F := Ideal) p (ix3 b i k) = p (ix3 b i (col 2 k)) := by
  rw [val_main_v3_apply, val_main_v0_apply]
  refine at3 p ?_ ?_ ?_ <;> simp

theorem part3 (k : Fin 1024) : val_main_v4 (F := Ideal) p (ix3 b i k) = p (ix3 b i (col 3 k)) := by
  rw [val_main_v4_apply, val_main_v0_apply]
  refine at3 p ?_ ?_ ?_ <;> simp

theorem part4 (k : Fin 1024) : val_main_v5 (F := Ideal) p (ix3 b i k) = p (ix3 b i (col 4 k)) := by
  rw [val_main_v5_apply, val_main_v0_apply]
  refine at3 p ?_ ?_ ?_ <;> simp

theorem part5 (k : Fin 1024) : val_main_v6 (F := Ideal) p (ix3 b i k) = p (ix3 b i (col 5 k)) := by
  rw [val_main_v6_apply, val_main_v0_apply]
  refine at3 p ?_ ?_ ?_ <;> simp

/-- The reference's three matrices of the branches. -/
theorem matrix0 (j k : Fin 1024) : val_main_v8 (F := Ideal) w (ix2 j k) = w (ix3 0 j k) := by
  rw [val_main_v8_apply, val_main_v7_apply]
  refine at3 w ?_ ?_ ?_ <;> simp <;> omega

theorem matrix1 (j k : Fin 1024) : val_main_v13 (F := Ideal) w (ix2 j k) = w (ix3 1 j k) := by
  rw [val_main_v13_apply, val_main_v12_apply]
  refine at3 w ?_ ?_ ?_ <;> simp <;> omega

theorem matrix2 (j k : Fin 1024) : val_main_v18 (F := Ideal) w (ix2 j k) = w (ix3 2 j k) := by
  rw [val_main_v18_apply, val_main_v17_apply]
  refine at3 w ?_ ?_ ?_ <;> simp <;> omega

/-- The reference's gates: each part times its logistic. -/
theorem gate0 (k : Fin 1024) : val_main_v9 (F := Ideal) p (ix3 b i k) = p (ix3 b i (col 0 k)) * sigmoid (p (ix3 b i (col 0 k))) := by
  rw [val_main_v9_apply, val_main_call0_v5_apply, val_main_call0_v4_apply, val_main_call0_cst_0_apply, val_main_call0_v3_apply,
    val_main_call0_v2_apply, val_main_call0_cst_apply, val_main_call0_v1_apply, val_main_call0_v0_apply, part0]
  unfold sigmoid
  pointwise

theorem gate1 (k : Fin 1024) : val_main_v14 (F := Ideal) p (ix3 b i k) = p (ix3 b i (col 1 k)) * sigmoid (p (ix3 b i (col 1 k))) := by
  rw [val_main_v14_apply, val_main_call1_v5_apply, val_main_call1_v4_apply, val_main_call1_cst_0_apply, val_main_call1_v3_apply,
    val_main_call1_v2_apply, val_main_call1_cst_apply, val_main_call1_v1_apply, val_main_call1_v0_apply, part1]
  unfold sigmoid
  pointwise

theorem gate2 (k : Fin 1024) : val_main_v19 (F := Ideal) p (ix3 b i k) = p (ix3 b i (col 2 k)) * sigmoid (p (ix3 b i (col 2 k))) := by
  rw [val_main_v19_apply, val_main_call2_v5_apply, val_main_call2_v4_apply, val_main_call2_cst_0_apply, val_main_call2_v3_apply,
    val_main_call2_v2_apply, val_main_call2_cst_apply, val_main_call2_v1_apply, val_main_call2_v0_apply, part2]
  unfold sigmoid
  pointwise

/-- The reference's weights: the logistics of the later parts. -/
theorem weight0 (k : Fin 1024) : val_main_v27 (F := Ideal) p (ix3 b i k) = sigmoid (p (ix3 b i (col 3 k))) := by
  rw [val_main_v27_apply, val_main_v26_apply, val_main_cst_0_apply, val_main_v25_apply, val_main_v24_apply, val_main_cst_apply,
    val_main_v23_apply, val_main_v22_apply, part3]
  unfold sigmoid
  pointwise

theorem weight1 (k : Fin 1024) : val_main_v36 (F := Ideal) p (ix3 b i k) = sigmoid (p (ix3 b i (col 4 k))) := by
  rw [val_main_v36_apply, val_main_v35_apply, val_main_cst_3_apply, val_main_v34_apply, val_main_v33_apply, val_main_cst_2_apply,
    val_main_v32_apply, val_main_v31_apply, part4]
  unfold sigmoid
  pointwise

theorem weight2 (k : Fin 1024) : val_main_v44 (F := Ideal) p (ix3 b i k) = sigmoid (p (ix3 b i (col 5 k))) := by
  rw [val_main_v44_apply, val_main_v43_apply, val_main_cst_5_apply, val_main_v42_apply, val_main_v41_apply, val_main_cst_4_apply,
    val_main_v40_apply, val_main_v39_apply, part5]
  unfold sigmoid
  pointwise

/-- Each branch's product with its matrix. -/
theorem product0 (k : Fin 1024) : val_main_v11 (F := Ideal) ya p w (ix3 b i k)
    = ∑ j : Fin 1024, ya (ix3 b i j) * (p (ix3 b i (col 0 j)) * sigmoid (p (ix3 b i (col 0 j)))) * w (ix3 0 j k) := by
  rw [val_main_v11_apply]
  refine Finset.sum_congr rfl fun j _ => congrArg₂ (· * ·) ?_ ((at2 (val_main_v8 (F := Ideal) w) rfl rfl).trans (matrix0 w j k))
  refine (at3 (x := lidx_main_v11 (ix3 b i k) j) (y := ix3 b i j) (val_main_v10 (F := Ideal) ya p) rfl rfl rfl).trans ?_
  rw [val_main_v10_apply, gate0]
  pointwise

theorem product1 (k : Fin 1024) : val_main_v16 (F := Ideal) yb p w (ix3 b i k)
    = ∑ j : Fin 1024, yb (ix3 b i j) * (p (ix3 b i (col 1 j)) * sigmoid (p (ix3 b i (col 1 j)))) * w (ix3 1 j k) := by
  rw [val_main_v16_apply]
  refine Finset.sum_congr rfl fun j _ => congrArg₂ (· * ·) ?_ ((at2 (val_main_v13 (F := Ideal) w) rfl rfl).trans (matrix1 w j k))
  refine (at3 (x := lidx_main_v16 (ix3 b i k) j) (y := ix3 b i j) (val_main_v15 (F := Ideal) yb p) rfl rfl rfl).trans ?_
  rw [val_main_v15_apply, gate1]
  pointwise

theorem product2 (k : Fin 1024) : val_main_v21 (F := Ideal) yc p w (ix3 b i k)
    = ∑ j : Fin 1024, yc (ix3 b i j) * (p (ix3 b i (col 2 j)) * sigmoid (p (ix3 b i (col 2 j)))) * w (ix3 2 j k) := by
  rw [val_main_v21_apply]
  refine Finset.sum_congr rfl fun j _ => congrArg₂ (· * ·) ?_ ((at2 (val_main_v18 (F := Ideal) w) rfl rfl).trans (matrix2 w j k))
  refine (at3 (x := lidx_main_v21 (ix3 b i k) j) (y := ix3 b i j) (val_main_v20 (F := Ideal) yc p) rfl rfl rfl).trans ?_
  rw [val_main_v20_apply, gate2]
  pointwise

/-- The reference's merged row. -/
theorem mix_at (k : Fin 1024) : val_main_v46 (F := Ideal) ya yb yc p w (ix3 b i k)
    = rowMix (fun j => ya (ix3 b i j)) (fun j => yb (ix3 b i j)) (fun j => yc (ix3 b i j)) (fun n j => p (ix3 b i (col n j)))
        (fun n j k => w (ix3 n j k)) k := by
  unfold rowMix rowTerm
  rw [val_main_v46_apply, val_main_v45_apply, weight2, product2, val_main_v38_apply, val_main_v37_apply, weight1, product1,
    val_main_v30_apply, val_main_v29_apply, val_main_cst_1_apply, val_main_v28_apply, weight0, product0]
  pointwise

/-- The reference's output of the merge. -/
theorem out_at (n : Fin 1024) : val_main_v47 (F := Ideal) ya yb yc p w o (ix3 b i n) = merged ya yb yc p w o (ix3 b i n) := by
  rw [val_main_v47_apply]
  unfold merged rowOut
  exact Finset.sum_congr rfl fun k _ => congrArg₂ (· * ·)
    ((at3 (x := lidx_main_v47 (ix3 b i n) k) (y := ix3 b i k) (val_main_v46 (F := Ideal) ya yb yc p w) rfl rfl rfl).trans (mix_at ya yb yc p w b i k)) (at2 o rfl rfl)

theorem computes_out : val_main_v47 (F := Ideal) ya yb yc p w o = merged ya yb yc p w o := by
  funext y
  obtain ⟨b, i, n, rfl⟩ : ∃ (b : Fin 2) (i : Fin 4352) (n : Fin 1024), y = ix3 b i n :=
    ⟨y 0, y 1, y 2, funext fun a => match a with | 0 => rfl | 1 => rfl | 2 => rfl⟩
  exact out_at ya yb yc p w o b i n

/-- The reference's rows of the context. -/
theorem context_at (r : Fin 256) (n : Fin 1024) : val_main_v56 (F := Ideal) x ya yb yc p w o s (ix3 b r n)
    = x (ix3 b ⟨r.val, by omega⟩ n) + s (ix2 2 ⟨2048 + n.val, by omega⟩) * merged ya yb yc p w o (ix3 b ⟨r.val, by omega⟩ n) := by
  rw [val_main_v56_apply, val_main_v51_apply, val_main_v55_apply, val_main_v54_apply, val_main_v53_apply, val_main_v49_apply,
    val_main_v48_apply, val_main_v52_apply, computes_out]
  refine congrArg₂ (· + ·) (at3 x rfl rfl rfl) (congrArg₂ (· * ·) (at2 s ?_ ?_) (at3 (merged ya yb yc p w o) rfl rfl rfl)) <;> simp

/-- The reference's rows of the grid. -/
theorem grid_at (r : Fin 4096) (n : Fin 1024) : val_main_v62 (F := Ideal) x ya yb yc p w o s (ix3 b r n)
    = x (ix3 b ⟨256 + r.val, by omega⟩ n)
      + s (ix2 ⟨b.val, by omega⟩ ⟨2048 + n.val, by omega⟩) * merged ya yb yc p w o (ix3 b ⟨256 + r.val, by omega⟩ n) := by
  rw [val_main_v62_apply, val_main_v57_apply, val_main_v61_apply, val_main_v60_apply, val_main_v58_apply, val_main_v50_apply,
    val_main_v59_apply, computes_out]
  refine congrArg₂ (· + ·) (at3 x rfl rfl rfl) (congrArg₂ (· * ·) (at2 s ?_ ?_) (at3 (merged ya yb yc p w o) rfl rfl rfl)) <;> simp

/-- The reference's stream after the merge. -/
theorem computes_step : val_main_v63 (F := Ideal) x ya yb yc p w o s = stepped x ya yb yc p w o s := by
  funext y
  obtain ⟨b, i, n, rfl⟩ : ∃ (b : Fin 2) (i : Fin 4352) (n : Fin 1024), y = ix3 b i n :=
    ⟨y 0, y 1, y 2, funext fun a => match a with | 0 => rfl | 1 => rfl | 2 => rfl⟩
  unfold val_main_v63 stepped
  pointwise
  unfold modRow
  by_cases h : i.val < 256
  · rw [dif_pos h, if_pos h, context_at]
  · rw [dif_neg h, if_neg h, grid_at]
    have e : (⟨256 + (⟨i.val - 256, by omega⟩ : Fin 4096).val, by show 256 + (i.val - 256) < 4352; omega⟩ : Fin 4352) = i :=
      Fin.ext (by show 256 + (i.val - 256) = i.val; omega)
    rw [e]

end Cert.MergeReferenceIdeal.Value

end
-- ==== Proof.SquareGrad.lean ====
/- The gradients of the two layers of matrices that merge the branches. -/
module

public import proofs.«01_k».proof.Proof.Product

@[expose] public section

noncomputable section

namespace Cert.Product

open Idealize.ShloMosaic Cert.Attention

/-- The gradient of a square matrix that multiplies every token's row: each input column against each output's gradient, over all tokens. -/
def squareGrad (a d : Arr3 2 4352 1024) : Arr2 1024 1024 := fun y =>
  ∑ b : Fin 2, ∑ i : Fin 4352, a (ix3 b i (y 0)) * d (ix3 b i (y 1))

/-- One branch of an array that holds the three branches. -/
def branchOf (n : Fin 3) (z : Arr4 3 2 4352 1024) : Arr3 2 4352 1024 := fun y => z (ix4 n (y 0) (y 1) (y 2))

end Cert.Product

end
-- ==== Proof.BranchGradAValue.lean ====
/- The call that forms the gradient of the first branch's matrix: its blocks, its accumulation and its result. -/
module

public import proofs.«01_k».proof.Proof.SquareGrad
public import proofs.«01_k».proof.Proof.Gen.BranchGradAIdeal.Value
public import Idealize.ShloMosaic.Lib.Pipeline.ValueKit
public import Idealize.ShloMosaic.Lib.Pointwise

@[expose] public section

set_option maxRecDepth 16384

noncomputable section

namespace Cert.BranchGradAIdeal.Value

open Cert.BranchGradAIdeal Cert.BranchGradAIdeal.Gen Cert.Attention Cert.Product Idealize.ShloMosaic Idealize.ShloMosaic.TcCoe

/-- The product of a point's two blocks, over the block's rows. -/
def part (x g : Vec Ideal S1x2176x1024 .bf16) (y : S1024x1024.Idx) : EReal := ∑ r : Fin 2176, x (ix3 0 r (y 0)) * g (ix3 0 r (y 1))

/-- The first point keeps that product. -/
theorem part_at (x g : Vec Ideal S1x2176x1024 .bf16) (y : S1024x1024.Idx) :
    k0_pay2 (F := Ideal) x g y = part x g y := by
  unfold part
  rw [show y = ix2 (y 0) (y 1) from funext fun a => match a with | 0 => rfl | 1 => rfl]
  unfold_payloads
  pointwise

/-- That product added to what the scratch holds. -/
theorem step_at (x g : Vec Ideal S1x2176x1024 .bf16) (a : Vec Ideal S1024x1024 .f32) (y : S1024x1024.Idx) :
    k0_pay3 (F := Ideal) x g a y = a y + part x g y := by
  unfold part
  rw [show y = ix2 (y 0) (y 1) from funext fun a => match a with | 0 => rfl | 1 => rfl]
  unfold_payloads
  pointwise

/-- The block each grid point takes of each window's array: the points run over the row blocks. -/
theorem idx : ∀ t : Fin cfg0.N, win0_0.index t = ![0, t.val % 4, 0] ∧ win0_1.index t = ![0, t.val % 4, 0]
    ∧ win0_2.index t = ![0, 0] ∧ t.val < 4 :=
  (by decide +kernel : ∀ t : Fin grid0.N, _)

variable (m : (ℓ : Loc nD τ sig) → Buf (Elt Ideal) ℓ) (c : Dev nD)

/-- The scratch after a point that starts the sum. -/
theorem scratchA (t : Fin cfg0.N) (h0 : t.val % 4 = 0) (y : S1024x1024.Idx) : (outsAt0 m c t.val t.isLt).2 y
    = part (iblk m c 0 t) (iblk m c 1 t) y := by
  rw [outsAt0_A m c t h0 (by have := (idx t).2.2.2; omega) (by omega)]
  frame_out
  exact part_at _ _ y

/-- The scratch after a later point: what it held, and the point's product. -/
theorem scratchB (t : Fin cfg0.N) (h0 : ¬t.val % 4 = 0) (y : S1024x1024.Idx) : (outsAt0 m c t.val t.isLt).2 y
    = (outsAt0 m c (t.val - 1) (Nat.lt_of_le_of_lt (Nat.sub_le _ _) t.isLt)).2 y
      + part (iblk m c 0 t) (iblk m c 1 t) y := by
  by_cases h2 : t.val % 4 = 3
  · rw [outsAt0_C m c t h0 (by omega) h2]
    frame_out
    exact (congrArg (fun a => k0_pay3 (F := Ideal) (iblk m c 0 t) (iblk m c 1 t) a y) (Memref.IsWhole.read_unread _ _)).trans (step_at _ _ _ y)
  · rw [outsAt0_B m c t h0 (by omega) h2]
    frame_out
    exact (congrArg (fun a => k0_pay3 (F := Ideal) (iblk m c 0 t) (iblk m c 1 t) a y) (Memref.IsWhole.read_unread _ _)).trans (step_at _ _ _ y)

/-- The last point writes the scratch out. -/
theorem out_eq (t : Fin cfg0.N) (h2 : t.val % 4 = 3) (y : S1024x1024.Idx) :
    (outsAt0 m c t.val t.isLt).1 y = (outsAt0 m c t.val t.isLt).2 y := by
  rw [outsAt0_C m c t (by omega) (by omega) h2]
  frame_out

/-- The branch's gated input and the gradient of its output, as the call was given them. -/
abbrev H : Arr3 2 4352 1024 := branchOf 0 (m ((c : Thread nD τ).loc main_arg0))
abbrev D : Arr3 2 4352 1024 := branchOf 0 (m ((c : Thread nD τ).loc main_arg1))

theorem input_entry (x : Fin 8704) (k : Fin 1024) : (V m c main_v2 : Vec Ideal S3x8704x1024 .bf16) (ix3 0 x k)
    = H m c (ix3 (sample x) (token x) k) := by
  entry_read
  pointwise
  rfl

theorem grad_entry (x : Fin 8704) (n : Fin 1024) : (V m c main_v3 : Vec Ideal S3x8704x1024 .bf16) (ix3 0 x n)
    = D m c (ix3 (sample x) (token x) n) := by
  entry_read
  pointwise
  rfl

/-- A point's block of the input. -/
theorem input_at (t : Fin cfg0.N) (r : Fin 2176) (k : Fin 1024) (x : Fin 8704) (hx : x.val = 2176 * (t.val % 4) + r.val) :
    (iblk m c 0 t : Vec Ideal S1x2176x1024 .bf16) (ix3 0 r k) = H m c (ix3 (sample x) (token x) k) := by
  have h : (iblk m c 0 t : Vec Ideal S1x2176x1024 .bf16) (ix3 0 r k) = (V m c main_v2 : Vec Ideal S3x8704x1024 .bf16) (ix3 0 x k) := by
    blk_ext [iblk, idx t]
  rw [h, input_entry]

/-- A point's block of the output's gradient. -/
theorem grad_at (t : Fin cfg0.N) (r : Fin 2176) (l : Fin 1024) (x : Fin 8704) (n : Fin 1024) (hx : x.val = 2176 * (t.val % 4) + r.val)
    (hn : n.val = l.val) :
    (iblk m c 1 t : Vec Ideal S1x2176x1024 .bf16) (ix3 0 r l) = D m c (ix3 (sample x) (token x) n) := by
  have h : (iblk m c 1 t : Vec Ideal S1x2176x1024 .bf16) (ix3 0 r l) = (V m c main_v3 : Vec Ideal S3x8704x1024 .bf16) (ix3 0 x n) := by
    blk_ext [iblk, idx t]
  rw [h, grad_entry]

/-- What the last point writes out, by the whole arrays. -/
theorem outs_at (t : Fin cfg0.N) (ht : t.val % 4 = 3) (y : S1024x1024.Idx) (k : Fin 1024) (n : Fin 1024)
    (hk : k.val = (y 0 : ℕ)) (hn : n.val = (y 1 : ℕ)) :
    (outsAt0 m c t.val t.isLt).1 y = squareGrad (H m c) (D m c) (ix2 k n) := by
  have hN := (idx t).2.2.2
  obtain rfl : k = (y 0 : Fin 1024) := Fin.ext hk
  rw [out_eq m c t ht y]
  refine (Pipeline.eq_sum_fin_of_reset_step_apply_of_flush (fun n h => (outsAt0 m c n h).2) 4 (fun _ => (0 : EReal))
    (fun p (y : S1024x1024.Idx) => part (iblk m c 0 p) (iblk m c 1 p) y)
    (fun p h y => (scratchA m c p h y).trans (zero_add _).symm) (fun p h y => scratchB m c p h y) t ht y).trans ?_
  rw [zero_add]
  refine Eq.trans ?_ (sum_rows fun b i => H m c (ix3 b i (y 0 : Fin 1024)) * D m c (ix3 b i n))
  rw [← sum_of_blocks (a := 4) (b := 2176) (n := 8704) rfl
    (fun x => H m c (ix3 (sample x) (token x) (y 0 : Fin 1024)) * D m c (ix3 (sample x) (token x) n)) (fun s r => by omega)]
  refine Finset.sum_congr rfl fun s _ => ?_
  unfold part
  refine Finset.sum_congr rfl fun r _ => ?_
  refine congrArg₂ (· * ·) (input_at m c _ r (y 0) ⟨2176 * s.val + r.val, by omega⟩ ?_)
    (grad_at m c _ r (y 1) ⟨2176 * s.val + r.val, by omega⟩ n ?_ ?_)
  · show 2176 * s.val + r.val = 2176 * ((4 * (t.val / 4) + s.val) % 4) + r.val
    omega
  · show 2176 * s.val + r.val = 2176 * ((4 * (t.val / 4) + s.val) % 4) + r.val
    omega
  · exact hn

/-- The gradient of the matrix that the call writes. -/
theorem final : (dats m 0 c).arrAt 2 (cfgs 0).N = squareGrad (H m c) (D m c) := by
  refine (dats m 0 c).arrAt_eq_of_covers 2 _ (by decide +kernel) fun t hf y => ?_
  have ht := (flush0_2 t).mp hf
  blk_simp
  rw [after0_2]
  refine outs_at m c t ht y _ _ ?_ ?_ <;> blk_simp [idx t] <;> idx_bounds <;> try omega

end Cert.BranchGradAIdeal.Value

end
-- ==== Proof.BranchGradBValue.lean ====
/- The call that forms the gradient of the second branch's matrix: its blocks, its accumulation and its result. -/
module

public import proofs.«01_k».proof.Proof.SquareGrad
public import proofs.«01_k».proof.Proof.Gen.BranchGradBIdeal.Value
public import Idealize.ShloMosaic.Lib.Pipeline.ValueKit
public import Idealize.ShloMosaic.Lib.Pointwise

@[expose] public section

set_option maxRecDepth 16384

noncomputable section

namespace Cert.BranchGradBIdeal.Value

open Cert.BranchGradBIdeal Cert.BranchGradBIdeal.Gen Cert.Attention Cert.Product Idealize.ShloMosaic Idealize.ShloMosaic.TcCoe

/-- The product of a point's two blocks, over the block's rows. -/
def part (x g : Vec Ideal S1x2176x1024 .bf16) (y : S1024x1024.Idx) : EReal := ∑ r : Fin 2176, x (ix3 0 r (y 0)) * g (ix3 0 r (y 1))

/-- The first point keeps that product. -/
theorem part_at (x g : Vec Ideal S1x2176x1024 .bf16) (y : S1024x1024.Idx) :
    k0_pay2 (F := Ideal) x g y = part x g y := by
  unfold part
  rw [show y = ix2 (y 0) (y 1) from funext fun a => match a with | 0 => rfl | 1 => rfl]
  unfold_payloads
  pointwise

/-- That product added to what the scratch holds. -/
theorem step_at (x g : Vec Ideal S1x2176x1024 .bf16) (a : Vec Ideal S1024x1024 .f32) (y : S1024x1024.Idx) :
    k0_pay3 (F := Ideal) x g a y = a y + part x g y := by
  unfold part
  rw [show y = ix2 (y 0) (y 1) from funext fun a => match a with | 0 => rfl | 1 => rfl]
  unfold_payloads
  pointwise

/-- The block each grid point takes of each window's array: the points run over the row blocks. -/
theorem idx : ∀ t : Fin cfg0.N, win0_0.index t = ![1, t.val % 4, 0] ∧ win0_1.index t = ![1, t.val % 4, 0]
    ∧ win0_2.index t = ![0, 0] ∧ t.val < 4 :=
  (by decide +kernel : ∀ t : Fin grid0.N, _)

variable (m : (ℓ : Loc nD τ sig) → Buf (Elt Ideal) ℓ) (c : Dev nD)

/-- The scratch after a point that starts the sum. -/
theorem scratchA (t : Fin cfg0.N) (h0 : t.val % 4 = 0) (y : S1024x1024.Idx) : (outsAt0 m c t.val t.isLt).2 y
    = part (iblk m c 0 t) (iblk m c 1 t) y := by
  rw [outsAt0_A m c t h0 (by have := (idx t).2.2.2; omega) (by omega)]
  frame_out
  exact part_at _ _ y

/-- The scratch after a later point: what it held, and the point's product. -/
theorem scratchB (t : Fin cfg0.N) (h0 : ¬t.val % 4 = 0) (y : S1024x1024.Idx) : (outsAt0 m c t.val t.isLt).2 y
    = (outsAt0 m c (t.val - 1) (Nat.lt_of_le_of_lt (Nat.sub_le _ _) t.isLt)).2 y
      + part (iblk m c 0 t) (iblk m c 1 t) y := by
  by_cases h2 : t.val % 4 = 3
  · rw [outsAt0_C m c t h0 (by omega) h2]
    frame_out
    exact (congrArg (fun a => k0_pay3 (F := Ideal) (iblk m c 0 t) (iblk m c 1 t) a y) (Memref.IsWhole.read_unread _ _)).trans (step_at _ _ _ y)
  · rw [outsAt0_B m c t h0 (by omega) h2]
    frame_out
    exact (congrArg (fun a => k0_pay3 (F := Ideal) (iblk m c 0 t) (iblk m c 1 t) a y) (Memref.IsWhole.read_unread _ _)).trans (step_at _ _ _ y)

/-- The last point writes the scratch out. -/
theorem out_eq (t : Fin cfg0.N) (h2 : t.val % 4 = 3) (y : S1024x1024.Idx) :
    (outsAt0 m c t.val t.isLt).1 y = (outsAt0 m c t.val t.isLt).2 y := by
  rw [outsAt0_C m c t (by omega) (by omega) h2]
  frame_out

/-- The branch's gated input and the gradient of its output, as the call was given them. -/
abbrev H : Arr3 2 4352 1024 := branchOf 1 (m ((c : Thread nD τ).loc main_arg0))
abbrev D : Arr3 2 4352 1024 := branchOf 1 (m ((c : Thread nD τ).loc main_arg1))

theorem input_entry (x : Fin 8704) (k : Fin 1024) : (V m c main_v2 : Vec Ideal S3x8704x1024 .bf16) (ix3 1 x k)
    = H m c (ix3 (sample x) (token x) k) := by
  entry_read
  pointwise
  rfl

theorem grad_entry (x : Fin 8704) (n : Fin 1024) : (V m c main_v3 : Vec Ideal S3x8704x1024 .bf16) (ix3 1 x n)
    = D m c (ix3 (sample x) (token x) n) := by
  entry_read
  pointwise
  rfl

/-- A point's block of the input. -/
theorem input_at (t : Fin cfg0.N) (r : Fin 2176) (k : Fin 1024) (x : Fin 8704) (hx : x.val = 2176 * (t.val % 4) + r.val) :
    (iblk m c 0 t : Vec Ideal S1x2176x1024 .bf16) (ix3 0 r k) = H m c (ix3 (sample x) (token x) k) := by
  have h : (iblk m c 0 t : Vec Ideal S1x2176x1024 .bf16) (ix3 0 r k) = (V m c main_v2 : Vec Ideal S3x8704x1024 .bf16) (ix3 1 x k) := by
    blk_ext [iblk, idx t]
  rw [h, input_entry]

/-- A point's block of the output's gradient. -/
theorem grad_at (t : Fin cfg0.N) (r : Fin 2176) (l : Fin 1024) (x : Fin 8704) (n : Fin 1024) (hx : x.val = 2176 * (t.val % 4) + r.val)
    (hn : n.val = l.val) :
    (iblk m c 1 t : Vec Ideal S1x2176x1024 .bf16) (ix3 0 r l) = D m c (ix3 (sample x) (token x) n) := by
  have h : (iblk m c 1 t : Vec Ideal S1x2176x1024 .bf16) (ix3 0 r l) = (V m c main_v3 : Vec Ideal S3x8704x1024 .bf16) (ix3 1 x n) := by
    blk_ext [iblk, idx t]
  rw [h, grad_entry]

/-- What the last point writes out, by the whole arrays. -/
theorem outs_at (t : Fin cfg0.N) (ht : t.val % 4 = 3) (y : S1024x1024.Idx) (k : Fin 1024) (n : Fin 1024)
    (hk : k.val = (y 0 : ℕ)) (hn : n.val = (y 1 : ℕ)) :
    (outsAt0 m c t.val t.isLt).1 y = squareGrad (H m c) (D m c) (ix2 k n) := by
  have hN := (idx t).2.2.2
  obtain rfl : k = (y 0 : Fin 1024) := Fin.ext hk
  rw [out_eq m c t ht y]
  refine (Pipeline.eq_sum_fin_of_reset_step_apply_of_flush (fun n h => (outsAt0 m c n h).2) 4 (fun _ => (0 : EReal))
    (fun p (y : S1024x1024.Idx) => part (iblk m c 0 p) (iblk m c 1 p) y)
    (fun p h y => (scratchA m c p h y).trans (zero_add _).symm) (fun p h y => scratchB m c p h y) t ht y).trans ?_
  rw [zero_add]
  refine Eq.trans ?_ (sum_rows fun b i => H m c (ix3 b i (y 0 : Fin 1024)) * D m c (ix3 b i n))
  rw [← sum_of_blocks (a := 4) (b := 2176) (n := 8704) rfl
    (fun x => H m c (ix3 (sample x) (token x) (y 0 : Fin 1024)) * D m c (ix3 (sample x) (token x) n)) (fun s r => by omega)]
  refine Finset.sum_congr rfl fun s _ => ?_
  unfold part
  refine Finset.sum_congr rfl fun r _ => ?_
  refine congrArg₂ (· * ·) (input_at m c _ r (y 0) ⟨2176 * s.val + r.val, by omega⟩ ?_)
    (grad_at m c _ r (y 1) ⟨2176 * s.val + r.val, by omega⟩ n ?_ ?_)
  · show 2176 * s.val + r.val = 2176 * ((4 * (t.val / 4) + s.val) % 4) + r.val
    omega
  · show 2176 * s.val + r.val = 2176 * ((4 * (t.val / 4) + s.val) % 4) + r.val
    omega
  · exact hn

/-- The gradient of the matrix that the call writes. -/
theorem final : (dats m 0 c).arrAt 2 (cfgs 0).N = squareGrad (H m c) (D m c) := by
  refine (dats m 0 c).arrAt_eq_of_covers 2 _ (by decide +kernel) fun t hf y => ?_
  have ht := (flush0_2 t).mp hf
  blk_simp
  rw [after0_2]
  refine outs_at m c t ht y _ _ ?_ ?_ <;> blk_simp [idx t] <;> idx_bounds <;> try omega

end Cert.BranchGradBIdeal.Value

end
-- ==== Proof.BranchGradCValue.lean ====
/- The call that forms the gradient of the third branch's matrix: its blocks, its accumulation and its result. -/
module

public import proofs.«01_k».proof.Proof.SquareGrad
public import proofs.«01_k».proof.Proof.Gen.BranchGradCIdeal.Value
public import Idealize.ShloMosaic.Lib.Pipeline.ValueKit
public import Idealize.ShloMosaic.Lib.Pointwise

@[expose] public section

set_option maxRecDepth 16384

noncomputable section

namespace Cert.BranchGradCIdeal.Value

open Cert.BranchGradCIdeal Cert.BranchGradCIdeal.Gen Cert.Attention Cert.Product Idealize.ShloMosaic Idealize.ShloMosaic.TcCoe

/-- The product of a point's two blocks, over the block's rows. -/
def part (x g : Vec Ideal S1x2176x1024 .bf16) (y : S1024x1024.Idx) : EReal := ∑ r : Fin 2176, x (ix3 0 r (y 0)) * g (ix3 0 r (y 1))

/-- The first point keeps that product. -/
theorem part_at (x g : Vec Ideal S1x2176x1024 .bf16) (y : S1024x1024.Idx) :
    k0_pay2 (F := Ideal) x g y = part x g y := by
  unfold part
  rw [show y = ix2 (y 0) (y 1) from funext fun a => match a with | 0 => rfl | 1 => rfl]
  unfold_payloads
  pointwise

/-- That product added to what the scratch holds. -/
theorem step_at (x g : Vec Ideal S1x2176x1024 .bf16) (a : Vec Ideal S1024x1024 .f32) (y : S1024x1024.Idx) :
    k0_pay3 (F := Ideal) x g a y = a y + part x g y := by
  unfold part
  rw [show y = ix2 (y 0) (y 1) from funext fun a => match a with | 0 => rfl | 1 => rfl]
  unfold_payloads
  pointwise

/-- The block each grid point takes of each window's array: the points run over the row blocks. -/
theorem idx : ∀ t : Fin cfg0.N, win0_0.index t = ![2, t.val % 4, 0] ∧ win0_1.index t = ![2, t.val % 4, 0]
    ∧ win0_2.index t = ![0, 0] ∧ t.val < 4 :=
  (by decide +kernel : ∀ t : Fin grid0.N, _)

variable (m : (ℓ : Loc nD τ sig) → Buf (Elt Ideal) ℓ) (c : Dev nD)

/-- The scratch after a point that starts the sum. -/
theorem scratchA (t : Fin cfg0.N) (h0 : t.val % 4 = 0) (y : S1024x1024.Idx) : (outsAt0 m c t.val t.isLt).2 y
    = part (iblk m c 0 t) (iblk m c 1 t) y := by
  rw [outsAt0_A m c t h0 (by have := (idx t).2.2.2; omega) (by omega)]
  frame_out
  exact part_at _ _ y

/-- The scratch after a later point: what it held, and the point's product. -/
theorem scratchB (t : Fin cfg0.N) (h0 : ¬t.val % 4 = 0) (y : S1024x1024.Idx) : (outsAt0 m c t.val t.isLt).2 y
    = (outsAt0 m c (t.val - 1) (Nat.lt_of_le_of_lt (Nat.sub_le _ _) t.isLt)).2 y
      + part (iblk m c 0 t) (iblk m c 1 t) y := by
  by_cases h2 : t.val % 4 = 3
  · rw [outsAt0_C m c t h0 (by omega) h2]
    frame_out
    exact (congrArg (fun a => k0_pay3 (F := Ideal) (iblk m c 0 t) (iblk m c 1 t) a y) (Memref.IsWhole.read_unread _ _)).trans (step_at _ _ _ y)
  · rw [outsAt0_B m c t h0 (by omega) h2]
    frame_out
    exact (congrArg (fun a => k0_pay3 (F := Ideal) (iblk m c 0 t) (iblk m c 1 t) a y) (Memref.IsWhole.read_unread _ _)).trans (step_at _ _ _ y)

/-- The last point writes the scratch out. -/
theorem out_eq (t : Fin cfg0.N) (h2 : t.val % 4 = 3) (y : S1024x1024.Idx) :
    (outsAt0 m c t.val t.isLt).1 y = (outsAt0 m c t.val t.isLt).2 y := by
  rw [outsAt0_C m c t (by omega) (by omega) h2]
  frame_out

/-- The branch's gated input and the gradient of its output, as the call was given them. -/
abbrev H : Arr3 2 4352 1024 := branchOf 2 (m ((c : Thread nD τ).loc main_arg0))
abbrev D : Arr3 2 4352 1024 := branchOf 2 (m ((c : Thread nD τ).loc main_arg1))

theorem input_entry (x : Fin 8704) (k : Fin 1024) : (V m c main_v2 : Vec Ideal S3x8704x1024 .bf16) (ix3 2 x k)
    = H m c (ix3 (sample x) (token x) k) := by
  entry_read
  pointwise
  rfl

theorem grad_entry (x : Fin 8704) (n : Fin 1024) : (V m c main_v3 : Vec Ideal S3x8704x1024 .bf16) (ix3 2 x n)
    = D m c (ix3 (sample x) (token x) n) := by
  entry_read
  pointwise
  rfl

/-- A point's block of the input. -/
theorem input_at (t : Fin cfg0.N) (r : Fin 2176) (k : Fin 1024) (x : Fin 8704) (hx : x.val = 2176 * (t.val % 4) + r.val) :
    (iblk m c 0 t : Vec Ideal S1x2176x1024 .bf16) (ix3 0 r k) = H m c (ix3 (sample x) (token x) k) := by
  have h : (iblk m c 0 t : Vec Ideal S1x2176x1024 .bf16) (ix3 0 r k) = (V m c main_v2 : Vec Ideal S3x8704x1024 .bf16) (ix3 2 x k) := by
    blk_ext [iblk, idx t]
  rw [h, input_entry]

/-- A point's block of the output's gradient. -/
theorem grad_at (t : Fin cfg0.N) (r : Fin 2176) (l : Fin 1024) (x : Fin 8704) (n : Fin 1024) (hx : x.val = 2176 * (t.val % 4) + r.val)
    (hn : n.val = l.val) :
    (iblk m c 1 t : Vec Ideal S1x2176x1024 .bf16) (ix3 0 r l) = D m c (ix3 (sample x) (token x) n) := by
  have h : (iblk m c 1 t : Vec Ideal S1x2176x1024 .bf16) (ix3 0 r l) = (V m c main_v3 : Vec Ideal S3x8704x1024 .bf16) (ix3 2 x n) := by
    blk_ext [iblk, idx t]
  rw [h, grad_entry]

/-- What the last point writes out, by the whole arrays. -/
theorem outs_at (t : Fin cfg0.N) (ht : t.val % 4 = 3) (y : S1024x1024.Idx) (k : Fin 1024) (n : Fin 1024)
    (hk : k.val = (y 0 : ℕ)) (hn : n.val = (y 1 : ℕ)) :
    (outsAt0 m c t.val t.isLt).1 y = squareGrad (H m c) (D m c) (ix2 k n) := by
  have hN := (idx t).2.2.2
  obtain rfl : k = (y 0 : Fin 1024) := Fin.ext hk
  rw [out_eq m c t ht y]
  refine (Pipeline.eq_sum_fin_of_reset_step_apply_of_flush (fun n h => (outsAt0 m c n h).2) 4 (fun _ => (0 : EReal))
    (fun p (y : S1024x1024.Idx) => part (iblk m c 0 p) (iblk m c 1 p) y)
    (fun p h y => (scratchA m c p h y).trans (zero_add _).symm) (fun p h y => scratchB m c p h y) t ht y).trans ?_
  rw [zero_add]
  refine Eq.trans ?_ (sum_rows fun b i => H m c (ix3 b i (y 0 : Fin 1024)) * D m c (ix3 b i n))
  rw [← sum_of_blocks (a := 4) (b := 2176) (n := 8704) rfl
    (fun x => H m c (ix3 (sample x) (token x) (y 0 : Fin 1024)) * D m c (ix3 (sample x) (token x) n)) (fun s r => by omega)]
  refine Finset.sum_congr rfl fun s _ => ?_
  unfold part
  refine Finset.sum_congr rfl fun r _ => ?_
  refine congrArg₂ (· * ·) (input_at m c _ r (y 0) ⟨2176 * s.val + r.val, by omega⟩ ?_)
    (grad_at m c _ r (y 1) ⟨2176 * s.val + r.val, by omega⟩ n ?_ ?_)
  · show 2176 * s.val + r.val = 2176 * ((4 * (t.val / 4) + s.val) % 4) + r.val
    omega
  · show 2176 * s.val + r.val = 2176 * ((4 * (t.val / 4) + s.val) % 4) + r.val
    omega
  · exact hn

/-- The gradient of the matrix that the call writes. -/
theorem final : (dats m 0 c).arrAt 2 (cfgs 0).N = squareGrad (H m c) (D m c) := by
  refine (dats m 0 c).arrAt_eq_of_covers 2 _ (by decide +kernel) fun t hf y => ?_
  have ht := (flush0_2 t).mp hf
  blk_simp
  rw [after0_2]
  refine outs_at m c t ht y _ _ ?_ ?_ <;> blk_simp [idx t] <;> idx_bounds <;> try omega

end Cert.BranchGradCIdeal.Value

end
-- ==== Proof.OutGradValue.lean ====
/- The call that forms the gradient of the output matrix: its blocks, its accumulation and its result. -/
module

public import proofs.«01_k».proof.Proof.SquareGrad
public import proofs.«01_k».proof.Proof.Gen.OutGradIdeal.Value
public import Idealize.ShloMosaic.Lib.Pipeline.ValueKit
public import Idealize.ShloMosaic.Lib.Pointwise

@[expose] public section

set_option maxRecDepth 16384

noncomputable section

namespace Cert.OutGradIdeal.Value

open Cert.OutGradIdeal Cert.OutGradIdeal.Gen Cert.Attention Cert.Product Idealize.ShloMosaic Idealize.ShloMosaic.TcCoe

/-- The product of a point's two blocks, over the block's rows. -/
def part (x g : Vec Ideal S2176x1024 .bf16) (y : S1024x1024.Idx) : EReal := ∑ r : Fin 2176, x (ix2 r (y 0)) * g (ix2 r (y 1))

/-- The first point keeps that product. -/
theorem part_at (x g : Vec Ideal S2176x1024 .bf16) (y : S1024x1024.Idx) :
    k0_pay2 (F := Ideal) x g y = part x g y := by
  unfold part
  rw [show y = ix2 (y 0) (y 1) from funext fun a => match a with | 0 => rfl | 1 => rfl]
  unfold_payloads
  pointwise

/-- That product added to what the scratch holds. -/
theorem step_at (x g : Vec Ideal S2176x1024 .bf16) (a : Vec Ideal S1024x1024 .f32) (y : S1024x1024.Idx) :
    k0_pay3 (F := Ideal) x g a y = a y + part x g y := by
  unfold part
  rw [show y = ix2 (y 0) (y 1) from funext fun a => match a with | 0 => rfl | 1 => rfl]
  unfold_payloads
  pointwise

/-- The block each grid point takes of each window's array: the points run over the row blocks. -/
theorem idx : ∀ t : Fin cfg0.N, win0_0.index t = ![t.val % 4, 0] ∧ win0_1.index t = ![t.val % 4, 0]
    ∧ win0_2.index t = ![0, 0] ∧ t.val < 4 :=
  (by decide +kernel : ∀ t : Fin grid0.N, _)

variable (m : (ℓ : Loc nD τ sig) → Buf (Elt Ideal) ℓ) (c : Dev nD)

/-- The scratch after a point that starts the sum. -/
theorem scratchA (t : Fin cfg0.N) (h0 : t.val % 4 = 0) (y : S1024x1024.Idx) : (outsAt0 m c t.val t.isLt).2 y
    = part (iblk m c 0 t) (iblk m c 1 t) y := by
  rw [outsAt0_A m c t h0 (by have := (idx t).2.2.2; omega) (by omega)]
  frame_out
  exact part_at _ _ y

/-- The scratch after a later point: what it held, and the point's product. -/
theorem scratchB (t : Fin cfg0.N) (h0 : ¬t.val % 4 = 0) (y : S1024x1024.Idx) : (outsAt0 m c t.val t.isLt).2 y
    = (outsAt0 m c (t.val - 1) (Nat.lt_of_le_of_lt (Nat.sub_le _ _) t.isLt)).2 y
      + part (iblk m c 0 t) (iblk m c 1 t) y := by
  by_cases h2 : t.val % 4 = 3
  · rw [outsAt0_C m c t h0 (by omega) h2]
    frame_out
    exact (congrArg (fun a => k0_pay3 (F := Ideal) (iblk m c 0 t) (iblk m c 1 t) a y) (Memref.IsWhole.read_unread _ _)).trans (step_at _ _ _ y)
  · rw [outsAt0_B m c t h0 (by omega) h2]
    frame_out
    exact (congrArg (fun a => k0_pay3 (F := Ideal) (iblk m c 0 t) (iblk m c 1 t) a y) (Memref.IsWhole.read_unread _ _)).trans (step_at _ _ _ y)

/-- The last point writes the scratch out. -/
theorem out_eq (t : Fin cfg0.N) (h2 : t.val % 4 = 3) (y : S1024x1024.Idx) :
    (outsAt0 m c t.val t.isLt).1 y = (outsAt0 m c t.val t.isLt).2 y := by
  rw [outsAt0_C m c t (by omega) (by omega) h2]
  frame_out

/-- The merged branches and the gradient of the output, as the call was given them. -/
abbrev H : Arr3 2 4352 1024 := m ((c : Thread nD τ).loc main_arg0)
abbrev D : Arr3 2 4352 1024 := m ((c : Thread nD τ).loc main_arg1)

theorem input_entry (x : Fin 8704) (k : Fin 1024) : (V m c main_v2 : Vec Ideal S8704x1024 .bf16) (ix2 x k)
    = H m c (ix3 (sample x) (token x) k) := by
  entry_read
  pointwise
  rfl

theorem grad_entry (x : Fin 8704) (n : Fin 1024) : (V m c main_v3 : Vec Ideal S8704x1024 .bf16) (ix2 x n)
    = D m c (ix3 (sample x) (token x) n) := by
  entry_read
  pointwise
  rfl

/-- A point's block of the input. -/
theorem input_at (t : Fin cfg0.N) (r : Fin 2176) (k : Fin 1024) (x : Fin 8704) (hx : x.val = 2176 * (t.val % 4) + r.val) :
    (iblk m c 0 t : Vec Ideal S2176x1024 .bf16) (ix2 r k) = H m c (ix3 (sample x) (token x) k) := by
  have h : (iblk m c 0 t : Vec Ideal S2176x1024 .bf16) (ix2 r k) = (V m c main_v2 : Vec Ideal S8704x1024 .bf16) (ix2 x k) := by
    blk_ext [iblk, idx t]
  rw [h, input_entry]

/-- A point's block of the output's gradient. -/
theorem grad_at (t : Fin cfg0.N) (r : Fin 2176) (l : Fin 1024) (x : Fin 8704) (n : Fin 1024) (hx : x.val = 2176 * (t.val % 4) + r.val)
    (hn : n.val = l.val) :
    (iblk m c 1 t : Vec Ideal S2176x1024 .bf16) (ix2 r l) = D m c (ix3 (sample x) (token x) n) := by
  have h : (iblk m c 1 t : Vec Ideal S2176x1024 .bf16) (ix2 r l) = (V m c main_v3 : Vec Ideal S8704x1024 .bf16) (ix2 x n) := by
    blk_ext [iblk, idx t]
  rw [h, grad_entry]

/-- What the last point writes out, by the whole arrays. -/
theorem outs_at (t : Fin cfg0.N) (ht : t.val % 4 = 3) (y : S1024x1024.Idx) (k : Fin 1024) (n : Fin 1024)
    (hk : k.val = (y 0 : ℕ)) (hn : n.val = (y 1 : ℕ)) :
    (outsAt0 m c t.val t.isLt).1 y = squareGrad (H m c) (D m c) (ix2 k n) := by
  have hN := (idx t).2.2.2
  obtain rfl : k = (y 0 : Fin 1024) := Fin.ext hk
  rw [out_eq m c t ht y]
  refine (Pipeline.eq_sum_fin_of_reset_step_apply_of_flush (fun n h => (outsAt0 m c n h).2) 4 (fun _ => (0 : EReal))
    (fun p (y : S1024x1024.Idx) => part (iblk m c 0 p) (iblk m c 1 p) y)
    (fun p h y => (scratchA m c p h y).trans (zero_add _).symm) (fun p h y => scratchB m c p h y) t ht y).trans ?_
  rw [zero_add]
  refine Eq.trans ?_ (sum_rows fun b i => H m c (ix3 b i (y 0 : Fin 1024)) * D m c (ix3 b i n))
  rw [← sum_of_blocks (a := 4) (b := 2176) (n := 8704) rfl
    (fun x => H m c (ix3 (sample x) (token x) (y 0 : Fin 1024)) * D m c (ix3 (sample x) (token x) n)) (fun s r => by omega)]
  refine Finset.sum_congr rfl fun s _ => ?_
  unfold part
  refine Finset.sum_congr rfl fun r _ => ?_
  refine congrArg₂ (· * ·) (input_at m c _ r (y 0) ⟨2176 * s.val + r.val, by omega⟩ ?_)
    (grad_at m c _ r (y 1) ⟨2176 * s.val + r.val, by omega⟩ n ?_ ?_)
  · show 2176 * s.val + r.val = 2176 * ((4 * (t.val / 4) + s.val) % 4) + r.val
    omega
  · show 2176 * s.val + r.val = 2176 * ((4 * (t.val / 4) + s.val) % 4) + r.val
    omega
  · exact hn

/-- The gradient of the matrix that the call writes. -/
theorem final : (dats m 0 c).arrAt 2 (cfgs 0).N = squareGrad (H m c) (D m c) := by
  refine (dats m 0 c).arrAt_eq_of_covers 2 _ (by decide +kernel) fun t hf y => ?_
  have ht := (flush0_2 t).mp hf
  blk_simp
  rw [after0_2]
  refine outs_at m c t ht y _ _ ?_ ?_ <;> blk_simp [idx t] <;> idx_bounds <;> try omega

end Cert.OutGradIdeal.Value

end
-- ==== Proof.SquareRef.lean ====
/- What the references of the gradients of the branches' matrices and of the output matrix compute. -/
module

public import proofs.«01_k».proof.Proof.SquareGrad
public import proofs.«01_k».proof.Proof.Gen.BranchGradAReferenceIdeal.Read
public import proofs.«01_k».proof.Proof.Gen.BranchGradBReferenceIdeal.Read
public import proofs.«01_k».proof.Proof.Gen.BranchGradCReferenceIdeal.Read
public import proofs.«01_k».proof.Proof.Gen.OutGradReferenceIdeal.Read
public import Idealize.ShloMosaic.Lib.TwoAxisContraction

@[expose] public section

set_option maxRecDepth 16384

noncomputable section

namespace Cert.BranchGradAReferenceIdeal.Value

open Cert.BranchGradAReferenceIdeal.Read Cert.BranchGradAReferenceIdeal Cert.BranchGradAReferenceIdeal.Gen Cert.Attention Cert.Product
open Idealize.ShloMosaic Idealize.ShloMosaic.TcCoe

/-- The reference takes this branch of its first argument. -/
theorem input (z : Arr4 3 2 4352 1024) (b : Fin 2) (i : Fin 4352) (k : Fin 1024) :
    val_main_v1 (F := Ideal) z (ix3 b i k) = branchOf 0 z (ix3 b i k) := by
  rw [val_main_v1_apply, val_main_v0_apply]
  refine at4 z ?_ ?_ ?_ ?_ <;> simp <;> omega

/-- The reference takes this branch of its second argument. -/
theorem grad (z : Arr4 3 2 4352 1024) (b : Fin 2) (i : Fin 4352) (k : Fin 1024) :
    val_main_v3 (F := Ideal) z (ix3 b i k) = branchOf 0 z (ix3 b i k) := by
  rw [val_main_v3_apply, val_main_v2_apply]
  refine at4 z ?_ ?_ ?_ ?_ <;> simp <;> omega

/-- The product over the samples and their tokens, read at an index. -/
theorem over_rows (h g : Arr4 3 2 4352 1024) (n : Fin 1024) (k : Fin 1024) :
    val_main_v6 (F := Ideal) h g (ix2 n k) = ∑ b : Fin 2, ∑ i : Fin 4352, branchOf 0 h (ix3 b i k) * branchOf 0 g (ix3 b i n) := by
  unfold val_main_v6
  simp only [Host.dotGeneral]
  rw [Ideal.dotGeneral_apply, ValueIdx.sum_contr2 dot_S2x4352x1024_S2x4352x1024_S1024x1024_01_01_2_2_n_n 2 4352 rfl rfl rfl]
  refine Finset.sum_congr rfl fun b _ => Finset.sum_congr rfl fun i _ => ?_
  have h0 := ValueIdx.contrEquiv2_symm_val0 dot_S2x4352x1024_S2x4352x1024_S1024x1024_01_01_2_2_n_n 2 4352 rfl rfl rfl (b, i)
  have h1 := ValueIdx.contrEquiv2_symm_val1 dot_S2x4352x1024_S2x4352x1024_S1024x1024_01_01_2_2_n_n 2 4352 rfl rfl rfl (b, i)
  generalize (ValueIdx.contrEquiv2 dot_S2x4352x1024_S2x4352x1024_S1024x1024_01_01_2_2_n_n 2 4352 rfl rfl rfl).symm (b, i) = q at *
  rw [mul_comm]
  refine congrArg₂ (· * ·) ((at3 (val_main_v1 (F := Ideal) h) ?_ ?_ ?_).trans (input h b i k))
    ((at3 (val_main_v3 (F := Ideal) g) ?_ ?_ ?_).trans (grad g b i n))
  · unfold DotDims.rhsIdx; rw [dif_neg (by decide), dif_neg (by decide)]; exact h0
  · unfold DotDims.rhsIdx; rw [dif_neg (by decide), dif_neg (by decide)]; exact h1
  · unfold DotDims.rhsIdx; rw [dif_neg (by decide), dif_pos (by decide)]; rfl
  · unfold DotDims.lhsIdx; rw [dif_neg (by decide), dif_neg (by decide)]; exact h0
  · unfold DotDims.lhsIdx; rw [dif_neg (by decide), dif_neg (by decide)]; exact h1
  · unfold DotDims.lhsIdx; rw [dif_neg (by decide), dif_pos (by decide)]; rfl

/-- The reference's gradient of the matrix. -/
theorem computes (h g : Arr4 3 2 4352 1024) : val_main_v7 (F := Ideal) h g = squareGrad (branchOf 0 h) (branchOf 0 g) := by
  funext y
  obtain ⟨k, n, rfl⟩ : ∃ (k : Fin 1024) (n : Fin 1024), y = ix2 k n := ⟨y 0, y 1, funext fun a => match a with | 0 => rfl | 1 => rfl⟩
  rw [val_main_v7_apply]
  exact (at2 (val_main_v6 (F := Ideal) h g) rfl rfl).trans (over_rows h g n k)

end Cert.BranchGradAReferenceIdeal.Value

namespace Cert.BranchGradBReferenceIdeal.Value

open Cert.BranchGradBReferenceIdeal.Read Cert.BranchGradBReferenceIdeal Cert.BranchGradBReferenceIdeal.Gen Cert.Attention Cert.Product
open Idealize.ShloMosaic Idealize.ShloMosaic.TcCoe

/-- The reference takes this branch of its first argument. -/
theorem input (z : Arr4 3 2 4352 1024) (b : Fin 2) (i : Fin 4352) (k : Fin 1024) :
    val_main_v1 (F := Ideal) z (ix3 b i k) = branchOf 1 z (ix3 b i k) := by
  rw [val_main_v1_apply, val_main_v0_apply]
  refine at4 z ?_ ?_ ?_ ?_ <;> simp <;> omega

/-- The reference takes this branch of its second argument. -/
theorem grad (z : Arr4 3 2 4352 1024) (b : Fin 2) (i : Fin 4352) (k : Fin 1024) :
    val_main_v3 (F := Ideal) z (ix3 b i k) = branchOf 1 z (ix3 b i k) := by
  rw [val_main_v3_apply, val_main_v2_apply]
  refine at4 z ?_ ?_ ?_ ?_ <;> simp <;> omega

/-- The product over the samples and their tokens, read at an index. -/
theorem over_rows (h g : Arr4 3 2 4352 1024) (n : Fin 1024) (k : Fin 1024) :
    val_main_v6 (F := Ideal) h g (ix2 n k) = ∑ b : Fin 2, ∑ i : Fin 4352, branchOf 1 h (ix3 b i k) * branchOf 1 g (ix3 b i n) := by
  unfold val_main_v6
  simp only [Host.dotGeneral]
  rw [Ideal.dotGeneral_apply, ValueIdx.sum_contr2 dot_S2x4352x1024_S2x4352x1024_S1024x1024_01_01_2_2_n_n 2 4352 rfl rfl rfl]
  refine Finset.sum_congr rfl fun b _ => Finset.sum_congr rfl fun i _ => ?_
  have h0 := ValueIdx.contrEquiv2_symm_val0 dot_S2x4352x1024_S2x4352x1024_S1024x1024_01_01_2_2_n_n 2 4352 rfl rfl rfl (b, i)
  have h1 := ValueIdx.contrEquiv2_symm_val1 dot_S2x4352x1024_S2x4352x1024_S1024x1024_01_01_2_2_n_n 2 4352 rfl rfl rfl (b, i)
  generalize (ValueIdx.contrEquiv2 dot_S2x4352x1024_S2x4352x1024_S1024x1024_01_01_2_2_n_n 2 4352 rfl rfl rfl).symm (b, i) = q at *
  rw [mul_comm]
  refine congrArg₂ (· * ·) ((at3 (val_main_v1 (F := Ideal) h) ?_ ?_ ?_).trans (input h b i k))
    ((at3 (val_main_v3 (F := Ideal) g) ?_ ?_ ?_).trans (grad g b i n))
  · unfold DotDims.rhsIdx; rw [dif_neg (by decide), dif_neg (by decide)]; exact h0
  · unfold DotDims.rhsIdx; rw [dif_neg (by decide), dif_neg (by decide)]; exact h1
  · unfold DotDims.rhsIdx; rw [dif_neg (by decide), dif_pos (by decide)]; rfl
  · unfold DotDims.lhsIdx; rw [dif_neg (by decide), dif_neg (by decide)]; exact h0
  · unfold DotDims.lhsIdx; rw [dif_neg (by decide), dif_neg (by decide)]; exact h1
  · unfold DotDims.lhsIdx; rw [dif_neg (by decide), dif_pos (by decide)]; rfl

/-- The reference's gradient of the matrix. -/
theorem computes (h g : Arr4 3 2 4352 1024) : val_main_v7 (F := Ideal) h g = squareGrad (branchOf 1 h) (branchOf 1 g) := by
  funext y
  obtain ⟨k, n, rfl⟩ : ∃ (k : Fin 1024) (n : Fin 1024), y = ix2 k n := ⟨y 0, y 1, funext fun a => match a with | 0 => rfl | 1 => rfl⟩
  rw [val_main_v7_apply]
  exact (at2 (val_main_v6 (F := Ideal) h g) rfl rfl).trans (over_rows h g n k)

end Cert.BranchGradBReferenceIdeal.Value

namespace Cert.BranchGradCReferenceIdeal.Value

open Cert.BranchGradCReferenceIdeal.Read Cert.BranchGradCReferenceIdeal Cert.BranchGradCReferenceIdeal.Gen Cert.Attention Cert.Product
open Idealize.ShloMosaic Idealize.ShloMosaic.TcCoe

/-- The reference takes this branch of its first argument. -/
theorem input (z : Arr4 3 2 4352 1024) (b : Fin 2) (i : Fin 4352) (k : Fin 1024) :
    val_main_v1 (F := Ideal) z (ix3 b i k) = branchOf 2 z (ix3 b i k) := by
  rw [val_main_v1_apply, val_main_v0_apply]
  refine at4 z ?_ ?_ ?_ ?_ <;> simp <;> omega

/-- The reference takes this branch of its second argument. -/
theorem grad (z : Arr4 3 2 4352 1024) (b : Fin 2) (i : Fin 4352) (k : Fin 1024) :
    val_main_v3 (F := Ideal) z (ix3 b i k) = branchOf 2 z (ix3 b i k) := by
  rw [val_main_v3_apply, val_main_v2_apply]
  refine at4 z ?_ ?_ ?_ ?_ <;> simp <;> omega

/-- The product over the samples and their tokens, read at an index. -/
theorem over_rows (h g : Arr4 3 2 4352 1024) (n : Fin 1024) (k : Fin 1024) :
    val_main_v6 (F := Ideal) h g (ix2 n k) = ∑ b : Fin 2, ∑ i : Fin 4352, branchOf 2 h (ix3 b i k) * branchOf 2 g (ix3 b i n) := by
  unfold val_main_v6
  simp only [Host.dotGeneral]
  rw [Ideal.dotGeneral_apply, ValueIdx.sum_contr2 dot_S2x4352x1024_S2x4352x1024_S1024x1024_01_01_2_2_n_n 2 4352 rfl rfl rfl]
  refine Finset.sum_congr rfl fun b _ => Finset.sum_congr rfl fun i _ => ?_
  have h0 := ValueIdx.contrEquiv2_symm_val0 dot_S2x4352x1024_S2x4352x1024_S1024x1024_01_01_2_2_n_n 2 4352 rfl rfl rfl (b, i)
  have h1 := ValueIdx.contrEquiv2_symm_val1 dot_S2x4352x1024_S2x4352x1024_S1024x1024_01_01_2_2_n_n 2 4352 rfl rfl rfl (b, i)
  generalize (ValueIdx.contrEquiv2 dot_S2x4352x1024_S2x4352x1024_S1024x1024_01_01_2_2_n_n 2 4352 rfl rfl rfl).symm (b, i) = q at *
  rw [mul_comm]
  refine congrArg₂ (· * ·) ((at3 (val_main_v1 (F := Ideal) h) ?_ ?_ ?_).trans (input h b i k))
    ((at3 (val_main_v3 (F := Ideal) g) ?_ ?_ ?_).trans (grad g b i n))
  · unfold DotDims.rhsIdx; rw [dif_neg (by decide), dif_neg (by decide)]; exact h0
  · unfold DotDims.rhsIdx; rw [dif_neg (by decide), dif_neg (by decide)]; exact h1
  · unfold DotDims.rhsIdx; rw [dif_neg (by decide), dif_pos (by decide)]; rfl
  · unfold DotDims.lhsIdx; rw [dif_neg (by decide), dif_neg (by decide)]; exact h0
  · unfold DotDims.lhsIdx; rw [dif_neg (by decide), dif_neg (by decide)]; exact h1
  · unfold DotDims.lhsIdx; rw [dif_neg (by decide), dif_pos (by decide)]; rfl

/-- The reference's gradient of the matrix. -/
theorem computes (h g : Arr4 3 2 4352 1024) : val_main_v7 (F := Ideal) h g = squareGrad (branchOf 2 h) (branchOf 2 g) := by
  funext y
  obtain ⟨k, n, rfl⟩ : ∃ (k : Fin 1024) (n : Fin 1024), y = ix2 k n := ⟨y 0, y 1, funext fun a => match a with | 0 => rfl | 1 => rfl⟩
  rw [val_main_v7_apply]
  exact (at2 (val_main_v6 (F := Ideal) h g) rfl rfl).trans (over_rows h g n k)

end Cert.BranchGradCReferenceIdeal.Value

namespace Cert.OutGradReferenceIdeal.Value

open Cert.OutGradReferenceIdeal.Read Cert.OutGradReferenceIdeal Cert.OutGradReferenceIdeal.Gen Cert.Attention Cert.Product
open Idealize.ShloMosaic Idealize.ShloMosaic.TcCoe

/-- The product over the samples and their tokens, read at an index. -/
theorem over_rows (h : Arr3 2 4352 1024) (g : Arr3 2 4352 1024) (n : Fin 1024) (k : Fin 1024) :
    val_main_v2 (F := Ideal) h g (ix2 n k) = ∑ b : Fin 2, ∑ i : Fin 4352, h (ix3 b i k) * g (ix3 b i n) := by
  unfold val_main_v2
  simp only [Host.dotGeneral]
  rw [Ideal.dotGeneral_apply, ValueIdx.sum_contr2 dot_S2x4352x1024_S2x4352x1024_S1024x1024_01_01_2_2_n_n 2 4352 rfl rfl rfl]
  refine Finset.sum_congr rfl fun b _ => Finset.sum_congr rfl fun i _ => ?_
  have h0 := ValueIdx.contrEquiv2_symm_val0 dot_S2x4352x1024_S2x4352x1024_S1024x1024_01_01_2_2_n_n 2 4352 rfl rfl rfl (b, i)
  have h1 := ValueIdx.contrEquiv2_symm_val1 dot_S2x4352x1024_S2x4352x1024_S1024x1024_01_01_2_2_n_n 2 4352 rfl rfl rfl (b, i)
  generalize (ValueIdx.contrEquiv2 dot_S2x4352x1024_S2x4352x1024_S1024x1024_01_01_2_2_n_n 2 4352 rfl rfl rfl).symm (b, i) = q at *
  rw [mul_comm]
  refine congrArg₂ (· * ·) (at3 h ?_ ?_ ?_) (at3 g ?_ ?_ ?_)
  · unfold DotDims.rhsIdx; rw [dif_neg (by decide), dif_neg (by decide)]; exact h0
  · unfold DotDims.rhsIdx; rw [dif_neg (by decide), dif_neg (by decide)]; exact h1
  · unfold DotDims.rhsIdx; rw [dif_neg (by decide), dif_pos (by decide)]; rfl
  · unfold DotDims.lhsIdx; rw [dif_neg (by decide), dif_neg (by decide)]; exact h0
  · unfold DotDims.lhsIdx; rw [dif_neg (by decide), dif_neg (by decide)]; exact h1
  · unfold DotDims.lhsIdx; rw [dif_neg (by decide), dif_pos (by decide)]; rfl

/-- The reference's gradient of the matrix. -/
theorem computes (h : Arr3 2 4352 1024) (g : Arr3 2 4352 1024) : val_main_v3 (F := Ideal) h g = squareGrad h g := by
  funext y
  obtain ⟨k, n, rfl⟩ : ∃ (k : Fin 1024) (n : Fin 1024), y = ix2 k n := ⟨y 0, y 1, funext fun a => match a with | 0 => rfl | 1 => rfl⟩
  rw [val_main_v3_apply]
  exact (at2 (val_main_v2 (F := Ideal) h g) rfl rfl).trans (over_rows h g n k)

end Cert.OutGradReferenceIdeal.Value

end
-- ==== Proof.ModulationSpec.lean ====
/- The modulation's product and its gradients on ideal values. -/
module

public import proofs.«01_k».proof.Proof.MergeSpec
public import proofs.«01_k».proof.Proof.Softmax
public import proofs.«01_k».proof.Proof.Finite
public import proofs.«01_k».proof.Proof.Gen.Pre_finite_mod

@[expose] public section

noncomputable section

namespace Cert.Modulation

open Idealize.ShloMosaic Cert.Attention Cert.Product Cert.Merge

/-- A conditioning's entry, gated by its own logistic. -/
def gatedEntry (x : EReal) : EReal := x * sigmoid x

/-- The modulation of each row of the conditioning. -/
def modulated (c : Arr2 16 1024) (w : Arr2 1024 3072) (b : Arr2 1 3072) : Arr2 16 3072 := fun y =>
  (∑ k : Fin 1024, gatedEntry (c (ix2 (y 0) k)) * w (ix2 k (y 1))) + b (ix2 0 (y 1))

/-- The gradient of the modulation's matrix. -/
def matrixGrad (c : Arr2 16 1024) (g : Arr2 16 3072) : Arr2 1024 3072 := fun y =>
  ∑ r : Fin 16, gatedEntry (c (ix2 r (y 0))) * g (ix2 r (y 1))

/-- The gradient of the modulation's bias. -/
def biasGrad (g : Arr2 16 3072) : Arr2 1 3072 := fun y => ∑ r : Fin 16, g (ix2 r (y 1))

/-- The gradient of the gated conditioning. -/
def gatedGrad (g : Arr2 16 3072) (w : Arr2 1024 3072) : Arr2 16 1024 := fun y => ∑ n : Fin 3072, g (ix2 (y 0) n) * w (ix2 (y 1) n)

/-- The kernel's derivative of the gating, times the gradient `t`. -/
def kerStep (x t : EReal) : EReal := t * (sigmoid x * (1 + x * (1 - sigmoid x)))

/-- The reference's: the two factors differentiated one by one. -/
def refStep (x t : EReal) : EReal := t * sigmoid x + x * t * (sigmoid x * (1 - sigmoid x))

/-- The gradient of the conditioning, by a derivative of the gating. -/
def condGradBy (f : EReal → EReal → EReal) (c : Arr2 16 1024) (g : Arr2 16 3072) (w : Arr2 1024 3072) : Arr2 16 1024 := fun y =>
  f (c (ix2 (y 0) (y 1))) (gatedGrad g w (ix2 (y 0) (y 1)))

theorem sigmoid_top : sigmoid ⊤ = 1 := by
  unfold sigmoid
  rw [EReal.neg_top, show Ideal.exp ⊥ = 0 from rfl, add_zero]
  have := div_pos 1 (y := 1) one_pos
  simpa using this

theorem sigmoid_bot : sigmoid ⊥ = 0 := by
  unfold sigmoid
  rw [EReal.neg_bot, show Ideal.exp ⊤ = ⊤ from rfl, show (1 : EReal) + ⊤ = ⊤ from rfl]
  unfold Ideal.div
  rw [if_neg (by decide)]
  simp

theorem sigmoid_coe (x : ℝ) : sigmoid (x : EReal) = ((1 / (1 + Real.exp (-x)) : ℝ) : EReal) := by
  unfold sigmoid
  rw [← EReal.coe_neg, exp_coe, ← EReal.coe_one, ← EReal.coe_add, div_coe_pos 1 (by positivity)]

/-- On a real gradient the two derivatives agree, whatever the conditioning. -/
theorem step_eq (x : EReal) (t : ℝ) : refStep x (t : EReal) = kerStep x (t : EReal) := by
  unfold refStep kerStep
  induction x with
  | top =>
    rw [sigmoid_top]
    have h : (1 : EReal) - 1 = 0 := by rw [← EReal.coe_one, ← EReal.coe_sub]; simp
    simp [h]
  | bot =>
    rw [sigmoid_bot]
    simp
  | coe x =>
    rw [sigmoid_coe]
    simp only [← EReal.coe_one, ← EReal.coe_sub, ← EReal.coe_mul, ← EReal.coe_add]
    congr 1
    ring

/-- A sum of products of real numbers is real. -/
theorem gatedGrad_coe {g : Arr2 16 3072} {w : Arr2 1024 3072} (hg : IsReal g) (hw : IsReal w) (y : (⟨2, ![16, 1024]⟩ : Shape).Idx) :
    ∃ t : ℝ, gatedGrad g w y = (t : EReal) := by
  refine ⟨∑ n : Fin 3072, (g (ix2 (y 0) n)).toReal * (w (ix2 (y 1) n)).toReal, ?_⟩
  rw [← coe_sum]
  refine Finset.sum_congr rfl fun n _ => ?_
  rw [EReal.coe_mul, ← hg, ← hw]

theorem condGrad_eq (c : Arr2 16 1024) {g : Arr2 16 3072} {w : Arr2 1024 3072} (hg : IsReal g) (hw : IsReal w) :
    condGradBy refStep c g w = condGradBy kerStep c g w := by
  funext y
  unfold condGradBy
  obtain ⟨t, ht⟩ := gatedGrad_coe hg hw (ix2 (y 0) (y 1))
  rw [ht]
  exact step_eq _ t

/-- The precondition says that the gradient and the matrix are real numbers. -/
theorem isReal_of_finite_mod (c : Arr2 16 1024) (g : Arr2 16 3072) (w : Arr2 1024 3072)
    (h : Cert.Pre_finite_mod.fn (F := Ideal) c g w = fun _ => 1#1) : IsReal g ∧ IsReal w := by
  have e := congrFun h (fun a => a.elim0)
  obtain ⟨hq, hk⟩ := andi_eq_one (a := allFinite g Cert.Pre_finite_mod.Gen.bcast_S_S16x3072
    Cert.Pre_finite_mod.Gen.reducesTo_S16x3072_S_d0_1 Cert.Pre_finite_mod.Gen.h_S_ _)
    (b := allFinite w Cert.Pre_finite_mod.Gen.bcast_S_S1024x3072
    Cert.Pre_finite_mod.Gen.reducesTo_S1024x3072_S_d0_1 Cert.Pre_finite_mod.Gen.h_S_ _) e
  exact ⟨isReal_of_allFinite g _ _ _ _ hq, isReal_of_allFinite w _ _ _ _ hk⟩

end Cert.Modulation

end
-- ==== Proof.ModulationValue.lean ====
/- The call that forms the modulation: its one block and its result. -/
module

public import proofs.«01_k».proof.Proof.ModulationSpec
public import proofs.«01_k».proof.Proof.Gen.ModulationIdeal.Value
public import Idealize.ShloMosaic.Lib.Pipeline.ValueKit
public import Idealize.ShloMosaic.Lib.Pointwise

@[expose] public section

set_option maxRecDepth 16384

noncomputable section

namespace Cert.ModulationIdeal.Value

open Cert.ModulationIdeal Cert.ModulationIdeal.Gen Cert.Attention Cert.Product Cert.Merge Cert.Modulation
open Idealize.ShloMosaic Idealize.ShloMosaic.TcCoe

theorem out_at (x : Vec Ideal S16x1024 .f32) (w : Vec Ideal S1024x3072 .bf16) (b : Vec Ideal S1x3072 .f32) (r : Fin 16) (n : Fin 3072) :
    out0_3 (F := Ideal) x w b (ix2 r n) = modulated x w b (ix2 r n) := by
  unfold modulated gatedEntry sigmoid
  simp only [← zero_sub (G := EReal)]
  frame_out
  unfold_payloads
  pointwise

variable (m : (ℓ : Loc nD τ sig) → Buf (Elt Ideal) ℓ) (c : Dev nD)

/-- The conditioning, the modulation's matrix and its bias, as the call was given them. -/
abbrev X : Arr2 16 1024 := m ((c : Thread nD τ).loc main_arg0)
abbrev W : Arr2 1024 3072 := m ((c : Thread nD τ).loc main_arg1)
abbrev B : Arr2 1 3072 := m ((c : Thread nD τ).loc main_arg2)

theorem weight_entry (y : S1024x3072.Idx) : (V m c main_v0 : Vec Ideal S1024x3072 .bf16) y = W m c y := by
  entry_read
  pointwise

/-- The one point's blocks are the whole arrays. -/
theorem cond_block (t : Fin cfg0.N) : (iblk m c 0 t : Vec Ideal S16x1024 .f32) = X m c := by
  funext y
  have h : (iblk m c 0 t : Vec Ideal S16x1024 .f32) y = (V m c main_arg0 : Vec Ideal S16x1024 .f32) y := by
    blk_ext [iblk]
    · exact (congrArg (· * _ + _) (show win0_0.index t 0 = 0 from rfl)).trans (by simp)
    · exact (congrArg (· * _ + _) (show win0_0.index t 1 = 0 from rfl)).trans (by simp)
  rw [h, V_main_arg0]

theorem weight_block (t : Fin cfg0.N) : (iblk m c 1 t : Vec Ideal S1024x3072 .bf16) = W m c := by
  funext y
  have h : (iblk m c 1 t : Vec Ideal S1024x3072 .bf16) y = (V m c main_v0 : Vec Ideal S1024x3072 .bf16) y := by
    blk_ext [iblk]
    · exact (congrArg (· * _ + _) (show win0_1.index t 0 = 0 from rfl)).trans (by simp)
    · exact (congrArg (· * _ + _) (show win0_1.index t 1 = 0 from rfl)).trans (by simp)
  rw [h, weight_entry]

theorem bias_block (t : Fin cfg0.N) : (iblk m c 2 t : Vec Ideal S1x3072 .f32) = B m c := by
  funext y
  have h : (iblk m c 2 t : Vec Ideal S1x3072 .f32) y = (V m c main_arg2 : Vec Ideal S1x3072 .f32) y := by
    blk_ext [iblk]
    · rfl
    · exact (congrArg (· * _ + _) (show win0_2.index t 1 = 0 from rfl)).trans (by simp)
  rw [h, V_main_arg2]

/-- The modulation that the call writes. -/
theorem final : (dats m 0 c).arrAt 3 (cfgs 0).N = modulated (X m c) (W m c) (B m c) := by
  refine (dats m 0 c).arrAt_eq_of_covers 3 _ (by decide +kernel) fun t hf y => ?_
  blk_simp
  rw [after0_3, cond_block, weight_block, bias_block]
  exact (congrArg _ (funext fun a => match a with | 0 => rfl | 1 => rfl)).trans ((out_at _ _ _ (y 0) (y 1)).trans
    (at2 (modulated (X m c) (W m c) (B m c)) (by simp; rfl) (by simp; rfl)).symm)

end Cert.ModulationIdeal.Value

end
-- ==== Proof.ModulationGradValue.lean ====
/- The call that forms the gradients of the modulation: its one block and its three results. -/
module

public import proofs.«01_k».proof.Proof.ModulationSpec
public import proofs.«01_k».proof.Proof.Gen.ModulationGradIdeal.Value
public import Idealize.ShloMosaic.Lib.Pipeline.ValueKit
public import Idealize.ShloMosaic.Lib.Pointwise

@[expose] public section

set_option maxRecDepth 16384

noncomputable section

namespace Cert.ModulationGradIdeal.Value

open Cert.ModulationGradIdeal Cert.ModulationGradIdeal.Gen Cert.Attention Cert.Product Cert.Merge Cert.Modulation
open Idealize.ShloMosaic Idealize.ShloMosaic.TcCoe

theorem matrix_at (x : Vec Ideal S16x1024 .f32) (g : Vec Ideal S16x3072 .f32) (w : Vec Ideal S1024x3072 .bf16) (k : Fin 1024) (n : Fin 3072) :
    out0_3 (F := Ideal) x g w (ix2 k n) = Cert.Modulation.matrixGrad x g (ix2 k n) := by
  unfold Cert.Modulation.matrixGrad gatedEntry sigmoid
  simp only [← zero_sub (G := EReal)]
  frame_out
  unfold_payloads
  pointwise

theorem bias_at (x : Vec Ideal S16x1024 .f32) (g : Vec Ideal S16x3072 .f32) (w : Vec Ideal S1024x3072 .bf16) (n : Fin 3072) :
    out0_4 (F := Ideal) x g w (ix2 0 n) = biasGrad g (ix2 0 n) := by
  unfold biasGrad
  frame_out
  unfold_payloads
  pointwise

theorem cond_at (x : Vec Ideal S16x1024 .f32) (g : Vec Ideal S16x3072 .f32) (w : Vec Ideal S1024x3072 .bf16) (r : Fin 16) (k : Fin 1024) :
    out0_5 (F := Ideal) x g w (ix2 r k) = condGradBy kerStep x g w (ix2 r k) := by
  unfold condGradBy kerStep gatedGrad sigmoid
  simp only [← zero_sub (G := EReal)]
  frame_out
  unfold_payloads
  pointwise

variable (m : (ℓ : Loc nD τ sig) → Buf (Elt Ideal) ℓ) (c : Dev nD)

/-- The conditioning, the modulation's gradient and its matrix, as the call was given them. -/
abbrev X : Arr2 16 1024 := m ((c : Thread nD τ).loc main_arg0)
abbrev D : Arr2 16 3072 := m ((c : Thread nD τ).loc main_arg1)
abbrev W : Arr2 1024 3072 := m ((c : Thread nD τ).loc main_arg2)

theorem weight_entry (y : S1024x3072.Idx) : (V m c main_v0 : Vec Ideal S1024x3072 .bf16) y = W m c y := by
  entry_read
  pointwise

/-- The one point's blocks are the whole arrays. -/
theorem cond_block (t : Fin cfg0.N) : (iblk m c 0 t : Vec Ideal S16x1024 .f32) = X m c := by
  funext y
  have h : (iblk m c 0 t : Vec Ideal S16x1024 .f32) y = (V m c main_arg0 : Vec Ideal S16x1024 .f32) y := by
    blk_ext [iblk]
    · exact (congrArg (· * _ + _) (show win0_0.index t 0 = 0 from rfl)).trans (by simp)
    · exact (congrArg (· * _ + _) (show win0_0.index t 1 = 0 from rfl)).trans (by simp)
  rw [h, V_main_arg0]

theorem grad_block (t : Fin cfg0.N) : (iblk m c 1 t : Vec Ideal S16x3072 .f32) = D m c := by
  funext y
  have h : (iblk m c 1 t : Vec Ideal S16x3072 .f32) y = (V m c main_arg1 : Vec Ideal S16x3072 .f32) y := by
    blk_ext [iblk]
    · exact (congrArg (· * _ + _) (show win0_1.index t 0 = 0 from rfl)).trans (by simp)
    · exact (congrArg (· * _ + _) (show win0_1.index t 1 = 0 from rfl)).trans (by simp)
  rw [h, V_main_arg1]

theorem weight_block (t : Fin cfg0.N) : (iblk m c 2 t : Vec Ideal S1024x3072 .bf16) = W m c := by
  funext y
  have h : (iblk m c 2 t : Vec Ideal S1024x3072 .bf16) y = (V m c main_v0 : Vec Ideal S1024x3072 .bf16) y := by
    blk_ext [iblk]
    · exact (congrArg (· * _ + _) (show win0_2.index t 0 = 0 from rfl)).trans (by simp)
    · exact (congrArg (· * _ + _) (show win0_2.index t 1 = 0 from rfl)).trans (by simp)
  rw [h, weight_entry]

/-- The gradient of the matrix that the call writes. -/
theorem final_matrix : (dats m 0 c).arrAt 3 (cfgs 0).N = Cert.Modulation.matrixGrad (X m c) (D m c) := by
  refine (dats m 0 c).arrAt_eq_of_covers 3 _ (by decide +kernel) fun t hf y => ?_
  blk_simp
  rw [after0_3, cond_block, grad_block, weight_block]
  exact (congrArg _ (funext fun a => match a with | 0 => rfl | 1 => rfl)).trans ((matrix_at _ _ _ (y 0) (y 1)).trans
    (at2 (Cert.Modulation.matrixGrad (X m c) (D m c)) (by simp; rfl) (by simp; rfl)).symm)

/-- The gradient of the bias that the call writes. -/
theorem final_bias : (dats m 0 c).arrAt 4 (cfgs 0).N = biasGrad (D m c) := by
  refine (dats m 0 c).arrAt_eq_of_covers 4 _ (by decide +kernel) fun t hf y => ?_
  blk_simp
  rw [after0_4, cond_block, grad_block, weight_block]
  have h0 : (y 0 : ℕ) = 0 := Nat.lt_one_iff.mp (y 0).isLt
  exact (congrArg _ (funext fun a => match a with | 0 => Fin.ext h0 | 1 => rfl)).trans ((bias_at _ _ _ (y 1)).trans
    (at2 (biasGrad (D m c)) (by simp; rfl) (by simp; rfl)).symm)

/-- The gradient of the conditioning that the call writes. -/
theorem final_cond : (dats m 0 c).arrAt 5 (cfgs 0).N = condGradBy kerStep (X m c) (D m c) (W m c) := by
  refine (dats m 0 c).arrAt_eq_of_covers 5 _ (by decide +kernel) fun t hf y => ?_
  blk_simp
  rw [after0_5, cond_block, grad_block, weight_block]
  exact (congrArg _ (funext fun a => match a with | 0 => rfl | 1 => rfl)).trans ((cond_at _ _ _ (y 0) (y 1)).trans
    (at2 (condGradBy kerStep (X m c) (D m c) (W m c)) (by simp; rfl) (by simp; rfl)).symm)

end Cert.ModulationGradIdeal.Value

end
-- ==== Proof.ModulationRef.lean ====
/- What the references of the modulation and of its gradients compute. -/
module

public import proofs.«01_k».proof.Proof.ModulationSpec
public import proofs.«01_k».proof.Proof.Gen.ModulationReferenceIdeal.Read
public import proofs.«01_k».proof.Proof.Gen.ModulationGradReferenceIdeal.Read
public import Idealize.ShloMosaic.Lib.Pointwise

@[expose] public section

set_option maxRecDepth 16384

noncomputable section

namespace Cert.ModulationReferenceIdeal.Value

open Cert.ModulationReferenceIdeal.Read Cert.ModulationReferenceIdeal Cert.ModulationReferenceIdeal.Gen Cert.Attention Cert.Product
open Cert.Merge Cert.Modulation Idealize.ShloMosaic Idealize.ShloMosaic.TcCoe

theorem gated_at (c : Arr2 16 1024) (y : S16x1024.Idx) : val_main_v0 (F := Ideal) c y = gatedEntry (c y) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  unfold gatedEntry sigmoid
  pointwise

/-- The reference's modulation. -/
theorem computes (c : Arr2 16 1024) (w : Arr2 1024 3072) (b : Arr2 1 3072) : val_main_v3 (F := Ideal) c w b = modulated c w b := by
  funext y
  rw [val_main_v3_apply, val_main_v1_apply, val_main_v2_apply]
  refine congrArg₂ (· + ·) (Finset.sum_congr rfl fun k _ => congrArg₂ (· * ·) ?_ (at2 w rfl rfl)) (at2 b rfl rfl)
  rw [gated_at]
  exact congrArg gatedEntry (at2 c rfl rfl)

end Cert.ModulationReferenceIdeal.Value

namespace Cert.ModulationGradReferenceIdeal.Value

open Cert.ModulationGradReferenceIdeal.Read Cert.ModulationGradReferenceIdeal Cert.ModulationGradReferenceIdeal.Gen Cert.Attention
open Cert.Product Cert.Merge Cert.Modulation Idealize.ShloMosaic Idealize.ShloMosaic.TcCoe

theorem sigmoid_at (c : Arr2 16 1024) (y : S16x1024.Idx) : val_main_v1_2 (F := Ideal) c y = sigmoid (c y) := by
  rw [val_main_v1_2_apply, val_main_call0_v4_apply, val_main_call0_cst_0_apply, val_main_call0_v3_apply,
    val_main_call0_v2_apply, val_main_call0_cst_apply, val_main_call0_v1_apply, val_main_call0_v0_apply]
  unfold sigmoid
  pointwise

theorem slope_at (c : Arr2 16 1024) (y : S16x1024.Idx) : val_main_v1_1 (F := Ideal) c y = sigmoid (c y) * (1 - sigmoid (c y)) := by
  rw [val_main_v1_1_apply, val_main_call0_v7_apply, val_main_call0_v6_apply, val_main_call0_cst_1_apply, sigmoid_at]
  pointwise

theorem gated_at (c : Arr2 16 1024) (y : S16x1024.Idx) : val_main_v1_0 (F := Ideal) c y = gatedEntry (c y) := by
  rw [val_main_v1_0_apply, sigmoid_at]
  rfl

theorem grad_at (g : Arr2 16 3072) (r : Fin 16) (n : Fin 3072) : val_main_v5 (F := Ideal) g (ix2 r n) = g (ix2 r n) := by
  rw [val_main_v5_apply]
  refine at2 g ?_ ?_ <;> simp <;> omega

/-- The reference's gradient of the matrix. -/
theorem computes_matrix (c : Arr2 16 1024) (g : Arr2 16 3072) : val_main_v9 (F := Ideal) c g = Cert.Modulation.matrixGrad c g := by
  funext y
  rw [val_main_v9_apply, val_main_v8_apply]
  refine Finset.sum_congr rfl fun r _ => ?_
  rw [mul_comm, gated_at]
  refine congrArg₂ (· * ·) (congrArg gatedEntry (at2 c rfl rfl)) ?_
  exact (at2 (val_main_v5 (F := Ideal) g) rfl rfl).trans (grad_at g r (y 1))

/-- The reference's gradient of the bias. -/
theorem computes_bias (g : Arr2 16 3072) : val_main_v7 (F := Ideal) g = biasGrad g := by
  funext y
  rw [val_main_v7_apply, val_main_v6_apply, val_main_cst_0_apply]
  refine (congrArg (· + _) ofBits_zero).trans ((zero_add _).trans (Finset.sum_congr rfl fun r _ => at2 g rfl ?_))
  simp
  omega

theorem product_at (g : Arr2 16 3072) (w : Arr2 1024 3072) (y : S16x1024.Idx) : val_main_v10 (F := Ideal) g w y = gatedGrad g w y := by
  rw [val_main_v10_apply]
  refine Finset.sum_congr rfl fun n _ => congrArg₂ (· * ·) ?_ (at2 w rfl rfl)
  exact (at2 (val_main_v5 (F := Ideal) g) rfl rfl).trans (grad_at g (y 0) n)

/-- The reference's gradient of the conditioning. -/
theorem computes_cond (c : Arr2 16 1024) (g : Arr2 16 3072) (w : Arr2 1024 3072) :
    val_main_v11 (F := Ideal) c g w = condGradBy refStep c g w := by
  funext y
  obtain ⟨r, k, rfl⟩ : ∃ (r : Fin 16) (k : Fin 1024), y = ix2 r k := ⟨y 0, y 1, funext fun a => match a with | 0 => rfl | 1 => rfl⟩
  rw [val_main_v11_apply, val_main_call1_v1_apply, val_main_call1_v2_apply, val_main_call1_v0_apply, sigmoid_at, slope_at, product_at]
  rfl

end Cert.ModulationGradReferenceIdeal.Value

end
-- ==== Proof.NormSpec.lean ====
/- The norm of every token and its modulation on ideal values. -/
module

public import proofs.«01_k».proof.Proof.MergeSpec

@[expose] public section

noncomputable section

namespace Cert.Norm

open Idealize.ShloMosaic Cert.Attention Cert.Product Cert.Merge

/-- The reciprocal of a row's root mean square, the literals being those of 1024 and of the small constant under the root. -/
def invRms (f : Fin 1024 → EReal) : EReal :=
  Ideal.rsqrt (Ideal.div (∑ j, f j * f j) (Ideal.ofBits .f32 0x44800000#32) + Ideal.ofBits .f32 0x358637BD#32)

/-- A row's entry, normed, weighted by `w`, scaled and shifted. -/
def rowNorm (f : Fin 1024 → EReal) (w scale shift : EReal) (n : Fin 1024) : EReal := f n * invRms f * w * (1 + scale) + shift

/-- The normed stream: a context token's scale and shift are the constant conditioning's row, a grid token's its sample's. -/
def normed (x : Arr3 2 4352 1024) (g : Arr2 1 1024) (s : Arr2 16 3072) : Arr3 2 4352 1024 := fun y =>
  rowNorm (fun j => x (ix3 (y 0) (y 1) j)) (g (ix2 0 (y 2)))
    (s (ix2 (modRow (y 0) (y 1)) ⟨1024 + (y 2 : Fin 1024).val, by have h : (y 2 : ℕ) < 1024 := (y 2).isLt; omega⟩))
    (s (ix2 (modRow (y 0) (y 1)) ⟨(y 2 : Fin 1024).val, by have h : (y 2 : ℕ) < 1024 := (y 2).isLt; omega⟩)) (y 2)

end Cert.Norm

end
-- ==== Proof.NormValue.lean ====
/- The call that norms and modulates the stream: its blocks and its result. -/
module

public import proofs.«01_k».proof.Proof.NormSpec
public import proofs.«01_k».proof.Proof.Gen.NormIdeal.Value
public import Idealize.ShloMosaic.Lib.Pipeline.ValueKit
public import Idealize.ShloMosaic.Lib.Pointwise

@[expose] public section

set_option maxRecDepth 16384

noncomputable section

namespace Cert.NormIdeal.Value

open Cert.NormIdeal Cert.NormIdeal.Gen Cert.Attention Cert.Product Cert.Merge Cert.Norm Idealize.ShloMosaic Idealize.ShloMosaic.TcCoe

theorem pay_at (x : Vec Ideal S1x256x1024 .f32) (g : Vec Ideal S1x1024 .f32) (a b : Vec Ideal S1x1x1x1024 .f32) (r : Fin 256) (n : Fin 1024) :
    k0_pay1 (F := Ideal) x g a b (ix3 0 r n)
      = rowNorm (fun j => x (ix3 0 r j)) (g (ix2 0 n)) (a (ix4 0 0 0 n)) (b (ix4 0 0 0 n)) n := by
  unfold rowNorm invRms
  unfold_payloads
  pointwise

theorem ld_scale (x : Vec Ideal S1x1x8x1024 .f32) (inb) (n : Fin 1024) :
    View.ld x (Rect.unit ![0, 0, 1, 0] ![1, 1, 1, 1024] inb) (ix4 0 0 0 n) = x (ix4 0 0 1 n) := by
  pointwise

theorem ld_shift (x : Vec Ideal S1x1x8x1024 .f32) (inb) (n : Fin 1024) :
    View.ld x (Rect.unit ![0, 0, 0, 0] ![1, 1, 1, 1024] inb) (ix4 0 0 0 n) = x (ix4 0 0 0 n) := by
  pointwise

variable (m : (ℓ : Loc nD τ sig) → Buf (Elt Ideal) ℓ) (c : Dev nD)

/-- The block each grid point takes of each window's array: the points run over the samples and their blocks of tokens. -/
theorem idx : ∀ t : Fin cfg0.N, win0_0.index t = ![t.val / 17, t.val % 17, 0] ∧ win0_1.index t = ![0, 0]
    ∧ win0_2.index t = ![t.val / 17, if t.val % 17 = 0 then 0 else 1, 0, 0]
    ∧ win0_3.index t = ![t.val / 17, t.val % 17, 0] ∧ t.val < 34 :=
  (by decide +kernel : ∀ t : Fin grid0.N, _)

/-- The call's arguments: the stream, the norm's weights and the modulation. -/
abbrev X : Arr3 2 4352 1024 := m ((c : Thread nD τ).loc main_arg0)
abbrev G : Arr2 1 1024 := m ((c : Thread nD τ).loc main_arg1)
abbrev S : Arr2 16 3072 := m ((c : Thread nD τ).loc main_arg2)

theorem shift_entry (b q : Fin 2) (n : Fin 1024) : (V m c main_v9 : Vec Ideal S2x2x8x1024 .f32) (ix4 b q 0 n)
    = S m c (ix2 (if q.val = 0 then 2 else ⟨b.val, by omega⟩) ⟨n.val, by omega⟩) := by
  simp only [V, hostOps0, hostOps0_1, List.flatten_cons, List.flatten_nil, List.append_nil, List.cons_append, List.nil_append]
  entry_read
  simp only [StableHlo.TRef.ofBuf, StableHlo.TRef.toBuf, cast_eq]
  pointwise
  by_cases h : q.val = 0
  · rw [dif_pos (by omega), if_pos h]
  · rw [dif_neg (by omega), if_neg h]

theorem scale_entry (b q : Fin 2) (n : Fin 1024) : (V m c main_v9 : Vec Ideal S2x2x8x1024 .f32) (ix4 b q 1 n)
    = S m c (ix2 (if q.val = 0 then 2 else ⟨b.val, by omega⟩) ⟨1024 + n.val, by omega⟩) := by
  simp only [V, hostOps0, hostOps0_1, List.flatten_cons, List.flatten_nil, List.append_nil, List.cons_append, List.nil_append]
  entry_read
  simp only [StableHlo.TRef.ofBuf, StableHlo.TRef.toBuf, cast_eq]
  pointwise
  by_cases h : q.val = 0
  · rw [dif_pos (by omega), if_pos h]
  · rw [dif_neg (by omega), if_neg h]

variable (t : Fin cfg0.N) (r : Fin 256) (b : Fin 2) (i : Fin 4352)

theorem x_at (j : Fin 1024) (hb : b.val = t.val / 17) (hi : i.val = 256 * (t.val % 17) + r.val) :
    (iblk m c 0 t : Vec Ideal S1x256x1024 .f32) (ix3 0 r j) = X m c (ix3 b i j) := by
  blk_ext [iblk, V, idx t]

theorem weight_at (n : Fin 1024) : (iblk m c 1 t : Vec Ideal S1x1024 .f32) (ix2 0 n) = G m c (ix2 0 n) := by
  blk_ext [iblk, V, idx t]

theorem mod_block (q : Fin 8) (n : Fin 1024) (hb : b.val = t.val / 17) : (iblk m c 2 t : Vec Ideal S1x1x8x1024 .f32) (ix4 0 0 q n)
      = (V m c main_v9 : Vec Ideal S2x2x8x1024 .f32) (ix4 b (if t.val % 17 = 0 then 0 else 1) q n) := by
  blk_ext [iblk, idx t]
  split_ifs <;> rfl

theorem row_eq (hb : b.val = t.val / 17) (hi : i.val = 256 * (t.val % 17) + r.val) :
    ((if ((if t.val % 17 = 0 then 0 else 1 : Fin 2)).val = 0 then 2 else ⟨b.val, by omega⟩ : Fin 16) : ℕ) = (modRow b i : ℕ) := by
  unfold modRow
  by_cases h0 : t.val % 17 = 0
  · rw [if_pos (by rw [if_pos h0]; rfl), if_pos (by omega)]
  · rw [if_neg (by rw [if_neg h0]; decide), if_neg (by omega)]

theorem scale_at (n : Fin 1024) (hb : b.val = t.val / 17) (hi : i.val = 256 * (t.val % 17) + r.val) :
    (iblk m c 2 t : Vec Ideal S1x1x8x1024 .f32) (ix4 0 0 1 n) = S m c (ix2 (modRow b i) ⟨1024 + n.val, by omega⟩) := by
  rw [mod_block m c t b 1 n hb, scale_entry]
  exact at2 (S m c) (row_eq t r b i hb hi) rfl

theorem shift_at (n : Fin 1024) (hb : b.val = t.val / 17) (hi : i.val = 256 * (t.val % 17) + r.val) :
    (iblk m c 2 t : Vec Ideal S1x1x8x1024 .f32) (ix4 0 0 0 n) = S m c (ix2 (modRow b i) ⟨n.val, by omega⟩) := by
  rw [mod_block m c t b 0 n hb, shift_entry]
  exact at2 (S m c) (row_eq t r b i hb hi) rfl

/-- A row that a point writes, by the whole arrays. -/
theorem row_at (n : Fin 1024) (hb : b.val = t.val / 17) (hi : i.val = 256 * (t.val % 17) + r.val) :
    out0_3 (iblk m c 0 t) (iblk m c 1 t) (iblk m c 2 t) (ix3 0 r n : S1x256x1024.Idx) = normed (X m c) (G m c) (S m c) (ix3 b i n) := by
  frame_out
  rw [pay_at, ld_scale, ld_shift, scale_at m c t r b i n hb hi, shift_at m c t r b i n hb hi, weight_at]
  unfold normed
  refine congrArg (fun f => rowNorm f _ _ _ n) (funext fun j => x_at m c t r b i j hb hi)

theorem outs_at (y : S1x256x1024.Idx) (z : S2x4352x1024.Idx) (h0 : (z 0 : ℕ) = t.val / 17)
    (h1 : (z 1 : ℕ) = 256 * (t.val % 17) + (y 1 : ℕ)) (h2 : (z 2 : ℕ) = (y 2 : ℕ)) :
    out0_3 (iblk m c 0 t) (iblk m c 1 t) (iblk m c 2 t) y = normed (X m c) (G m c) (S m c) z := by
  obtain ⟨r, n, rfl⟩ : ∃ (r : Fin 256) (n : Fin 1024), y = ix3 0 r n :=
    ⟨y 1, y 2, funext fun a => match a with | 0 => Subsingleton.elim (α := Fin 1) _ _ | 1 => rfl | 2 => rfl⟩
  obtain ⟨b, i, k, rfl⟩ : ∃ (b : Fin 2) (i : Fin 4352) (k : Fin 1024), z = ix3 b i k :=
    ⟨z 0, z 1, z 2, funext fun a => match a with | 0 => rfl | 1 => rfl | 2 => rfl⟩
  obtain rfl : k = n := Fin.ext h2
  exact row_at m c t r b i k h0 h1

/-- The normed stream that the call writes. -/
theorem final : (dats m 0 c).arrAt 3 (cfgs 0).N = normed (X m c) (G m c) (S m c) := by
  refine (dats m 0 c).arrAt_eq_of_covers 3 _ (by decide +kernel) fun t hf y => ?_
  blk_simp
  rw [after0_3]
  refine outs_at m c t y _ ?_ ?_ ?_ <;> blk_simp [idx t] <;> idx_bounds <;> try omega

end Cert.NormIdeal.Value

end
-- ==== Proof.NormRef.lean ====
/- What the reference of the norm computes. -/
module

public import proofs.«01_k».proof.Proof.NormSpec
public import proofs.«01_k».proof.Proof.Softmax
public import proofs.«01_k».proof.Proof.Gen.NormReferenceIdeal.Read
public import Idealize.ShloMosaic.Lib.Pointwise

@[expose] public section

set_option maxRecDepth 16384

noncomputable section

namespace Cert.NormReferenceIdeal.Value

open Cert.NormReferenceIdeal.Read Cert.NormReferenceIdeal Cert.NormReferenceIdeal.Gen Cert.Attention Cert.Product Cert.Merge Cert.Norm
open Idealize.ShloMosaic Idealize.ShloMosaic.TcCoe

variable (x : Arr3 2 4352 1024) (g : Arr2 1 1024) (s : Arr2 16 3072) (b : Fin 2)

/-- The literal of one denotes one. -/
theorem literal_one : Ideal.ofBits .f32 0x3F800000#32 = 1 := by
  simp [Ideal.ofBits, Ideal.ieee]
  rw [← EReal.coe_mul, ← EReal.coe_one]
  norm_num

theorem square_ctx (r : Fin 256) (j : Fin 1024) : val_main_v7 (F := Ideal) x (ix3 b r j)
    = x (ix3 b ⟨r.val, by omega⟩ j) * x (ix3 b ⟨r.val, by omega⟩ j) := by
  rw [val_main_v7_apply, val_main_v6_apply]
  exact congrArg₂ (· * ·) (at3 x rfl rfl rfl) (at3 x rfl rfl rfl)

theorem sum_ctx (r : Fin 256) : val_main_v8 (F := Ideal) x (ix2 b r)
    = ∑ j : Fin 1024, x (ix3 b ⟨r.val, by omega⟩ j) * x (ix3 b ⟨r.val, by omega⟩ j) := by
  rw [val_main_v8_apply, val_main_cst_apply]
  exact (congrArg (· + _) ofBits_zero).trans ((zero_add _).trans (Finset.sum_congr rfl fun j _ =>
    (at3 (x := idx_main_v8 (ix2 b r) j) (y := ix3 b r j) (val_main_v7 (F := Ideal) x) rfl rfl rfl).trans (square_ctx x b r j)))

theorem inv_ctx (r : Fin 256) : val_main_v14 (F := Ideal) x (ix3 b r 0) = invRms fun j => x (ix3 b ⟨r.val, by omega⟩ j) := by
  rw [val_main_v14_apply, val_main_v13_apply, val_main_v12_apply, val_main_cst_1_apply, val_main_v11_apply, val_main_v10_apply,
    val_main_cst_0_apply, val_main_v9_apply]
  have h := (at2 (j := idx_main_v9 (ix3 b r 0)) (val_main_v8 (F := Ideal) x) rfl rfl).trans (sum_ctx x b r)
  rw [h]
  unfold invRms
  pointwise

/-- The reference's rows of the context. -/
theorem context_at (r : Fin 256) (n : Fin 1024) : val_main_v27 (F := Ideal) x g s (ix3 b r n)
    = rowNorm (fun j => x (ix3 b ⟨r.val, by omega⟩ j)) (g (ix2 0 n)) (s (ix2 2 ⟨1024 + n.val, by omega⟩)) (s (ix2 2 ⟨n.val, by omega⟩)) n := by
  rw [val_main_v27_apply, val_main_v26_apply, val_main_v25_apply, val_main_v1_apply, val_main_v0_apply, val_main_v24_apply,
    val_main_v23_apply, val_main_v22_apply, val_main_v21_apply, val_main_v20_apply, val_main_cst_2_apply, val_main_v3_apply,
    val_main_v2_apply, val_main_v19_apply, val_main_v18_apply, val_main_v17_apply, val_main_v16_apply, val_main_v15_apply, val_main_v6_apply]
  unfold rowNorm
  refine congrArg₂ (· + ·) (congrArg₂ (· * ·) (congrArg₂ (· * ·) (congrArg₂ (· * ·) (at3 x rfl rfl rfl) ?_) (at2 g ?_ ?_))
    (congrArg₂ (· + ·) literal_one (at2 s ?_ ?_))) (at2 s ?_ ?_)
  · exact (at3 (x := idx_main_v15 (ix3 b r n)) (y := ix3 b r 0) (val_main_v14 (F := Ideal) x) rfl rfl rfl).trans (inv_ctx x b r)
  all_goals simp

theorem square_grid (r : Fin 4096) (j : Fin 1024) : val_main_v29 (F := Ideal) x (ix3 b r j)
    = x (ix3 b ⟨256 + r.val, by omega⟩ j) * x (ix3 b ⟨256 + r.val, by omega⟩ j) := by
  rw [val_main_v29_apply, val_main_v28_apply]
  exact congrArg₂ (· * ·) (at3 x rfl rfl rfl) (at3 x rfl rfl rfl)

theorem sum_grid (r : Fin 4096) : val_main_v30 (F := Ideal) x (ix2 b r)
    = ∑ j : Fin 1024, x (ix3 b ⟨256 + r.val, by omega⟩ j) * x (ix3 b ⟨256 + r.val, by omega⟩ j) := by
  rw [val_main_v30_apply, val_main_cst_3_apply]
  exact (congrArg (· + _) ofBits_zero).trans ((zero_add _).trans (Finset.sum_congr rfl fun j _ =>
    (at3 (x := idx_main_v30 (ix2 b r) j) (y := ix3 b r j) (val_main_v29 (F := Ideal) x) rfl rfl rfl).trans (square_grid x b r j)))

theorem inv_grid (r : Fin 4096) : val_main_v36 (F := Ideal) x (ix3 b r 0) = invRms fun j => x (ix3 b ⟨256 + r.val, by omega⟩ j) := by
  rw [val_main_v36_apply, val_main_v35_apply, val_main_v34_apply, val_main_cst_5_apply, val_main_v33_apply, val_main_v32_apply,
    val_main_cst_4_apply, val_main_v31_apply]
  have h := (at2 (j := idx_main_v31 (ix3 b r 0)) (val_main_v30 (F := Ideal) x) rfl rfl).trans (sum_grid x b r)
  rw [h]
  unfold invRms
  pointwise

/-- The reference's rows of the grid. -/
theorem grid_at (r : Fin 4096) (n : Fin 1024) : val_main_v49 (F := Ideal) x g s (ix3 b r n)
    = rowNorm (fun j => x (ix3 b ⟨256 + r.val, by omega⟩ j)) (g (ix2 0 n)) (s (ix2 ⟨b.val, by omega⟩ ⟨1024 + n.val, by omega⟩))
        (s (ix2 ⟨b.val, by omega⟩ ⟨n.val, by omega⟩)) n := by
  rw [val_main_v49_apply, val_main_v48_apply, val_main_v47_apply, val_main_v4_apply, val_main_v46_apply, val_main_v45_apply,
    val_main_v44_apply, val_main_v43_apply, val_main_cst_6_apply, val_main_v42_apply, val_main_v5_apply, val_main_v41_apply,
    val_main_v40_apply, val_main_v39_apply, val_main_v38_apply, val_main_v37_apply, val_main_v28_apply]
  unfold rowNorm
  refine congrArg₂ (· + ·) (congrArg₂ (· * ·) (congrArg₂ (· * ·) (congrArg₂ (· * ·) (at3 x rfl rfl rfl) ?_) (at2 g ?_ ?_))
    (congrArg₂ (· + ·) literal_one (at2 s ?_ ?_))) (at2 s ?_ ?_)
  · exact (at3 (x := idx_main_v37 (ix3 b r n)) (y := ix3 b r 0) (val_main_v36 (F := Ideal) x) rfl rfl rfl).trans (inv_grid x b r)
  all_goals simp

/-- The reference's normed stream. -/
theorem computes : val_main_v51 (F := Ideal) x g s = normed x g s := by
  funext y
  obtain ⟨b, i, n, rfl⟩ : ∃ (b : Fin 2) (i : Fin 4352) (n : Fin 1024), y = ix3 b i n :=
    ⟨y 0, y 1, y 2, funext fun a => match a with | 0 => rfl | 1 => rfl | 2 => rfl⟩
  rw [val_main_v51_apply]
  unfold val_main_v50 normed
  pointwise
  unfold modRow
  by_cases h : i.val < 256
  · rw [dif_pos h, if_pos h, context_at]
  · rw [dif_neg h, if_neg h, grid_at]
    have e : (⟨256 + (⟨i.val - 256, by omega⟩ : Fin 4096).val, by show 256 + (i.val - 256) < 4352; omega⟩ : Fin 4352) = i :=
      Fin.ext (by show 256 + (i.val - 256) = i.val; omega)
    rw [e]

end Cert.NormReferenceIdeal.Value

end
-- ==== Proof.AdamSpec.lean ====
/- One step of the optimiser on ideal values, entry by entry. -/
module

public import proofs.«01_k».proof.Proof.Product

@[expose] public section

noncomputable section

namespace Cert.Adam

open Idealize.ShloMosaic

/-- The new first moment, from the old one and the gradient; the literals are those of the decay 0.9 and of what it leaves. -/
def newM (m g : EReal) : EReal := Ideal.ofBits .f32 0x3F666666#32 * m + Ideal.ofBits .f32 0x3DCCCCCD#32 * g

/-- The new second moment, with the decay 0.999. -/
def newV (v g : EReal) : EReal := Ideal.ofBits .f32 0x3F7FBE77#32 * v + Ideal.ofBits .f32 0x3A83126F#32 * (g * g)

/-- The change of a weight: the corrected first moment over the root of the corrected second, with the weight's decay, times the rate. -/
def delta (w g m v : EReal) : EReal :=
  Ideal.ofBits .f32 0xBA83126F#32
    * (Ideal.div (Ideal.div (newM m g) (Ideal.ofBits .f32 0x3F26BD02#32))
        (Ideal.sqrt (Ideal.div (newV v g) (Ideal.ofBits .f32 0x3C231ACC#32)) + Ideal.ofBits .f32 0x322BCC77#32)
      + Ideal.ofBits .f32 0x3C23D70A#32 * w)

end Cert.Adam

end
-- ==== Proof.AdamInValue.lean ====
/- The optimiser's call on the projection's matrix: its blocks, its three results, and the reference's. -/
module

public import proofs.«01_k».proof.Proof.AdamSpec
public import proofs.«01_k».proof.Proof.Gen.AdamInIdeal.Value
public import proofs.«01_k».proof.Proof.Gen.AdamInReferenceIdeal.Read
public import Idealize.ShloMosaic.Lib.Pipeline.ValueKit
public import Idealize.ShloMosaic.Lib.Pointwise

@[expose] public section

set_option maxRecDepth 16384

noncomputable section

namespace Cert.AdamInIdeal.Value

open Cert.AdamInIdeal Cert.AdamInIdeal.Gen Cert.Attention Cert.Product Cert.Adam Idealize.ShloMosaic Idealize.ShloMosaic.TcCoe

theorem pay_m (g a : Vec Ideal S64x2560 .f32) (y : S64x2560.Idx) : k0_pay2 (F := Ideal) g a y = newM (a y) (g y) := by
  rw [show y = ix2 (y 0) (y 1) from funext fun a => match a with | 0 => rfl | 1 => rfl]
  unfold newM
  unfold_payloads
  pointwise

theorem pay_v (g a : Vec Ideal S64x2560 .f32) (y : S64x2560.Idx) : k0_pay3 (F := Ideal) g a y = newV (a y) (g y) := by
  rw [show y = ix2 (y 0) (y 1) from funext fun a => match a with | 0 => rfl | 1 => rfl]
  unfold newV
  unfold_payloads
  pointwise

theorem pay_d (g a v w : Vec Ideal S64x2560 .f32) (y : S64x2560.Idx) : k0_pay4 (F := Ideal) g a v w y = delta (w y) (g y) (a y) (v y) := by
  rw [show y = ix2 (y 0) (y 1) from funext fun a => match a with | 0 => rfl | 1 => rfl]
  unfold delta newM newV
  unfold_payloads
  pointwise

/-- The block each grid point takes of each window's array: the points run over the blocks of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 64 :=
  (by decide +kernel : ∀ t : Fin grid0.N, _)

variable (m : (ℓ : Loc nD τ sig) → Buf (Elt Ideal) ℓ) (c : Dev nD)

/-- The call's arguments, with their leading axes joined: the weight, its gradient and its two moments. -/
abbrev W : Arr2 4096 2560 := shapeCast S4096x2560 (m ((c : Thread nD τ).loc main_arg0) : Vec Ideal S4x1024x2560 .f32) shapeCasts_S4x1024x2560_S4096x2560
abbrev G : Arr2 4096 2560 := shapeCast S4096x2560 (m ((c : Thread nD τ).loc main_arg1) : Vec Ideal S4x1024x2560 .f32) shapeCasts_S4x1024x2560_S4096x2560
abbrev M : Arr2 4096 2560 := shapeCast S4096x2560 (m ((c : Thread nD τ).loc main_arg2) : Vec Ideal S4x1024x2560 .f32) shapeCasts_S4x1024x2560_S4096x2560
abbrev S : Arr2 4096 2560 := shapeCast S4096x2560 (m ((c : Thread nD τ).loc main_arg3) : Vec Ideal S4x1024x2560 .f32) shapeCasts_S4x1024x2560_S4096x2560

theorem w_entry : (V m c main_v0 : Vec Ideal S4096x2560 .f32) = W m c := by entry_read; rfl
theorem g_entry : (V m c main_v1 : Vec Ideal S4096x2560 .f32) = G m c := by entry_read; rfl
theorem m_entry : (V m c main_v2 : Vec Ideal S4096x2560 .f32) = M m c := by entry_read; rfl
theorem s_entry : (V m c main_v3 : Vec Ideal S4096x2560 .f32) = S m c := by entry_read; rfl

section Block

variable (t : Fin cfg0.N) (y : S64x2560.Idx) (z : S4096x2560.Idx) (h0 : (z 0 : ℕ) = 64 * t.val + (y 0 : ℕ)) (h1 : (z 1 : ℕ) = (y 1 : ℕ))

include h0 h1

theorem w_at : (iblk m c 0 t : Vec Ideal S64x2560 .f32) y = W m c z := by
  rw [← w_entry]
  blk_ext [iblk, idx t]

theorem g_at : (iblk m c 1 t : Vec Ideal S64x2560 .f32) y = G m c z := by
  rw [← g_entry]
  blk_ext [iblk, idx t]

theorem m_at : (iblk m c 2 t : Vec Ideal S64x2560 .f32) y = M m c z := by
  rw [← m_entry]
  blk_ext [iblk, idx t]

theorem s_at : (iblk m c 3 t : Vec Ideal S64x2560 .f32) y = S m c z := by
  rw [← s_entry]
  blk_ext [iblk, idx t]

theorem delta_at : out0_4 (iblk m c 0 t) (iblk m c 1 t) (iblk m c 2 t) (iblk m c 3 t) y = delta (W m c z) (G m c z) (M m c z) (S m c z) := by
  frame_out
  rw [pay_d, w_at m c t y z h0 h1, g_at m c t y z h0 h1, m_at m c t y z h0 h1, s_at m c t y z h0 h1]

theorem newM_at : out0_5 (iblk m c 0 t) (iblk m c 1 t) (iblk m c 2 t) (iblk m c 3 t) y = newM (M m c z) (G m c z) := by
  frame_out
  rw [pay_m, g_at m c t y z h0 h1, m_at m c t y z h0 h1]

theorem newV_at : out0_6 (iblk m c 0 t) (iblk m c 1 t) (iblk m c 2 t) (iblk m c 3 t) y = newV (S m c z) (G m c z) := by
  frame_out
  rw [pay_v, g_at m c t y z h0 h1, s_at m c t y z h0 h1]

end Block

/-- The change of the weight that the call writes. -/
theorem final_delta : (dats m 0 c).arrAt 4 (cfgs 0).N = fun z : S4096x2560.Idx => delta (W m c z) (G m c z) (M m c z) (S m c z) := by
  refine (dats m 0 c).arrAt_eq_of_covers 4 _ (by decide +kernel) fun t hf y => ?_
  blk_simp
  rw [after0_4]
  refine delta_at m c t y _ ?_ ?_ <;> blk_simp [idx t] <;> idx_bounds <;> try omega

/-- The new first moment that the call writes. -/
theorem final_newM : (dats m 0 c).arrAt 5 (cfgs 0).N = fun z : S4096x2560.Idx => newM (M m c z) (G m c z) := by
  refine (dats m 0 c).arrAt_eq_of_covers 5 _ (by decide +kernel) fun t hf y => ?_
  blk_simp
  rw [after0_5]
  refine newM_at m c t y _ ?_ ?_ <;> blk_simp [idx t] <;> idx_bounds <;> try omega

/-- The new second moment that the call writes. -/
theorem final_newV : (dats m 0 c).arrAt 6 (cfgs 0).N = fun z : S4096x2560.Idx => newV (S m c z) (G m c z) := by
  refine (dats m 0 c).arrAt_eq_of_covers 6 _ (by decide +kernel) fun t hf y => ?_
  blk_simp
  rw [after0_6]
  refine newV_at m c t y _ ?_ ?_ <;> blk_simp [idx t] <;> idx_bounds <;> try omega

end Cert.AdamInIdeal.Value

namespace Cert.AdamInReferenceIdeal.Value

open Cert.AdamInReferenceIdeal.Read Cert.AdamInReferenceIdeal Cert.AdamInReferenceIdeal.Gen Cert.Product Cert.Adam Idealize.ShloMosaic

variable (w g m v : Vec Ideal S4x1024x2560 .f32)

/-- The reference's arrays, with their leading axes joined. -/
abbrev flat (x : Vec Ideal S4x1024x2560 .f32) : Arr2 4096 2560 := shapeCast S4096x2560 x shapeCasts_S4x1024x2560_S4096x2560

theorem computes_delta : val_main_v24 (F := Ideal) w g m v = fun z => delta (flat w z) (flat g z) (flat m z) (flat v z) := rfl
theorem computes_newM : val_main_v25 (F := Ideal) g m = fun z => newM (flat m z) (flat g z) := rfl
theorem computes_newV : val_main_v26 (F := Ideal) g v = fun z => newV (flat v z) (flat g z) := rfl

end Cert.AdamInReferenceIdeal.Value

end
-- ==== Proof.AdamModValue.lean ====
/- The optimiser's call on the modulation's matrix: its blocks, its three results, and the reference's. -/
module

public import proofs.«01_k».proof.Proof.AdamSpec
public import proofs.«01_k».proof.Proof.Gen.AdamModIdeal.Value
public import proofs.«01_k».proof.Proof.Gen.AdamModReferenceIdeal.Read
public import Idealize.ShloMosaic.Lib.Pipeline.ValueKit
public import Idealize.ShloMosaic.Lib.Pointwise

@[expose] public section

set_option maxRecDepth 16384

noncomputable section

namespace Cert.AdamModIdeal.Value

open Cert.AdamModIdeal Cert.AdamModIdeal.Gen Cert.Attention Cert.Product Cert.Adam Idealize.ShloMosaic Idealize.ShloMosaic.TcCoe

theorem pay_m (g a : Vec Ideal S256x768 .f32) (y : S256x768.Idx) : k0_pay2 (F := Ideal) g a y = newM (a y) (g y) := by
  rw [show y = ix2 (y 0) (y 1) from funext fun a => match a with | 0 => rfl | 1 => rfl]
  unfold newM
  unfold_payloads
  pointwise

theorem pay_v (g a : Vec Ideal S256x768 .f32) (y : S256x768.Idx) : k0_pay3 (F := Ideal) g a y = newV (a y) (g y) := by
  rw [show y = ix2 (y 0) (y 1) from funext fun a => match a with | 0 => rfl | 1 => rfl]
  unfold newV
  unfold_payloads
  pointwise

theorem pay_d (g a v w : Vec Ideal S256x768 .f32) (y : S256x768.Idx) : k0_pay4 (F := Ideal) g a v w y = delta (w y) (g y) (a y) (v y) := by
  rw [show y = ix2 (y 0) (y 1) from funext fun a => match a with | 0 => rfl | 1 => rfl]
  unfold delta newM newV
  unfold_payloads
  pointwise

/-- The block each grid point takes of each window's array: the points run over the blocks of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 16 :=
  (by decide +kernel : ∀ t : Fin grid0.N, _)

variable (m : (ℓ : Loc nD τ sig) → Buf (Elt Ideal) ℓ) (c : Dev nD)

/-- The call's arguments, with their leading axes joined: the weight, its gradient and its two moments. -/
abbrev W : Arr2 4096 768 := shapeCast S4096x768 (m ((c : Thread nD τ).loc main_arg0) : Vec Ideal S4x1024x768 .f32) shapeCasts_S4x1024x768_S4096x768
abbrev G : Arr2 4096 768 := shapeCast S4096x768 (m ((c : Thread nD τ).loc main_arg1) : Vec Ideal S4x1024x768 .f32) shapeCasts_S4x1024x768_S4096x768
abbrev M : Arr2 4096 768 := shapeCast S4096x768 (m ((c : Thread nD τ).loc main_arg2) : Vec Ideal S4x1024x768 .f32) shapeCasts_S4x1024x768_S4096x768
abbrev S : Arr2 4096 768 := shapeCast S4096x768 (m ((c : Thread nD τ).loc main_arg3) : Vec Ideal S4x1024x768 .f32) shapeCasts_S4x1024x768_S4096x768

theorem w_entry : (V m c main_v0 : Vec Ideal S4096x768 .f32) = W m c := by entry_read; rfl
theorem g_entry : (V m c main_v1 : Vec Ideal S4096x768 .f32) = G m c := by entry_read; rfl
theorem m_entry : (V m c main_v2 : Vec Ideal S4096x768 .f32) = M m c := by entry_read; rfl
theorem s_entry : (V m c main_v3 : Vec Ideal S4096x768 .f32) = S m c := by entry_read; rfl

section Block

variable (t : Fin cfg0.N) (y : S256x768.Idx) (z : S4096x768.Idx) (h0 : (z 0 : ℕ) = 256 * t.val + (y 0 : ℕ)) (h1 : (z 1 : ℕ) = (y 1 : ℕ))

include h0 h1

theorem w_at : (iblk m c 0 t : Vec Ideal S256x768 .f32) y = W m c z := by
  rw [← w_entry]
  blk_ext [iblk, idx t]

theorem g_at : (iblk m c 1 t : Vec Ideal S256x768 .f32) y = G m c z := by
  rw [← g_entry]
  blk_ext [iblk, idx t]

theorem m_at : (iblk m c 2 t : Vec Ideal S256x768 .f32) y = M m c z := by
  rw [← m_entry]
  blk_ext [iblk, idx t]

theorem s_at : (iblk m c 3 t : Vec Ideal S256x768 .f32) y = S m c z := by
  rw [← s_entry]
  blk_ext [iblk, idx t]

theorem delta_at : out0_4 (iblk m c 0 t) (iblk m c 1 t) (iblk m c 2 t) (iblk m c 3 t) y = delta (W m c z) (G m c z) (M m c z) (S m c z) := by
  frame_out
  rw [pay_d, w_at m c t y z h0 h1, g_at m c t y z h0 h1, m_at m c t y z h0 h1, s_at m c t y z h0 h1]

theorem newM_at : out0_5 (iblk m c 0 t) (iblk m c 1 t) (iblk m c 2 t) (iblk m c 3 t) y = newM (M m c z) (G m c z) := by
  frame_out
  rw [pay_m, g_at m c t y z h0 h1, m_at m c t y z h0 h1]

theorem newV_at : out0_6 (iblk m c 0 t) (iblk m c 1 t) (iblk m c 2 t) (iblk m c 3 t) y = newV (S m c z) (G m c z) := by
  frame_out
  rw [pay_v, g_at m c t y z h0 h1, s_at m c t y z h0 h1]

end Block

/-- The change of the weight that the call writes. -/
theorem final_delta : (dats m 0 c).arrAt 4 (cfgs 0).N = fun z : S4096x768.Idx => delta (W m c z) (G m c z) (M m c z) (S m c z) := by
  refine (dats m 0 c).arrAt_eq_of_covers 4 _ (by decide +kernel) fun t hf y => ?_
  blk_simp
  rw [after0_4]
  refine delta_at m c t y _ ?_ ?_ <;> blk_simp [idx t] <;> idx_bounds <;> try omega

/-- The new first moment that the call writes. -/
theorem final_newM : (dats m 0 c).arrAt 5 (cfgs 0).N = fun z : S4096x768.Idx => newM (M m c z) (G m c z) := by
  refine (dats m 0 c).arrAt_eq_of_covers 5 _ (by decide +kernel) fun t hf y => ?_
  blk_simp
  rw [after0_5]
  refine newM_at m c t y _ ?_ ?_ <;> blk_simp [idx t] <;> idx_bounds <;> try omega

/-- The new second moment that the call writes. -/
theorem final_newV : (dats m 0 c).arrAt 6 (cfgs 0).N = fun z : S4096x768.Idx => newV (S m c z) (G m c z) := by
  refine (dats m 0 c).arrAt_eq_of_covers 6 _ (by decide +kernel) fun t hf y => ?_
  blk_simp
  rw [after0_6]
  refine newV_at m c t y _ ?_ ?_ <;> blk_simp [idx t] <;> idx_bounds <;> try omega

end Cert.AdamModIdeal.Value

namespace Cert.AdamModReferenceIdeal.Value

open Cert.AdamModReferenceIdeal.Read Cert.AdamModReferenceIdeal Cert.AdamModReferenceIdeal.Gen Cert.Product Cert.Adam Idealize.ShloMosaic

variable (w g m v : Vec Ideal S4x1024x768 .f32)

/-- The reference's arrays, with their leading axes joined. -/
abbrev flat (x : Vec Ideal S4x1024x768 .f32) : Arr2 4096 768 := shapeCast S4096x768 x shapeCasts_S4x1024x768_S4096x768

theorem computes_delta : val_main_v24 (F := Ideal) w g m v = fun z => delta (flat w z) (flat g z) (flat m z) (flat v z) := rfl
theorem computes_newM : val_main_v25 (F := Ideal) g m = fun z => newM (flat m z) (flat g z) := rfl
theorem computes_newV : val_main_v26 (F := Ideal) g v = fun z => newV (flat v z) (flat g z) := rfl

end Cert.AdamModReferenceIdeal.Value

end
-- ==== Proof.AdamBranchValue.lean ====
/- The optimiser's call on the merge's branch matrices: its blocks, its three results, and the reference's. -/
module

public import proofs.«01_k».proof.Proof.AdamSpec
public import proofs.«01_k».proof.Proof.Gen.AdamBranchIdeal.Value
public import proofs.«01_k».proof.Proof.Gen.AdamBranchReferenceIdeal.Read
public import Idealize.ShloMosaic.Lib.Pipeline.ValueKit
public import Idealize.ShloMosaic.Lib.Pointwise

@[expose] public section

set_option maxRecDepth 16384

noncomputable section

namespace Cert.AdamBranchIdeal.Value

open Cert.AdamBranchIdeal Cert.AdamBranchIdeal.Gen Cert.Attention Cert.Product Cert.Adam Idealize.ShloMosaic Idealize.ShloMosaic.TcCoe

theorem pay_m (g a : Vec Ideal S192x1024 .f32) (y : S192x1024.Idx) : k0_pay2 (F := Ideal) g a y = newM (a y) (g y) := by
  rw [show y = ix2 (y 0) (y 1) from funext fun a => match a with | 0 => rfl | 1 => rfl]
  unfold newM
  unfold_payloads
  pointwise

theorem pay_v (g a : Vec Ideal S192x1024 .f32) (y : S192x1024.Idx) : k0_pay3 (F := Ideal) g a y = newV (a y) (g y) := by
  rw [show y = ix2 (y 0) (y 1) from funext fun a => match a with | 0 => rfl | 1 => rfl]
  unfold newV
  unfold_payloads
  pointwise

theorem pay_d (g a v w : Vec Ideal S192x1024 .f32) (y : S192x1024.Idx) : k0_pay4 (F := Ideal) g a v w y = delta (w y) (g y) (a y) (v y) := by
  rw [show y = ix2 (y 0) (y 1) from funext fun a => match a with | 0 => rfl | 1 => rfl]
  unfold delta newM newV
  unfold_payloads
  pointwise

/-- The block each grid point takes of each window's array: the points run over the blocks of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 16 :=
  (by decide +kernel : ∀ t : Fin grid0.N, _)

variable (m : (ℓ : Loc nD τ sig) → Buf (Elt Ideal) ℓ) (c : Dev nD)

/-- The call's arguments, with their leading axes joined: the weight, its gradient and its two moments. -/
abbrev W : Arr2 3072 1024 := shapeCast S3072x1024 (m ((c : Thread nD τ).loc main_arg0) : Vec Ideal S4x3x256x1024 .f32) shapeCasts_S4x3x256x1024_S3072x1024
abbrev G : Arr2 3072 1024 := shapeCast S3072x1024 (m ((c : Thread nD τ).loc main_arg1) : Vec Ideal S4x3x256x1024 .f32) shapeCasts_S4x3x256x1024_S3072x1024
abbrev M : Arr2 3072 1024 := shapeCast S3072x1024 (m ((c : Thread nD τ).loc main_arg2) : Vec Ideal S4x3x256x1024 .f32) shapeCasts_S4x3x256x1024_S3072x1024
abbrev S : Arr2 3072 1024 := shapeCast S3072x1024 (m ((c : Thread nD τ).loc main_arg3) : Vec Ideal S4x3x256x1024 .f32) shapeCasts_S4x3x256x1024_S3072x1024

theorem w_entry : (V m c main_v0 : Vec Ideal S3072x1024 .f32) = W m c := by entry_read; rfl
theorem g_entry : (V m c main_v1 : Vec Ideal S3072x1024 .f32) = G m c := by entry_read; rfl
theorem m_entry : (V m c main_v2 : Vec Ideal S3072x1024 .f32) = M m c := by entry_read; rfl
theorem s_entry : (V m c main_v3 : Vec Ideal S3072x1024 .f32) = S m c := by entry_read; rfl

section Block

variable (t : Fin cfg0.N) (y : S192x1024.Idx) (z : S3072x1024.Idx) (h0 : (z 0 : ℕ) = 192 * t.val + (y 0 : ℕ)) (h1 : (z 1 : ℕ) = (y 1 : ℕ))

include h0 h1

theorem w_at : (iblk m c 0 t : Vec Ideal S192x1024 .f32) y = W m c z := by
  rw [← w_entry]
  blk_ext [iblk, idx t]

theorem g_at : (iblk m c 1 t : Vec Ideal S192x1024 .f32) y = G m c z := by
  rw [← g_entry]
  blk_ext [iblk, idx t]

theorem m_at : (iblk m c 2 t : Vec Ideal S192x1024 .f32) y = M m c z := by
  rw [← m_entry]
  blk_ext [iblk, idx t]

theorem s_at : (iblk m c 3 t : Vec Ideal S192x1024 .f32) y = S m c z := by
  rw [← s_entry]
  blk_ext [iblk, idx t]

theorem delta_at : out0_4 (iblk m c 0 t) (iblk m c 1 t) (iblk m c 2 t) (iblk m c 3 t) y = delta (W m c z) (G m c z) (M m c z) (S m c z) := by
  frame_out
  rw [pay_d, w_at m c t y z h0 h1, g_at m c t y z h0 h1, m_at m c t y z h0 h1, s_at m c t y z h0 h1]

theorem newM_at : out0_5 (iblk m c 0 t) (iblk m c 1 t) (iblk m c 2 t) (iblk m c 3 t) y = newM (M m c z) (G m c z) := by
  frame_out
  rw [pay_m, g_at m c t y z h0 h1, m_at m c t y z h0 h1]

theorem newV_at : out0_6 (iblk m c 0 t) (iblk m c 1 t) (iblk m c 2 t) (iblk m c 3 t) y = newV (S m c z) (G m c z) := by
  frame_out
  rw [pay_v, g_at m c t y z h0 h1, s_at m c t y z h0 h1]

end Block

/-- The change of the weight that the call writes. -/
theorem final_delta : (dats m 0 c).arrAt 4 (cfgs 0).N = fun z : S3072x1024.Idx => delta (W m c z) (G m c z) (M m c z) (S m c z) := by
  refine (dats m 0 c).arrAt_eq_of_covers 4 _ (by decide +kernel) fun t hf y => ?_
  blk_simp
  rw [after0_4]
  refine delta_at m c t y _ ?_ ?_ <;> blk_simp [idx t] <;> idx_bounds <;> try omega

/-- The new first moment that the call writes. -/
theorem final_newM : (dats m 0 c).arrAt 5 (cfgs 0).N = fun z : S3072x1024.Idx => newM (M m c z) (G m c z) := by
  refine (dats m 0 c).arrAt_eq_of_covers 5 _ (by decide +kernel) fun t hf y => ?_
  blk_simp
  rw [after0_5]
  refine newM_at m c t y _ ?_ ?_ <;> blk_simp [idx t] <;> idx_bounds <;> try omega

/-- The new second moment that the call writes. -/
theorem final_newV : (dats m 0 c).arrAt 6 (cfgs 0).N = fun z : S3072x1024.Idx => newV (S m c z) (G m c z) := by
  refine (dats m 0 c).arrAt_eq_of_covers 6 _ (by decide +kernel) fun t hf y => ?_
  blk_simp
  rw [after0_6]
  refine newV_at m c t y _ ?_ ?_ <;> blk_simp [idx t] <;> idx_bounds <;> try omega

end Cert.AdamBranchIdeal.Value

namespace Cert.AdamBranchReferenceIdeal.Value

open Cert.AdamBranchReferenceIdeal.Read Cert.AdamBranchReferenceIdeal Cert.AdamBranchReferenceIdeal.Gen Cert.Product Cert.Adam Idealize.ShloMosaic

variable (w g m v : Vec Ideal S4x3x256x1024 .f32)

/-- The reference's arrays, with their leading axes joined. -/
abbrev flat (x : Vec Ideal S4x3x256x1024 .f32) : Arr2 3072 1024 := shapeCast S3072x1024 x shapeCasts_S4x3x256x1024_S3072x1024

theorem computes_delta : val_main_v24 (F := Ideal) w g m v = fun z => delta (flat w z) (flat g z) (flat m z) (flat v z) := rfl
theorem computes_newM : val_main_v25 (F := Ideal) g m = fun z => newM (flat m z) (flat g z) := rfl
theorem computes_newV : val_main_v26 (F := Ideal) g v = fun z => newV (flat v z) (flat g z) := rfl

end Cert.AdamBranchReferenceIdeal.Value

end
-- ==== Proof.AdamOutValue.lean ====
/- The optimiser's call on the merge's output matrix: its blocks, its three results, and the reference's. -/
module

public import proofs.«01_k».proof.Proof.AdamSpec
public import proofs.«01_k».proof.Proof.Gen.AdamOutIdeal.Value
public import proofs.«01_k».proof.Proof.Gen.AdamOutReferenceIdeal.Read
public import Idealize.ShloMosaic.Lib.Pipeline.ValueKit
public import Idealize.ShloMosaic.Lib.Pointwise

@[expose] public section

set_option maxRecDepth 16384

noncomputable section

namespace Cert.AdamOutIdeal.Value

open Cert.AdamOutIdeal Cert.AdamOutIdeal.Gen Cert.Attention Cert.Product Cert.Adam Idealize.ShloMosaic Idealize.ShloMosaic.TcCoe

theorem pay_m (g a : Vec Ideal S256x1024 .f32) (y : S256x1024.Idx) : k0_pay2 (F := Ideal) g a y = newM (a y) (g y) := by
  rw [show y = ix2 (y 0) (y 1) from funext fun a => match a with | 0 => rfl | 1 => rfl]
  unfold newM
  unfold_payloads
  pointwise

theorem pay_v (g a : Vec Ideal S256x1024 .f32) (y : S256x1024.Idx) : k0_pay3 (F := Ideal) g a y = newV (a y) (g y) := by
  rw [show y = ix2 (y 0) (y 1) from funext fun a => match a with | 0 => rfl | 1 => rfl]
  unfold newV
  unfold_payloads
  pointwise

theorem pay_d (g a v w : Vec Ideal S256x1024 .f32) (y : S256x1024.Idx) : k0_pay4 (F := Ideal) g a v w y = delta (w y) (g y) (a y) (v y) := by
  rw [show y = ix2 (y 0) (y 1) from funext fun a => match a with | 0 => rfl | 1 => rfl]
  unfold delta newM newV
  unfold_payloads
  pointwise

/-- The block each grid point takes of each window's array: the points run over the blocks of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 4 :=
  (by decide +kernel : ∀ t : Fin grid0.N, _)

variable (m : (ℓ : Loc nD τ sig) → Buf (Elt Ideal) ℓ) (c : Dev nD)

/-- The call's arguments, with their leading axes joined: the weight, its gradient and its two moments. -/
abbrev W : Arr2 1024 1024 := shapeCast S1024x1024 (m ((c : Thread nD τ).loc main_arg0) : Vec Ideal S4x256x1024 .f32) shapeCasts_S4x256x1024_S1024x1024
abbrev G : Arr2 1024 1024 := shapeCast S1024x1024 (m ((c : Thread nD τ).loc main_arg1) : Vec Ideal S4x256x1024 .f32) shapeCasts_S4x256x1024_S1024x1024
abbrev M : Arr2 1024 1024 := shapeCast S1024x1024 (m ((c : Thread nD τ).loc main_arg2) : Vec Ideal S4x256x1024 .f32) shapeCasts_S4x256x1024_S1024x1024
abbrev S : Arr2 1024 1024 := shapeCast S1024x1024 (m ((c : Thread nD τ).loc main_arg3) : Vec Ideal S4x256x1024 .f32) shapeCasts_S4x256x1024_S1024x1024

theorem w_entry : (V m c main_v0 : Vec Ideal S1024x1024 .f32) = W m c := by entry_read; rfl
theorem g_entry : (V m c main_v1 : Vec Ideal S1024x1024 .f32) = G m c := by entry_read; rfl
theorem m_entry : (V m c main_v2 : Vec Ideal S1024x1024 .f32) = M m c := by entry_read; rfl
theorem s_entry : (V m c main_v3 : Vec Ideal S1024x1024 .f32) = S m c := by entry_read; rfl

section Block

variable (t : Fin cfg0.N) (y : S256x1024.Idx) (z : S1024x1024.Idx) (h0 : (z 0 : ℕ) = 256 * t.val + (y 0 : ℕ)) (h1 : (z 1 : ℕ) = (y 1 : ℕ))

include h0 h1

theorem w_at : (iblk m c 0 t : Vec Ideal S256x1024 .f32) y = W m c z := by
  rw [← w_entry]
  blk_ext [iblk, idx t]

theorem g_at : (iblk m c 1 t : Vec Ideal S256x1024 .f32) y = G m c z := by
  rw [← g_entry]
  blk_ext [iblk, idx t]

theorem m_at : (iblk m c 2 t : Vec Ideal S256x1024 .f32) y = M m c z := by
  rw [← m_entry]
  blk_ext [iblk, idx t]

theorem s_at : (iblk m c 3 t : Vec Ideal S256x1024 .f32) y = S m c z := by
  rw [← s_entry]
  blk_ext [iblk, idx t]

theorem delta_at : out0_4 (iblk m c 0 t) (iblk m c 1 t) (iblk m c 2 t) (iblk m c 3 t) y = delta (W m c z) (G m c z) (M m c z) (S m c z) := by
  frame_out
  rw [pay_d, w_at m c t y z h0 h1, g_at m c t y z h0 h1, m_at m c t y z h0 h1, s_at m c t y z h0 h1]

theorem newM_at : out0_5 (iblk m c 0 t) (iblk m c 1 t) (iblk m c 2 t) (iblk m c 3 t) y = newM (M m c z) (G m c z) := by
  frame_out
  rw [pay_m, g_at m c t y z h0 h1, m_at m c t y z h0 h1]

theorem newV_at : out0_6 (iblk m c 0 t) (iblk m c 1 t) (iblk m c 2 t) (iblk m c 3 t) y = newV (S m c z) (G m c z) := by
  frame_out
  rw [pay_v, g_at m c t y z h0 h1, s_at m c t y z h0 h1]

end Block

/-- The change of the weight that the call writes. -/
theorem final_delta : (dats m 0 c).arrAt 4 (cfgs 0).N = fun z : S1024x1024.Idx => delta (W m c z) (G m c z) (M m c z) (S m c z) := by
  refine (dats m 0 c).arrAt_eq_of_covers 4 _ (by decide +kernel) fun t hf y => ?_
  blk_simp
  rw [after0_4]
  refine delta_at m c t y _ ?_ ?_ <;> blk_simp [idx t] <;> idx_bounds <;> try omega

/-- The new first moment that the call writes. -/
theorem final_newM : (dats m 0 c).arrAt 5 (cfgs 0).N = fun z : S1024x1024.Idx => newM (M m c z) (G m c z) := by
  refine (dats m 0 c).arrAt_eq_of_covers 5 _ (by decide +kernel) fun t hf y => ?_
  blk_simp
  rw [after0_5]
  refine newM_at m c t y _ ?_ ?_ <;> blk_simp [idx t] <;> idx_bounds <;> try omega

/-- The new second moment that the call writes. -/
theorem final_newV : (dats m 0 c).arrAt 6 (cfgs 0).N = fun z : S1024x1024.Idx => newV (S m c z) (G m c z) := by
  refine (dats m 0 c).arrAt_eq_of_covers 6 _ (by decide +kernel) fun t hf y => ?_
  blk_simp
  rw [after0_6]
  refine newV_at m c t y _ ?_ ?_ <;> blk_simp [idx t] <;> idx_bounds <;> try omega

end Cert.AdamOutIdeal.Value

namespace Cert.AdamOutReferenceIdeal.Value

open Cert.AdamOutReferenceIdeal.Read Cert.AdamOutReferenceIdeal Cert.AdamOutReferenceIdeal.Gen Cert.Product Cert.Adam Idealize.ShloMosaic

variable (w g m v : Vec Ideal S4x256x1024 .f32)

/-- The reference's arrays, with their leading axes joined. -/
abbrev flat (x : Vec Ideal S4x256x1024 .f32) : Arr2 1024 1024 := shapeCast S1024x1024 x shapeCasts_S4x256x1024_S1024x1024

theorem computes_delta : val_main_v24 (F := Ideal) w g m v = fun z => delta (flat w z) (flat g z) (flat m z) (flat v z) := rfl
theorem computes_newM : val_main_v25 (F := Ideal) g m = fun z => newM (flat m z) (flat g z) := rfl
theorem computes_newV : val_main_v26 (F := Ideal) g v = fun z => newV (flat v z) (flat g z) := rfl

end Cert.AdamOutReferenceIdeal.Value

end
-- ==== Proof.AdamSmallValue.lean ====
/- The optimiser's call on the small weights: its blocks, its three results, and the reference's. -/
module

public import proofs.«01_k».proof.Proof.AdamSpec
public import proofs.«01_k».proof.Proof.Gen.AdamSmallIdeal.Value
public import proofs.«01_k».proof.Proof.Gen.AdamSmallReferenceIdeal.Read
public import Idealize.ShloMosaic.Lib.Pipeline.ValueKit
public import Idealize.ShloMosaic.Lib.Pointwise

@[expose] public section

set_option maxRecDepth 16384

noncomputable section

namespace Cert.AdamSmallIdeal.Value

open Cert.AdamSmallIdeal Cert.AdamSmallIdeal.Gen Cert.Attention Cert.Product Cert.Adam Idealize.ShloMosaic Idealize.ShloMosaic.TcCoe

theorem pay_m (g a : Vec Ideal S1280x128 .f32) (y : S1280x128.Idx) : k0_pay1 (F := Ideal) g a y = newM (a y) (g y) := by
  rw [show y = ix2 (y 0) (y 1) from funext fun a => match a with | 0 => rfl | 1 => rfl]
  unfold newM
  unfold_payloads
  pointwise

theorem pay_v (g a : Vec Ideal S1280x128 .f32) (y : S1280x128.Idx) : k0_pay2 (F := Ideal) g a y = newV (a y) (g y) := by
  rw [show y = ix2 (y 0) (y 1) from funext fun a => match a with | 0 => rfl | 1 => rfl]
  unfold newV
  unfold_payloads
  pointwise

theorem pay_d (g a v w : Vec Ideal S1280x128 .f32) (y : S1280x128.Idx) : k0_pay3 (F := Ideal) g a v w y = delta (w y) (g y) (a y) (v y) := by
  rw [show y = ix2 (y 0) (y 1) from funext fun a => match a with | 0 => rfl | 1 => rfl]
  unfold delta newM newV
  unfold_payloads
  pointwise

/-- The block each grid point takes of each window's array: the points run over the blocks of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 8 :=
  (by decide +kernel : ∀ t : Fin grid0.N, _)

variable (m : (ℓ : Loc nD τ sig) → Buf (Elt Ideal) ℓ) (c : Dev nD)

/-- The call's arguments, packed as rows: the weights, their gradient and their two moments. -/
abbrev W : Arr2 10240 128 := m ((c : Thread nD τ).loc main_arg0)
abbrev G : Arr2 10240 128 := m ((c : Thread nD τ).loc main_arg1)
abbrev M : Arr2 10240 128 := m ((c : Thread nD τ).loc main_arg2)
abbrev S : Arr2 10240 128 := m ((c : Thread nD τ).loc main_arg3)

section Block

variable (t : Fin cfg0.N) (y : S1280x128.Idx) (z : S10240x128.Idx) (h0 : (z 0 : ℕ) = 1280 * t.val + (y 0 : ℕ)) (h1 : (z 1 : ℕ) = (y 1 : ℕ))

include h0 h1

theorem w_at : (iblk m c 0 t : Vec Ideal S1280x128 .f32) y = W m c z := by
  blk_ext [iblk, V, idx t]

theorem g_at : (iblk m c 1 t : Vec Ideal S1280x128 .f32) y = G m c z := by
  blk_ext [iblk, V, idx t]

theorem m_at : (iblk m c 2 t : Vec Ideal S1280x128 .f32) y = M m c z := by
  blk_ext [iblk, V, idx t]

theorem s_at : (iblk m c 3 t : Vec Ideal S1280x128 .f32) y = S m c z := by
  blk_ext [iblk, V, idx t]

theorem delta_at : out0_4 (iblk m c 0 t) (iblk m c 1 t) (iblk m c 2 t) (iblk m c 3 t) y = delta (W m c z) (G m c z) (M m c z) (S m c z) := by
  frame_out
  rw [pay_d, w_at m c t y z h0 h1, g_at m c t y z h0 h1, m_at m c t y z h0 h1, s_at m c t y z h0 h1]

theorem newM_at : out0_5 (iblk m c 0 t) (iblk m c 1 t) (iblk m c 2 t) (iblk m c 3 t) y = newM (M m c z) (G m c z) := by
  frame_out
  rw [pay_m, g_at m c t y z h0 h1, m_at m c t y z h0 h1]

theorem newV_at : out0_6 (iblk m c 0 t) (iblk m c 1 t) (iblk m c 2 t) (iblk m c 3 t) y = newV (S m c z) (G m c z) := by
  frame_out
  rw [pay_v, g_at m c t y z h0 h1, s_at m c t y z h0 h1]

end Block

/-- The change of the weight that the call writes. -/
theorem final_delta : (dats m 0 c).arrAt 4 (cfgs 0).N = fun z : S10240x128.Idx => delta (W m c z) (G m c z) (M m c z) (S m c z) := by
  refine (dats m 0 c).arrAt_eq_of_covers 4 _ (by decide +kernel) fun t hf y => ?_
  blk_simp
  rw [after0_4]
  refine delta_at m c t y _ ?_ ?_ <;> blk_simp [idx t] <;> idx_bounds <;> try omega

/-- The new first moment that the call writes. -/
theorem final_newM : (dats m 0 c).arrAt 5 (cfgs 0).N = fun z : S10240x128.Idx => newM (M m c z) (G m c z) := by
  refine (dats m 0 c).arrAt_eq_of_covers 5 _ (by decide +kernel) fun t hf y => ?_
  blk_simp
  rw [after0_5]
  refine newM_at m c t y _ ?_ ?_ <;> blk_simp [idx t] <;> idx_bounds <;> try omega

/-- The new second moment that the call writes. -/
theorem final_newV : (dats m 0 c).arrAt 6 (cfgs 0).N = fun z : S10240x128.Idx => newV (S m c z) (G m c z) := by
  refine (dats m 0 c).arrAt_eq_of_covers 6 _ (by decide +kernel) fun t hf y => ?_
  blk_simp
  rw [after0_6]
  refine newV_at m c t y _ ?_ ?_ <;> blk_simp [idx t] <;> idx_bounds <;> try omega

end Cert.AdamSmallIdeal.Value

namespace Cert.AdamSmallReferenceIdeal.Value

open Cert.AdamSmallReferenceIdeal.Read Cert.AdamSmallReferenceIdeal Cert.AdamSmallReferenceIdeal.Gen Cert.Product Cert.Adam Idealize.ShloMosaic

variable (w g m v : Vec Ideal S10240x128 .f32)

theorem computes_delta : val_main_v23 (F := Ideal) w g m v = fun z => delta (w z) (g z) (m z) (v z) := rfl
theorem computes_newM : val_main_v4 (F := Ideal) g m = fun z => newM (m z) (g z) := rfl
theorem computes_newV : val_main_v10 (F := Ideal) g v = fun z => newV (v z) (g z) := rfl

end Cert.AdamSmallReferenceIdeal.Value

end
-- ==== Proof.lean ====
/- Assembles the certificate. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Forward
public import proofs.«01_k».proof.Proof.Gen.Forward.Frame
public import proofs.«01_k».proof.Proof.Gen.ForwardIdeal
public import proofs.«01_k».proof.Proof.Gen.ForwardIdeal.Frame
public import proofs.«01_k».proof.Proof.Gen.KernelIdeal.Value
public import proofs.«01_k».proof.Proof.Gen.ForwardIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ForwardReferenceIdeal
public import proofs.«01_k».proof.Proof.Gen.ForwardReferenceIdeal.Run
public import proofs.«01_k».proof.Proof.Gen.ForwardReferenceIdeal.Read
public import proofs.«01_k».proof.Proof.Gen.Pre_finite_qk
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.BranchGradA
public import proofs.«01_k».proof.Proof.Gen.BranchGradA.Frame
public import proofs.«01_k».proof.Proof.Gen.BranchGradAIdeal
public import proofs.«01_k».proof.Proof.Gen.BranchGradAIdeal.Frame
public import proofs.«01_k».proof.Proof.Gen.BranchGradAIdeal.Value
public import proofs.«01_k».proof.Proof.Gen.BranchGradAReferenceIdeal
public import proofs.«01_k».proof.Proof.Gen.BranchGradAReferenceIdeal.Run
public import proofs.«01_k».proof.Proof.Gen.BranchGradAReferenceIdeal.Read
public import proofs.«01_k».proof.Proof.Gen.BranchGradB
public import proofs.«01_k».proof.Proof.Gen.BranchGradB.Frame
public import proofs.«01_k».proof.Proof.Gen.BranchGradBIdeal
public import proofs.«01_k».proof.Proof.Gen.BranchGradBIdeal.Frame
public import proofs.«01_k».proof.Proof.Gen.BranchGradBIdeal.Value
public import proofs.«01_k».proof.Proof.Gen.BranchGradBReferenceIdeal
public import proofs.«01_k».proof.Proof.Gen.BranchGradBReferenceIdeal.Run
public import proofs.«01_k».proof.Proof.Gen.BranchGradBReferenceIdeal.Read
public import proofs.«01_k».proof.Proof.Gen.BranchGradC
public import proofs.«01_k».proof.Proof.Gen.BranchGradC.Frame
public import proofs.«01_k».proof.Proof.Gen.BranchGradCIdeal
public import proofs.«01_k».proof.Proof.Gen.BranchGradCIdeal.Frame
public import proofs.«01_k».proof.Proof.Gen.BranchGradCIdeal.Value
public import proofs.«01_k».proof.Proof.Gen.BranchGradCReferenceIdeal
public import proofs.«01_k».proof.Proof.Gen.BranchGradCReferenceIdeal.Run
public import proofs.«01_k».proof.Proof.Gen.BranchGradCReferenceIdeal.Read
public import proofs.«01_k».proof.Proof.Gen.OutGrad
public import proofs.«01_k».proof.Proof.Gen.OutGrad.Frame
public import proofs.«01_k».proof.Proof.Gen.OutGradIdeal
public import proofs.«01_k».proof.Proof.Gen.OutGradIdeal.Frame
public import proofs.«01_k».proof.Proof.Gen.OutGradIdeal.Value
public import proofs.«01_k».proof.Proof.Gen.OutGradReferenceIdeal
public import proofs.«01_k».proof.Proof.Gen.OutGradReferenceIdeal.Run
public import proofs.«01_k».proof.Proof.Gen.OutGradReferenceIdeal.Read
public import proofs.«01_k».proof.Proof.Gen.WeightGrad
public import proofs.«01_k».proof.Proof.Gen.WeightGrad.Frame
public import proofs.«01_k».proof.Proof.Gen.WeightGradIdeal
public import proofs.«01_k».proof.Proof.Gen.WeightGradIdeal.Frame
public import proofs.«01_k».proof.Proof.Gen.WeightGradIdeal.Value
public import proofs.«01_k».proof.Proof.Gen.WeightGradReferenceIdeal
public import proofs.«01_k».proof.Proof.Gen.WeightGradReferenceIdeal.Run
public import proofs.«01_k».proof.Proof.Gen.WeightGradReferenceIdeal.Read
public import proofs.«01_k».proof.Proof.Gen.InputGrad
public import proofs.«01_k».proof.Proof.Gen.InputGrad.Frame
public import proofs.«01_k».proof.Proof.Gen.InputGradIdeal
public import proofs.«01_k».proof.Proof.Gen.InputGradIdeal.Frame
public import proofs.«01_k».proof.Proof.Gen.InputGradIdeal.Value
public import proofs.«01_k».proof.Proof.Gen.InputGradReferenceIdeal
public import proofs.«01_k».proof.Proof.Gen.InputGradReferenceIdeal.Run
public import proofs.«01_k».proof.Proof.Gen.InputGradReferenceIdeal.Read
public import proofs.«01_k».proof.Proof.Gen.ModulationGrad
public import proofs.«01_k».proof.Proof.Gen.ModulationGrad.Frame
public import proofs.«01_k».proof.Proof.Gen.ModulationGradIdeal
public import proofs.«01_k».proof.Proof.Gen.ModulationGradIdeal.Frame
public import proofs.«01_k».proof.Proof.Gen.ModulationGradIdeal.Value
public import proofs.«01_k».proof.Proof.Gen.ModulationGradReferenceIdeal
public import proofs.«01_k».proof.Proof.Gen.ModulationGradReferenceIdeal.Run
public import proofs.«01_k».proof.Proof.Gen.ModulationGradReferenceIdeal.Read
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.ModulationReferenceIdeal.Read
public import proofs.«01_k».proof.Proof.Gen.Pre_finite_mod
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamMod
public import proofs.«01_k».proof.Proof.Gen.AdamMod.Frame
public import proofs.«01_k».proof.Proof.Gen.AdamModIdeal
public import proofs.«01_k».proof.Proof.Gen.AdamModIdeal.Frame
public import proofs.«01_k».proof.Proof.Gen.AdamModIdeal.Value
public import proofs.«01_k».proof.Proof.Gen.AdamModReferenceIdeal
public import proofs.«01_k».proof.Proof.Gen.AdamModReferenceIdeal.Run
public import proofs.«01_k».proof.Proof.Gen.AdamModReferenceIdeal.Read
public import proofs.«01_k».proof.Proof.Gen.AdamBranch
public import proofs.«01_k».proof.Proof.Gen.AdamBranch.Frame
public import proofs.«01_k».proof.Proof.Gen.AdamBranchIdeal
public import proofs.«01_k».proof.Proof.Gen.AdamBranchIdeal.Frame
public import proofs.«01_k».proof.Proof.Gen.AdamBranchIdeal.Value
public import proofs.«01_k».proof.Proof.Gen.AdamBranchReferenceIdeal
public import proofs.«01_k».proof.Proof.Gen.AdamBranchReferenceIdeal.Run
public import proofs.«01_k».proof.Proof.Gen.AdamBranchReferenceIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.FwdClaim
public import proofs.«01_k».proof.Proof.BwdClaim
public import proofs.«01_k».proof.Proof.ProjectValue
public import proofs.«01_k».proof.Proof.WeightGradValue
public import proofs.«01_k».proof.Proof.InputGradValue
public import proofs.«01_k».proof.Proof.ProductRef
public import Idealize.ShloMosaic.Lib.Claim
public import proofs.«01_k».proof.Proof.MergeValue
public import proofs.«01_k».proof.Proof.MergeRef
public import proofs.«01_k».proof.Proof.BranchGradAValue
public import proofs.«01_k».proof.Proof.BranchGradBValue
public import proofs.«01_k».proof.Proof.BranchGradCValue
public import proofs.«01_k».proof.Proof.OutGradValue
public import proofs.«01_k».proof.Proof.SquareRef
public import proofs.«01_k».proof.Proof.ModulationValue
public import proofs.«01_k».proof.Proof.ModulationGradValue
public import proofs.«01_k».proof.Proof.ModulationRef
public import proofs.«01_k».proof.Proof.NormValue
public import proofs.«01_k».proof.Proof.NormRef
public import proofs.«01_k».proof.Proof.AdamInValue
public import proofs.«01_k».proof.Proof.AdamModValue
public import proofs.«01_k».proof.Proof.AdamBranchValue
public import proofs.«01_k».proof.Proof.AdamOutValue
public import proofs.«01_k».proof.Proof.AdamSmallValue

@[expose] public section

set_option maxRecDepth 16384

noncomputable section

namespace Cert.Proof

open Idealize.ShloMosaic Idealize.SL.Sem

/-- The gradient's reference runs and leaves its arguments unchanged. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

/-- The forward reference runs and leaves its arguments unchanged. -/
theorem frame_forwardReference : Cert.quiescent_ForwardReferenceIdeal := fun m g _ =>
  (θ_run Cert.ForwardReferenceIdeal.defs _ _).mono (fun r h => ⟨fun c => (h c).2.2, sem_eq_zero_of_no_sems (by decide) r.2⟩)
    (Cert.ForwardReferenceIdeal.Value.run m g)

/-- The reference of the projection runs and leaves its arguments unchanged. -/
theorem frame_projectReference : Cert.quiescent_ProjectReferenceIdeal := fun m g _ =>
  (θ_run Cert.ProjectReferenceIdeal.defs _ _).mono (fun r h => ⟨fun c => (h c).2, sem_eq_zero_of_no_sems (by decide) r.2⟩)
    (Cert.ProjectReferenceIdeal.Value.run m g)

/-- The reference of the gradient of the projection's matrix runs and leaves its arguments unchanged. -/
theorem frame_weightGradReference : Cert.quiescent_WeightGradReferenceIdeal := fun m g _ =>
  (θ_run Cert.WeightGradReferenceIdeal.defs _ _).mono (fun r h => ⟨fun c => (h c).2, sem_eq_zero_of_no_sems (by decide) r.2⟩)
    (Cert.WeightGradReferenceIdeal.Value.run m g)

/-- The reference of the gradient of the projection's input runs and leaves its arguments unchanged. -/
theorem frame_inputGradReference : Cert.quiescent_InputGradReferenceIdeal := fun m g _ =>
  (θ_run Cert.InputGradReferenceIdeal.defs _ _).mono (fun r h => ⟨fun c => (h c).2, sem_eq_zero_of_no_sems (by decide) r.2⟩)
    (Cert.InputGradReferenceIdeal.Value.run m g)

/-- The reference of the merge runs and leaves its arguments unchanged. -/
theorem frame_mergeReference : Cert.quiescent_MergeReferenceIdeal := fun m g _ =>
  (θ_run Cert.MergeReferenceIdeal.defs _ _).mono (fun r h => ⟨fun c => (h c).2.2, sem_eq_zero_of_no_sems (by decide) r.2⟩)
    (Cert.MergeReferenceIdeal.Value.run m g)

/-- The reference of the gradient of the first branch's matrix runs and leaves its arguments unchanged. -/
theorem frame_branchGradAReference : Cert.quiescent_BranchGradAReferenceIdeal := fun m g _ =>
  (θ_run Cert.BranchGradAReferenceIdeal.defs _ _).mono (fun r h => ⟨fun c => (h c).2, sem_eq_zero_of_no_sems (by decide) r.2⟩)
    (Cert.BranchGradAReferenceIdeal.Value.run m g)

/-- The reference of the gradient of the second branch's matrix runs and leaves its arguments unchanged. -/
theorem frame_branchGradBReference : Cert.quiescent_BranchGradBReferenceIdeal := fun m g _ =>
  (θ_run Cert.BranchGradBReferenceIdeal.defs _ _).mono (fun r h => ⟨fun c => (h c).2, sem_eq_zero_of_no_sems (by decide) r.2⟩)
    (Cert.BranchGradBReferenceIdeal.Value.run m g)

/-- The reference of the gradient of the third branch's matrix runs and leaves its arguments unchanged. -/
theorem frame_branchGradCReference : Cert.quiescent_BranchGradCReferenceIdeal := fun m g _ =>
  (θ_run Cert.BranchGradCReferenceIdeal.defs _ _).mono (fun r h => ⟨fun c => (h c).2, sem_eq_zero_of_no_sems (by decide) r.2⟩)
    (Cert.BranchGradCReferenceIdeal.Value.run m g)

/-- The reference of the gradient of the output matrix runs and leaves its arguments unchanged. -/
theorem frame_outGradReference : Cert.quiescent_OutGradReferenceIdeal := fun m g _ =>
  (θ_run Cert.OutGradReferenceIdeal.defs _ _).mono (fun r h => ⟨fun c => (h c).2, sem_eq_zero_of_no_sems (by decide) r.2⟩)
    (Cert.OutGradReferenceIdeal.Value.run m g)

/-- The reference of the modulation's gradients runs and leaves its arguments unchanged. -/
theorem frame_modulationGradReference : Cert.quiescent_ModulationGradReferenceIdeal := fun m g _ =>
  (θ_run Cert.ModulationGradReferenceIdeal.defs _ _).mono (fun r h => ⟨fun c => (h c).2.2.2, sem_eq_zero_of_no_sems (by decide) r.2⟩)
    (Cert.ModulationGradReferenceIdeal.Value.run m g)

/-- The reference of the modulation runs and leaves its arguments unchanged. -/
theorem frame_modulationReference : Cert.quiescent_ModulationReferenceIdeal := fun m g _ =>
  (θ_run Cert.ModulationReferenceIdeal.defs _ _).mono (fun r h => ⟨fun c => (h c).2, sem_eq_zero_of_no_sems (by decide) r.2⟩)
    (Cert.ModulationReferenceIdeal.Value.run m g)

/-- The reference of the norm runs and leaves its arguments unchanged. -/
theorem frame_normReference : Cert.quiescent_NormReferenceIdeal := fun m g _ =>
  (θ_run Cert.NormReferenceIdeal.defs _ _).mono (fun r h => ⟨fun c => (h c).2, sem_eq_zero_of_no_sems (by decide) r.2⟩)
    (Cert.NormReferenceIdeal.Value.run m g)

/-- The reference of the optimiser's step on the projection's matrix runs and leaves its arguments unchanged. -/
theorem frame_adamInReference : Cert.quiescent_AdamInReferenceIdeal := fun m g _ =>
  (θ_run Cert.AdamInReferenceIdeal.defs _ _).mono (fun r h => ⟨fun c => (h c).2.2.2, sem_eq_zero_of_no_sems (by decide) r.2⟩)
    (Cert.AdamInReferenceIdeal.Value.run m g)

/-- The reference of the optimiser's step on the modulation's matrix runs and leaves its arguments unchanged. -/
theorem frame_adamModReference : Cert.quiescent_AdamModReferenceIdeal := fun m g _ =>
  (θ_run Cert.AdamModReferenceIdeal.defs _ _).mono (fun r h => ⟨fun c => (h c).2.2.2, sem_eq_zero_of_no_sems (by decide) r.2⟩)
    (Cert.AdamModReferenceIdeal.Value.run m g)

/-- The reference of the optimiser's step on the merge's branch matrices runs and leaves its arguments unchanged. -/
theorem frame_adamBranchReference : Cert.quiescent_AdamBranchReferenceIdeal := fun m g _ =>
  (θ_run Cert.AdamBranchReferenceIdeal.defs _ _).mono (fun r h => ⟨fun c => (h c).2.2.2, sem_eq_zero_of_no_sems (by decide) r.2⟩)
    (Cert.AdamBranchReferenceIdeal.Value.run m g)

/-- The reference of the optimiser's step on the merge's output matrix runs and leaves its arguments unchanged. -/
theorem frame_adamOutReference : Cert.quiescent_AdamOutReferenceIdeal := fun m g _ =>
  (θ_run Cert.AdamOutReferenceIdeal.defs _ _).mono (fun r h => ⟨fun c => (h c).2.2.2, sem_eq_zero_of_no_sems (by decide) r.2⟩)
    (Cert.AdamOutReferenceIdeal.Value.run m g)

/-- The reference of the optimiser's step on the small weights runs and leaves its arguments unchanged. -/
theorem frame_adamSmallReference : Cert.quiescent_AdamSmallReferenceIdeal := fun m g _ =>
  (θ_run Cert.AdamSmallReferenceIdeal.defs _ _).mono (fun r h => ⟨fun c => (h c).2.2.2, sem_eq_zero_of_no_sems (by decide) r.2⟩)
    (Cert.AdamSmallReferenceIdeal.Value.run m g)

/-- The forward call computes the attention and its log-normalisers. -/
theorem forward : Cert.algebraic_ForwardIdeal_ForwardReferenceIdeal_pre_finite_qk := by
  pair_intro
  · run_from Cert.ForwardIdeal.Value.run_blocks m g
  · run_from Cert.ForwardReferenceIdeal.Value.run m' g'
    · rw [Cert.ForwardReferenceIdeal.Read.val_main_v44_eq, (hagree c).1, (hagree c).2.1, (hagree c).2.2]
      exact Cert.Attention.forward_out m c (Cert.Attention.isReal_of_finite_qk _ _ _ (hpre c))
    · rw [Cert.ForwardReferenceIdeal.Read.val_main_v79_eq, (hagree c).1, (hagree c).2.1]
      exact Cert.Attention.forward_log m c (Cert.Attention.isReal_of_finite_qk _ _ _ (hpre c))

/-- The backward call computes the gradients of the queries, the keys and the values. -/
theorem backward : Cert.algebraic_KernelIdeal_ReferenceIdeal_pre_finite := by
  pair_intro
  · run_from Cert.KernelIdeal.Value.run_blocks m g
  · run_from Cert.ReferenceIdeal.Value.run m' g'
    · rw [Cert.ReferenceIdeal.Read.val_main_v139_eq, (hagree c).1, (hagree c).2.1, (hagree c).2.2.1, (hagree c).2.2.2]
      exact Cert.Attention.backward_query m c (Cert.Attention.isReal_of_finite _ _ _ _ (hpre c))
    · rw [Cert.ReferenceIdeal.Read.val_main_v141_eq, (hagree c).1, (hagree c).2.1, (hagree c).2.2.1, (hagree c).2.2.2]
      exact Cert.Attention.backward_key m c (Cert.Attention.isReal_of_finite _ _ _ _ (hpre c))
    · rw [Cert.ReferenceIdeal.Read.val_main_v143_eq, (hagree c).1, (hagree c).2.1, (hagree c).2.2.2]
      exact Cert.Attention.backward_value m c (Cert.Attention.isReal_of_finite _ _ _ _ (hpre c))

/-- The call computes the projection. -/
theorem project : Cert.algebraic_ProjectIdeal_ProjectReferenceIdeal := by
  pair_intro
  · run_from Cert.ProjectIdeal.Value.run_blocks m g
  · run_from Cert.ProjectReferenceIdeal.Value.run m' g'
    · rw [Cert.ProjectReferenceIdeal.Read.val_main_v4_eq]
      exact (Cert.ProjectReferenceIdeal.Value.computes _ _).trans (Cert.ProjectIdeal.Value.final m c).symm

/-- The call computes the gradient of the projection's matrix. -/
theorem weightGrad : Cert.algebraic_WeightGradIdeal_WeightGradReferenceIdeal := by
  pair_intro
  · run_from Cert.WeightGradIdeal.Value.run_blocks m g
  · run_from Cert.WeightGradReferenceIdeal.Value.run m' g'
    · rw [Cert.WeightGradReferenceIdeal.Read.val_main_v3_eq]
      exact (Cert.WeightGradReferenceIdeal.Value.computes _ _).trans (Cert.WeightGradIdeal.Value.final m c).symm

/-- The call computes the gradient of the projection's input. -/
theorem inputGrad : Cert.algebraic_InputGradIdeal_InputGradReferenceIdeal := by
  pair_intro
  · run_from Cert.InputGradIdeal.Value.run_blocks m g
  · run_from Cert.InputGradReferenceIdeal.Value.run m' g'
    · rw [Cert.InputGradReferenceIdeal.Read.val_main_v5_eq]
      exact (Cert.InputGradReferenceIdeal.Value.computes _ _).trans (Cert.InputGradIdeal.Value.final m c).symm

/-- The forward call of the merge computes the stream and the merge's output. -/
theorem merge : Cert.algebraic_MergeIdeal_MergeReferenceIdeal := by
  pair_intro
  · run_from Cert.MergeIdeal.Value.run_blocks m g
  · run_from Cert.MergeReferenceIdeal.Value.run m' g'
    · rw [Cert.MergeReferenceIdeal.Read.val_main_v63_eq]
      obtain ⟨h0, h1, h2, h3, h4, h5, h6, h7⟩ := hagree c
      rw [h0, h1, h2, h3, h4, h5, h6, h7]
      exact (Cert.MergeReferenceIdeal.Value.computes_step _ _ _ _ _ _ _ _).trans (Cert.MergeIdeal.Value.final_step m c).symm
    · rw [Cert.MergeReferenceIdeal.Read.val_main_v47_eq]
      obtain ⟨h0, h1, h2, h3, h4, h5, h6, h7⟩ := hagree c
      rw [h1, h2, h3, h4, h5, h6]
      exact (Cert.MergeReferenceIdeal.Value.computes_out _ _ _ _ _ _).trans (Cert.MergeIdeal.Value.final_out m c).symm

/-- The call computes the gradient of the first branch's matrix. -/
theorem branchGradA : Cert.algebraic_BranchGradAIdeal_BranchGradAReferenceIdeal := by
  pair_intro
  · run_from Cert.BranchGradAIdeal.Value.run_blocks m g
  · run_from Cert.BranchGradAReferenceIdeal.Value.run m' g'
    · rw [Cert.BranchGradAReferenceIdeal.Read.val_main_v7_eq]
      exact (Cert.BranchGradAReferenceIdeal.Value.computes _ _).trans (Cert.BranchGradAIdeal.Value.final m c).symm

/-- The call computes the gradient of the second branch's matrix. -/
theorem branchGradB : Cert.algebraic_BranchGradBIdeal_BranchGradBReferenceIdeal := by
  pair_intro
  · run_from Cert.BranchGradBIdeal.Value.run_blocks m g
  · run_from Cert.BranchGradBReferenceIdeal.Value.run m' g'
    · rw [Cert.BranchGradBReferenceIdeal.Read.val_main_v7_eq]
      exact (Cert.BranchGradBReferenceIdeal.Value.computes _ _).trans (Cert.BranchGradBIdeal.Value.final m c).symm

/-- The call computes the gradient of the third branch's matrix. -/
theorem branchGradC : Cert.algebraic_BranchGradCIdeal_BranchGradCReferenceIdeal := by
  pair_intro
  · run_from Cert.BranchGradCIdeal.Value.run_blocks m g
  · run_from Cert.BranchGradCReferenceIdeal.Value.run m' g'
    · rw [Cert.BranchGradCReferenceIdeal.Read.val_main_v7_eq]
      exact (Cert.BranchGradCReferenceIdeal.Value.computes _ _).trans (Cert.BranchGradCIdeal.Value.final m c).symm

/-- The call computes the gradient of the output matrix. -/
theorem outGrad : Cert.algebraic_OutGradIdeal_OutGradReferenceIdeal := by
  pair_intro
  · run_from Cert.OutGradIdeal.Value.run_blocks m g
  · run_from Cert.OutGradReferenceIdeal.Value.run m' g'
    · rw [Cert.OutGradReferenceIdeal.Read.val_main_v3_eq]
      exact (Cert.OutGradReferenceIdeal.Value.computes _ _).trans (Cert.OutGradIdeal.Value.final m c).symm

/-- The call computes the gradients of the modulation's matrix, of its bias and of the conditioning. -/
theorem modulationGrad : Cert.algebraic_ModulationGradIdeal_ModulationGradReferenceIdeal_pre_finite_mod := by
  pair_intro
  · run_from Cert.ModulationGradIdeal.Value.run_blocks m g
  · refine Idealize.ShloMosaic.θ_run_mono (Cert.ModulationGradReferenceIdeal.Value.run m' g') ?_
    intro r hr c
    obtain ⟨h9, h7, h11, a0, a1, a2⟩ := hr c
    obtain ⟨e0, e1, e2⟩ := hagree c
    refine ⟨h9.trans ?_, h7.trans ?_, h11.trans ?_, a0, a1, a2⟩
    · rw [Cert.ModulationGradReferenceIdeal.Read.val_main_v9_eq, e0, e1]
      exact (Cert.ModulationGradReferenceIdeal.Value.computes_matrix _ _).trans (Cert.ModulationGradIdeal.Value.final_matrix m c).symm
    · rw [Cert.ModulationGradReferenceIdeal.Read.val_main_v7_eq, e1]
      exact (Cert.ModulationGradReferenceIdeal.Value.computes_bias _).trans (Cert.ModulationGradIdeal.Value.final_bias m c).symm
    · rw [Cert.ModulationGradReferenceIdeal.Read.val_main_v11_eq, e0, e1, e2]
      have h := Cert.Modulation.isReal_of_finite_mod _ _ _ (hpre c)
      exact (Cert.ModulationGradReferenceIdeal.Value.computes_cond _ _ _).trans
        ((Cert.Modulation.condGrad_eq _ h.1 h.2).trans (Cert.ModulationGradIdeal.Value.final_cond m c).symm)

/-- The call computes the modulation. -/
theorem modulation : Cert.algebraic_ModulationIdeal_ModulationReferenceIdeal := by
  pair_intro
  · run_from Cert.ModulationIdeal.Value.run_blocks m g
  · run_from Cert.ModulationReferenceIdeal.Value.run m' g'
    · rw [Cert.ModulationReferenceIdeal.Read.val_main_v3_eq]
      exact (Cert.ModulationReferenceIdeal.Value.computes _ _ _).trans (Cert.ModulationIdeal.Value.final m c).symm

/-- The call computes the normed and modulated stream. -/
theorem norm : Cert.algebraic_NormIdeal_NormReferenceIdeal := by
  pair_intro
  · run_from Cert.NormIdeal.Value.run_blocks m g
  · run_from Cert.NormReferenceIdeal.Value.run m' g'
    · rw [Cert.NormReferenceIdeal.Read.val_main_v51_eq, (hagree c).2.2]
      exact (Cert.NormReferenceIdeal.Value.computes _ _ _).trans (Cert.NormIdeal.Value.final m c).symm

/-- The call computes the optimiser's step on the projection's matrix: the change and the two new moments. -/
theorem adamIn : Cert.algebraic_AdamInIdeal_AdamInReferenceIdeal := by
  pair_intro
  · run_from Cert.AdamInIdeal.Value.run_blocks m g
  · refine Idealize.ShloMosaic.θ_run_mono (Cert.AdamInReferenceIdeal.Value.run m' g') ?_
    intro r hr c
    obtain ⟨hd, hm, hv, a0, a1, a2, a3⟩ := hr c
    obtain ⟨e0, e1, e2, e3⟩ := hagree c
    refine ⟨hd.trans ?_, hm.trans ?_, hv.trans ?_, a0, a1, a2, a3⟩
    · rw [Cert.AdamInReferenceIdeal.Read.val_main_v24_eq, e0, e1, e2, e3]
      exact (Cert.AdamInReferenceIdeal.Value.computes_delta _ _ _ _).trans (Cert.AdamInIdeal.Value.final_delta m c).symm
    · rw [Cert.AdamInReferenceIdeal.Read.val_main_v25_eq, e1, e2]
      exact (Cert.AdamInReferenceIdeal.Value.computes_newM _ _).trans (Cert.AdamInIdeal.Value.final_newM m c).symm
    · rw [Cert.AdamInReferenceIdeal.Read.val_main_v26_eq, e1, e3]
      exact (Cert.AdamInReferenceIdeal.Value.computes_newV _ _).trans (Cert.AdamInIdeal.Value.final_newV m c).symm

/-- The call computes the optimiser's step on the modulation's matrix: the change and the two new moments. -/
theorem adamMod : Cert.algebraic_AdamModIdeal_AdamModReferenceIdeal := by
  pair_intro
  · run_from Cert.AdamModIdeal.Value.run_blocks m g
  · refine Idealize.ShloMosaic.θ_run_mono (Cert.AdamModReferenceIdeal.Value.run m' g') ?_
    intro r hr c
    obtain ⟨hd, hm, hv, a0, a1, a2, a3⟩ := hr c
    obtain ⟨e0, e1, e2, e3⟩ := hagree c
    refine ⟨hd.trans ?_, hm.trans ?_, hv.trans ?_, a0, a1, a2, a3⟩
    · rw [Cert.AdamModReferenceIdeal.Read.val_main_v24_eq, e0, e1, e2, e3]
      exact (Cert.AdamModReferenceIdeal.Value.computes_delta _ _ _ _).trans (Cert.AdamModIdeal.Value.final_delta m c).symm
    · rw [Cert.AdamModReferenceIdeal.Read.val_main_v25_eq, e1, e2]
      exact (Cert.AdamModReferenceIdeal.Value.computes_newM _ _).trans (Cert.AdamModIdeal.Value.final_newM m c).symm
    · rw [Cert.AdamModReferenceIdeal.Read.val_main_v26_eq, e1, e3]
      exact (Cert.AdamModReferenceIdeal.Value.computes_newV _ _).trans (Cert.AdamModIdeal.Value.final_newV m c).symm

/-- The call computes the optimiser's step on the merge's branch matrices: the change and the two new moments. -/
theorem adamBranch : Cert.algebraic_AdamBranchIdeal_AdamBranchReferenceIdeal := by
  pair_intro
  · run_from Cert.AdamBranchIdeal.Value.run_blocks m g
  · refine Idealize.ShloMosaic.θ_run_mono (Cert.AdamBranchReferenceIdeal.Value.run m' g') ?_
    intro r hr c
    obtain ⟨hd, hm, hv, a0, a1, a2, a3⟩ := hr c
    obtain ⟨e0, e1, e2, e3⟩ := hagree c
    refine ⟨hd.trans ?_, hm.trans ?_, hv.trans ?_, a0, a1, a2, a3⟩
    · rw [Cert.AdamBranchReferenceIdeal.Read.val_main_v24_eq, e0, e1, e2, e3]
      exact (Cert.AdamBranchReferenceIdeal.Value.computes_delta _ _ _ _).trans (Cert.AdamBranchIdeal.Value.final_delta m c).symm
    · rw [Cert.AdamBranchReferenceIdeal.Read.val_main_v25_eq, e1, e2]
      exact (Cert.AdamBranchReferenceIdeal.Value.computes_newM _ _).trans (Cert.AdamBranchIdeal.Value.final_newM m c).symm
    · rw [Cert.AdamBranchReferenceIdeal.Read.val_main_v26_eq, e1, e3]
      exact (Cert.AdamBranchReferenceIdeal.Value.computes_newV _ _).trans (Cert.AdamBranchIdeal.Value.final_newV m c).symm

/-- The call computes the optimiser's step on the merge's output matrix: the change and the two new moments. -/
theorem adamOut : Cert.algebraic_AdamOutIdeal_AdamOutReferenceIdeal := by
  pair_intro
  · run_from Cert.AdamOutIdeal.Value.run_blocks m g
  · refine Idealize.ShloMosaic.θ_run_mono (Cert.AdamOutReferenceIdeal.Value.run m' g') ?_
    intro r hr c
    obtain ⟨hd, hm, hv, a0, a1, a2, a3⟩ := hr c
    obtain ⟨e0, e1, e2, e3⟩ := hagree c
    refine ⟨hd.trans ?_, hm.trans ?_, hv.trans ?_, a0, a1, a2, a3⟩
    · rw [Cert.AdamOutReferenceIdeal.Read.val_main_v24_eq, e0, e1, e2, e3]
      exact (Cert.AdamOutReferenceIdeal.Value.computes_delta _ _ _ _).trans (Cert.AdamOutIdeal.Value.final_delta m c).symm
    · rw [Cert.AdamOutReferenceIdeal.Read.val_main_v25_eq, e1, e2]
      exact (Cert.AdamOutReferenceIdeal.Value.computes_newM _ _).trans (Cert.AdamOutIdeal.Value.final_newM m c).symm
    · rw [Cert.AdamOutReferenceIdeal.Read.val_main_v26_eq, e1, e3]
      exact (Cert.AdamOutReferenceIdeal.Value.computes_newV _ _).trans (Cert.AdamOutIdeal.Value.final_newV m c).symm

/-- The call computes the optimiser's step on the small weights: the change and the two new moments. -/
theorem adamSmall : Cert.algebraic_AdamSmallIdeal_AdamSmallReferenceIdeal := by
  pair_intro
  · run_from Cert.AdamSmallIdeal.Value.run_blocks m g
  · refine Idealize.ShloMosaic.θ_run_mono (Cert.AdamSmallReferenceIdeal.Value.run m' g') ?_
    intro r hr c
    obtain ⟨hd, hm, hv, a0, a1, a2, a3⟩ := hr c
    obtain ⟨e0, e1, e2, e3⟩ := hagree c
    refine ⟨hd.trans ?_, hm.trans ?_, hv.trans ?_, a0, a1, a2, a3⟩
    · rw [Cert.AdamSmallReferenceIdeal.Read.val_main_v23_eq, e0, e1, e2, e3]
      exact (Cert.AdamSmallReferenceIdeal.Value.computes_delta _ _ _ _).trans (Cert.AdamSmallIdeal.Value.final_delta m c).symm
    · rw [Cert.AdamSmallReferenceIdeal.Read.val_main_v4_eq, e1, e2]
      exact (Cert.AdamSmallReferenceIdeal.Value.computes_newM _ _).trans (Cert.AdamSmallIdeal.Value.final_newM m c).symm
    · rw [Cert.AdamSmallReferenceIdeal.Read.val_main_v10_eq, e1, e3]
      exact (Cert.AdamSmallReferenceIdeal.Value.computes_newV _ _).trans (Cert.AdamSmallIdeal.Value.final_newV m c).symm

theorem claim : Cert.Claim := ⟨Cert.Kernel.Gen.facts, Cert.KernelIdeal.Gen.facts, Cert.ReferenceIdeal.Gen.facts,
  Cert.Forward.Gen.facts, Cert.ForwardIdeal.Gen.facts, Cert.ForwardReferenceIdeal.Gen.facts,
  Cert.Project.Gen.facts, Cert.ProjectIdeal.Gen.facts, Cert.ProjectReferenceIdeal.Gen.facts,
  Cert.WeightGrad.Gen.facts, Cert.WeightGradIdeal.Gen.facts, Cert.WeightGradReferenceIdeal.Gen.facts,
  Cert.InputGrad.Gen.facts, Cert.InputGradIdeal.Gen.facts, Cert.InputGradReferenceIdeal.Gen.facts,
  Cert.Merge.Gen.facts, Cert.MergeIdeal.Gen.facts, Cert.MergeReferenceIdeal.Gen.facts,
  Cert.BranchGradA.Gen.facts, Cert.BranchGradAIdeal.Gen.facts, Cert.BranchGradAReferenceIdeal.Gen.facts,
  Cert.BranchGradB.Gen.facts, Cert.BranchGradBIdeal.Gen.facts, Cert.BranchGradBReferenceIdeal.Gen.facts,
  Cert.BranchGradC.Gen.facts, Cert.BranchGradCIdeal.Gen.facts, Cert.BranchGradCReferenceIdeal.Gen.facts,
  Cert.OutGrad.Gen.facts, Cert.OutGradIdeal.Gen.facts, Cert.OutGradReferenceIdeal.Gen.facts,
  Cert.ModulationGrad.Gen.facts, Cert.ModulationGradIdeal.Gen.facts, Cert.ModulationGradReferenceIdeal.Gen.facts,
  Cert.Modulation.Gen.facts, Cert.ModulationIdeal.Gen.facts, Cert.ModulationReferenceIdeal.Gen.facts,
  Cert.Norm.Gen.facts, Cert.NormIdeal.Gen.facts, Cert.NormReferenceIdeal.Gen.facts,
  Cert.AdamIn.Gen.facts, Cert.AdamInIdeal.Gen.facts, Cert.AdamInReferenceIdeal.Gen.facts,
  Cert.AdamMod.Gen.facts, Cert.AdamModIdeal.Gen.facts, Cert.AdamModReferenceIdeal.Gen.facts,
  Cert.AdamBranch.Gen.facts, Cert.AdamBranchIdeal.Gen.facts, Cert.AdamBranchReferenceIdeal.Gen.facts,
  Cert.AdamOut.Gen.facts, Cert.AdamOutIdeal.Gen.facts, Cert.AdamOutReferenceIdeal.Gen.facts,
  Cert.AdamSmall.Gen.facts, Cert.AdamSmallIdeal.Gen.facts, Cert.AdamSmallReferenceIdeal.Gen.facts,
  Cert.Attention.preFacts,
  Cert.Pre_finite_qk.Gen.facts, Cert.Pre_finite_mod.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Forward.Gen.frame m ρ, fun m ρ _ => Cert.ForwardIdeal.Gen.frame m ρ, fun m ρ _ => Cert.ForwardIdeal.Gen.frame m ρ,
  frame_forwardReference, fun m ρ _ => frame_forwardReference m ρ trivial,
  fun m ρ _ => Cert.Project.Gen.frame m ρ, fun m ρ _ => Cert.ProjectIdeal.Gen.frame m ρ, frame_projectReference,
  fun m ρ _ => Cert.WeightGrad.Gen.frame m ρ, fun m ρ _ => Cert.WeightGradIdeal.Gen.frame m ρ, frame_weightGradReference,
  fun m ρ _ => Cert.InputGrad.Gen.frame m ρ, fun m ρ _ => Cert.InputGradIdeal.Gen.frame m ρ, frame_inputGradReference,
  fun m ρ _ => Cert.Merge.Gen.frame m ρ, fun m ρ _ => Cert.MergeIdeal.Gen.frame m ρ, frame_mergeReference,
  fun m ρ _ => Cert.BranchGradA.Gen.frame m ρ, fun m ρ _ => Cert.BranchGradAIdeal.Gen.frame m ρ, frame_branchGradAReference,
  fun m ρ _ => Cert.BranchGradB.Gen.frame m ρ, fun m ρ _ => Cert.BranchGradBIdeal.Gen.frame m ρ, frame_branchGradBReference,
  fun m ρ _ => Cert.BranchGradC.Gen.frame m ρ, fun m ρ _ => Cert.BranchGradCIdeal.Gen.frame m ρ, frame_branchGradCReference,
  fun m ρ _ => Cert.OutGrad.Gen.frame m ρ, fun m ρ _ => Cert.OutGradIdeal.Gen.frame m ρ, frame_outGradReference,
  fun m ρ _ => Cert.ModulationGrad.Gen.frame m ρ, fun m ρ _ => Cert.ModulationGradIdeal.Gen.frame m ρ,
  fun m ρ _ => Cert.ModulationGradIdeal.Gen.frame m ρ,
  frame_modulationGradReference, fun m ρ _ => frame_modulationGradReference m ρ trivial,
  fun m ρ _ => Cert.Modulation.Gen.frame m ρ, fun m ρ _ => Cert.ModulationIdeal.Gen.frame m ρ, frame_modulationReference,
  fun m ρ _ => Cert.Norm.Gen.frame m ρ, fun m ρ _ => Cert.NormIdeal.Gen.frame m ρ, frame_normReference,
  fun m ρ _ => Cert.AdamIn.Gen.frame m ρ, fun m ρ _ => Cert.AdamInIdeal.Gen.frame m ρ, frame_adamInReference,
  fun m ρ _ => Cert.AdamMod.Gen.frame m ρ, fun m ρ _ => Cert.AdamModIdeal.Gen.frame m ρ, frame_adamModReference,
  fun m ρ _ => Cert.AdamBranch.Gen.frame m ρ, fun m ρ _ => Cert.AdamBranchIdeal.Gen.frame m ρ, frame_adamBranchReference,
  fun m ρ _ => Cert.AdamOut.Gen.frame m ρ, fun m ρ _ => Cert.AdamOutIdeal.Gen.frame m ρ, frame_adamOutReference,
  fun m ρ _ => Cert.AdamSmall.Gen.frame m ρ, fun m ρ _ => Cert.AdamSmallIdeal.Gen.frame m ρ, frame_adamSmallReference,
  ⟨IdealRules.named_const.statement Cert.KernelIdeal.κ "scale_log2e" .f32 0x3E0293EE#32 _ rfl,
    IdealRules.named_const.statement Cert.KernelIdeal.κ "log2e" .f32 0x3FB8AA3B#32 _ rfl⟩, backward,
  IdealRules.named_const.statement Cert.ForwardIdeal.κ "scale_log2e" .f32 0x3E0293EE#32 _ rfl, forward,
  trivial, project, trivial, weightGrad, trivial, inputGrad,
  trivial, merge, trivial, branchGradA, trivial, branchGradB, trivial, branchGradC, trivial, outGrad,
  trivial, modulationGrad, trivial, modulation,
  trivial, norm, trivial, adamIn, trivial, adamMod, trivial, adamBranch, trivial, adamOut, trivial, adamSmall⟩

end Cert.Proof

end
